-- ==== Defs.lean ====
def Pre_Kernel [hPre_sizes_partition_rows : Cert.Pre_sizes_partition_rows.Facts] (m : (ℓ : Loc Cert.Kernel.nD Cert.Kernel.τ Cert.Kernel.sig) → Buf (Elt Bits) ℓ) : Prop :=
  ∀ c : Dev Cert.Kernel.nD,
    (Cert.Pre_sizes_partition_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_sizes_partition_rows : Cert.Pre_sizes_partition_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_partition_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_partition_rows [hPre_sizes_partition_rows : Cert.Pre_sizes_partition_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_partition_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_sizes_partition_rows : Cert.Pre_sizes_partition_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_sizes_partition_rows : Cert.Pre_sizes_partition_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sizes_partition_rows [hReferenceIdeal : Cert.ReferenceIdeal.Facts] [hPre_sizes_partition_rows : Cert.Pre_sizes_partition_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_partition_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_partition_rows : Cert.Pre_sizes_partition_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sizes_partition_rows : Cert.Pre_sizes_partition_rows.Facts),
    quiescent_Kernel (hKernel := hKernel) (hPre_sizes_partition_rows := hPre_sizes_partition_rows)
    ∧ quiescent_KernelIdeal (hKernelIdeal := hKernelIdeal) (hPre_sizes_partition_rows := hPre_sizes_partition_rows)
    ∧ quiescent_ReferenceIdeal (hReferenceIdeal := hReferenceIdeal)
    ∧ quiescent_ReferenceIdeal_pre_sizes_partition_rows (hReferenceIdeal := hReferenceIdeal) (hPre_sizes_partition_rows := hPre_sizes_partition_rows)
    ∧ preserves_Kernel_KernelIdeal
    ∧ algebraic_KernelIdeal_ReferenceIdeal (hKernelIdeal := hKernelIdeal) (hReferenceIdeal := hReferenceIdeal) (hPre_sizes_partition_rows := hPre_sizes_partition_rows)
-- ==== Pre_sizes_partition_rows.lean ====
abbrev S1536x5120 : Shape := ⟨2, ![1536, 5120]⟩
abbrev S4x5120x16384 : Shape := ⟨3, ![4, 5120, 16384]⟩
abbrev S4x40x128 : Shape := ⟨3, ![4, 40, 128]⟩
abbrev S1536x8192 : Shape := ⟨2, ![1536, 8192]⟩
abbrev S1536x64 : Shape := ⟨2, ![1536, 64]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S1536x5120 .bf16) (main_arg1 : FVec F S4x5120x16384 .fp8e4m3) (main_arg2 : FVec F S4x40x128 .f32) (main_arg3 : FVec F S1536x8192 .fp8e5m2) (main_arg4 : FVec F S1536x64 .f32) (main_arg5 : IVec S4 32) : IVec S4 1 :=
  let main_c : IVec S_ 32 := constantI S_ 32 0#32
  let main_v0 : IVec S4 32 := broadcastInDim S4 ![] bcast_S_S4 main_c
  let main_v1 : IVec S4 1 := cmpi .sge main_arg5 main_v0
  let main_c_0 : IVec S_ 32 := constantI S_ 32 1536#32
  let main_v2 : IVec S4 32 := broadcastInDim S4 ![] bcast_S_S4 main_c_0
  let main_v3 : IVec S4 1 := cmpi .sle main_arg5 main_v2
  let main_v4 : IVec S4 1 := andi main_v1 main_v3
  let main_c_1 : IVec S_ 32 := constantI S_ 32 0#32
  let main_v5 : IVec S_ 32 := (fun x v => Host.reduce IntOp.addi x v reducesTo_S4_S_d0 h_S_) main_arg5 main_c_1
  let main_c_2 : IVec S_ 32 := constantI S_ 32 1536#32
  let main_v6 : IVec S_ 1 := cmpi .eq main_v5 main_c_2
  let main_v7 : IVec S4 1 := broadcastInDim S4 ![] bcast_S_S4 main_v6
  let main_v8 : IVec S4 1 := andi main_v4 main_v7
  main_v8
-- ==== Kernel.lean ====
abbrev S1536x5120 : Shape := ⟨2, ![1536, 5120]⟩
abbrev S4x5120x16384 : Shape := ⟨3, ![4, 5120, 16384]⟩
abbrev S4x40x128 : Shape := ⟨3, ![4, 40, 128]⟩
abbrev S1536x8192 : Shape := ⟨2, ![1536, 8192]⟩
abbrev S1536x64 : Shape := ⟨2, ![1536, 64]⟩
abbrev S4 : Shape := ⟨1, ![4]⟩
abbrev S_ : Shape := ⟨0, ![]⟩
abbrev S1 : Shape := ⟨1, ![1]⟩
abbrev S5 : Shape := ⟨1, ![5]⟩
abbrev S1536x128 : Shape := ⟨2, ![1536, 128]⟩
abbrev S20480 : Shape := ⟨1, ![20480]⟩
abbrev S1536x16384 : Shape := ⟨2, ![1536, 16384]⟩
abbrev S1x5120x128 : Shape := ⟨3, ![1, 5120, 128]⟩
abbrev S5120x256 : Shape := ⟨2, ![5120, 256]⟩
abbrev S2 : Shape := ⟨1, ![2]⟩
abbrev S128x128 : Shape := ⟨2, ![128, 128]⟩
abbrev S1x128x128 : Shape := ⟨3, ![1, 128, 128]⟩
abbrev S128x5120 : Shape := ⟨2, ![128, 5120]⟩
abbrev S128x256 : Shape := ⟨2, ![128, 256]⟩
abbrev S128 : Shape := ⟨1, ![128]⟩
abbrev S128x1 : Shape := ⟨2, ![128, 1]⟩
abbrev S128x1280 : Shape := ⟨2, ![128, 1280]⟩
abbrev S1280x256 : Shape := ⟨2, ![1280, 256]⟩

abbrev nBuf : Space → Nat
  | .hbm => 18
  | .vmem => 13
  | .smem => 2
  | _ => 0

abbrev bufTy : (tb : Table) → Fin (tcTables nBuf tb) → BufTy
  | .hbm, ⟨0, _⟩ => ⟨S1536x5120, .bf16⟩
  | .hbm, ⟨1, _⟩ => ⟨S4x5120x16384, .fp8e4m3⟩
  | .hbm, ⟨2, _⟩ => ⟨S4x40x128, .f32⟩
  | .hbm, ⟨3, _⟩ => ⟨S1536x8192, .fp8e5m2⟩
  | .hbm, ⟨4, _⟩ => ⟨S1536x64, .f32⟩
  | .hbm, ⟨5, _⟩ => ⟨S4, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S4, .i32⟩
  | .hbm, ⟨11, _⟩ => ⟨S_, .i32⟩
  | .hbm, ⟨12, _⟩ => ⟨S_, .f32⟩
  | .hbm, ⟨13, _⟩ => ⟨S1536x128, .f32⟩
  | .hbm, ⟨14, _⟩ => ⟨S20480, .f32⟩
  | .hbm, ⟨15, _⟩ => ⟨S1536x16384, .fp8e5m2⟩
  | .hbm, ⟨16, _⟩ => ⟨S1536x128, .f32⟩
  | .hbm, ⟨17, _⟩ => ⟨S1536x5120, .f32⟩
  | .local _ .vmem, ⟨0, _⟩ => ⟨S1536x5120, .bf16⟩
  | .local _ .vmem, ⟨1, _⟩ => ⟨S1x5120x128, .fp8e4m3⟩
  | .local _ .vmem, ⟨2, _⟩ => ⟨S1x5120x128, .fp8e4m3⟩
  | .local _ .vmem, ⟨3, _⟩ => ⟨S1x5120x128, .fp8e4m3⟩
  | .local _ .vmem, ⟨4, _⟩ => ⟨S1x5120x128, .fp8e4m3⟩
  | .local _ .vmem, ⟨5, _⟩ => ⟨S1536x128, .fp8e5m2⟩
  | .local _ .vmem, ⟨6, _⟩ => ⟨S1536x128, .fp8e5m2⟩
  | .local _ .vmem, ⟨7, _⟩ => ⟨S1536x128, .f32⟩
  | .local _ .vmem, ⟨8, _⟩ => ⟨S1536x128, .f32⟩
  | .local _ .vmem, ⟨9, _⟩ => ⟨S1536x5120, .f32⟩
  | .local _ .vmem, ⟨10, _⟩ => ⟨S5120x256, .bf16⟩
  | .local _ .vmem, ⟨11, _⟩ => ⟨S1536x128, .fp8e5m2⟩
  | .local _ .vmem, ⟨12, _⟩ => ⟨S1536x128, .fp8e5m2⟩
  | .local _ .smem, ⟨0, _⟩ => ⟨S5, .i32⟩
  | .local _ .smem, ⟨1, _⟩ => ⟨S20480, .f32⟩
  | _, _ => ⟨S1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_call0_c : Ref sig .tc := ⟨.hbm, 8, rfl⟩
abbrev main_call0_call0_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v2 : Ref sig .tc := ⟨.smem, 0, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨2, ![64, 4], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v2 : BitVec 32 := Scalar.addi arg1 c1_i32
  let v3 : Index := Scalar.indexCast v2
  ![v3.toNat]
def k0_off3 (i : grid0.Coords) (c0_i32_6 : BitVec 32) : Fin 1 → Nat :=
  let arg1 : BitVec 32 := BitVec.ofNat 32 (i 1).val
  let c40_i32 : BitVec 32 := 40#32
  let v19 : BitVec 32 := Scalar.muli arg1 c40_i32
  let v20 : BitVec 32 := Scalar.addi v19 c0_i32_6
  let c128_i32 : BitVec 32 := 128#32
  let v21 : BitVec 32 := Scalar.muli v20 c128_i32
  let arg0 : BitVec 32 := BitVec.ofNat 32 (i 0).val
  let v22 : BitVec 32 := Scalar.addi v21 arg0
  let v23 : Index := Scalar.indexCast v22
  ![v23.toNat]
def k0_off4 (i : grid0.Coords) (c0_i32_6 : BitVec 32) : Fin 1 → Nat :=
  let arg1 : BitVec 32 := BitVec.ofNat 32 (i 1).val
  let c40_i32 : BitVec 32 := 40#32
  let v19 : BitVec 32 := Scalar.muli arg1 c40_i32
  let v20 : BitVec 32 := Scalar.addi v19 c0_i32_6
  let c128_i32 : BitVec 32 := 128#32
  let v21 : BitVec 32 := Scalar.muli v20 c128_i32
  let arg0 : BitVec 32 := BitVec.ofNat 32 (i 0).val
  let v27 : BitVec 32 := Scalar.addi v21 arg0
  let c64_i32 : BitVec 32 := 64#32
  let v28 : BitVec 32 := Scalar.addi v27 c64_i32
  let v29 : Index := Scalar.indexCast v28
  ![v29.toNat]
@[reducible] def k0_t1_loop (v1 : BitVec 32) (v4 : BitVec 32) : Scf.Loop 32 :=
  let c0_i32_487 : BitVec 32 := 0#32
  let v1141 : BitVec 1 := Scalar.cmpi .sgt v1 c0_i32_487
  let v1142 : BitVec 32 := Scalar.extui v1141
  let c0_i32_488 : BitVec 32 := 0#32
  let v1143 : BitVec 1 := Scalar.cmpi .slt v1 c0_i32_488
  let v1144 : BitVec 32 := Scalar.extui v1143
  let v1145 : BitVec 32 := Scalar.subi v1142 v1144
  let c128_i32_486 : BitVec 32 := 128#32
  let c0_i32_489 : BitVec 32 := 0#32
  let v1146 : BitVec 1 := Scalar.cmpi .sgt c128_i32_486 c0_i32_489
  let v1147 : BitVec 32 := Scalar.extui v1146
  let c0_i32_490 : BitVec 32 := 0#32
  let v1148 : BitVec 1 := Scalar.cmpi .slt c128_i32_486 c0_i32_490
  let v1149 : BitVec 32 := Scalar.extui v1148
  let v1150 : BitVec 32 := Scalar.subi v1147 v1149
  let v1151 : BitVec 1 := Scalar.cmpi .ne v1145 v1150
  let v1152 : BitVec 32 := Scalar.remsi v1 c128_i32_486
  let c0_i32_491 : BitVec 32 := 0#32
  let v1153 : BitVec 1 := Scalar.cmpi .ne v1152 c0_i32_491
  let v1154 : BitVec 1 := Scalar.andi v1151 v1153
  let v1140 : BitVec 32 := Scalar.divsi v1 c128_i32_486
  let c1_i32_492 : BitVec 32 := 1#32
  let v1155 : BitVec 32 := Scalar.subi v1140 c1_i32_492
  let v1156 : BitVec 32 := Scalar.select v1154 v1155 v1140
  let c128_i32_493 : BitVec 32 := 128#32
  let v1157 : BitVec 32 := Scalar.addi v4 c128_i32_493
  let c1_i32_494 : BitVec 32 := 1#32
  let v1158 : BitVec 32 := Scalar.subi v1157 c1_i32_494
  let c0_i32_496 : BitVec 32 := 0#32
  let v1160 : BitVec 1 := Scalar.cmpi .sgt v1158 c0_i32_496
  let v1161 : BitVec 32 := Scalar.extui v1160
  let c0_i32_497 : BitVec 32 := 0#32
  let v1162 : BitVec 1 := Scalar.cmpi .slt v1158 c0_i32_497
  let v1163 : BitVec 32 := Scalar.extui v1162
  let v1164 : BitVec 32 := Scalar.subi v1161 v1163
  let c128_i32_495 : BitVec 32 := 128#32
  let c0_i32_498 : BitVec 32 := 0#32
  let v1165 : BitVec 1 := Scalar.cmpi .sgt c128_i32_495 c0_i32_498
  let v1166 : BitVec 32 := Scalar.extui v1165
  let c0_i32_499 : BitVec 32 := 0#32
  let v1167 : BitVec 1 := Scalar.cmpi .slt c128_i32_495 c0_i32_499
  let v1168 : BitVec 32 := Scalar.extui v1167
  let v1169 : BitVec 32 := Scalar.subi v1166 v1168
  let v1170 : BitVec 1 := Scalar.cmpi .ne v1164 v1169
  let v1171 : BitVec 32 := Scalar.remsi v1158 c128_i32_495
  let c0_i32_500 : BitVec 32 := 0#32
  let v1172 : BitVec 1 := Scalar.cmpi .ne v1171 c0_i32_500
  let v1173 : BitVec 1 := Scalar.andi v1170 v1172
  let v1159 : BitVec 32 := Scalar.divsi v1158 c128_i32_495
  let c1_i32_501 : BitVec 32 := 1#32
  let v1174 : BitVec 32 := Scalar.subi v1159 c1_i32_501
  let v1175 : BitVec 32 := Scalar.select v1173 v1174 v1159
  let v1176 : BitVec 32 := Scalar.subi v1175 v1156
  let c1_i32_503 : BitVec 32 := 1#32
  let v1178 : BitVec 32 := Scalar.divsi v1176 c1_i32_503
  let v1179 : BitVec 32 := Scalar.muli v1178 c1_i32_503
  let v1180 : BitVec 32 := Scalar.addi v1156 v1179
  let c1_i32_504 : BitVec 32 := 1#32
  ⟨v1156, v1180, c1_i32_504⟩
def k0_cond3 (v1 : BitVec 32) (v4 : BitVec 32) : BitVec 1 :=
  let v13 : BitVec 1 := Scalar.cmpi .sgt v4 v1
  let v14 : BitVec 32 := Scalar.extui v13
  let c0_i32_4 : BitVec 32 := 0#32
  let v15 : BitVec 1 := Scalar.cmpi .ne v14 c0_i32_4
  v15

def k0_mult1 (v1 : BitVec 32) (v4 : BitVec 32) (k0_t1 : Fin (k0_t1_loop v1 v4).trips) : BitVec 32 :=
  let c0_i32_487 : BitVec 32 := 0#32
  let v1141 : BitVec 1 := Scalar.cmpi .sgt v1 c0_i32_487
  let v1142 : BitVec 32 := Scalar.extui v1141
  let c0_i32_488 : BitVec 32 := 0#32
  let v1143 : BitVec 1 := Scalar.cmpi .slt v1 c0_i32_488
  let v1144 : BitVec 32 := Scalar.extui v1143
  let v1145 : BitVec 32 := Scalar.subi v1142 v1144
  let c128_i32_486 : BitVec 32 := 128#32
  let c0_i32_489 : BitVec 32 := 0#32
  let v1146 : BitVec 1 := Scalar.cmpi .sgt c128_i32_486 c0_i32_489
  let v1147 : BitVec 32 := Scalar.extui v1146
  let c0_i32_490 : BitVec 32 := 0#32
  let v1148 : BitVec 1 := Scalar.cmpi .slt c128_i32_486 c0_i32_490
  let v1149 : BitVec 32 := Scalar.extui v1148
  let v1150 : BitVec 32 := Scalar.subi v1147 v1149
  let v1151 : BitVec 1 := Scalar.cmpi .ne v1145 v1150
  let v1152 : BitVec 32 := Scalar.remsi v1 c128_i32_486
  let c0_i32_491 : BitVec 32 := 0#32
  let v1153 : BitVec 1 := Scalar.cmpi .ne v1152 c0_i32_491
  let v1154 : BitVec 1 := Scalar.andi v1151 v1153
  let v1140 : BitVec 32 := Scalar.divsi v1 c128_i32_486
  let c1_i32_492 : BitVec 32 := 1#32
  let v1155 : BitVec 32 := Scalar.subi v1140 c1_i32_492
  let v1156 : BitVec 32 := Scalar.select v1154 v1155 v1140
  let c1_i32_504 : BitVec 32 := 1#32
  let arg16 : BitVec 32 := Scf.iv v1156 c1_i32_504 k0_t1
  let c128_i32_506 : BitVec 32 := 128#32
  let v1183 : BitVec 32 := Scalar.muli arg16 c128_i32_506
  v1183
def k0_off5 (v1 : BitVec 32) (v4 : BitVec 32) (k0_t1 : Fin (k0_t1_loop v1 v4).trips) : Fin 2 → Nat :=
  let c0_i32_487 : BitVec 32 := 0#32
  let v1141 : BitVec 1 := Scalar.cmpi .sgt v1 c0_i32_487
  let v1142 : BitVec 32 := Scalar.extui v1141
  let c0_i32_488 : BitVec 32 := 0#32
  let v1143 : BitVec 1 := Scalar.cmpi .slt v1 c0_i32_488
  let v1144 : BitVec 32 := Scalar.extui v1143
  let v1145 : BitVec 32 := Scalar.subi v1142 v1144
  let c128_i32_486 : BitVec 32 := 128#32
  let c0_i32_489 : BitVec 32 := 0#32
  let v1146 : BitVec 1 := Scalar.cmpi .sgt c128_i32_486 c0_i32_489
  let v1147 : BitVec 32 := Scalar.extui v1146
  let c0_i32_490 : BitVec 32 := 0#32
  let v1148 : BitVec 1 := Scalar.cmpi .slt c128_i32_486 c0_i32_490
  let v1149 : BitVec 32 := Scalar.extui v1148
  let v1150 : BitVec 32 := Scalar.subi v1147 v1149
  let v1151 : BitVec 1 := Scalar.cmpi .ne v1145 v1150
  let v1152 : BitVec 32 := Scalar.remsi v1 c128_i32_486
  let c0_i32_491 : BitVec 32 := 0#32
  let v1153 : BitVec 1 := Scalar.cmpi .ne v1152 c0_i32_491
  let v1154 : BitVec 1 := Scalar.andi v1151 v1153
  let v1140 : BitVec 32 := Scalar.divsi v1 c128_i32_486
  let c1_i32_492 : BitVec 32 := 1#32
  let v1155 : BitVec 32 := Scalar.subi v1140 c1_i32_492
  let v1156 : BitVec 32 := Scalar.select v1154 v1155 v1140
  let c1_i32_504 : BitVec 32 := 1#32
  let arg16 : BitVec 32 := Scf.iv v1156 c1_i32_504 k0_t1
  let c128_i32_506 : BitVec 32 := 128#32
  let v1183 : BitVec 32 := Scalar.muli arg16 c128_i32_506
  let v1184 : BitVec 32 := v1183
  let v1185 : Index := Scalar.indexCast v1184
  let c0_507 : Index := 0#32
  ![v1185.toNat, 0]
def k0_off6 (v1 : BitVec 32) (v4 : BitVec 32) (k0_t1 : Fin (k0_t1_loop v1 v4).trips) : Fin 2 → Nat :=
  let c0_i32_487 : BitVec 32 := 0#32
  let v1141 : BitVec 1 := Scalar.cmpi .sgt v1 c0_i32_487
  let v1142 : BitVec 32 := Scalar.extui v1141
  let c0_i32_488 : BitVec 32 := 0#32
  let v1143 : BitVec 1 := Scalar.cmpi .slt v1 c0_i32_488
  let v1144 : BitVec 32 := Scalar.extui v1143
  let v1145 : BitVec 32 := Scalar.subi v1142 v1144
  let c128_i32_486 : BitVec 32 := 128#32
  let c0_i32_489 : BitVec 32 := 0#32
  let v1146 : BitVec 1 := Scalar.cmpi .sgt c128_i32_486 c0_i32_489
  let v1147 : BitVec 32 := Scalar.extui v1146
  let c0_i32_490 : BitVec 32 := 0#32
  let v1148 : BitVec 1 := Scalar.cmpi .slt c128_i32_486 c0_i32_490
  let v1149 : BitVec 32 := Scalar.extui v1148
  let v1150 : BitVec 32 := Scalar.subi v1147 v1149
  let v1151 : BitVec 1 := Scalar.cmpi .ne v1145 v1150
  let v1152 : BitVec 32 := Scalar.remsi v1 c128_i32_486
  let c0_i32_491 : BitVec 32 := 0#32
  let v1153 : BitVec 1 := Scalar.cmpi .ne v1152 c0_i32_491
  let v1154 : BitVec 1 := Scalar.andi v1151 v1153
  let v1140 : BitVec 32 := Scalar.divsi v1 c128_i32_486
  let c1_i32_492 : BitVec 32 := 1#32
  let v1155 : BitVec 32 := Scalar.subi v1140 c1_i32_492
  let v1156 : BitVec 32 := Scalar.select v1154 v1155 v1140
  let c1_i32_504 : BitVec 32 := 1#32
  let arg16 : BitVec 32 := Scf.iv v1156 c1_i32_504 k0_t1
  let c128_i32_506 : BitVec 32 := 128#32
  let v1183 : BitVec 32 := Scalar.muli arg16 c128_i32_506
  let v1184 : BitVec 32 := v1183
  let v1193 : Index := Scalar.indexCast v1184
  let c0_510 : Index := 0#32
  ![v1193.toNat, 0]
def k0_off7 (v1 : BitVec 32) (v4 : BitVec 32) (k0_t1 : Fin (k0_t1_loop v1 v4).trips) : Fin 2 → Nat :=
  let c0_i32_487 : BitVec 32 := 0#32
  let v1141 : BitVec 1 := Scalar.cmpi .sgt v1 c0_i32_487
  let v1142 : BitVec 32 := Scalar.extui v1141
  let c0_i32_488 : BitVec 32 := 0#32
  let v1143 : BitVec 1 := Scalar.cmpi .slt v1 c0_i32_488
  let v1144 : BitVec 32 := Scalar.extui v1143
  let v1145 : BitVec 32 := Scalar.subi v1142 v1144
  let c128_i32_486 : BitVec 32 := 128#32
  let c0_i32_489 : BitVec 32 := 0#32
  let v1146 : BitVec 1 := Scalar.cmpi .sgt c128_i32_486 c0_i32_489
  let v1147 : BitVec 32 := Scalar.extui v1146
  let c0_i32_490 : BitVec 32 := 0#32
  let v1148 : BitVec 1 := Scalar.cmpi .slt c128_i32_486 c0_i32_490
  let v1149 : BitVec 32 := Scalar.extui v1148
  let v1150 : BitVec 32 := Scalar.subi v1147 v1149
  let v1151 : BitVec 1 := Scalar.cmpi .ne v1145 v1150
  let v1152 : BitVec 32 := Scalar.remsi v1 c128_i32_486
  let c0_i32_491 : BitVec 32 := 0#32
  let v1153 : BitVec 1 := Scalar.cmpi .ne v1152 c0_i32_491
  let v1154 : BitVec 1 := Scalar.andi v1151 v1153
  let v1140 : BitVec 32 := Scalar.divsi v1 c128_i32_486
  let c1_i32_492 : BitVec 32 := 1#32
  let v1155 : BitVec 32 := Scalar.subi v1140 c1_i32_492
  let v1156 : BitVec 32 := Scalar.select v1154 v1155 v1140
  let c1_i32_504 : BitVec 32 := 1#32
  let arg16 : BitVec 32 := Scf.iv v1156 c1_i32_504 k0_t1
  let c128_i32_506 : BitVec 32 := 128#32
  let v1183 : BitVec 32 := Scalar.muli arg16 c128_i32_506
  let v1184 : BitVec 32 := v1183
  let v1416 : Index := Scalar.indexCast v1184
  let c0_554 : Index := 0#32
  ![v1416.toNat, 0]
def k0_off8 (v1 : BitVec 32) (v4 : BitVec 32) (k0_t1 : Fin (k0_t1_loop v1 v4).trips) : Fin 2 → Nat :=
  let c0_i32_487 : BitVec 32 := 0#32
  let v1141 : BitVec 1 := Scalar.cmpi .sgt v1 c0_i32_487
  let v1142 : BitVec 32 := Scalar.extui v1141
  let c0_i32_488 : BitVec 32 := 0#32
  let v1143 : BitVec 1 := Scalar.cmpi .slt v1 c0_i32_488
  let v1144 : BitVec 32 := Scalar.extui v1143
  let v1145 : BitVec 32 := Scalar.subi v1142 v1144
  let c128_i32_486 : BitVec 32 := 128#32
  let c0_i32_489 : BitVec 32 := 0#32
  let v1146 : BitVec 1 := Scalar.cmpi .sgt c128_i32_486 c0_i32_489
  let v1147 : BitVec 32 := Scalar.extui v1146
  let c0_i32_490 : BitVec 32 := 0#32
  let v1148 : BitVec 1 := Scalar.cmpi .slt c128_i32_486 c0_i32_490
  let v1149 : BitVec 32 := Scalar.extui v1148
  let v1150 : BitVec 32 := Scalar.subi v1147 v1149
  let v1151 : BitVec 1 := Scalar.cmpi .ne v1145 v1150
  let v1152 : BitVec 32 := Scalar.remsi v1 c128_i32_486
  let c0_i32_491 : BitVec 32 := 0#32
  let v1153 : BitVec 1 := Scalar.cmpi .ne v1152 c0_i32_491
  let v1154 : BitVec 1 := Scalar.andi v1151 v1153
  let v1140 : BitVec 32 := Scalar.divsi v1 c128_i32_486
  let c1_i32_492 : BitVec 32 := 1#32
  let v1155 : BitVec 32 := Scalar.subi v1140 c1_i32_492
  let v1156 : BitVec 32 := Scalar.select v1154 v1155 v1140
  let c1_i32_504 : BitVec 32 := 1#32
  let arg16 : BitVec 32 := Scf.iv v1156 c1_i32_504 k0_t1
  let c128_i32_506 : BitVec 32 := 128#32
  let v1183 : BitVec 32 := Scalar.muli arg16 c128_i32_506
  let v1184 : BitVec 32 := v1183
  let v1424 : Index := Scalar.indexCast v1184
  let c1280_559 : Index := 1280#32
  ![v1424.toNat, 1280]
def k0_off9 (v1 : BitVec 32) (v4 : BitVec 32) (k0_t1 : Fin (k0_t1_loop v1 v4).trips) : Fin 2 → Nat :=
  let c0_i32_487 : BitVec 32 := 0#32
  let v1141 : BitVec 1 := Scalar.cmpi .sgt v1 c0_i32_487
  let v1142 : BitVec 32 := Scalar.extui v1141
  let c0_i32_488 : BitVec 32 := 0#32
  let v1143 : BitVec 1 := Scalar.cmpi .slt v1 c0_i32_488
  let v1144 : BitVec 32 := Scalar.extui v1143
  let v1145 : BitVec 32 := Scalar.subi v1142 v1144
  let c128_i32_486 : BitVec 32 := 128#32
  let c0_i32_489 : BitVec 32 := 0#32
  let v1146 : BitVec 1 := Scalar.cmpi .sgt c128_i32_486 c0_i32_489
  let v1147 : BitVec 32 := Scalar.extui v1146
  let c0_i32_490 : BitVec 32 := 0#32
  let v1148 : BitVec 1 := Scalar.cmpi .slt c128_i32_486 c0_i32_490
  let v1149 : BitVec 32 := Scalar.extui v1148
  let v1150 : BitVec 32 := Scalar.subi v1147 v1149
  let v1151 : BitVec 1 := Scalar.cmpi .ne v1145 v1150
  let v1152 : BitVec 32 := Scalar.remsi v1 c128_i32_486
  let c0_i32_491 : BitVec 32 := 0#32
  let v1153 : BitVec 1 := Scalar.cmpi .ne v1152 c0_i32_491
  let v1154 : BitVec 1 := Scalar.andi v1151 v1153
  let v1140 : BitVec 32 := Scalar.divsi v1 c128_i32_486
  let c1_i32_492 : BitVec 32 := 1#32
  let v1155 : BitVec 32 := Scalar.subi v1140 c1_i32_492
  let v1156 : BitVec 32 := Scalar.select v1154 v1155 v1140
  let c1_i32_504 : BitVec 32 := 1#32
  let arg16 : BitVec 32 := Scf.iv v1156 c1_i32_504 k0_t1
  let c128_i32_506 : BitVec 32 := 128#32
  let v1183 : BitVec 32 := Scalar.muli arg16 c128_i32_506
  let v1184 : BitVec 32 := v1183
  let v1432 : Index := Scalar.indexCast v1184
  let c2560_564 : Index := 2560#32
  ![v1432.toNat, 2560]
def k0_off10 (v1 : BitVec 32) (v4 : BitVec 32) (k0_t1 : Fin (k0_t1_loop v1 v4).trips) : Fin 2 → Nat :=
  let c0_i32_487 : BitVec 32 := 0#32
  let v1141 : BitVec 1 := Scalar.cmpi .sgt v1 c0_i32_487
  let v1142 : BitVec 32 := Scalar.extui v1141
  let c0_i32_488 : BitVec 32 := 0#32
  let v1143 : BitVec 1 := Scalar.cmpi .slt v1 c0_i32_488
  let v1144 : BitVec 32 := Scalar.extui v1143
  let v1145 : BitVec 32 := Scalar.subi v1142 v1144
  let c128_i32_486 : BitVec 32 := 128#32
  let c0_i32_489 : BitVec 32 := 0#32
  let v1146 : BitVec 1 := Scalar.cmpi .sgt c128_i32_486 c0_i32_489
  let v1147 : BitVec 32 := Scalar.extui v1146
  let c0_i32_490 : BitVec 32 := 0#32
  let v1148 : BitVec 1 := Scalar.cmpi .slt c128_i32_486 c0_i32_490
  let v1149 : BitVec 32 := Scalar.extui v1148
  let v1150 : BitVec 32 := Scalar.subi v1147 v1149
  let v1151 : BitVec 1 := Scalar.cmpi .ne v1145 v1150
  let v1152 : BitVec 32 := Scalar.remsi v1 c128_i32_486
  let c0_i32_491 : BitVec 32 := 0#32
  let v1153 : BitVec 1 := Scalar.cmpi .ne v1152 c0_i32_491
  let v1154 : BitVec 1 := Scalar.andi v1151 v1153
  let v1140 : BitVec 32 := Scalar.divsi v1 c128_i32_486
  let c1_i32_492 : BitVec 32 := 1#32
  let v1155 : BitVec 32 := Scalar.subi v1140 c1_i32_492
  let v1156 : BitVec 32 := Scalar.select v1154 v1155 v1140
  let c1_i32_504 : BitVec 32 := 1#32
  let arg16 : BitVec 32 := Scf.iv v1156 c1_i32_504 k0_t1
  let c128_i32_506 : BitVec 32 := 128#32
  let v1183 : BitVec 32 := Scalar.muli arg16 c128_i32_506
  let v1184 : BitVec 32 := v1183
  let v1440 : Index := Scalar.indexCast v1184
  let c3840_569 : Index := 3840#32
  ![v1440.toNat, 3840]
@[reducible] def k0_t2_loop (v1 : BitVec 32) (v4 : BitVec 32) : Scf.Loop 32 :=
  let c0_i32_487 : BitVec 32 := 0#32
  let v1141 : BitVec 1 := Scalar.cmpi .sgt v1 c0_i32_487
  let v1142 : BitVec 32 := Scalar.extui v1141
  let c0_i32_488 : BitVec 32 := 0#32
  let v1143 : BitVec 1 := Scalar.cmpi .slt v1 c0_i32_488
  let v1144 : BitVec 32 := Scalar.extui v1143
  let v1145 : BitVec 32 := Scalar.subi v1142 v1144
  let c128_i32_486 : BitVec 32 := 128#32
  let c0_i32_489 : BitVec 32 := 0#32
  let v1146 : BitVec 1 := Scalar.cmpi .sgt c128_i32_486 c0_i32_489
  let v1147 : BitVec 32 := Scalar.extui v1146
  let c0_i32_490 : BitVec 32 := 0#32
  let v1148 : BitVec 1 := Scalar.cmpi .slt c128_i32_486 c0_i32_490
  let v1149 : BitVec 32 := Scalar.extui v1148
  let v1150 : BitVec 32 := Scalar.subi v1147 v1149
  let v1151 : BitVec 1 := Scalar.cmpi .ne v1145 v1150
  let v1152 : BitVec 32 := Scalar.remsi v1 c128_i32_486
  let c0_i32_491 : BitVec 32 := 0#32
  let v1153 : BitVec 1 := Scalar.cmpi .ne v1152 c0_i32_491
  let v1154 : BitVec 1 := Scalar.andi v1151 v1153
  let v1140 : BitVec 32 := Scalar.divsi v1 c128_i32_486
  let c1_i32_492 : BitVec 32 := 1#32
  let v1155 : BitVec 32 := Scalar.subi v1140 c1_i32_492
  let v1156 : BitVec 32 := Scalar.select v1154 v1155 v1140
  let c128_i32_493 : BitVec 32 := 128#32
  let v1157 : BitVec 32 := Scalar.addi v4 c128_i32_493
  let c1_i32_494 : BitVec 32 := 1#32
  let v1158 : BitVec 32 := Scalar.subi v1157 c1_i32_494
  let c0_i32_496 : BitVec 32 := 0#32
  let v1160 : BitVec 1 := Scalar.cmpi .sgt v1158 c0_i32_496
  let v1161 : BitVec 32 := Scalar.extui v1160
  let c0_i32_497 : BitVec 32 := 0#32
  let v1162 : BitVec 1 := Scalar.cmpi .slt v1158 c0_i32_497
  let v1163 : BitVec 32 := Scalar.extui v1162
  let v1164 : BitVec 32 := Scalar.subi v1161 v1163
  let c128_i32_495 : BitVec 32 := 128#32
  let c0_i32_498 : BitVec 32 := 0#32
  let v1165 : BitVec 1 := Scalar.cmpi .sgt c128_i32_495 c0_i32_498
  let v1166 : BitVec 32 := Scalar.extui v1165
  let c0_i32_499 : BitVec 32 := 0#32
  let v1167 : BitVec 1 := Scalar.cmpi .slt c128_i32_495 c0_i32_499
  let v1168 : BitVec 32 := Scalar.extui v1167
  let v1169 : BitVec 32 := Scalar.subi v1166 v1168
  let v1170 : BitVec 1 := Scalar.cmpi .ne v1164 v1169
  let v1171 : BitVec 32 := Scalar.remsi v1158 c128_i32_495
  let c0_i32_500 : BitVec 32 := 0#32
  let v1172 : BitVec 1 := Scalar.cmpi .ne v1171 c0_i32_500
  let v1173 : BitVec 1 := Scalar.andi v1170 v1172
  let v1159 : BitVec 32 := Scalar.divsi v1158 c128_i32_495
  let c1_i32_501 : BitVec 32 := 1#32
  let v1174 : BitVec 32 := Scalar.subi v1159 c1_i32_501
  let v1175 : BitVec 32 := Scalar.select v1173 v1174 v1159
  let v1176 : BitVec 32 := Scalar.subi v1175 v1156
  let c1_i32_503 : BitVec 32 := 1#32
  let v1178 : BitVec 32 := Scalar.divsi v1176 c1_i32_503
  let v1179 : BitVec 32 := Scalar.muli v1178 c1_i32_503
  let v1180 : BitVec 32 := Scalar.addi v1156 v1179
  let v1177 : BitVec 32 := Scalar.addi v1156 v1176
  let c1_i32_505 : BitVec 32 := 1#32
  ⟨v1180, v1177, c1_i32_505⟩
def k0_mult2 (v1 : BitVec 32) (v4 : BitVec 32) (k0_t2 : Fin (k0_t2_loop v1 v4).trips) : BitVec 32 :=
  let c0_i32_487 : BitVec 32 := 0#32
  let v1141 : BitVec 1 := Scalar.cmpi .sgt v1 c0_i32_487
  let v1142 : BitVec 32 := Scalar.extui v1141
  let c0_i32_488 : BitVec 32 := 0#32
  let v1143 : BitVec 1 := Scalar.cmpi .slt v1 c0_i32_488
  let v1144 : BitVec 32 := Scalar.extui v1143
  let v1145 : BitVec 32 := Scalar.subi v1142 v1144
  let c128_i32_486 : BitVec 32 := 128#32
  let c0_i32_489 : BitVec 32 := 0#32
  let v1146 : BitVec 1 := Scalar.cmpi .sgt c128_i32_486 c0_i32_489
  let v1147 : BitVec 32 := Scalar.extui v1146
  let c0_i32_490 : BitVec 32 := 0#32
  let v1148 : BitVec 1 := Scalar.cmpi .slt c128_i32_486 c0_i32_490
  let v1149 : BitVec 32 := Scalar.extui v1148
  let v1150 : BitVec 32 := Scalar.subi v1147 v1149
  let v1151 : BitVec 1 := Scalar.cmpi .ne v1145 v1150
  let v1152 : BitVec 32 := Scalar.remsi v1 c128_i32_486
  let c0_i32_491 : BitVec 32 := 0#32
  let v1153 : BitVec 1 := Scalar.cmpi .ne v1152 c0_i32_491
  let v1154 : BitVec 1 := Scalar.andi v1151 v1153
  let v1140 : BitVec 32 := Scalar.divsi v1 c128_i32_486
  let c1_i32_492 : BitVec 32 := 1#32
  let v1155 : BitVec 32 := Scalar.subi v1140 c1_i32_492
  let v1156 : BitVec 32 := Scalar.select v1154 v1155 v1140
  let c128_i32_493 : BitVec 32 := 128#32
  let v1157 : BitVec 32 := Scalar.addi v4 c128_i32_493
  let c1_i32_494 : BitVec 32 := 1#32
  let v1158 : BitVec 32 := Scalar.subi v1157 c1_i32_494
  let c0_i32_496 : BitVec 32 := 0#32
  let v1160 : BitVec 1 := Scalar.cmpi .sgt v1158 c0_i32_496
  let v1161 : BitVec 32 := Scalar.extui v1160
  let c0_i32_497 : BitVec 32 := 0#32
  let v1162 : BitVec 1 := Scalar.cmpi .slt v1158 c0_i32_497
  let v1163 : BitVec 32 := Scalar.extui v1162
  let v1164 : BitVec 32 := Scalar.subi v1161 v1163
  let c128_i32_495 : BitVec 32 := 128#32
  let c0_i32_498 : BitVec 32 := 0#32
  let v1165 : BitVec 1 := Scalar.cmpi .sgt c128_i32_495 c0_i32_498
  let v1166 : BitVec 32 := Scalar.extui v1165
  let c0_i32_499 : BitVec 32 := 0#32
  let v1167 : BitVec 1 := Scalar.cmpi .slt c128_i32_495 c0_i32_499
  let v1168 : BitVec 32 := Scalar.extui v1167
  let v1169 : BitVec 32 := Scalar.subi v1166 v1168
  let v1170 : BitVec 1 := Scalar.cmpi .ne v1164 v1169
  let v1171 : BitVec 32 := Scalar.remsi v1158 c128_i32_495
  let c0_i32_500 : BitVec 32 := 0#32
  let v1172 : BitVec 1 := Scalar.cmpi .ne v1171 c0_i32_500
  let v1173 : BitVec 1 := Scalar.andi v1170 v1172
  let v1159 : BitVec 32 := Scalar.divsi v1158 c128_i32_495
  let c1_i32_501 : BitVec 32 := 1#32
  let v1174 : BitVec 32 := Scalar.subi v1159 c1_i32_501
  let v1175 : BitVec 32 := Scalar.select v1173 v1174 v1159
  let v1176 : BitVec 32 := Scalar.subi v1175 v1156
  let c1_i32_503 : BitVec 32 := 1#32
  let v1178 : BitVec 32 := Scalar.divsi v1176 c1_i32_503
  let v1179 : BitVec 32 := Scalar.muli v1178 c1_i32_503
  let v1180 : BitVec 32 := Scalar.addi v1156 v1179
  let c1_i32_505 : BitVec 32 := 1#32
  let arg16 : BitVec 32 := Scf.iv v1180 c1_i32_505 k0_t2
  let c128_i32_506 : BitVec 32 := 128#32
  let v1183 : BitVec 32 := Scalar.muli arg16 c128_i32_506
  v1183
def k0_off11 (v1 : BitVec 32) (v4 : BitVec 32) (k0_t2 : Fin (k0_t2_loop v1 v4).trips) : Fin 2 → Nat :=
  let c0_i32_487 : BitVec 32 := 0#32
  let v1141 : BitVec 1 := Scalar.cmpi .sgt v1 c0_i32_487
  let v1142 : BitVec 32 := Scalar.extui v1141
  let c0_i32_488 : BitVec 32 := 0#32
  let v1143 : BitVec 1 := Scalar.cmpi .slt v1 c0_i32_488
  let v1144 : BitVec 32 := Scalar.extui v1143
  let v1145 : BitVec 32 := Scalar.subi v1142 v1144
  let c128_i32_486 : BitVec 32 := 128#32
  let c0_i32_489 : BitVec 32 := 0#32
  let v1146 : BitVec 1 := Scalar.cmpi .sgt c128_i32_486 c0_i32_489
  let v1147 : BitVec 32 := Scalar.extui v1146
  let c0_i32_490 : BitVec 32 := 0#32
  let v1148 : BitVec 1 := Scalar.cmpi .slt c128_i32_486 c0_i32_490
  let v1149 : BitVec 32 := Scalar.extui v1148
  let v1150 : BitVec 32 := Scalar.subi v1147 v1149
  let v1151 : BitVec 1 := Scalar.cmpi .ne v1145 v1150
  let v1152 : BitVec 32 := Scalar.remsi v1 c128_i32_486
  let c0_i32_491 : BitVec 32 := 0#32
  let v1153 : BitVec 1 := Scalar.cmpi .ne v1152 c0_i32_491
  let v1154 : BitVec 1 := Scalar.andi v1151 v1153
  let v1140 : BitVec 32 := Scalar.divsi v1 c128_i32_486
  let c1_i32_492 : BitVec 32 := 1#32
  let v1155 : BitVec 32 := Scalar.subi v1140 c1_i32_492
  let v1156 : BitVec 32 := Scalar.select v1154 v1155 v1140
  let c128_i32_493 : BitVec 32 := 128#32
  let v1157 : BitVec 32 := Scalar.addi v4 c128_i32_493
  let c1_i32_494 : BitVec 32 := 1#32
  let v1158 : BitVec 32 := Scalar.subi v1157 c1_i32_494
  let c0_i32_496 : BitVec 32 := 0#32
  let v1160 : BitVec 1 := Scalar.cmpi .sgt v1158 c0_i32_496
  let v1161 : BitVec 32 := Scalar.extui v1160
  let c0_i32_497 : BitVec 32 := 0#32
  let v1162 : BitVec 1 := Scalar.cmpi .slt v1158 c0_i32_497
  let v1163 : BitVec 32 := Scalar.extui v1162
  let v1164 : BitVec 32 := Scalar.subi v1161 v1163
  let c128_i32_495 : BitVec 32 := 128#32
  let c0_i32_498 : BitVec 32 := 0#32
  let v1165 : BitVec 1 := Scalar.cmpi .sgt c128_i32_495 c0_i32_498
  let v1166 : BitVec 32 := Scalar.extui v1165
  let c0_i32_499 : BitVec 32 := 0#32
  let v1167 : BitVec 1 := Scalar.cmpi .slt c128_i32_495 c0_i32_499
  let v1168 : BitVec 32 := Scalar.extui v1167
  let v1169 : BitVec 32 := Scalar.subi v1166 v1168
  let v1170 : BitVec 1 := Scalar.cmpi .ne v1164 v1169
  let v1171 : BitVec 32 := Scalar.remsi v1158 c128_i32_495
  let c0_i32_500 : BitVec 32 := 0#32
  let v1172 : BitVec 1 := Scalar.cmpi .ne v1171 c0_i32_500
  let v1173 : BitVec 1 := Scalar.andi v1170 v1172
  let v1159 : BitVec 32 := Scalar.divsi v1158 c128_i32_495
  let c1_i32_501 : BitVec 32 := 1#32
  let v1174 : BitVec 32 := Scalar.subi v1159 c1_i32_501
  let v1175 : BitVec 32 := Scalar.select v1173 v1174 v1159
  let v1176 : BitVec 32 := Scalar.subi v1175 v1156
  let c1_i32_503 : BitVec 32 := 1#32
  let v1178 : BitVec 32 := Scalar.divsi v1176 c1_i32_503
  let v1179 : BitVec 32 := Scalar.muli v1178 c1_i32_503
  let v1180 : BitVec 32 := Scalar.addi v1156 v1179
  let c1_i32_505 : BitVec 32 := 1#32
  let arg16 : BitVec 32 := Scf.iv v1180 c1_i32_505 k0_t2
  let c128_i32_506 : BitVec 32 := 128#32
  let v1183 : BitVec 32 := Scalar.muli arg16 c128_i32_506
  let v1184 : BitVec 32 := v1183
  let v1185 : Index := Scalar.indexCast v1184
  let c0_507 : Index := 0#32
  ![v1185.toNat, 0]
def k0_off12 (v1 : BitVec 32) (v4 : BitVec 32) (k0_t2 : Fin (k0_t2_loop v1 v4).trips) : Fin 2 → Nat :=
  let c0_i32_487 : BitVec 32 := 0#32
  let v1141 : BitVec 1 := Scalar.cmpi .sgt v1 c0_i32_487
  let v1142 : BitVec 32 := Scalar.extui v1141
  let c0_i32_488 : BitVec 32 := 0#32
  let v1143 : BitVec 1 := Scalar.cmpi .slt v1 c0_i32_488
  let v1144 : BitVec 32 := Scalar.extui v1143
  let v1145 : BitVec 32 := Scalar.subi v1142 v1144
  let c128_i32_486 : BitVec 32 := 128#32
  let c0_i32_489 : BitVec 32 := 0#32
  let v1146 : BitVec 1 := Scalar.cmpi .sgt c128_i32_486 c0_i32_489
  let v1147 : BitVec 32 := Scalar.extui v1146
  let c0_i32_490 : BitVec 32 := 0#32
  let v1148 : BitVec 1 := Scalar.cmpi .slt c128_i32_486 c0_i32_490
  let v1149 : BitVec 32 := Scalar.extui v1148
  let v1150 : BitVec 32 := Scalar.subi v1147 v1149
  let v1151 : BitVec 1 := Scalar.cmpi .ne v1145 v1150
  let v1152 : BitVec 32 := Scalar.remsi v1 c128_i32_486
  let c0_i32_491 : BitVec 32 := 0#32
  let v1153 : BitVec 1 := Scalar.cmpi .ne v1152 c0_i32_491
  let v1154 : BitVec 1 := Scalar.andi v1151 v1153
  let v1140 : BitVec 32 := Scalar.divsi v1 c128_i32_486
  let c1_i32_492 : BitVec 32 := 1#32
  let v1155 : BitVec 32 := Scalar.subi v1140 c1_i32_492
  let v1156 : BitVec 32 := Scalar.select v1154 v1155 v1140
  let c128_i32_493 : BitVec 32 := 128#32
  let v1157 : BitVec 32 := Scalar.addi v4 c128_i32_493
  let c1_i32_494 : BitVec 32 := 1#32
  let v1158 : BitVec 32 := Scalar.subi v1157 c1_i32_494
  let c0_i32_496 : BitVec 32 := 0#32
  let v1160 : BitVec 1 := Scalar.cmpi .sgt v1158 c0_i32_496
  let v1161 : BitVec 32 := Scalar.extui v1160
  let c0_i32_497 : BitVec 32 := 0#32
  let v1162 : BitVec 1 := Scalar.cmpi .slt v1158 c0_i32_497
  let v1163 : BitVec 32 := Scalar.extui v1162
  let v1164 : BitVec 32 := Scalar.subi v1161 v1163
  let c128_i32_495 : BitVec 32 := 128#32
  let c0_i32_498 : BitVec 32 := 0#32
  let v1165 : BitVec 1 := Scalar.cmpi .sgt c128_i32_495 c0_i32_498
  let v1166 : BitVec 32 := Scalar.extui v1165
  let c0_i32_499 : BitVec 32 := 0#32
  let v1167 : BitVec 1 := Scalar.cmpi .slt c128_i32_495 c0_i32_499
  let v1168 : BitVec 32 := Scalar.extui v1167
  let v1169 : BitVec 32 := Scalar.subi v1166 v1168
  let v1170 : BitVec 1 := Scalar.cmpi .ne v1164 v1169
  let v1171 : BitVec 32 := Scalar.remsi v1158 c128_i32_495
  let c0_i32_500 : BitVec 32 := 0#32
  let v1172 : BitVec 1 := Scalar.cmpi .ne v1171 c0_i32_500
  let v1173 : BitVec 1 := Scalar.andi v1170 v1172
  let v1159 : BitVec 32 := Scalar.divsi v1158 c128_i32_495
  let c1_i32_501 : BitVec 32 := 1#32
  let v1174 : BitVec 32 := Scalar.subi v1159 c1_i32_501
  let v1175 : BitVec 32 := Scalar.select v1173 v1174 v1159
  let v1176 : BitVec 32 := Scalar.subi v1175 v1156
  let c1_i32_503 : BitVec 32 := 1#32
  let v1178 : BitVec 32 := Scalar.divsi v1176 c1_i32_503
  let v1179 : BitVec 32 := Scalar.muli v1178 c1_i32_503
  let v1180 : BitVec 32 := Scalar.addi v1156 v1179
  let c1_i32_505 : BitVec 32 := 1#32
  let arg16 : BitVec 32 := Scf.iv v1180 c1_i32_505 k0_t2
  let c128_i32_506 : BitVec 32 := 128#32
  let v1183 : BitVec 32 := Scalar.muli arg16 c128_i32_506
  let v1184 : BitVec 32 := v1183
  let v1193 : Index := Scalar.indexCast v1184
  let c0_510 : Index := 0#32
  ![v1193.toNat, 0]
def k0_off13 (v1 : BitVec 32) (v4 : BitVec 32) (k0_t2 : Fin (k0_t2_loop v1 v4).trips) : Fin 2 → Nat :=
  let c0_i32_487 : BitVec 32 := 0#32
  let v1141 : BitVec 1 := Scalar.cmpi .sgt v1 c0_i32_487
  let v1142 : BitVec 32 := Scalar.extui v1141
  let c0_i32_488 : BitVec 32 := 0#32
  let v1143 : BitVec 1 := Scalar.cmpi .slt v1 c0_i32_488
  let v1144 : BitVec 32 := Scalar.extui v1143
  let v1145 : BitVec 32 := Scalar.subi v1142 v1144
  let c128_i32_486 : BitVec 32 := 128#32
  let c0_i32_489 : BitVec 32 := 0#32
  let v1146 : BitVec 1 := Scalar.cmpi .sgt c128_i32_486 c0_i32_489
  let v1147 : BitVec 32 := Scalar.extui v1146
  let c0_i32_490 : BitVec 32 := 0#32
  let v1148 : BitVec 1 := Scalar.cmpi .slt c128_i32_486 c0_i32_490
  let v1149 : BitVec 32 := Scalar.extui v1148
  let v1150 : BitVec 32 := Scalar.subi v1147 v1149
  let v1151 : BitVec 1 := Scalar.cmpi .ne v1145 v1150
  let v1152 : BitVec 32 := Scalar.remsi v1 c128_i32_486
  let c0_i32_491 : BitVec 32 := 0#32
  let v1153 : BitVec 1 := Scalar.cmpi .ne v1152 c0_i32_491
  let v1154 : BitVec 1 := Scalar.andi v1151 v1153
  let v1140 : BitVec 32 := Scalar.divsi v1 c128_i32_486
  let c1_i32_492 : BitVec 32 := 1#32
  let v1155 : BitVec 32 := Scalar.subi v1140 c1_i32_492
  let v1156 : BitVec 32 := Scalar.select v1154 v1155 v1140
  let c128_i32_493 : BitVec 32 := 128#32
  let v1157 : BitVec 32 := Scalar.addi v4 c128_i32_493
  let c1_i32_494 : BitVec 32 := 1#32
  let v1158 : BitVec 32 := Scalar.subi v1157 c1_i32_494
  let c0_i32_496 : BitVec 32 := 0#32
  let v1160 : BitVec 1 := Scalar.cmpi .sgt v1158 c0_i32_496
  let v1161 : BitVec 32 := Scalar.extui v1160
  let c0_i32_497 : BitVec 32 := 0#32
  let v1162 : BitVec 1 := Scalar.cmpi .slt v1158 c0_i32_497
  let v1163 : BitVec 32 := Scalar.extui v1162
  let v1164 : BitVec 32 := Scalar.subi v1161 v1163
  let c128_i32_495 : BitVec 32 := 128#32
  let c0_i32_498 : BitVec 32 := 0#32
  let v1165 : BitVec 1 := Scalar.cmpi .sgt c128_i32_495 c0_i32_498
  let v1166 : BitVec 32 := Scalar.extui v1165
  let c0_i32_499 : BitVec 32 := 0#32
  let v1167 : BitVec 1 := Scalar.cmpi .slt c128_i32_495 c0_i32_499
  let v1168 : BitVec 32 := Scalar.extui v1167
  let v1169 : BitVec 32 := Scalar.subi v1166 v1168
  let v1170 : BitVec 1 := Scalar.cmpi .ne v1164 v1169
  let v1171 : BitVec 32 := Scalar.remsi v1158 c128_i32_495
  let c0_i32_500 : BitVec 32 := 0#32
  let v1172 : BitVec 1 := Scalar.cmpi .ne v1171 c0_i32_500
  let v1173 : BitVec 1 := Scalar.andi v1170 v1172
  let v1159 : BitVec 32 := Scalar.divsi v1158 c128_i32_495
  let c1_i32_501 : BitVec 32 := 1#32
  let v1174 : BitVec 32 := Scalar.subi v1159 c1_i32_501
  let v1175 : BitVec 32 := Scalar.select v1173 v1174 v1159
  let v1176 : BitVec 32 := Scalar.subi v1175 v1156
  let c1_i32_503 : BitVec 32 := 1#32
  let v1178 : BitVec 32 := Scalar.divsi v1176 c1_i32_503
  let v1179 : BitVec 32 := Scalar.muli v1178 c1_i32_503
  let v1180 : BitVec 32 := Scalar.addi v1156 v1179
  let c1_i32_505 : BitVec 32 := 1#32
  let arg16 : BitVec 32 := Scf.iv v1180 c1_i32_505 k0_t2
  let c128_i32_506 : BitVec 32 := 128#32
  let v1183 : BitVec 32 := Scalar.muli arg16 c128_i32_506
  let v1184 : BitVec 32 := v1183
  let v1416 : Index := Scalar.indexCast v1184
  let c0_554 : Index := 0#32
  ![v1416.toNat, 0]
def k0_off14 (v1 : BitVec 32) (v4 : BitVec 32) (k0_t2 : Fin (k0_t2_loop v1 v4).trips) : Fin 2 → Nat :=
  let c0_i32_487 : BitVec 32 := 0#32
  let v1141 : BitVec 1 := Scalar.cmpi .sgt v1 c0_i32_487
  let v1142 : BitVec 32 := Scalar.extui v1141
  let c0_i32_488 : BitVec 32 := 0#32
  let v1143 : BitVec 1 := Scalar.cmpi .slt v1 c0_i32_488
  let v1144 : BitVec 32 := Scalar.extui v1143
  let v1145 : BitVec 32 := Scalar.subi v1142 v1144
  let c128_i32_486 : BitVec 32 := 128#32
  let c0_i32_489 : BitVec 32 := 0#32
  let v1146 : BitVec 1 := Scalar.cmpi .sgt c128_i32_486 c0_i32_489
  let v1147 : BitVec 32 := Scalar.extui v1146
  let c0_i32_490 : BitVec 32 := 0#32
  let v1148 : BitVec 1 := Scalar.cmpi .slt c128_i32_486 c0_i32_490
  let v1149 : BitVec 32 := Scalar.extui v1148
  let v1150 : BitVec 32 := Scalar.subi v1147 v1149
  let v1151 : BitVec 1 := Scalar.cmpi .ne v1145 v1150
  let v1152 : BitVec 32 := Scalar.remsi v1 c128_i32_486
  let c0_i32_491 : BitVec 32 := 0#32
  let v1153 : BitVec 1 := Scalar.cmpi .ne v1152 c0_i32_491
  let v1154 : BitVec 1 := Scalar.andi v1151 v1153
  let v1140 : BitVec 32 := Scalar.divsi v1 c128_i32_486
  let c1_i32_492 : BitVec 32 := 1#32
  let v1155 : BitVec 32 := Scalar.subi v1140 c1_i32_492
  let v1156 : BitVec 32 := Scalar.select v1154 v1155 v1140
  let c128_i32_493 : BitVec 32 := 128#32
  let v1157 : BitVec 32 := Scalar.addi v4 c128_i32_493
  let c1_i32_494 : BitVec 32 := 1#32
  let v1158 : BitVec 32 := Scalar.subi v1157 c1_i32_494
  let c0_i32_496 : BitVec 32 := 0#32
  let v1160 : BitVec 1 := Scalar.cmpi .sgt v1158 c0_i32_496
  let v1161 : BitVec 32 := Scalar.extui v1160
  let c0_i32_497 : BitVec 32 := 0#32
  let v1162 : BitVec 1 := Scalar.cmpi .slt v1158 c0_i32_497
  let v1163 : BitVec 32 := Scalar.extui v1162
  let v1164 : BitVec 32 := Scalar.subi v1161 v1163
  let c128_i32_495 : BitVec 32 := 128#32
  let c0_i32_498 : BitVec 32 := 0#32
  let v1165 : BitVec 1 := Scalar.cmpi .sgt c128_i32_495 c0_i32_498
  let v1166 : BitVec 32 := Scalar.extui v1165
  let c0_i32_499 : BitVec 32 := 0#32
  let v1167 : BitVec 1 := Scalar.cmpi .slt c128_i32_495 c0_i32_499
  let v1168 : BitVec 32 := Scalar.extui v1167
  let v1169 : BitVec 32 := Scalar.subi v1166 v1168
  let v1170 : BitVec 1 := Scalar.cmpi .ne v1164 v1169
  let v1171 : BitVec 32 := Scalar.remsi v1158 c128_i32_495
  let c0_i32_500 : BitVec 32 := 0#32
  let v1172 : BitVec 1 := Scalar.cmpi .ne v1171 c0_i32_500
  let v1173 : BitVec 1 := Scalar.andi v1170 v1172
  let v1159 : BitVec 32 := Scalar.divsi v1158 c128_i32_495
  let c1_i32_501 : BitVec 32 := 1#32
  let v1174 : BitVec 32 := Scalar.subi v1159 c1_i32_501
  let v1175 : BitVec 32 := Scalar.select v1173 v1174 v1159
  let v1176 : BitVec 32 := Scalar.subi v1175 v1156
  let c1_i32_503 : BitVec 32 := 1#32
  let v1178 : BitVec 32 := Scalar.divsi v1176 c1_i32_503
  let v1179 : BitVec 32 := Scalar.muli v1178 c1_i32_503
  let v1180 : BitVec 32 := Scalar.addi v1156 v1179
  let c1_i32_505 : BitVec 32 := 1#32
  let arg16 : BitVec 32 := Scf.iv v1180 c1_i32_505 k0_t2
  let c128_i32_506 : BitVec 32 := 128#32
  let v1183 : BitVec 32 := Scalar.muli arg16 c128_i32_506
  let v1184 : BitVec 32 := v1183
  let v1424 : Index := Scalar.indexCast v1184
  let c1280_559 : Index := 1280#32
  ![v1424.toNat, 1280]
def k0_off15 (v1 : BitVec 32) (v4 : BitVec 32) (k0_t2 : Fin (k0_t2_loop v1 v4).trips) : Fin 2 → Nat :=
  let c0_i32_487 : BitVec 32 := 0#32
  let v1141 : BitVec 1 := Scalar.cmpi .sgt v1 c0_i32_487
  let v1142 : BitVec 32 := Scalar.extui v1141
  let c0_i32_488 : BitVec 32 := 0#32
  let v1143 : BitVec 1 := Scalar.cmpi .slt v1 c0_i32_488
  let v1144 : BitVec 32 := Scalar.extui v1143
  let v1145 : BitVec 32 := Scalar.subi v1142 v1144
  let c128_i32_486 : BitVec 32 := 128#32
  let c0_i32_489 : BitVec 32 := 0#32
  let v1146 : BitVec 1 := Scalar.cmpi .sgt c128_i32_486 c0_i32_489
  let v1147 : BitVec 32 := Scalar.extui v1146
  let c0_i32_490 : BitVec 32 := 0#32
  let v1148 : BitVec 1 := Scalar.cmpi .slt c128_i32_486 c0_i32_490
  let v1149 : BitVec 32 := Scalar.extui v1148
  let v1150 : BitVec 32 := Scalar.subi v1147 v1149
  let v1151 : BitVec 1 := Scalar.cmpi .ne v1145 v1150
  let v1152 : BitVec 32 := Scalar.remsi v1 c128_i32_486
  let c0_i32_491 : BitVec 32 := 0#32
  let v1153 : BitVec 1 := Scalar.cmpi .ne v1152 c0_i32_491
  let v1154 : BitVec 1 := Scalar.andi v1151 v1153
  let v1140 : BitVec 32 := Scalar.divsi v1 c128_i32_486
  let c1_i32_492 : BitVec 32 := 1#32
  let v1155 : BitVec 32 := Scalar.subi v1140 c1_i32_492
  let v1156 : BitVec 32 := Scalar.select v1154 v1155 v1140
  let c128_i32_493 : BitVec 32 := 128#32
  let v1157 : BitVec 32 := Scalar.addi v4 c128_i32_493
  let c1_i32_494 : BitVec 32 := 1#32
  let v1158 : BitVec 32 := Scalar.subi v1157 c1_i32_494
  let c0_i32_496 : BitVec 32 := 0#32
  let v1160 : BitVec 1 := Scalar.cmpi .sgt v1158 c0_i32_496
  let v1161 : BitVec 32 := Scalar.extui v1160
  let c0_i32_497 : BitVec 32 := 0#32
  let v1162 : BitVec 1 := Scalar.cmpi .slt v1158 c0_i32_497
  let v1163 : BitVec 32 := Scalar.extui v1162
  let v1164 : BitVec 32 := Scalar.subi v1161 v1163
  let c128_i32_495 : BitVec 32 := 128#32
  let c0_i32_498 : BitVec 32 := 0#32
  let v1165 : BitVec 1 := Scalar.cmpi .sgt c128_i32_495 c0_i32_498
  let v1166 : BitVec 32 := Scalar.extui v1165
  let c0_i32_499 : BitVec 32 := 0#32
  let v1167 : BitVec 1 := Scalar.cmpi .slt c128_i32_495 c0_i32_499
  let v1168 : BitVec 32 := Scalar.extui v1167
  let v1169 : BitVec 32 := Scalar.subi v1166 v1168
  let v1170 : BitVec 1 := Scalar.cmpi .ne v1164 v1169
  let v1171 : BitVec 32 := Scalar.remsi v1158 c128_i32_495
  let c0_i32_500 : BitVec 32 := 0#32
  let v1172 : BitVec 1 := Scalar.cmpi .ne v1171 c0_i32_500
  let v1173 : BitVec 1 := Scalar.andi v1170 v1172
  let v1159 : BitVec 32 := Scalar.divsi v1158 c128_i32_495
  let c1_i32_501 : BitVec 32 := 1#32
  let v1174 : BitVec 32 := Scalar.subi v1159 c1_i32_501
  let v1175 : BitVec 32 := Scalar.select v1173 v1174 v1159
  let v1176 : BitVec 32 := Scalar.subi v1175 v1156
  let c1_i32_503 : BitVec 32 := 1#32
  let v1178 : BitVec 32 := Scalar.divsi v1176 c1_i32_503
  let v1179 : BitVec 32 := Scalar.muli v1178 c1_i32_503
  let v1180 : BitVec 32 := Scalar.addi v1156 v1179
  let c1_i32_505 : BitVec 32 := 1#32
  let arg16 : BitVec 32 := Scf.iv v1180 c1_i32_505 k0_t2
  let c128_i32_506 : BitVec 32 := 128#32
  let v1183 : BitVec 32 := Scalar.muli arg16 c128_i32_506
  let v1184 : BitVec 32 := v1183
  let v1432 : Index := Scalar.indexCast v1184
  let c2560_564 : Index := 2560#32
  ![v1432.toNat, 2560]
def k0_off16 (v1 : BitVec 32) (v4 : BitVec 32) (k0_t2 : Fin (k0_t2_loop v1 v4).trips) : Fin 2 → Nat :=
  let c0_i32_487 : BitVec 32 := 0#32
  let v1141 : BitVec 1 := Scalar.cmpi .sgt v1 c0_i32_487
  let v1142 : BitVec 32 := Scalar.extui v1141
  let c0_i32_488 : BitVec 32 := 0#32
  let v1143 : BitVec 1 := Scalar.cmpi .slt v1 c0_i32_488
  let v1144 : BitVec 32 := Scalar.extui v1143
  let v1145 : BitVec 32 := Scalar.subi v1142 v1144
  let c128_i32_486 : BitVec 32 := 128#32
  let c0_i32_489 : BitVec 32 := 0#32
  let v1146 : BitVec 1 := Scalar.cmpi .sgt c128_i32_486 c0_i32_489
  let v1147 : BitVec 32 := Scalar.extui v1146
  let c0_i32_490 : BitVec 32 := 0#32
  let v1148 : BitVec 1 := Scalar.cmpi .slt c128_i32_486 c0_i32_490
  let v1149 : BitVec 32 := Scalar.extui v1148
  let v1150 : BitVec 32 := Scalar.subi v1147 v1149
  let v1151 : BitVec 1 := Scalar.cmpi .ne v1145 v1150
  let v1152 : BitVec 32 := Scalar.remsi v1 c128_i32_486
  let c0_i32_491 : BitVec 32 := 0#32
  let v1153 : BitVec 1 := Scalar.cmpi .ne v1152 c0_i32_491
  let v1154 : BitVec 1 := Scalar.andi v1151 v1153
  let v1140 : BitVec 32 := Scalar.divsi v1 c128_i32_486
  let c1_i32_492 : BitVec 32 := 1#32
  let v1155 : BitVec 32 := Scalar.subi v1140 c1_i32_492
  let v1156 : BitVec 32 := Scalar.select v1154 v1155 v1140
  let c128_i32_493 : BitVec 32 := 128#32
  let v1157 : BitVec 32 := Scalar.addi v4 c128_i32_493
  let c1_i32_494 : BitVec 32 := 1#32
  let v1158 : BitVec 32 := Scalar.subi v1157 c1_i32_494
  let c0_i32_496 : BitVec 32 := 0#32
  let v1160 : BitVec 1 := Scalar.cmpi .sgt v1158 c0_i32_496
  let v1161 : BitVec 32 := Scalar.extui v1160
  let c0_i32_497 : BitVec 32 := 0#32
  let v1162 : BitVec 1 := Scalar.cmpi .slt v1158 c0_i32_497
  let v1163 : BitVec 32 := Scalar.extui v1162
  let v1164 : BitVec 32 := Scalar.subi v1161 v1163
  let c128_i32_495 : BitVec 32 := 128#32
  let c0_i32_498 : BitVec 32 := 0#32
  let v1165 : BitVec 1 := Scalar.cmpi .sgt c128_i32_495 c0_i32_498
  let v1166 : BitVec 32 := Scalar.extui v1165
  let c0_i32_499 : BitVec 32 := 0#32
  let v1167 : BitVec 1 := Scalar.cmpi .slt c128_i32_495 c0_i32_499
  let v1168 : BitVec 32 := Scalar.extui v1167
  let v1169 : BitVec 32 := Scalar.subi v1166 v1168
  let v1170 : BitVec 1 := Scalar.cmpi .ne v1164 v1169
  let v1171 : BitVec 32 := Scalar.remsi v1158 c128_i32_495
  let c0_i32_500 : BitVec 32 := 0#32
  let v1172 : BitVec 1 := Scalar.cmpi .ne v1171 c0_i32_500
  let v1173 : BitVec 1 := Scalar.andi v1170 v1172
  let v1159 : BitVec 32 := Scalar.divsi v1158 c128_i32_495
  let c1_i32_501 : BitVec 32 := 1#32
  let v1174 : BitVec 32 := Scalar.subi v1159 c1_i32_501
  let v1175 : BitVec 32 := Scalar.select v1173 v1174 v1159
  let v1176 : BitVec 32 := Scalar.subi v1175 v1156
  let c1_i32_503 : BitVec 32 := 1#32
  let v1178 : BitVec 32 := Scalar.divsi v1176 c1_i32_503
  let v1179 : BitVec 32 := Scalar.muli v1178 c1_i32_503
  let v1180 : BitVec 32 := Scalar.addi v1156 v1179
  let c1_i32_505 : BitVec 32 := 1#32
  let arg16 : BitVec 32 := Scf.iv v1180 c1_i32_505 k0_t2
  let c128_i32_506 : BitVec 32 := 128#32
  let v1183 : BitVec 32 := Scalar.muli arg16 c128_i32_506
  let v1184 : BitVec 32 := v1183
  let v1440 : Index := Scalar.indexCast v1184
  let c3840_569 : Index := 3840#32
  ![v1440.toNat, 3840]

def k0_chk1 (v1 : BitVec 32) (v4 : BitVec 32) : Prop :=
  (∀ (k0_h3 : k0_cond3 v1 v4 = 1#1), (k0_t1_loop v1 v4).OK) ∧
  (∀ k0_t1 : Fin (k0_t1_loop v1 v4).trips, ∀ (k0_h3 : k0_cond3 v1 v4 = 1#1), 128 ∣ (k0_mult1 v1 v4 k0_t1).toNat) ∧
  (∀ k0_t1 : Fin (k0_t1_loop v1 v4).trips, ∀ (k0_h3 : k0_cond3 v1 v4 = 1#1), ∀ a, (k0_off5 v1 v4 k0_t1) a + S128x5120.size a ≤ S1536x5120.size a) ∧
  (∀ k0_t1 : Fin (k0_t1_loop v1 v4).trips, ∀ (k0_h3 : k0_cond3 v1 v4 = 1#1), ∀ a, (k0_off6 v1 v4 k0_t1) a + S128x128.size a ≤ S1536x128.size a) ∧
  (∀ k0_t1 : Fin (k0_t1_loop v1 v4).trips, ∀ (k0_h3 : k0_cond3 v1 v4 = 1#1), ∀ (hinb : ∀ a, (k0_off6 v1 v4 k0_t1) a + S128x128.size a ≤ S1536x128.size a), (Rect.unit (s := S1536x128) (k0_off6 v1 v4 k0_t1) S128x128.size hinb).PackedRows (EltTy.packing .fp8e5m2)) ∧
  (∀ k0_t1 : Fin (k0_t1_loop v1 v4).trips, ∀ (k0_h3 : k0_cond3 v1 v4 = 1#1), ∀ a, (k0_off7 v1 v4 k0_t1) a + S128x1280.size a ≤ S1536x5120.size a) ∧
  (∀ k0_t1 : Fin (k0_t1_loop v1 v4).trips, ∀ (k0_h3 : k0_cond3 v1 v4 = 1#1), ∀ a, (k0_off8 v1 v4 k0_t1) a + S128x1280.size a ≤ S1536x5120.size a) ∧
  (∀ k0_t1 : Fin (k0_t1_loop v1 v4).trips, ∀ (k0_h3 : k0_cond3 v1 v4 = 1#1), ∀ a, (k0_off9 v1 v4 k0_t1) a + S128x1280.size a ≤ S1536x5120.size a) ∧
  (∀ k0_t1 : Fin (k0_t1_loop v1 v4).trips, ∀ (k0_h3 : k0_cond3 v1 v4 = 1#1), ∀ a, (k0_off10 v1 v4 k0_t1) a + S128x1280.size a ≤ S1536x5120.size a) ∧
  (∀ (k0_h3 : k0_cond3 v1 v4 = 1#1), (k0_t2_loop v1 v4).OK) ∧
  (∀ k0_t2 : Fin (k0_t2_loop v1 v4).trips, ∀ (k0_h3 : k0_cond3 v1 v4 = 1#1), 128 ∣ (k0_mult2 v1 v4 k0_t2).toNat) ∧
  (∀ k0_t2 : Fin (k0_t2_loop v1 v4).trips, ∀ (k0_h3 : k0_cond3 v1 v4 = 1#1), ∀ a, (k0_off11 v1 v4 k0_t2) a + S128x5120.size a ≤ S1536x5120.size a) ∧
  (∀ k0_t2 : Fin (k0_t2_loop v1 v4).trips, ∀ (k0_h3 : k0_cond3 v1 v4 = 1#1), ∀ a, (k0_off12 v1 v4 k0_t2) a + S128x128.size a ≤ S1536x128.size a) ∧
  (∀ k0_t2 : Fin (k0_t2_loop v1 v4).trips, ∀ (k0_h3 : k0_cond3 v1 v4 = 1#1), ∀ (hinb : ∀ a, (k0_off12 v1 v4 k0_t2) a + S128x128.size a ≤ S1536x128.size a), (Rect.unit (s := S1536x128) (k0_off12 v1 v4 k0_t2) S128x128.size hinb).PackedRows (EltTy.packing .fp8e5m2)) ∧
  (∀ k0_t2 : Fin (k0_t2_loop v1 v4).trips, ∀ (k0_h3 : k0_cond3 v1 v4 = 1#1), ∀ a, (k0_off13 v1 v4 k0_t2) a + S128x1280.size a ≤ S1536x5120.size a) ∧
  (∀ k0_t2 : Fin (k0_t2_loop v1 v4).trips, ∀ (k0_h3 : k0_cond3 v1 v4 = 1#1), ∀ a, (k0_off14 v1 v4 k0_t2) a + S128x1280.size a ≤ S1536x5120.size a) ∧
  (∀ k0_t2 : Fin (k0_t2_loop v1 v4).trips, ∀ (k0_h3 : k0_cond3 v1 v4 = 1#1), ∀ a, (k0_off15 v1 v4 k0_t2) a + S128x1280.size a ≤ S1536x5120.size a) ∧
  (∀ k0_t2 : Fin (k0_t2_loop v1 v4).trips, ∀ (k0_h3 : k0_cond3 v1 v4 = 1#1), ∀ a, (k0_off16 v1 v4 k0_t2) a + S128x1280.size a ≤ S1536x5120.size a)
theorem k0_t1_ok : ∀ (v1 : BitVec 32) (v4 : BitVec 32) (k0_hw1 : k0_chk1 v1 v4), ∀ (k0_h3 : k0_cond3 v1 v4 = 1#1), (k0_t1_loop v1 v4).OK := fun v1 v4 k0_hw1 k0_h3 => k0_hw1.1 k0_h3
theorem k0_mult1_dvd : ∀ (v1 : BitVec 32) (v4 : BitVec 32) (k0_hw1 : k0_chk1 v1 v4) (k0_t1 : Fin (k0_t1_loop v1 v4).trips), ∀ (k0_h3 : k0_cond3 v1 v4 = 1#1), 128 ∣ (k0_mult1 v1 v4 k0_t1).toNat := fun v1 v4 k0_hw1 k0_t1 k0_h3 => k0_hw1.2.1 k0_t1 k0_h3
theorem k0_off5_inb : ∀ (v1 : BitVec 32) (v4 : BitVec 32) (k0_hw1 : k0_chk1 v1 v4) (k0_t1 : Fin (k0_t1_loop v1 v4).trips), ∀ (k0_h3 : k0_cond3 v1 v4 = 1#1), ∀ a, (k0_off5 v1 v4 k0_t1) a + S128x5120.size a ≤ S1536x5120.size a := fun v1 v4 k0_hw1 k0_t1 k0_h3 => k0_hw1.2.2.1 k0_t1 k0_h3
theorem k0_off6_inb : ∀ (v1 : BitVec 32) (v4 : BitVec 32) (k0_hw1 : k0_chk1 v1 v4) (k0_t1 : Fin (k0_t1_loop v1 v4).trips), ∀ (k0_h3 : k0_cond3 v1 v4 = 1#1), ∀ a, (k0_off6 v1 v4 k0_t1) a + S128x128.size a ≤ S1536x128.size a := fun v1 v4 k0_hw1 k0_t1 k0_h3 => k0_hw1.2.2.2.1 k0_t1 k0_h3
theorem k0_off6_packedfp8e5m2 : ∀ (v1 : BitVec 32) (v4 : BitVec 32) (k0_hw1 : k0_chk1 v1 v4) (k0_t1 : Fin (k0_t1_loop v1 v4).trips), ∀ (k0_h3 : k0_cond3 v1 v4 = 1#1), (Rect.unit (s := S1536x128) (k0_off6 v1 v4 k0_t1) S128x128.size (k0_off6_inb v1 v4 k0_hw1 k0_t1 k0_h3)).PackedRows (EltTy.packing .fp8e5m2) := fun v1 v4 k0_hw1 k0_t1 k0_h3 => k0_hw1.2.2.2.2.1 k0_t1 k0_h3 (k0_off6_inb v1 v4 k0_hw1 k0_t1 k0_h3)
theorem k0_off7_inb : ∀ (v1 : BitVec 32) (v4 : BitVec 32) (k0_hw1 : k0_chk1 v1 v4) (k0_t1 : Fin (k0_t1_loop v1 v4).trips), ∀ (k0_h3 : k0_cond3 v1 v4 = 1#1), ∀ a, (k0_off7 v1 v4 k0_t1) a + S128x1280.size a ≤ S1536x5120.size a := fun v1 v4 k0_hw1 k0_t1 k0_h3 => k0_hw1.2.2.2.2.2.1 k0_t1 k0_h3
theorem k0_off8_inb : ∀ (v1 : BitVec 32) (v4 : BitVec 32) (k0_hw1 : k0_chk1 v1 v4) (k0_t1 : Fin (k0_t1_loop v1 v4).trips), ∀ (k0_h3 : k0_cond3 v1 v4 = 1#1), ∀ a, (k0_off8 v1 v4 k0_t1) a + S128x1280.size a ≤ S1536x5120.size a := fun v1 v4 k0_hw1 k0_t1 k0_h3 => k0_hw1.2.2.2.2.2.2.1 k0_t1 k0_h3
theorem k0_off9_inb : ∀ (v1 : BitVec 32) (v4 : BitVec 32) (k0_hw1 : k0_chk1 v1 v4) (k0_t1 : Fin (k0_t1_loop v1 v4).trips), ∀ (k0_h3 : k0_cond3 v1 v4 = 1#1), ∀ a, (k0_off9 v1 v4 k0_t1) a + S128x1280.size a ≤ S1536x5120.size a := fun v1 v4 k0_hw1 k0_t1 k0_h3 => k0_hw1.2.2.2.2.2.2.2.1 k0_t1 k0_h3
theorem k0_off10_inb : ∀ (v1 : BitVec 32) (v4 : BitVec 32) (k0_hw1 : k0_chk1 v1 v4) (k0_t1 : Fin (k0_t1_loop v1 v4).trips), ∀ (k0_h3 : k0_cond3 v1 v4 = 1#1), ∀ a, (k0_off10 v1 v4 k0_t1) a + S128x1280.size a ≤ S1536x5120.size a := fun v1 v4 k0_hw1 k0_t1 k0_h3 => k0_hw1.2.2.2.2.2.2.2.2.1 k0_t1 k0_h3
theorem k0_t2_ok : ∀ (v1 : BitVec 32) (v4 : BitVec 32) (k0_hw1 : k0_chk1 v1 v4), ∀ (k0_h3 : k0_cond3 v1 v4 = 1#1), (k0_t2_loop v1 v4).OK := fun v1 v4 k0_hw1 k0_h3 => k0_hw1.2.2.2.2.2.2.2.2.2.1 k0_h3
theorem k0_mult2_dvd : ∀ (v1 : BitVec 32) (v4 : BitVec 32) (k0_hw1 : k0_chk1 v1 v4) (k0_t2 : Fin (k0_t2_loop v1 v4).trips), ∀ (k0_h3 : k0_cond3 v1 v4 = 1#1), 128 ∣ (k0_mult2 v1 v4 k0_t2).toNat := fun v1 v4 k0_hw1 k0_t2 k0_h3 => k0_hw1.2.2.2.2.2.2.2.2.2.2.1 k0_t2 k0_h3
theorem k0_off11_inb : ∀ (v1 : BitVec 32) (v4 : BitVec 32) (k0_hw1 : k0_chk1 v1 v4) (k0_t2 : Fin (k0_t2_loop v1 v4).trips), ∀ (k0_h3 : k0_cond3 v1 v4 = 1#1), ∀ a, (k0_off11 v1 v4 k0_t2) a + S128x5120.size a ≤ S1536x5120.size a := fun v1 v4 k0_hw1 k0_t2 k0_h3 => k0_hw1.2.2.2.2.2.2.2.2.2.2.2.1 k0_t2 k0_h3
theorem k0_off12_inb : ∀ (v1 : BitVec 32) (v4 : BitVec 32) (k0_hw1 : k0_chk1 v1 v4) (k0_t2 : Fin (k0_t2_loop v1 v4).trips), ∀ (k0_h3 : k0_cond3 v1 v4 = 1#1), ∀ a, (k0_off12 v1 v4 k0_t2) a + S128x128.size a ≤ S1536x128.size a := fun v1 v4 k0_hw1 k0_t2 k0_h3 => k0_hw1.2.2.2.2.2.2.2.2.2.2.2.2.1 k0_t2 k0_h3
theorem k0_off12_packedfp8e5m2 : ∀ (v1 : BitVec 32) (v4 : BitVec 32) (k0_hw1 : k0_chk1 v1 v4) (k0_t2 : Fin (k0_t2_loop v1 v4).trips), ∀ (k0_h3 : k0_cond3 v1 v4 = 1#1), (Rect.unit (s := S1536x128) (k0_off12 v1 v4 k0_t2) S128x128.size (k0_off12_inb v1 v4 k0_hw1 k0_t2 k0_h3)).PackedRows (EltTy.packing .fp8e5m2) := fun v1 v4 k0_hw1 k0_t2 k0_h3 => k0_hw1.2.2.2.2.2.2.2.2.2.2.2.2.2.1 k0_t2 k0_h3 (k0_off12_inb v1 v4 k0_hw1 k0_t2 k0_h3)
theorem k0_off13_inb : ∀ (v1 : BitVec 32) (v4 : BitVec 32) (k0_hw1 : k0_chk1 v1 v4) (k0_t2 : Fin (k0_t2_loop v1 v4).trips), ∀ (k0_h3 : k0_cond3 v1 v4 = 1#1), ∀ a, (k0_off13 v1 v4 k0_t2) a + S128x1280.size a ≤ S1536x5120.size a := fun v1 v4 k0_hw1 k0_t2 k0_h3 => k0_hw1.2.2.2.2.2.2.2.2.2.2.2.2.2.2.1 k0_t2 k0_h3
theorem k0_off14_inb : ∀ (v1 : BitVec 32) (v4 : BitVec 32) (k0_hw1 : k0_chk1 v1 v4) (k0_t2 : Fin (k0_t2_loop v1 v4).trips), ∀ (k0_h3 : k0_cond3 v1 v4 = 1#1), ∀ a, (k0_off14 v1 v4 k0_t2) a + S128x1280.size a ≤ S1536x5120.size a := fun v1 v4 k0_hw1 k0_t2 k0_h3 => k0_hw1.2.2.2.2.2.2.2.2.2.2.2.2.2.2.2.1 k0_t2 k0_h3
theorem k0_off15_inb : ∀ (v1 : BitVec 32) (v4 : BitVec 32) (k0_hw1 : k0_chk1 v1 v4) (k0_t2 : Fin (k0_t2_loop v1 v4).trips), ∀ (k0_h3 : k0_cond3 v1 v4 = 1#1), ∀ a, (k0_off15 v1 v4 k0_t2) a + S128x1280.size a ≤ S1536x5120.size a := fun v1 v4 k0_hw1 k0_t2 k0_h3 => k0_hw1.2.2.2.2.2.2.2.2.2.2.2.2.2.2.2.2.1 k0_t2 k0_h3
theorem k0_off16_inb : ∀ (v1 : BitVec 32) (v4 : BitVec 32) (k0_hw1 : k0_chk1 v1 v4) (k0_t2 : Fin (k0_t2_loop v1 v4).trips), ∀ (k0_h3 : k0_cond3 v1 v4 = 1#1), ∀ a, (k0_off16 v1 v4 k0_t2) a + S128x1280.size a ≤ S1536x5120.size a := fun v1 v4 k0_hw1 k0_t2 k0_h3 => k0_hw1.2.2.2.2.2.2.2.2.2.2.2.2.2.2.2.2.2 k0_t2 k0_h3

def k0_cond4 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_5 : BitVec 32 := 0#32
  let v18 : BitVec 1 := Scalar.cmpi .ne v17 c0_i32_5
  v18

def k0_mult3 (i : grid0.Coords) : BitVec 32 :=
  let arg0 : BitVec 32 := BitVec.ofNat 32 (i 0).val
  let c128_i32 : BitVec 32 := 128#32
  let v19 : BitVec 32 := Scalar.muli arg0 c128_i32
  v19
def k0_mult4 (i : grid0.Coords) : BitVec 32 :=
  let c8192_i32 : BitVec 32 := 8192#32
  let arg0 : BitVec 32 := BitVec.ofNat 32 (i 0).val
  let c128_i32_6 : BitVec 32 := 128#32
  let v21 : BitVec 32 := Scalar.muli arg0 c128_i32_6
  let v22 : BitVec 32 := Scalar.addi c8192_i32 v21
  v22
def k0_off17 (i : grid0.Coords) : Fin 2 → Nat :=
  let c0_i32_8 : BitVec 32 := 0#32
  let arg0 : BitVec 32 := BitVec.ofNat 32 (i 0).val
  let c128_i32 : BitVec 32 := 128#32
  let v19 : BitVec 32 := Scalar.muli arg0 c128_i32
  let v20 : BitVec 32 := v19
  ![0, v20.toNat]
def k0_off18 (i : grid0.Coords) : Fin 2 → Nat :=
  let c0_i32_10 : BitVec 32 := 0#32
  let c8192_i32 : BitVec 32 := 8192#32
  let arg0 : BitVec 32 := BitVec.ofNat 32 (i 0).val
  let c128_i32_6 : BitVec 32 := 128#32
  let v21 : BitVec 32 := Scalar.muli arg0 c128_i32_6
  let v22 : BitVec 32 := Scalar.addi c8192_i32 v21
  let v23 : BitVec 32 := v22
  ![0, v23.toNat]
def k0_cond1 (i : grid0.Coords) : BitVec 1 :=
  let arg0 : BitVec 32 := BitVec.ofNat 32 (i 0).val
  let c0_i32 : BitVec 32 := 0#32
  let v5 : BitVec 1 := Scalar.cmpi .eq arg0 c0_i32
  let arg1 : BitVec 32 := BitVec.ofNat 32 (i 1).val
  let c0_i32_0 : BitVec 32 := 0#32
  let v6 : BitVec 1 := Scalar.cmpi .eq arg1 c0_i32_0
  let v7 : BitVec 1 := Scalar.andi v5 v6
  let v8 : BitVec 32 := Scalar.extui v7
  let c0_i32_1 : BitVec 32 := 0#32
  let v9 : BitVec 1 := Scalar.cmpi .ne v8 c0_i32_1
  v9

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi arg0 c64_i32
  let c0_i32 : BitVec 32 := 0#32
  let c0_i32_0 : BitVec 32 := 0#32
  ![arg1.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S20480 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1536x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x5120x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x5120x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1536x128 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1536x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1536x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S1536x5120 : Shape := ⟨2, ![1536, 5120]⟩
abbrev S4x5120x16384 : Shape := ⟨3, ![4, 5120, 16384]⟩
abbrev S4x40x128 : Shape := ⟨3, ![4, 40, 128]⟩
abbrev S1536x8192 : Shape := ⟨2, ![1536, 8192]⟩
abbrev S1536x64 : Shape := ⟨2, ![1536, 64]⟩
abbrev S4 : Shape := ⟨1, ![4]⟩
abbrev S1536x16384 : Shape := ⟨2, ![1536, 16384]⟩
abbrev S1536x128 : Shape := ⟨2, ![1536, 128]⟩
abbrev S1536x1 : Shape := ⟨2, ![1536, 1]⟩
abbrev S1 : Shape := ⟨1, ![1]⟩
abbrev S1x5120x16384 : Shape := ⟨3, ![1, 5120, 16384]⟩
abbrev S5120x16384 : Shape := ⟨2, ![5120, 16384]⟩
abbrev S40x128x128x128 : Shape := ⟨4, ![40, 128, 128, 128]⟩
abbrev S1x40x128 : Shape := ⟨3, ![1, 40, 128]⟩
abbrev S40x128 : Shape := ⟨2, ![40, 128]⟩
abbrev S40x1x128x1 : Shape := ⟨4, ![40, 1, 128, 1]⟩
abbrev S1536x64x128 : Shape := ⟨3, ![1536, 64, 128]⟩
abbrev S1536x64x1 : Shape := ⟨3, ![1536, 64, 1]⟩
abbrev S1536x128x128 : Shape := ⟨3, ![1536, 128, 128]⟩
abbrev S1536x128x252 : Shape := ⟨3, ![1536, 128, 252]⟩
abbrev S1536x128x1 : Shape := ⟨3, ![1536, 128, 1]⟩

abbrev nBuf : Space → Nat
  | .hbm => 9
  | .vmem => 8
  | .smem => 1
  | _ => 0

abbrev bufTy : (tb : Table) → Fin (tcTables nBuf tb) → BufTy
  | .hbm, ⟨0, _⟩ => ⟨S1536x5120, .bf16⟩
  | .hbm, ⟨1, _⟩ => ⟨S4x5120x16384, .fp8e4m3⟩
  | .hbm, ⟨2, _⟩ => ⟨S4x40x128, .f32⟩
  | .hbm, ⟨3, _⟩ => ⟨S1536x8192, .fp8e5m2⟩
  | .hbm, ⟨4, _⟩ => ⟨S1536x64, .f32⟩
  | .hbm, ⟨5, _⟩ => ⟨S4, .i32⟩
  | .hbm, ⟨6, _⟩ => ⟨S1536x16384, .fp8e5m2⟩
  | .hbm, ⟨7, _⟩ => ⟨S1536x128, .f32⟩
  | .hbm, ⟨8, _⟩ => ⟨S1536x5120, .f32⟩
  | .local _ .vmem, ⟨0, _⟩ => ⟨S1536x5120, .bf16⟩
  | .local _ .vmem, ⟨1, _⟩ => ⟨S4x5120x16384, .fp8e4m3⟩
  | .local _ .vmem, ⟨2, _⟩ => ⟨S4x40x128, .f32⟩
  | .local _ .vmem, ⟨3, _⟩ => ⟨S1536x8192, .fp8e5m2⟩
  | .local _ .vmem, ⟨4, _⟩ => ⟨S1536x64, .f32⟩
  | .local _ .vmem, ⟨5, _⟩ => ⟨S1536x16384, .fp8e5m2⟩
  | .local _ .vmem, ⟨6, _⟩ => ⟨S1536x128, .f32⟩
  | .local _ .vmem, ⟨7, _⟩ => ⟨S1536x5120, .f32⟩
  | .local _ .smem, ⟨0, _⟩ => ⟨S4, .i32⟩
  | _, _ => ⟨S1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg5_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1536x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x5120x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x8192 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S4 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x16384 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KTrip.lean ====
/-
  One trip of the kernel's loop over row blocks, as a function of the values it reads: which 128-row window of each
  array it replaces and by what.  The triple at the end runs the printed trip and says that it does exactly that.
-/
module

public import proofs.«01_k».proof.Proof.Gen.Kernel.Loops
public import Idealize.ShloMosaic.Lib.Tactic
public import Idealize.ShloMosaic.Lib.VecWindow
public import Idealize.ShloMosaic.Lib.LoopRemainder
public import Idealize.ShloMosaic.Lib.Pipeline.Frame
public import Idealize.ShloMosaic.Lib.Pipeline.TableIdle

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the accumulating arrays hold: the scales, the two code panels, and the input gradient. -/
structure St (F : FTy → Type) where
  sc : Vec F S1536x128 .f32
  cg : Vec F S1536x128 .fp8e5m2
  cu : Vec F S1536x128 .fp8e5m2
  dx : Vec F S1536x5120 .f32

/-- The two scales and the two code blocks one row block produces. -/
structure Quant (F : FTy → Type) where
  sg : FVec F S128x1 .f32
  su : FVec F S128x1 .f32
  cg : FVec F S128x128 .fp8e5m2
  cu : FVec F S128x128 .fp8e5m2

/-- The quantised gate gradient of a block: scale and codes of the gradient `v`, whose row maximum over the largest code is `y`. -/
def quantG (v : FVec F S128x128 .f32) (y : FVec F S128x1 .f32) (b : IVec S128x1 32) : FVec F S128x1 .f32 × FVec F S128x128 .fp8e5m2 :=
  (k0_pay22 y b, k0_pay26 v (k0_pay23 y b) (k0_pay24 y b) k0_pay25)

/-- The quantised up gradient of a block. -/
def quantU (v : FVec F S128x128 .f32) : FVec F S128x1 .f32 × FVec F S128x128 .fp8e5m2 :=
  (k0_pay32 (k0_pay27 v) (k0_pay28 v) (k0_pay29 v) (k0_pay30 v), k0_pay33 v (k0_pay27 v) (k0_pay28 v) (k0_pay29 v) (k0_pay30 v))

/-- The scales and codes of one row block, from its rows, the dequantised weights and the output gradient. -/
def quant (arg0 : BitVec 32) (lane : IVec S128x128 32) (x : Vec F S128x5120 .bf16) (w : Vec F S5120x256 .bf16)
    (dhs : Vec F S128x128 .f32) (dhc : Vec F S128x128 .fp8e5m2) : Quant F :=
  let g := quantG (k0_pay17 arg0 lane x w dhs dhc) (k0_pay19 arg0 lane x w dhs dhc) (k0_pay20 arg0 lane x w dhs dhc)
  let u := quantU (k0_pay18 arg0 lane x w dhs dhc)
  ⟨g.1, u.1, g.2, u.2⟩

/-- The new block of scales: columns `arg0` and `arg0 + 64` of the expert's rows. -/
def scBlk (arg0 : BitVec 32) (v1 v4 : Elt F .i32) (lane : IVec S128x128 32) (row : BitVec 32) (old : Vec F S128x128 .f32)
    (x : Vec F S128x5120 .bf16) (w : Vec F S5120x256 .bf16) (dhs : Vec F S128x128 .f32) (dhc : Vec F S128x128 .fp8e5m2) : FVec F S128x128 .f32 :=
  let v := k0_pay18 arg0 lane x w dhs dhc
  k0_pay38 (quant arg0 lane x w dhs dhc).sg (k0_pay34 (F := F) v1 v4 row) (k0_pay35 old) (k0_pay36 arg0 lane)
    (k0_pay37 arg0 lane (k0_pay27 v) (k0_pay28 v) (k0_pay29 v) (k0_pay30 v) old)

/-- The dequantised gradients of the expert's rows, gate columns then up columns. -/
def ddBlk (q : Quant F) (v1 v4 : Elt F .i32) (row : BitVec 32) : FVec F S128x256 .bf16 :=
  k0_pay43 q.sg q.cg q.su q.cu (k0_pay34 (F := F) v1 v4 row)

/-- ONE TRIP: the state after row block `k`, from the state before it. -/
def trip (arg0 : BitVec 32) (v1 v4 : Elt F .i32) (hw : k0_chk1 v1 v4) (h3 : k0_cond3 v1 v4 = 1#1) (lane : IVec S128x128 32)
    (v1156 : BitVec 32) (xs : Vec F S1536x5120 .bf16) (dhc : Vec F S1536x128 .fp8e5m2) (dhs : Vec F S1536x128 .f32)
    (wd : Vec F S5120x256 .bf16) (k : Fin (k0_t1_loop v1 v4).trips) (s : St F) : St F :=
  let row := Scf.iv v1156 1#32 k
  let x : Vec F S128x5120 .bf16 := VecWindow.window xs (k0_off5 v1 v4 k) S128x5120.size (k0_off5_inb v1 v4 hw k h3)
  let ds : Vec F S128x128 .f32 := VecWindow.window dhs (k0_off6 v1 v4 k) S128x128.size (k0_off6_inb v1 v4 hw k h3)
  let dc : Vec F S128x128 .fp8e5m2 := VecWindow.window dhc (k0_off6 v1 v4 k) S128x128.size (k0_off6_inb v1 v4 hw k h3)
  let w : Vec F S5120x256 .bf16 := VecWindow.window wd ![0, 0] S5120x256.size inb_S5120x256_S5120x256_0_0
  let q := quant arg0 lane x w ds dc
  let dd := ddBlk q v1 v4 row
  let d7 := VecWindow.put s.dx (k0_off7 v1 v4 k) S128x1280.size
    (k0_pay5 dd (k0_pay44 (VecWindow.window s.dx (k0_off7 v1 v4 k) S128x1280.size (k0_off7_inb v1 v4 hw k h3)))
      (VecWindow.window wd ![0, 0] S1280x256.size inb_S5120x256_S1280x256_0_0))
  let d8 := VecWindow.put d7 (k0_off8 v1 v4 k) S128x1280.size
    (k0_pay6 dd (VecWindow.window d7 (k0_off8 v1 v4 k) S128x1280.size (k0_off8_inb v1 v4 hw k h3))
      (VecWindow.window wd ![1280, 0] S1280x256.size inb_S5120x256_S1280x256_1280_0))
  let d9 := VecWindow.put d8 (k0_off9 v1 v4 k) S128x1280.size
    (k0_pay7 dd (VecWindow.window d8 (k0_off9 v1 v4 k) S128x1280.size (k0_off9_inb v1 v4 hw k h3))
      (VecWindow.window wd ![2560, 0] S1280x256.size inb_S5120x256_S1280x256_2560_0))
  let d10 := VecWindow.put d9 (k0_off10 v1 v4 k) S128x1280.size
    (k0_pay8 dd (VecWindow.window d9 (k0_off10 v1 v4 k) S128x1280.size (k0_off10_inb v1 v4 hw k h3))
      (VecWindow.window wd ![3840, 0] S1280x256.size inb_S5120x256_S1280x256_3840_0))
  { sc := VecWindow.put s.sc (k0_off6 v1 v4 k) S128x128.size
      (scBlk arg0 v1 v4 lane row (VecWindow.window s.sc (k0_off6 v1 v4 k) S128x128.size (k0_off6_inb v1 v4 hw k h3)) x w ds dc)
    cg := VecWindow.put s.cg (k0_off6 v1 v4 k) S128x128.size
      (k0_pay41 q.cg (k0_pay34 (F := F) v1 v4 row) (VecWindow.window s.cg (k0_off6 v1 v4 k) S128x128.size (k0_off6_inb v1 v4 hw k h3)))
    cu := VecWindow.put s.cu (k0_off6 v1 v4 k) S128x128.size
      (k0_pay42 q.cu (k0_pay34 (F := F) v1 v4 row) (VecWindow.window s.cu (k0_off6 v1 v4 k) S128x128.size (k0_off6_inb v1 v4 hw k h3)))
    dx := d10 }

/-- A memref's elements on core `c`, all of them, holding the vector `X`. -/
abbrev at_ (c : Dev nD) {sp : Space} {S : Shape} {e : EltTy} (M : Memref sig .tc sp S e) (X : Vec F S e) : sProp 𝕄 :=
  M.view.loc (c : Thread nD τ) ↦[M.view.set]{fullShare} M.view.rep (Val := Elt F) X

/-- The four accumulating arrays holding a state. -/
abbrev stAt (c : Dev nD) (arg10 : Memref sig .tc .vmem S1536x128 .f32) (arg13 arg14 : Memref sig .tc .vmem S1536x128 .fp8e5m2)
    (arg11 : Memref sig .tc .vmem S1536x5120 .f32) (s : St F) : sProp 𝕄 :=
  iprop(at_ c arg10 s.sc ∗ at_ c arg13 s.cg ∗ at_ c arg14 s.cu ∗ at_ c arg11 s.dx)

/-- Contents that read as `X` hold `X`. -/
theorem at_of_read (c : Dev nD) {sp : Space} {S : Shape} {e : EltTy} (M : Memref sig .tc sp S e)
    (g : BufTy.Contents (Elt F) M.view.ty) (X : Vec F S e) (h : M.view.read (Elt F) g = X) :
    (M.view.loc (c : Thread nD τ) ↦[M.view.set]{fullShare} g : sProp 𝕄) ⊢ at_ c M X :=
  pointsTo_rep_of_read (c : Thread nD τ) M g fullShare X h

/-- A load of a unit-stride rectangle reads the window there of what the array holds. -/
theorem readAt_win {sp : Space} {S : Shape} {e : EltTy} (v : View sig .tc sp S e) (f : v.ty.Contents (Elt F)) {off size : Fin S.rank → ℕ}
    (inb : ∀ a, off a + size a ≤ S.size a) :
    v.readAt (Elt F) (Rect.unit off size inb).toLoadRect f = VecWindow.window (v.read (Elt F) f) off size inb := rfl
/-- The window of everything is everything. -/
theorem readAt_all {S : Shape} {α : Type} (x : S.Idx → α) {off : Fin S.rank → ℕ} (inb : ∀ a, off a + S.size a ≤ S.size a) :
    VecWindow.window x off S.size inb = x :=
  funext fun y => congrArg x (funext fun a => Fin.ext (by
    show off a + 1 * (y a).val = (y a).val
    have := inb a; omega))
/-- A store to a unit-stride rectangle puts its payload there. -/
theorem read_writes_put {sp : Space} {S : Shape} {e : EltTy} (v : View sig .tc sp S e) (f : v.ty.Contents (Elt F)) {off size : Fin S.rank → ℕ}
    (inb : ∀ a, off a + size a ≤ S.size a) (w : (Rect.unit off size inb).shape.Idx → Elt F e) (L : List (View.Piece (Elt F) S e)) :
    v.read (Elt F) (v.writes (Elt F) f (⟨Rect.unit off size inb, w⟩ :: L)) = VecWindow.put (v.read (Elt F) (v.writes (Elt F) f L)) off size w :=
  View.read_writes_cons_put v f inb w L rfl
theorem writes_nil' {sp : Space} {S : Shape} {e : EltTy} (v : View sig .tc sp S e) (f : v.ty.Contents (Elt F)) :
    v.writes (Elt F) f [] = f := rfl

set_option maxHeartbeats 4000000 in
/-- The printed trip, run: the pieces it stores into the four arrays. -/
def tripRun (𝒱 : Variants) (c : Dev nD) (bd : Option 𝒱.V) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (arg0 : BitVec 32) (v1 v4 : Elt F .i32) (hw : k0_chk1 v1 v4) (h3 : k0_cond3 v1 v4 = 1#1) (lane : IVec S128x128 32) (v1156 : BitVec 32)
    (xs : Vec F S1536x5120 .bf16) (dhc : Vec F S1536x128 .fp8e5m2) (dhs : Vec F S1536x128 .f32) (wd : Vec F S5120x256 .bf16)
    (k : Fin (k0_t1_loop v1 v4).trips) (s : St F) :
    Σ' (L10 : List (View.Piece (Elt F) S1536x128 .f32)) (L13 L14 : List (View.Piece (Elt F) S1536x128 .fp8e5m2)),
      { L11 : List (View.Piece (Elt F) S1536x5120 .f32) // ∀ (E : Set ℕ) (acc : BitVec 32),
    (iprop(at_ c arg4 xs ∗ at_ c arg7 dhc ∗ at_ c arg8 dhs ∗ at_ c arg12 wd ∗ stAt c arg10 arg13 arg14 arg11 s) : sProp 𝕄)
      ⊢ wp frame (wpE defs₀ 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 k acc)
          fun _ => iprop(at_ c arg4 xs ∗ at_ c arg7 dhc ∗ at_ c arg8 dhs ∗ at_ c arg12 wd
            ∗ (arg10.view.loc (c : Thread nD τ) ↦[arg10.view.set]{fullShare} arg10.view.writes (Elt F) (arg10.view.rep s.sc) L10)
            ∗ (arg13.view.loc (c : Thread nD τ) ↦[arg13.view.set]{fullShare} arg13.view.writes (Elt F) (arg13.view.rep s.cg) L13)
            ∗ (arg14.view.loc (c : Thread nD τ) ↦[arg14.view.set]{fullShare} arg14.view.writes (Elt F) (arg14.view.rep s.cu) L14)
            ∗ (arg11.view.loc (c : Thread nD τ) ↦[arg11.view.set]{fullShare} arg11.view.writes (Elt F) (arg11.view.rep s.dx) L11)) } := by
  refine ⟨?_, ?_, ?_, ?_, fun E acc => ?run⟩
  case run =>
    unfold k0_t1_body
    iintro ⟨H4, H7, H8, H12, H10, H13, H14, H11⟩
    sl_exec
    sl_step
    sl_close

theorem tripRun_sc (𝒱 : Variants) (c : Dev nD) (bd : Option 𝒱.V) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (arg0 : BitVec 32) (v1 v4 : Elt F .i32) (hw : k0_chk1 v1 v4) (h3 : k0_cond3 v1 v4 = 1#1) (lane : IVec S128x128 32) (v1156 : BitVec 32)
    (xs : Vec F S1536x5120 .bf16) (dhc : Vec F S1536x128 .fp8e5m2) (dhs : Vec F S1536x128 .f32) (wd : Vec F S5120x256 .bf16)
    (k : Fin (k0_t1_loop v1 v4).trips) (s : St F) :
    arg10.view.read (Elt F) (arg10.view.writes (Elt F) (arg10.view.rep s.sc) (tripRun 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s).1)
      = (trip arg0 v1 v4 hw h3 lane v1156 xs dhc dhs wd k s).sc := by
  rw [show (tripRun 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s).1 = [⟨Rect.unit (k0_off6 v1 v4 k) S128x128.size (k0_off6_inb v1 v4 hw k h3), _⟩] from rfl, read_writes_put, writes_nil', View.read_rep]
  try delta tripRun.sl.H11_3
  try delta tripRun.sl.H11_2
  try delta tripRun.sl.H11_1
  try delta tripRun.sl.r_17
  try delta tripRun.sl.r_16
  try delta tripRun.sl.r_15
  try delta tripRun.sl.r_14
  try delta tripRun.sl.r_13
  try delta tripRun.sl.r_12
  try delta tripRun.sl.r_11
  try delta tripRun.sl.r_10
  try delta tripRun.sl.r_9
  try delta tripRun.sl.r_8
  try delta tripRun.sl.r_7
  try delta tripRun.sl.r_6
  try delta tripRun.sl.r_5
  try delta tripRun.sl.r_4
  try delta tripRun.sl.r_3
  try delta tripRun.sl.r_2
  try delta tripRun.sl.r_1
  try delta tripRun.sl.r
  try delta tripRun.sl.arg16
  simp only [writes_nil', readAt_win, View.read_rep, trip, scBlk, ddBlk, quant, quantG, quantU]

theorem tripRun_cg (𝒱 : Variants) (c : Dev nD) (bd : Option 𝒱.V) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (arg0 : BitVec 32) (v1 v4 : Elt F .i32) (hw : k0_chk1 v1 v4) (h3 : k0_cond3 v1 v4 = 1#1) (lane : IVec S128x128 32) (v1156 : BitVec 32)
    (xs : Vec F S1536x5120 .bf16) (dhc : Vec F S1536x128 .fp8e5m2) (dhs : Vec F S1536x128 .f32) (wd : Vec F S5120x256 .bf16)
    (k : Fin (k0_t1_loop v1 v4).trips) (s : St F) :
    arg13.view.read (Elt F) (arg13.view.writes (Elt F) (arg13.view.rep s.cg) (tripRun 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s).2.1)
      = (trip arg0 v1 v4 hw h3 lane v1156 xs dhc dhs wd k s).cg := by
  rw [show (tripRun 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s).2.1 = [⟨Rect.unit (k0_off6 v1 v4 k) S128x128.size (k0_off6_inb v1 v4 hw k h3), _⟩] from rfl, read_writes_put, writes_nil', View.read_rep]
  try delta tripRun.sl.H11_3
  try delta tripRun.sl.H11_2
  try delta tripRun.sl.H11_1
  try delta tripRun.sl.r_17
  try delta tripRun.sl.r_16
  try delta tripRun.sl.r_15
  try delta tripRun.sl.r_14
  try delta tripRun.sl.r_13
  try delta tripRun.sl.r_12
  try delta tripRun.sl.r_11
  try delta tripRun.sl.r_10
  try delta tripRun.sl.r_9
  try delta tripRun.sl.r_8
  try delta tripRun.sl.r_7
  try delta tripRun.sl.r_6
  try delta tripRun.sl.r_5
  try delta tripRun.sl.r_4
  try delta tripRun.sl.r_3
  try delta tripRun.sl.r_2
  try delta tripRun.sl.r_1
  try delta tripRun.sl.r
  try delta tripRun.sl.arg16
  simp only [writes_nil', readAt_win, View.read_rep, trip, scBlk, ddBlk, quant, quantG, quantU]

theorem tripRun_cu (𝒱 : Variants) (c : Dev nD) (bd : Option 𝒱.V) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (arg0 : BitVec 32) (v1 v4 : Elt F .i32) (hw : k0_chk1 v1 v4) (h3 : k0_cond3 v1 v4 = 1#1) (lane : IVec S128x128 32) (v1156 : BitVec 32)
    (xs : Vec F S1536x5120 .bf16) (dhc : Vec F S1536x128 .fp8e5m2) (dhs : Vec F S1536x128 .f32) (wd : Vec F S5120x256 .bf16)
    (k : Fin (k0_t1_loop v1 v4).trips) (s : St F) :
    arg14.view.read (Elt F) (arg14.view.writes (Elt F) (arg14.view.rep s.cu) (tripRun 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s).2.2.1)
      = (trip arg0 v1 v4 hw h3 lane v1156 xs dhc dhs wd k s).cu := by
  rw [show (tripRun 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s).2.2.1 = [⟨Rect.unit (k0_off6 v1 v4 k) S128x128.size (k0_off6_inb v1 v4 hw k h3), _⟩] from rfl, read_writes_put, writes_nil', View.read_rep]
  try delta tripRun.sl.H11_3
  try delta tripRun.sl.H11_2
  try delta tripRun.sl.H11_1
  try delta tripRun.sl.r_17
  try delta tripRun.sl.r_16
  try delta tripRun.sl.r_15
  try delta tripRun.sl.r_14
  try delta tripRun.sl.r_13
  try delta tripRun.sl.r_12
  try delta tripRun.sl.r_11
  try delta tripRun.sl.r_10
  try delta tripRun.sl.r_9
  try delta tripRun.sl.r_8
  try delta tripRun.sl.r_7
  try delta tripRun.sl.r_6
  try delta tripRun.sl.r_5
  try delta tripRun.sl.r_4
  try delta tripRun.sl.r_3
  try delta tripRun.sl.r_2
  try delta tripRun.sl.r_1
  try delta tripRun.sl.r
  try delta tripRun.sl.arg16
  simp only [writes_nil', readAt_win, View.read_rep, trip, scBlk, ddBlk, quant, quantG, quantU]

/-- The dequantised gradients the trip multiplies by the weights. -/
theorem tripRun_dd (𝒱 : Variants) (c : Dev nD) (bd : Option 𝒱.V) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (arg0 : BitVec 32) (v1 v4 : Elt F .i32) (hw : k0_chk1 v1 v4) (h3 : k0_cond3 v1 v4 = 1#1) (lane : IVec S128x128 32) (v1156 : BitVec 32)
    (xs : Vec F S1536x5120 .bf16) (dhc : Vec F S1536x128 .fp8e5m2) (dhs : Vec F S1536x128 .f32) (wd : Vec F S5120x256 .bf16)
    (k : Fin (k0_t1_loop v1 v4).trips) :
    tripRun.sl.r_17 arg4 arg7 arg8 arg12 arg0 v1 v4 hw h3 lane v1156 xs dhc dhs wd k
      = ddBlk (quant arg0 lane (VecWindow.window xs (k0_off5 v1 v4 k) S128x5120.size (k0_off5_inb v1 v4 hw k h3))
          (VecWindow.window wd ![0, 0] S5120x256.size inb_S5120x256_S5120x256_0_0)
          (VecWindow.window dhs (k0_off6 v1 v4 k) S128x128.size (k0_off6_inb v1 v4 hw k h3))
          (VecWindow.window dhc (k0_off6 v1 v4 k) S128x128.size (k0_off6_inb v1 v4 hw k h3))) v1 v4 (Scf.iv v1156 1#32 k) := by
  try delta tripRun.sl.r_17
  try delta tripRun.sl.r_16
  try delta tripRun.sl.r_15
  try delta tripRun.sl.r_14
  try delta tripRun.sl.r_13
  try delta tripRun.sl.r_12
  try delta tripRun.sl.r_11
  try delta tripRun.sl.r_10
  try delta tripRun.sl.r_9
  try delta tripRun.sl.r_8
  try delta tripRun.sl.r_7
  try delta tripRun.sl.r_6
  try delta tripRun.sl.r_5
  try delta tripRun.sl.r_4
  try delta tripRun.sl.r_3
  try delta tripRun.sl.r_2
  try delta tripRun.sl.r_1
  try delta tripRun.sl.r
  try delta tripRun.sl.arg16
  simp only [readAt_win, View.read_rep, ddBlk, quant, quantG, quantU]

theorem tripRun_dx (𝒱 : Variants) (c : Dev nD) (bd : Option 𝒱.V) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (arg0 : BitVec 32) (v1 v4 : Elt F .i32) (hw : k0_chk1 v1 v4) (h3 : k0_cond3 v1 v4 = 1#1) (lane : IVec S128x128 32) (v1156 : BitVec 32)
    (xs : Vec F S1536x5120 .bf16) (dhc : Vec F S1536x128 .fp8e5m2) (dhs : Vec F S1536x128 .f32) (wd : Vec F S5120x256 .bf16)
    (k : Fin (k0_t1_loop v1 v4).trips) (s : St F) :
    arg11.view.read (Elt F) (arg11.view.writes (Elt F) (arg11.view.rep s.dx) (tripRun 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s).2.2.2.1)
      = (trip arg0 v1 v4 hw h3 lane v1156 xs dhc dhs wd k s).dx := by
  rw [show (tripRun 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s).2.2.2.1 = ⟨Rect.unit (k0_off10 v1 v4 k) S128x1280.size (k0_off10_inb v1 v4 hw k h3), _⟩ :: tripRun.sl.H11_3 arg4 arg7 arg8 arg11 arg12 arg0 v1 v4 hw h3 lane v1156 xs dhc dhs wd k s from rfl]
  delta tripRun.sl.H11_3 tripRun.sl.H11_2 tripRun.sl.H11_1
  try delta tripRun.sl.r_18
  simp only [tripRun_dd 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k, trip]
  generalize ddBlk (quant arg0 lane (VecWindow.window xs (k0_off5 v1 v4 k) S128x5120.size (k0_off5_inb v1 v4 hw k h3))
          (VecWindow.window wd ![0, 0] S5120x256.size inb_S5120x256_S5120x256_0_0)
          (VecWindow.window dhs (k0_off6 v1 v4 k) S128x128.size (k0_off6_inb v1 v4 hw k h3))
          (VecWindow.window dhc (k0_off6 v1 v4 k) S128x128.size (k0_off6_inb v1 v4 hw k h3))) v1 v4 (Scf.iv v1156 1#32 k) = dd
  simp only [read_writes_put, writes_nil', readAt_win, View.read_rep]

/-- The printed trip takes the arrays from a state to `trip` of it; the arrays it reads stay. -/
theorem trip_run (𝒱 : Variants) (c : Dev nD) (bd : Option 𝒱.V) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (arg0 : BitVec 32) (v1 v4 : Elt F .i32) (hw : k0_chk1 v1 v4) (h3 : k0_cond3 v1 v4 = 1#1) (lane : IVec S128x128 32) (v1156 : BitVec 32)
    (xs : Vec F S1536x5120 .bf16) (dhc : Vec F S1536x128 .fp8e5m2) (dhs : Vec F S1536x128 .f32) (wd : Vec F S5120x256 .bf16)
    (k : Fin (k0_t1_loop v1 v4).trips) (s : St F) (E : Set ℕ) (acc : BitVec 32) :
    (iprop(at_ c arg4 xs ∗ at_ c arg7 dhc ∗ at_ c arg8 dhs ∗ at_ c arg12 wd ∗ stAt c arg10 arg13 arg14 arg11 s) : sProp 𝕄)
      ⊢ wp frame (wpE defs₀ 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 k acc)
          fun _ => iprop(at_ c arg4 xs ∗ at_ c arg7 dhc ∗ at_ c arg8 dhs ∗ at_ c arg12 wd
            ∗ stAt c arg10 arg13 arg14 arg11 (trip arg0 v1 v4 hw h3 lane v1156 xs dhc dhs wd k s)) := by
  refine ((tripRun 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s).2.2.2.2 E acc).trans (wp_mono _ _ _ fun _ => ?_)
  iintro ⟨H4, H7, H8, H12, H10, H13, H14, H11⟩
  ihave H10' := (at_of_read c arg10 _ _ (tripRun_sc 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s)) $$ H10
  ihave H13' := (at_of_read c arg13 _ _ (tripRun_cg 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s)) $$ H13
  ihave H14' := (at_of_read c arg14 _ _ (tripRun_cu 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s)) $$ H14
  ihave H11' := (at_of_read c arg11 _ _ (tripRun_dx 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s)) $$ H11
  sl_close

end Cert.Kernel.Hand
-- ==== Proof.KSeg.lean ====
/-
  The kernel's body, cut into its consecutive stretches: the scalar words, the clearing of the resident outputs at the first
  grid point, the clearing of the code panels at an expert's first point, the work on an expert with rows, and the two
  transfers that write the code panels out.
-/
module

public import proofs.«01_k».proof.Proof.KTrip

@[expose] public section

set_option synthInstance.maxSize 4096

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The first grid point clears the two resident outputs. -/
def segZero (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2) : Prog (TpuEff nD τ sig (Elt F) Λ₀ .tc) PUnit := do
  if k0_h1 : k0_cond1 i = 1#1 then do
    let v20 : Vec F S1536x5120 .f32 ← Prog.lift (.load arg11 (Rect.unit (s := S1536x5120) ![0, 0] S1536x5120.size inb_S1536x5120_S1536x5120_0_0).toLoadRect (View.loadsAt_vmem h_S1536x5120))
    Prog.lift (.store arg11 (Rect.unit (s := S1536x5120) ![0, 0] S1536x5120.size inb_S1536x5120_S1536x5120_0_0) (k0_pay1 (F := F)) Finset.univ (View.stores_vmem_bits_univ h_S1536x5120 rfl) (.inl rfl))
    let v22 : Vec F S1536x128 .f32 ← Prog.lift (.load arg10 (Rect.unit (s := S1536x128) ![0, 0] S1536x128.size inb_S1536x128_S1536x128_0_0).toLoadRect (View.loadsAt_vmem h_S1536x128))
    Prog.lift (.store arg10 (Rect.unit (s := S1536x128) ![0, 0] S1536x128.size inb_S1536x128_S1536x128_0_0) (k0_pay2 (F := F)) Finset.univ (View.stores_vmem_bits_univ h_S1536x128 rfl) (.inl rfl))
    pure ⟨⟩
  else do
    pure ⟨⟩

/-- An expert's first point (in each column step) clears the two code panels. -/
def segClear (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2) : Prog (TpuEff nD τ sig (Elt F) Λ₀ .tc) PUnit := do
  let arg1 : BitVec 32 := BitVec.ofNat 32 (i 1).val
  let v10 : BitVec 1 := Scalar.cmpi .eq arg1 0#32
  let v11 : BitVec 32 := Scalar.extui v10
  let v12 : BitVec 1 := Scalar.cmpi .ne v11 0#32
  if k0_h2 : v12 = 1#1 then do
    let v20 : Vec F S1536x128 .fp8e5m2 ← Prog.lift (.load arg13 (Rect.unit (s := S1536x128) ![0, 0] S1536x128.size inb_S1536x128_S1536x128_0_0).toLoadRect (View.loadsAt_vmem h_S1536x128))
    Prog.lift (.store arg13 (Rect.unit (s := S1536x128) ![0, 0] S1536x128.size inb_S1536x128_S1536x128_0_0) (k0_pay3 (F := F)) Finset.univ (View.stores_vmem h_S1536x128 (harg13.storeExact_slice rfl _ packedfp8e5m2_S1536x128_S1536x128_0_0) (fun _ => rfl)) (.inl rfl))
    let v24 : Vec F S1536x128 .fp8e5m2 ← Prog.lift (.load arg14 (Rect.unit (s := S1536x128) ![0, 0] S1536x128.size inb_S1536x128_S1536x128_0_0).toLoadRect (View.loadsAt_vmem h_S1536x128))
    Prog.lift (.store arg14 (Rect.unit (s := S1536x128) ![0, 0] S1536x128.size inb_S1536x128_S1536x128_0_0) (k0_pay4 (F := F)) Finset.univ (View.stores_vmem h_S1536x128 (harg14.storeExact_slice rfl _ packedfp8e5m2_S1536x128_S1536x128_0_0) (fun _ => rfl)) (.inl rfl))
    pure ⟨⟩
  else do
    pure ⟨⟩

/-- The work on an expert that has rows: dequantise its two weight blocks, then go through its row blocks. -/
def live (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2) (v1 v4 : Elt F .i32) (k0_hw1 : k0_chk1 v1 v4) (k0_h3 : k0_cond3 v1 v4 = 1#1) :
    Prog (TpuEff nD τ sig (Elt F) Λ₀ .tc) PUnit := do
    let arg0 : BitVec 32 := BitVec.ofNat 32 (i 0).val
    let arg1 : BitVec 32 := BitVec.ofNat 32 (i 1).val
    let ⟨v54, v58⟩ : Σ' (v54 : FVec F S128x128 .bf16), Elt F .f32 ← k0_part11 i arg2 harg2 arg3 harg3 arg4 harg4 arg5 harg5 arg6 harg6 arg7 harg7 arg8 harg8 arg9 harg9 arg10 harg10 arg11 harg11 arg12 harg12 arg13 harg13 arg14 harg14 arg15 arg0 arg1
    let v88 : FVec F S128x128 .bf16 ← k0_part12 i arg2 harg2 arg3 harg3 arg4 harg4 arg5 harg5 arg6 harg6 arg7 harg7 arg8 harg8 arg9 harg9 arg10 harg10 arg11 harg11 arg12 harg12 arg13 harg13 arg14 harg14 arg15 arg0 arg1 v54 v58
    let v132 : BitVec 32 ← k0_part13 i arg2 harg2 arg3 harg3 arg4 harg4 arg5 harg5 arg6 harg6 arg7 harg7 arg8 harg8 arg9 harg9 arg10 harg10 arg11 harg11 arg12 harg12 arg13 harg13 arg14 harg14 arg15 arg0 arg1 v88
    let ⟨v166, v172⟩ : Σ' (v166 : FVec F S128x128 .bf16), FVec F S128x128 .bf16 ← k0_part14 i arg2 harg2 arg3 harg3 arg4 harg4 arg5 harg5 arg6 harg6 arg7 harg7 arg8 harg8 arg9 harg9 arg10 harg10 arg11 harg11 arg12 harg12 arg13 harg13 arg14 harg14 arg15 arg0 arg1 v132
    let ⟨v200, v209⟩ : Σ' (v200 : FVec F S128x128 .bf16), FVec F S128x128 .fp8e4m3 ← k0_part15 i arg2 harg2 arg3 harg3 arg4 harg4 arg5 harg5 arg6 harg6 arg7 harg7 arg8 harg8 arg9 harg9 arg10 harg10 arg11 harg11 arg12 harg12 arg13 harg13 arg14 harg14 arg15 arg0 arg1 v166 v172
    let v245 : BitVec 32 ← k0_part16 i arg2 harg2 arg3 harg3 arg4 harg4 arg5 harg5 arg6 harg6 arg7 harg7 arg8 harg8 arg9 harg9 arg10 harg10 arg11 harg11 arg12 harg12 arg13 harg13 arg14 harg14 arg15 arg0 arg1 v200 v209
    let ⟨v278, v284, v287⟩ : Σ' (v278 : FVec F S128x128 .bf16) (v284 : FVec F S128x128 .bf16), FVec F S128x128 .bf16 ← k0_part17 i arg2 harg2 arg3 harg3 arg4 harg4 arg5 harg5 arg6 harg6 arg7 harg7 arg8 harg8 arg9 harg9 arg10 harg10 arg11 harg11 arg12 harg12 arg13 harg13 arg14 harg14 arg15 arg0 arg1 v245
    let v323 : FVec F S128x128 .bf16 ← k0_part18 i arg2 harg2 arg3 harg3 arg4 harg4 arg5 harg5 arg6 harg6 arg7 harg7 arg8 harg8 arg9 harg9 arg10 harg10 arg11 harg11 arg12 harg12 arg13 harg13 arg14 harg14 arg15 arg0 arg1 v278 v284 v287
    let ⟨v362, v363⟩ : Σ' (v362 : FVec F S128x128 .bf16), BitVec 32 ← k0_part19 i arg2 harg2 arg3 harg3 arg4 harg4 arg5 harg5 arg6 harg6 arg7 harg7 arg8 harg8 arg9 harg9 arg10 harg10 arg11 harg11 arg12 harg12 arg13 harg13 arg14 harg14 arg15 arg0 arg1 v323
    let ⟨v396, v400, v401⟩ : Σ' (v396 : FVec F S128x128 .bf16) (v400 : FVec F S128x128 .bf16), Vec F S128x128 .bf16 ← k0_part20 i arg2 harg2 arg3 harg3 arg4 harg4 arg5 harg5 arg6 harg6 arg7 harg7 arg8 harg8 arg9 harg9 arg10 harg10 arg11 harg11 arg12 harg12 arg13 harg13 arg14 harg14 arg15 arg0 arg1 v362 v363
    k0_part21 i arg2 harg2 arg3 harg3 arg4 harg4 arg5 harg5 arg6 harg6 arg7 harg7 arg8 harg8 arg9 harg9 arg10 harg10 arg11 harg11 arg12 harg12 arg13 harg13 arg14 harg14 arg15 arg0 arg1 v396 v400 v401
    let ⟨v474, v478⟩ : Σ' (v474 : FVec F S128x128 .bf16), Elt F .f32 ← k0_part22 i arg2 harg2 arg3 harg3 arg4 harg4 arg5 harg5 arg6 harg6 arg7 harg7 arg8 harg8 arg9 harg9 arg10 harg10 arg11 harg11 arg12 harg12 arg13 harg13 arg14 harg14 arg15 arg0 arg1
    let v508 : FVec F S128x128 .bf16 ← k0_part23 i arg2 harg2 arg3 harg3 arg4 harg4 arg5 harg5 arg6 harg6 arg7 harg7 arg8 harg8 arg9 harg9 arg10 harg10 arg11 harg11 arg12 harg12 arg13 harg13 arg14 harg14 arg15 arg0 arg1 v474 v478
    let v552 : BitVec 32 ← k0_part24 i arg2 harg2 arg3 harg3 arg4 harg4 arg5 harg5 arg6 harg6 arg7 harg7 arg8 harg8 arg9 harg9 arg10 harg10 arg11 harg11 arg12 harg12 arg13 harg13 arg14 harg14 arg15 arg0 arg1 v508
    let ⟨v586, v592⟩ : Σ' (v586 : FVec F S128x128 .bf16), FVec F S128x128 .bf16 ← k0_part25 i arg2 harg2 arg3 harg3 arg4 harg4 arg5 harg5 arg6 harg6 arg7 harg7 arg8 harg8 arg9 harg9 arg10 harg10 arg11 harg11 arg12 harg12 arg13 harg13 arg14 harg14 arg15 arg0 arg1 v552
    let ⟨v620, v629⟩ : Σ' (v620 : FVec F S128x128 .bf16), FVec F S128x128 .fp8e4m3 ← k0_part26 i arg2 harg2 arg3 harg3 arg4 harg4 arg5 harg5 arg6 harg6 arg7 harg7 arg8 harg8 arg9 harg9 arg10 harg10 arg11 harg11 arg12 harg12 arg13 harg13 arg14 harg14 arg15 arg0 arg1 v586 v592
    let v665 : BitVec 32 ← k0_part27 i arg2 harg2 arg3 harg3 arg4 harg4 arg5 harg5 arg6 harg6 arg7 harg7 arg8 harg8 arg9 harg9 arg10 harg10 arg11 harg11 arg12 harg12 arg13 harg13 arg14 harg14 arg15 arg0 arg1 v620 v629
    let ⟨v698, v704, v707⟩ : Σ' (v698 : FVec F S128x128 .bf16) (v704 : FVec F S128x128 .bf16), FVec F S128x128 .bf16 ← k0_part28 i arg2 harg2 arg3 harg3 arg4 harg4 arg5 harg5 arg6 harg6 arg7 harg7 arg8 harg8 arg9 harg9 arg10 harg10 arg11 harg11 arg12 harg12 arg13 harg13 arg14 harg14 arg15 arg0 arg1 v665
    let v743 : FVec F S128x128 .bf16 ← k0_part29 i arg2 harg2 arg3 harg3 arg4 harg4 arg5 harg5 arg6 harg6 arg7 harg7 arg8 harg8 arg9 harg9 arg10 harg10 arg11 harg11 arg12 harg12 arg13 harg13 arg14 harg14 arg15 arg0 arg1 v698 v704 v707
    let ⟨v782, v783⟩ : Σ' (v782 : FVec F S128x128 .bf16), BitVec 32 ← k0_part30 i arg2 harg2 arg3 harg3 arg4 harg4 arg5 harg5 arg6 harg6 arg7 harg7 arg8 harg8 arg9 harg9 arg10 harg10 arg11 harg11 arg12 harg12 arg13 harg13 arg14 harg14 arg15 arg0 arg1 v743
    let ⟨v816, v820, v821⟩ : Σ' (v816 : FVec F S128x128 .bf16) (v820 : FVec F S128x128 .bf16), Vec F S128x128 .bf16 ← k0_part31 i arg2 harg2 arg3 harg3 arg4 harg4 arg5 harg5 arg6 harg6 arg7 harg7 arg8 harg8 arg9 harg9 arg10 harg10 arg11 harg11 arg12 harg12 arg13 harg13 arg14 harg14 arg15 arg0 arg1 v782 v783
    k0_part32 i arg2 harg2 arg3 harg3 arg4 harg4 arg5 harg5 arg6 harg6 arg7 harg7 arg8 harg8 arg9 harg9 arg10 harg10 arg11 harg11 arg12 harg12 arg13 harg13 arg14 harg14 arg15 arg0 arg1 v816 v820 v821
    let ⟨v894, v898⟩ : Σ' (v894 : FVec F S128x128 .bf16), Elt F .f32 ← k0_part33 i arg2 harg2 arg3 harg3 arg4 harg4 arg5 harg5 arg6 harg6 arg7 harg7 arg8 harg8 arg9 harg9 arg10 harg10 arg11 harg11 arg12 harg12 arg13 harg13 arg14 harg14 arg15 arg0 arg1
    let v928 : FVec F S128x128 .bf16 ← k0_part34 i arg2 harg2 arg3 harg3 arg4 harg4 arg5 harg5 arg6 harg6 arg7 harg7 arg8 harg8 arg9 harg9 arg10 harg10 arg11 harg11 arg12 harg12 arg13 harg13 arg14 harg14 arg15 arg0 arg1 v894 v898
    let v972 : BitVec 32 ← k0_part35 i arg2 harg2 arg3 harg3 arg4 harg4 arg5 harg5 arg6 harg6 arg7 harg7 arg8 harg8 arg9 harg9 arg10 harg10 arg11 harg11 arg12 harg12 arg13 harg13 arg14 harg14 arg15 arg0 arg1 v928
    let ⟨v1006, v1012⟩ : Σ' (v1006 : FVec F S128x128 .bf16), FVec F S128x128 .bf16 ← k0_part36 i arg2 harg2 arg3 harg3 arg4 harg4 arg5 harg5 arg6 harg6 arg7 harg7 arg8 harg8 arg9 harg9 arg10 harg10 arg11 harg11 arg12 harg12 arg13 harg13 arg14 harg14 arg15 arg0 arg1 v972
    let ⟨v1040, v1049⟩ : Σ' (v1040 : FVec F S128x128 .bf16), FVec F S128x128 .fp8e4m3 ← k0_part37 i arg2 harg2 arg3 harg3 arg4 harg4 arg5 harg5 arg6 harg6 arg7 harg7 arg8 harg8 arg9 harg9 arg10 harg10 arg11 harg11 arg12 harg12 arg13 harg13 arg14 harg14 arg15 arg0 arg1 v1006 v1012
    let v1085 : BitVec 32 ← k0_part38 i arg2 harg2 arg3 harg3 arg4 harg4 arg5 harg5 arg6 harg6 arg7 harg7 arg8 harg8 arg9 harg9 arg10 harg10 arg11 harg11 arg12 harg12 arg13 harg13 arg14 harg14 arg15 arg0 arg1 v1040 v1049
    let ⟨v1118, v1124, v1127⟩ : Σ' (v1118 : FVec F S128x128 .bf16) (v1124 : FVec F S128x128 .bf16), FVec F S128x128 .bf16 ← k0_part39 i arg2 harg2 arg3 harg3 arg4 harg4 arg5 harg5 arg6 harg6 arg7 harg7 arg8 harg8 arg9 harg9 arg10 harg10 arg11 harg11 arg12 harg12 arg13 harg13 arg14 harg14 arg15 arg0 arg1 v1085
    let ⟨v1139, v1156, v1158, c128_i32_495, v1159, v1164, v1165⟩ : Σ' (v1139 : IVec S128x128 32) (v1156 : BitVec 32) (v1158 : BitVec 32) (c128_i32_495 : BitVec 32) (v1159 : BitVec 32) (v1164 : BitVec 32), BitVec 1 ← k0_part40 i arg2 harg2 arg3 harg3 arg4 harg4 arg5 harg5 arg6 harg6 arg7 harg7 arg8 harg8 arg9 harg9 arg10 harg10 arg11 harg11 arg12 harg12 arg13 harg13 arg14 harg14 arg15 v1 v4 v1118 v1124 v1127
    let v1166 : BitVec 32 := Scalar.extui v1165
    let v1167 : BitVec 1 := Scalar.cmpi .slt c128_i32_495 0#32
    let v1168 : BitVec 32 := Scalar.extui v1167
    let v1169 : BitVec 32 := Scalar.subi v1166 v1168
    let v1170 : BitVec 1 := Scalar.cmpi .ne v1164 v1169
    let v1171 : BitVec 32 := Scalar.remsi v1158 c128_i32_495
    let v1172 : BitVec 1 := Scalar.cmpi .ne v1171 0#32
    let v1173 : BitVec 1 := Scalar.andi v1170 v1172
    let v1174 : BitVec 32 := Scalar.subi v1159 1#32
    let v1175 : BitVec 32 := Scalar.select v1173 v1174 v1159
    let v1176 : BitVec 32 := Scalar.subi v1175 v1156
    let v1178 : BitVec 32 := Scalar.divsi v1176 1#32
    let v1179 : BitVec 32 := Scalar.muli v1178 1#32
    let v1180 : BitVec 32 := Scalar.addi v1156 v1179
    let v1181 : BitVec 32 ← Scf.Loop.for (k0_t1_loop v1 v4) (k0_t1_ok v1 v4 k0_hw1 k0_h3) 0#32 (k0_t1_body i arg2 harg2 arg3 harg3 arg4 harg4 arg5 harg5 arg6 harg6 arg7 harg7 arg8 harg8 arg9 harg9 arg10 harg10 arg11 harg11 arg12 harg12 arg13 harg13 arg14 harg14 arg15 arg0 v1 v4 k0_hw1 k0_h3 v1139 v1156)
    let v1182 : BitVec 32 ← Scf.Loop.for (k0_t2_loop v1 v4) (k0_t2_ok v1 v4 k0_hw1 k0_h3) v1181 (k0_t2_body i arg2 harg2 arg3 harg3 arg4 harg4 arg5 harg5 arg6 harg6 arg7 harg7 arg8 harg8 arg9 harg9 arg10 harg10 arg11 harg11 arg12 harg12 arg13 harg13 arg14 harg14 arg15 arg0 v1 v4 k0_hw1 k0_h3 v1139 v1180)
    pure ⟨⟩

def segLive (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2) (v1 v4 : Elt F .i32) (k0_hw1 : k0_chk1 v1 v4) : Prog (TpuEff nD τ sig (Elt F) Λ₀ .tc) PUnit :=
  if k0_h3 : k0_cond3 v1 v4 = 1#1 then live i arg2 harg2 arg3 harg3 arg4 harg4 arg5 harg5 arg6 harg6 arg7 harg7 arg8 harg8 arg9 harg9 arg10 harg10 arg11 harg11 arg12 harg12 arg13 harg13 arg14 harg14 arg15 v1 v4 k0_hw1 k0_h3 else pure ⟨⟩

/-- After the last expert the two code panels are copied to their columns of the codes. -/
def segOut (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2) : Prog (TpuEff nD τ sig (Elt F) Λ₀ .tc) PUnit := do
  if k0_h4 : k0_cond4 i = 1#1 then do
    let v24 : DmaSems sig S1 := arg15.slice (Rect.unit (s := S2) ![0] S1.size inb_S2_S1_0)
    let v25 : DmaSems sig S_ := v24.squeeze S_ squeezes_S1_S_
    let v26 : Memref sig .tc .hbm S1536x128 .fp8e5m2 := arg9.slice (Rect.unit (s := S1536x16384) (k0_off17 i) S1536x128.size (k0_off17_inb i k0_h4)) (fun _ => rfl)
    Prog.lift (.enqueueDma arg13 (.here v26) (.dma v25.sem) harg13.wordExact (harg9.wordExact_slice rfl _ (k0_off17_wordsfp8e5m2 i k0_h4)) ⟨Or.inl rfl, trivial⟩)
    let v27 : DmaSems sig S1 := arg15.slice (Rect.unit (s := S2) ![1] S1.size inb_S2_S1_1)
    let v28 : DmaSems sig S_ := v27.squeeze S_ squeezes_S1_S_
    let v29 : Memref sig .tc .hbm S1536x128 .fp8e5m2 := arg9.slice (Rect.unit (s := S1536x16384) (k0_off18 i) S1536x128.size (k0_off18_inb i k0_h4)) (fun _ => rfl)
    Prog.lift (.enqueueDma arg14 (.here v29) (.dma v28.sem) harg14.wordExact (harg9.wordExact_slice rfl _ (k0_off18_wordsfp8e5m2 i k0_h4)) ⟨Or.inl rfl, trivial⟩)
    let v30 : DmaSems sig S1 := arg15.slice (Rect.unit (s := S2) ![0] S1.size inb_S2_S1_0)
    let v31 : DmaSems sig S_ := v30.squeeze S_ squeezes_S1_S_
    let v32 : Memref sig .tc .hbm S1536x128 .fp8e5m2 := arg9.slice (Rect.unit (s := S1536x16384) (k0_off17 i) S1536x128.size (k0_off17_inb i k0_h4)) (fun _ => rfl)
    Prog.lift (.waitDma2 v31.sem arg13 v32 harg13.wordExact (harg9.wordExact_slice rfl _ (k0_off17_wordsfp8e5m2 i k0_h4)))
    let v33 : DmaSems sig S1 := arg15.slice (Rect.unit (s := S2) ![1] S1.size inb_S2_S1_1)
    let v34 : DmaSems sig S_ := v33.squeeze S_ squeezes_S1_S_
    let v35 : Memref sig .tc .hbm S1536x128 .fp8e5m2 := arg9.slice (Rect.unit (s := S1536x16384) (k0_off18 i) S1536x128.size (k0_off18_inb i k0_h4)) (fun _ => rfl)
    Prog.lift (.waitDma2 v34.sem arg14 v35 harg14.wordExact (harg9.wordExact_slice rfl _ (k0_off18_wordsfp8e5m2 i k0_h4)))
    pure ⟨⟩
  else do
    pure ⟨⟩

/-- A conditional whose continuation was copied into both branches is the conditional followed by the continuation. -/
theorem seg_jp {E : Type → Type} {β : Type} {c : Prop} {dc : Decidable c} {A' : c → Prog E β} {A : c → Prog E PUnit} {k k' : Prog E β}
    (hA : ∀ h, A' h = (A h >>= fun _ => k)) (hk : k = k') :
    dite c A' (fun _ => k) = (dite c A (fun _ => pure ⟨⟩) >>= fun _ => k') := by
  subst hk
  by_cases h : c
  · rw [dif_pos h, dif_pos h]; exact hA h
  · rw [dif_neg h, dif_neg h]; rfl

/-- The body is its stretches, in order. -/
theorem body_eq (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2) :
    cc0_main_skel (F := F) i arg2 harg2 arg3 harg3 arg4 harg4 arg5 harg5 arg6 harg6 arg7 harg7 arg8 harg8 arg9 harg9 arg10 harg10 arg11 harg11 arg12 harg12 arg13 harg13 arg14 harg14 arg15 = (do
      let v1 : Elt F .i32 ← smemLoad arg2 (Rect.unit (s := S5) (k0_off1 i) S1.size (k0_off1_inb i)) numel1_S1 rfl
      let v4 : Elt F .i32 ← smemLoad arg2 (Rect.unit (s := S5) (k0_off2 i) S1.size (k0_off2_inb i)) numel1_S1 rfl
      have k0_hw1 : k0_chk1 v1 v4 := (← Prog.lift (TpuEff.assume (k0_chk1 v1 v4) (k0_chk1.dec v1 v4))).down
      segZero i arg2 harg2 arg3 harg3 arg4 harg4 arg5 harg5 arg6 harg6 arg7 harg7 arg8 harg8 arg9 harg9 arg10 harg10 arg11 harg11 arg12 harg12 arg13 harg13 arg14 harg14 arg15
      segClear i arg2 harg2 arg3 harg3 arg4 harg4 arg5 harg5 arg6 harg6 arg7 harg7 arg8 harg8 arg9 harg9 arg10 harg10 arg11 harg11 arg12 harg12 arg13 harg13 arg14 harg14 arg15
      segLive i arg2 harg2 arg3 harg3 arg4 harg4 arg5 harg5 arg6 harg6 arg7 harg7 arg8 harg8 arg9 harg9 arg10 harg10 arg11 harg11 arg12 harg12 arg13 harg13 arg14 harg14 arg15 v1 v4 k0_hw1
      segOut i arg2 harg2 arg3 harg3 arg4 harg4 arg5 harg5 arg6 harg6 arg7 harg7 arg8 harg8 arg9 harg9 arg10 harg10 arg11 harg11 arg12 harg12 arg13 harg13 arg14 harg14 arg15
      pure ⟨⟩) := by
  unfold segZero segClear segLive segOut cc0_main_skel
  refine congrArg _ (funext fun v1 => ?_)
  refine congrArg _ (funext fun v4 => ?_)
  refine congrArg _ (funext fun hw => ?_)
  refine congrArg _ (funext fun hw' => ?_)
  dsimp only
  refine seg_jp (fun h => ?_) ?_
  · rfl
  refine seg_jp (fun h => ?_) ?_
  · rfl
  refine seg_jp (fun h => ?_) ?_
  · unfold live
    simp only [bind_assoc]
    rfl
  refine seg_jp (fun h => ?_) ?_
  · rfl
  · rfl

end Cert.Kernel.Hand
-- ==== Proof.KLive.lean ====
/-
  The third stretch of the body: expert `e`'s rows are not empty, so its dequantised block of the two weight panels is
  written out in full and the loop over the 128-row groups is run.
-/
module

public import proofs.«01_k».proof.Proof.KSeg
public import Idealize.ShloMosaic.Lib.ValueIdxCore
public import Idealize.ShloMosaic.Lib.Pipeline.Value
public import Idealize.ShloMosaic.Lib.LoopRemainder

@[expose] public section

noncomputable section

namespace Cert.Kernel.Hand

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One dequantised weight: the stored code by its block's scale, rounded as the kernel rounds it. -/
def wdAt (s : Elt F .f32) (w : Elt F .fp8e4m3) : Elt F .bf16 :=
  k0_pay99 s (fun _ => w) (ix2 (n0 := 128) (n1 := 128) 0 0)

/-- The scale of the gate panel's block `kb` at grid point `i`. -/
def wsGate (i : grid0.Coords) (kb : Fin 40) (ws : Vec F S20480 .f32) : Elt F .f32 :=
  ws ((Rect.unit (s := S20480) (k0_off3 i (BitVec.ofNat 32 kb.val)) S1.size (k0_off3_inb i kb)).emb (ix1 (n := 1) 0))
/-- The scale of the up panel's block `kb` at grid point `i`. -/
def wsUp (i : grid0.Coords) (kb : Fin 40) (ws : Vec F S20480 .f32) : Elt F .f32 :=
  ws ((Rect.unit (s := S20480) (k0_off4 i (BitVec.ofNat 32 kb.val)) S1.size (k0_off4_inb i kb)).emb (ix1 (n := 1) 0))

/-- The dequantised block of the two weight panels: columns 0..127 gate, 128..255 up. -/
def wdSpec (i : grid0.Coords) (ws : Vec F S20480 .f32) (wg wu : Vec F S1x5120x128 .fp8e4m3) : Vec F S5120x256 .bf16 := fun y =>
  if h : (y 1).val < 128 then
    wdAt (wsGate i ⟨(y 0).val / 128, by have := idx2_lt0 y; omega⟩ ws) (wg (ix3 (n0 := 1) (n1 := 5120) (n2 := 128) 0 (y 0) ⟨(y 1).val, h⟩))
  else
    wdAt (wsUp i ⟨(y 0).val / 128, by have := idx2_lt0 y; omega⟩ ws)
      (wu (ix3 (n0 := 1) (n1 := 5120) (n2 := 128) 0 (y 0) ⟨(y 1).val - 128, by have := idx2_lt1 y; omega⟩))

/-- A block's dequantisation is cell by cell. -/
theorem pay99_apply (s : Elt F .f32) (w : Vec F S1x128x128 .fp8e4m3) (p : S128x128.Idx) :
    k0_pay99 s w p = wdAt s (w (ix3 (n0 := 1) (n1 := 128) (n2 := 128) 0 (p 0) (p 1))) := by
  have e : shapeCast S128x128 w shapeCasts_S1x128x128_S128x128 p = w (ix3 (n0 := 1) (n1 := 128) (n2 := 128) 0 (p 0) (p 1)) :=
    (shapeCast_dropUnit_apply ![128, 128] w shapeCasts_S1x128x128_S128x128 p).trans
      (congrArg w (funext fun a => by match a with | ⟨0, _⟩ => rfl | ⟨1, _⟩ => rfl | ⟨2, _⟩ => rfl))
  unfold wdAt k0_pay99
  rw [shapeCast_self, shapeCast_self, ← e]
  rfl

/-- The pieces `L` cover the first `128 * b` rows of the panel buffer and agree there with `X`. -/
def Fills (X : Vec F S5120x256 .bf16) (b : ℕ) (L : List (View.Piece (Elt F) S5120x256 .bf16)) : Prop :=
  (∀ p ∈ L, ∀ j : p.1.shape.Idx, p.2 j = X (p.1.emb j)) ∧ ∀ y : S5120x256.Idx, (y 0).val < 128 * b → ∃ p ∈ L, y ∈ p.1.set

theorem fills_nil (X : Vec F S5120x256 .bf16) : Fills X 0 [] := ⟨by simp, fun y h => by omega⟩

theorem inb_wd (k n : ℕ) (hk : k < 40) (hn : n ≤ 128) : ∀ a, (![128 * k, n] : Fin 2 → ℕ) a + S128x128.size a ≤ S5120x256.size a := by
  intro a; fin_cases a <;> simp <;> omega
theorem inb_wv (k : ℕ) (hk : k < 40) : ∀ a, (![0, 128 * k, 0] : Fin 3 → ℕ) a + S1x128x128.size a ≤ S1x5120x128.size a := by
  intro a; fin_cases a <;> simp <;> omega

/-- One more pair of blocks. -/
theorem fills_step (i : grid0.Coords) (arg3 : Memref sig .tc .smem S20480 .f32) (ws : Vec F S20480 .f32)
    (arg5 : Memref sig .tc .vmem S1x5120x128 .fp8e4m3) (wg : Vec F S1x5120x128 .fp8e4m3)
    (arg6 : Memref sig .tc .vmem S1x5120x128 .fp8e4m3) (wu : Vec F S1x5120x128 .fp8e4m3) (k : ℕ) (hk : k < 40) (z : S1.Idx)
    {L : List (View.Piece (Elt F) S5120x256 .bf16)} (hL : Fills (wdSpec i ws wg wu) k L) :
    Fills (wdSpec i ws wg wu) (k + 1)
      (⟨Rect.unit ![128 * k, 128] S128x128.size (inb_wd k 128 hk le_rfl),
          k0_pay99 (View.readAt (Elt F) arg3.view (Rect.unit (s := S20480) (k0_off4 i (BitVec.ofNat 32 k)) S1.size (k0_off4_inb i ⟨k, hk⟩)).toLoadRect (arg3.view.rep ws)
              z)
            (View.readAt (Elt F) arg6.view (Rect.unit (s := S1x5120x128) ![0, 128 * k, 0] S1x128x128.size (inb_wv k hk)).toLoadRect (arg6.view.rep wu))⟩
        :: ⟨Rect.unit ![128 * k, 0] S128x128.size (inb_wd k 0 hk (by decide)),
          k0_pay99 (View.readAt (Elt F) arg3.view (Rect.unit (s := S20480) (k0_off3 i (BitVec.ofNat 32 k)) S1.size (k0_off3_inb i ⟨k, hk⟩)).toLoadRect (arg3.view.rep ws)
              z)
            (View.readAt (Elt F) arg5.view (Rect.unit (s := S1x5120x128) ![0, 128 * k, 0] S1x128x128.size (inb_wv k hk)).toLoadRect (arg5.view.rep wg))⟩
        :: L) := by
  have hz : z = ix1 (n := 1) 0 := funext fun a => by
    match a with | ⟨0, _⟩ => exact Subsingleton.elim (α := Fin 1) _ _
  refine ⟨?_, ?_⟩
  · refine List.forall_mem_cons.2 ⟨fun j => ?_, List.forall_mem_cons.2 ⟨fun j => ?_, hL.1⟩⟩
    · have h0 : (j 0).val < 128 := (j 0).isLt
      have h1 : (j 1).val < 128 := (j 1).isLt
      have e0 : ∀ inb, ((Rect.unit (s := S5120x256) ![128 * k, 128] S128x128.size inb).emb j 0).val = 128 * k + (j 0).val := fun inb => by
        show 128 * k + 1 * (j 0).val = _; omega
      have e1 : ∀ inb, ((Rect.unit (s := S5120x256) ![128 * k, 128] S128x128.size inb).emb j 1).val = 128 + (j 1).val := fun inb => by
        show 128 + 1 * (j 1).val = _; omega
      dsimp only
      rw [readAt_win, readAt_win, View.read_rep, View.read_rep]
      refine (pay99_apply _ _ j).trans ?_
      unfold wdSpec
      rw [dif_neg (by rw [e1]; omega)]
      unfold wsUp
      refine congrArg₂ wdAt ?_ ?_
      · have : (⟨((Rect.unit (s := S5120x256) ![128 * k, 128] S128x128.size (inb_wd k 128 hk le_rfl)).emb j 0).val / 128, by
            rw [e0]; omega⟩ : Fin 40) = ⟨k, hk⟩ := Fin.ext (by simp only [e0]; omega)
        rw [this, hz]; rfl
      · exact congrArg wu (funext fun a => Fin.ext (by
          match a with
          | ⟨0, _⟩ => rfl
          | ⟨1, _⟩ => show 128 * k + 1 * (j 0).val = _; exact ((e0 _).trans (by omega)).symm
          | ⟨2, _⟩ => show 0 + 1 * (j 1).val = _ - 128; rw [e1]; omega))
    · have h0 : (j 0).val < 128 := (j 0).isLt
      have h1 : (j 1).val < 128 := (j 1).isLt
      have e0 : ∀ inb, ((Rect.unit (s := S5120x256) ![128 * k, 0] S128x128.size inb).emb j 0).val = 128 * k + (j 0).val := fun inb => by
        show 128 * k + 1 * (j 0).val = _; omega
      have e1 : ∀ inb, ((Rect.unit (s := S5120x256) ![128 * k, 0] S128x128.size inb).emb j 1).val = (j 1).val := fun inb => by
        show 0 + 1 * (j 1).val = _; omega
      dsimp only
      rw [readAt_win, readAt_win, View.read_rep, View.read_rep]
      refine (pay99_apply _ _ j).trans ?_
      unfold wdSpec
      rw [dif_pos (by rw [e1]; omega)]
      unfold wsGate
      refine congrArg₂ wdAt ?_ ?_
      · have : (⟨((Rect.unit (s := S5120x256) ![128 * k, 0] S128x128.size (inb_wd k 0 hk (by decide))).emb j 0).val / 128, by
            rw [e0]; omega⟩ : Fin 40) = ⟨k, hk⟩ := Fin.ext (by simp only [e0]; omega)
        rw [this, hz]; rfl
      · exact congrArg wg (funext fun a => Fin.ext (by
          match a with
          | ⟨0, _⟩ => rfl
          | ⟨1, _⟩ => show 128 * k + 1 * (j 0).val = _; exact ((e0 _).trans (by omega)).symm
          | ⟨2, _⟩ => show 0 + 1 * (j 1).val = _; rw [e1]; omega))
  · intro y hy
    have h1 := idx2_lt1 y
    by_cases hlt : (y 0).val < 128 * k
    · obtain ⟨p, hp, hy⟩ := hL.2 y hlt
      exact ⟨p, List.mem_cons_of_mem _ (List.mem_cons_of_mem _ hp), hy⟩
    · by_cases hu : (y 1).val < 128
      · refine ⟨_, List.mem_cons_of_mem _ List.mem_cons_self, ?_⟩
        rw [Rect.mem_set_unit]
        intro a; match a with
        | ⟨0, _⟩ => exact ⟨show 128 * k ≤ (y 0).val by omega, show (y 0).val < 128 * k + 128 by omega⟩
        | ⟨1, _⟩ => exact ⟨show 0 ≤ (y 1).val by omega, show (y 1).val < 0 + 128 by omega⟩
      · refine ⟨_, List.mem_cons_self, ?_⟩
        rw [Rect.mem_set_unit]
        intro a; match a with
        | ⟨0, _⟩ => exact ⟨show 128 * k ≤ (y 0).val by omega, show (y 0).val < 128 * k + 128 by omega⟩
        | ⟨1, _⟩ => exact ⟨show 128 ≤ (y 1).val by omega, show (y 1).val < 128 + 128 by omega⟩

/-- Forty pairs of blocks are the whole panel buffer. -/
theorem fills_read (arg12 : Memref sig .tc .vmem S5120x256 .bf16) (f) (X : Vec F S5120x256 .bf16)
    {L : List (View.Piece (Elt F) S5120x256 .bf16)} (hL : Fills X 40 L) :
    arg12.view.read (Elt F) (arg12.view.writes (Elt F) f L) = X := by
  have hc : ∀ y : S5120x256.Idx, ∃ p ∈ L, y ∈ p.1.set := fun y => hL.2 y (by have := idx2_lt0 y; omega)
  rw [View.read_writes_eq_canon _ _ _ hc]
  exact funext fun y => View.canon_apply_of_pieces X L hL.1 y (hc y)

/-- The lane number of each column. -/
def laneV : IVec S128x128 32 := iota .tc S128x128 32 [1] iota_S128x128_d1_w32

/-- The state before trip `k` of the loop over row groups. -/
def loopSt (arg0 : BitVec 32) (v1 v4 : Elt F .i32) (hw : k0_chk1 v1 v4) (h3 : k0_cond3 v1 v4 = 1#1)
    (xs : Vec F S1536x5120 .bf16) (dhc : Vec F S1536x128 .fp8e5m2) (dhs : Vec F S1536x128 .f32)
    (wd : Vec F S5120x256 .bf16) (s : St F) : ℕ → St F
  | 0 => s
  | k + 1 => if hk : k < (k0_t1_loop v1 v4).trips then
      trip arg0 v1 v4 hw h3 laneV (k0_t1_loop v1 v4).lb xs dhc dhs wd ⟨k, hk⟩ (loopSt arg0 v1 v4 hw h3 xs dhc dhs wd s k)
    else loopSt arg0 v1 v4 hw h3 xs dhc dhs wd s k

/-- The state after the third stretch. -/
def liveSt (i : grid0.Coords) (v1 v4 : Elt F .i32) (hw : k0_chk1 v1 v4)
    (ws : Vec F S20480 .f32) (xs : Vec F S1536x5120 .bf16) (wg wu : Vec F S1x5120x128 .fp8e4m3) (dhc : Vec F S1536x128 .fp8e5m2) (dhs : Vec F S1536x128 .f32)
    (s : St F) : St F :=
  if h3 : k0_cond3 v1 v4 = 1#1 then
    loopSt (BitVec.ofNat 32 (i 0).val) v1 v4 hw h3 xs dhc dhs (wdSpec i ws wg wu) s (k0_t1_loop v1 v4).trips
  else s

/-- The loop's invariant, by values. -/
abbrev loopI (c : Dev nD) (arg4 : Memref sig .tc .vmem S1536x5120 .bf16) (arg7 : Memref sig .tc .vmem S1536x128 .fp8e5m2) (arg8 : Memref sig .tc .vmem S1536x128 .f32)
    (arg10 : Memref sig .tc .vmem S1536x128 .f32) (arg11 : Memref sig .tc .vmem S1536x5120 .f32) (arg12 : Memref sig .tc .vmem S5120x256 .bf16)
    (arg13 arg14 : Memref sig .tc .vmem S1536x128 .fp8e5m2)
    (arg0 : BitVec 32) (v1 v4 : Elt F .i32) (hw : k0_chk1 v1 v4) (h3 : k0_cond3 v1 v4 = 1#1)
    (xs : Vec F S1536x5120 .bf16) (dhc : Vec F S1536x128 .fp8e5m2) (dhs : Vec F S1536x128 .f32)
    (wd : Vec F S5120x256 .bf16) (s : St F) : ℕ → BitVec 32 → sProp 𝕄 := fun k _ =>
  iprop(at_ c arg4 xs ∗ at_ c arg7 dhc ∗ at_ c arg8 dhs ∗ at_ c arg12 wd
    ∗ stAt c arg10 arg13 arg14 arg11 (loopSt arg0 v1 v4 hw h3 xs dhc dhs wd s k))

theorem loop_step (𝒱 : Variants) (c : Dev nD) (bd : Option 𝒱.V) (E : Set ℕ) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (arg0 : BitVec 32) (v1 v4 : Elt F .i32) (hw : k0_chk1 v1 v4) (h3 : k0_cond3 v1 v4 = 1#1)
    (xs : Vec F S1536x5120 .bf16) (dhc : Vec F S1536x128 .fp8e5m2) (dhs : Vec F S1536x128 .f32)
    (wd : Vec F S5120x256 .bf16) (s : St F) (k : Fin (k0_t1_loop v1 v4).trips) (acc : BitVec 32) :
    loopI c arg4 arg7 arg8 arg10 arg11 arg12 arg13 arg14 arg0 v1 v4 hw h3 xs dhc dhs wd s k.val acc
      ⊢ wp frame (wpE defs₀ 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 arg0 v1 v4 hw h3 laneV (k0_t1_loop v1 v4).lb k acc)
          (loopI c arg4 arg7 arg8 arg10 arg11 arg12 arg13 arg14 arg0 v1 v4 hw h3 xs dhc dhs wd s (k.val + 1)) := by
  refine (trip_run 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 laneV (k0_t1_loop v1 v4).lb xs dhc dhs wd k _ E acc).trans (wp_mono _ _ _ fun _ => ?_)
  rw [show loopI c arg4 arg7 arg8 arg10 arg11 arg12 arg13 arg14 arg0 v1 v4 hw h3 xs dhc dhs wd s (k.val + 1) = fun _ => iprop(at_ c arg4 xs ∗ at_ c arg7 dhc ∗ at_ c arg8 dhs ∗ at_ c arg12 wd
    ∗ stAt c arg10 arg13 arg14 arg11 (trip arg0 v1 v4 hw h3 laneV (k0_t1_loop v1 v4).lb xs dhc dhs wd k (loopSt arg0 v1 v4 hw h3 xs dhc dhs wd s k.val))) from by
    unfold loopI; rw [loopSt, dif_pos k.isLt]]

set_option maxRecDepth 20000 in
set_option maxHeartbeats 4000000 in
theorem live_run (𝒱 : Variants) (c : Dev nD) (bd : Option 𝒱.V) (E : Set ℕ) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (v1 v4 : Elt F .i32) (hw : k0_chk1 v1 v4) (h3 : k0_cond3 v1 v4 = 1#1)
    (ws : Vec F S20480 .f32) (xs : Vec F S1536x5120 .bf16) (wg wu : Vec F S1x5120x128 .fp8e4m3) (dhc : Vec F S1536x128 .fp8e5m2) (dhs : Vec F S1536x128 .f32)
    (wd : Vec F S5120x256 .bf16) (s : St F) :
    (iprop(at_ c arg3 ws ∗ at_ c arg4 xs ∗ at_ c arg5 wg ∗ at_ c arg6 wu ∗ at_ c arg7 dhc ∗ at_ c arg8 dhs ∗ at_ c arg12 wd ∗ stAt c arg10 arg13 arg14 arg11 s) : sProp 𝕄)
      ⊢ wp frame (wpE defs₀ 𝒱 (c : Thread nD τ) bd) E (live (F := F) i arg2 harg2 arg3 harg3 arg4 harg4 arg5 harg5 arg6 harg6 arg7 harg7 arg8 harg8 arg9 harg9 arg10 harg10 arg11 harg11 arg12 harg12 arg13 harg13 arg14 harg14 arg15 v1 v4 hw h3)
          fun _ => iprop(at_ c arg3 ws ∗ at_ c arg4 xs ∗ at_ c arg5 wg ∗ at_ c arg6 wu ∗ at_ c arg7 dhc ∗ at_ c arg8 dhs ∗ at_ c arg12 (wdSpec i ws wg wu)
            ∗ stAt c arg10 arg13 arg14 arg11 (loopSt (BitVec.ofNat 32 (i 0).val) v1 v4 hw h3 xs dhc dhs (wdSpec i ws wg wu) s (k0_t1_loop v1 v4).trips)) := by
  unfold live
  iintro ⟨H3, H4, H5, H6, H7, H8, H12, H10, H13, H14, H11⟩
  sl_exec
  ihave HW := (at_of_read c arg12 _ (wdSpec i ws wg wu) ?hwd) $$ H12
  case hwd =>
    delta live_run.sl.H12_80
    refine fills_read arg12 _ _ ?_
    refine fills_step i arg3 ws arg5 wg arg6 wu 39 (by decide) _ ?_
    refine fills_step i arg3 ws arg5 wg arg6 wu 38 (by decide) _ ?_
    refine fills_step i arg3 ws arg5 wg arg6 wu 37 (by decide) _ ?_
    refine fills_step i arg3 ws arg5 wg arg6 wu 36 (by decide) _ ?_
    refine fills_step i arg3 ws arg5 wg arg6 wu 35 (by decide) _ ?_
    refine fills_step i arg3 ws arg5 wg arg6 wu 34 (by decide) _ ?_
    refine fills_step i arg3 ws arg5 wg arg6 wu 33 (by decide) _ ?_
    refine fills_step i arg3 ws arg5 wg arg6 wu 32 (by decide) _ ?_
    refine fills_step i arg3 ws arg5 wg arg6 wu 31 (by decide) _ ?_
    refine fills_step i arg3 ws arg5 wg arg6 wu 30 (by decide) _ ?_
    refine fills_step i arg3 ws arg5 wg arg6 wu 29 (by decide) _ ?_
    refine fills_step i arg3 ws arg5 wg arg6 wu 28 (by decide) _ ?_
    refine fills_step i arg3 ws arg5 wg arg6 wu 27 (by decide) _ ?_
    refine fills_step i arg3 ws arg5 wg arg6 wu 26 (by decide) _ ?_
    refine fills_step i arg3 ws arg5 wg arg6 wu 25 (by decide) _ ?_
    refine fills_step i arg3 ws arg5 wg arg6 wu 24 (by decide) _ ?_
    refine fills_step i arg3 ws arg5 wg arg6 wu 23 (by decide) _ ?_
    refine fills_step i arg3 ws arg5 wg arg6 wu 22 (by decide) _ ?_
    refine fills_step i arg3 ws arg5 wg arg6 wu 21 (by decide) _ ?_
    refine fills_step i arg3 ws arg5 wg arg6 wu 20 (by decide) _ ?_
    refine fills_step i arg3 ws arg5 wg arg6 wu 19 (by decide) _ ?_
    refine fills_step i arg3 ws arg5 wg arg6 wu 18 (by decide) _ ?_
    refine fills_step i arg3 ws arg5 wg arg6 wu 17 (by decide) _ ?_
    refine fills_step i arg3 ws arg5 wg arg6 wu 16 (by decide) _ ?_
    refine fills_step i arg3 ws arg5 wg arg6 wu 15 (by decide) _ ?_
    refine fills_step i arg3 ws arg5 wg arg6 wu 14 (by decide) _ ?_
    refine fills_step i arg3 ws arg5 wg arg6 wu 13 (by decide) _ ?_
    refine fills_step i arg3 ws arg5 wg arg6 wu 12 (by decide) _ ?_
    refine fills_step i arg3 ws arg5 wg arg6 wu 11 (by decide) _ ?_
    refine fills_step i arg3 ws arg5 wg arg6 wu 10 (by decide) _ ?_
    refine fills_step i arg3 ws arg5 wg arg6 wu 9 (by decide) _ ?_
    refine fills_step i arg3 ws arg5 wg arg6 wu 8 (by decide) _ ?_
    refine fills_step i arg3 ws arg5 wg arg6 wu 7 (by decide) _ ?_
    refine fills_step i arg3 ws arg5 wg arg6 wu 6 (by decide) _ ?_
    refine fills_step i arg3 ws arg5 wg arg6 wu 5 (by decide) _ ?_
    refine fills_step i arg3 ws arg5 wg arg6 wu 4 (by decide) _ ?_
    refine fills_step i arg3 ws arg5 wg arg6 wu 3 (by decide) _ ?_
    refine fills_step i arg3 ws arg5 wg arg6 wu 2 (by decide) _ ?_
    refine fills_step i arg3 ws arg5 wg arg6 wu 1 (by decide) _ ?_
    refine fills_step i arg3 ws arg5 wg arg6 wu 0 (by decide) _ ?_
    exact fills_nil _
  icases HW with H12
  sl_for (loopI c arg4 arg7 arg8 arg10 arg11 arg12 arg13 arg14 (BitVec.ofNat 32 (i 0).val) v1 v4 hw h3 xs dhc dhs (wdSpec i ws wg wu) s) $$ [H4 H7 H8 H12 H10 H13 H14 H11]
  case region =>
    intro k acc
    exact loop_step 𝒱 c bd E i arg2 harg2 arg3 harg3 arg4 harg4 arg5 harg5 arg6 harg6 arg7 harg7 arg8 harg8 arg9 harg9 arg10 harg10 arg11 harg11 arg12 harg12 arg13 harg13 arg14 harg14 arg15 (BitVec.ofNat 32 (i 0).val) v1 v4 hw h3 xs dhc dhs (wdSpec i ws wg wu) s k acc
  · isplitl [H4]; · iexact H4
    isplitl [H7]; · iexact H7
    isplitl [H8]; · iexact H8
    isplitl [H12]; · iexact H12
    isplitl [H10]; · iexact H10
    isplitl [H13]; · iexact H13
    isplitl [H14]; · iexact H14
    iexact H11
  · iintro %acc ⟨H4, H7, H8, H12, H10, H13, H14, H11⟩
    sl_exec
    sl_step
    sl_close

end Cert.Kernel.Hand
-- ==== Proof.KRun.lean ====
/-
  What each stretch of the body does, by values.
-/
module

public import proofs.«01_k».proof.Proof.KLive
public import Idealize.ShloMosaic.Lib.Transfers
public import Idealize.ShloMosaic.Lib.ViewIndex
public import Idealize.ShloMosaic.Lib.LaneScatter.Fold

@[expose] public section

noncomputable section

namespace Cert.Kernel.Hand

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The state after the first stretch: at the first grid point scales and gradient are zero. -/
def zeroSt (i : grid0.Coords) (s : St F) : St F :=
  if k0_cond1 i = 1#1 then { s with sc := k0_pay2, dx := k0_pay1 } else s

/-- The clearing of the code panels happens at the points of expert 0. -/
def clearCond (i : grid0.Coords) : BitVec 1 :=
  Scalar.cmpi .ne (Scalar.extui (Scalar.cmpi .eq (BitVec.ofNat 32 (i 1).val) 0#32)) 0#32

/-- The state after the second stretch: at expert 0's points the code panels are zero. -/
def clearSt (i : grid0.Coords) (s : St F) : St F :=
  if clearCond i = 1#1 then { s with cg := k0_pay3, cu := k0_pay4 } else s

theorem read_writes_all {sp : Space} {S : Shape} {e : EltTy} (v : View sig .tc sp S e) (f : v.ty.Contents (Elt F)) {off : Fin S.rank → ℕ}
    (inb : ∀ a, off a + S.size a ≤ S.size a) (w : (Rect.unit off S.size inb).shape.Idx → Elt F e) (L : List (View.Piece (Elt F) S e)) :
    v.read (Elt F) (v.writes (Elt F) f (⟨Rect.unit off S.size inb, w⟩ :: L)) = w := View.read_writes_full v f inb w L

theorem segZero_run (𝒱 : Variants) (c : Dev nD) (bd : Option 𝒱.V) (E : Set ℕ) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2) (s : St F) :
    (iprop(stAt c arg10 arg13 arg14 arg11 s) : sProp 𝕄)
      ⊢ wp frame (wpE defs₀ 𝒱 (c : Thread nD τ) bd) E (segZero (F := F) i arg2 harg2 arg3 harg3 arg4 harg4 arg5 harg5 arg6 harg6 arg7 harg7 arg8 harg8 arg9 harg9 arg10 harg10 arg11 harg11 arg12 harg12 arg13 harg13 arg14 harg14 arg15)
          fun _ => iprop(stAt c arg10 arg13 arg14 arg11 (zeroSt i s)) := by
  unfold segZero zeroSt
  by_cases h : k0_cond1 i = 1#1
  · rw [if_pos h]
    iintro ⟨H10, H13, H14, H11⟩
    sl_exec (disch := exact h)
    sl_step
    ihave H10' := (at_of_read c arg10 _ (k0_pay2 (F := F)) (read_writes_all _ _ _ _ _)) $$ H10
    ihave H11' := (at_of_read c arg11 _ (k0_pay1 (F := F)) (read_writes_all _ _ _ _ _)) $$ H11
    sl_close
  · rw [if_neg h]
    iintro ⟨H10, H13, H14, H11⟩
    sl_exec (disch := exact h)
    sl_step
    sl_close

theorem segClear_run (𝒱 : Variants) (c : Dev nD) (bd : Option 𝒱.V) (E : Set ℕ) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2) (s : St F) :
    (iprop(stAt c arg10 arg13 arg14 arg11 s) : sProp 𝕄)
      ⊢ wp frame (wpE defs₀ 𝒱 (c : Thread nD τ) bd) E (segClear (F := F) i arg2 harg2 arg3 harg3 arg4 harg4 arg5 harg5 arg6 harg6 arg7 harg7 arg8 harg8 arg9 harg9 arg10 harg10 arg11 harg11 arg12 harg12 arg13 harg13 arg14 harg14 arg15)
          fun _ => iprop(stAt c arg10 arg13 arg14 arg11 (clearSt i s)) := by
  unfold segClear clearSt
  by_cases h : clearCond i = 1#1
  · rw [if_pos h]
    iintro ⟨H10, H13, H14, H11⟩
    sl_exec (disch := exact h)
    sl_step
    ihave H13' := (at_of_read c arg13 _ (k0_pay3 (F := F)) (read_writes_all _ _ _ _ _)) $$ H13
    ihave H14' := (at_of_read c arg14 _ (k0_pay4 (F := F)) (read_writes_all _ _ _ _ _)) $$ H14
    sl_close
  · rw [if_neg h]
    iintro ⟨H10, H13, H14, H11⟩
    sl_exec (disch := exact h)
    sl_step
    sl_close

theorem segLive_run (𝒱 : Variants) (c : Dev nD) (bd : Option 𝒱.V) (E : Set ℕ) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (v1 v4 : Elt F .i32) (hw : k0_chk1 v1 v4)
    (ws : Vec F S20480 .f32) (xs : Vec F S1536x5120 .bf16) (wg wu : Vec F S1x5120x128 .fp8e4m3) (dhc : Vec F S1536x128 .fp8e5m2) (dhs : Vec F S1536x128 .f32)
    (wd : Vec F S5120x256 .bf16) (s : St F) :
    (iprop(at_ c arg3 ws ∗ at_ c arg4 xs ∗ at_ c arg5 wg ∗ at_ c arg6 wu ∗ at_ c arg7 dhc ∗ at_ c arg8 dhs ∗ at_ c arg12 wd ∗ stAt c arg10 arg13 arg14 arg11 s) : sProp 𝕄)
      ⊢ wp frame (wpE defs₀ 𝒱 (c : Thread nD τ) bd) E (segLive (F := F) i arg2 harg2 arg3 harg3 arg4 harg4 arg5 harg5 arg6 harg6 arg7 harg7 arg8 harg8 arg9 harg9 arg10 harg10 arg11 harg11 arg12 harg12 arg13 harg13 arg14 harg14 arg15 v1 v4 hw)
          fun _ => iprop(at_ c arg3 ws ∗ at_ c arg4 xs ∗ at_ c arg5 wg ∗ at_ c arg6 wu ∗ at_ c arg7 dhc ∗ at_ c arg8 dhs ∗ (∃ wd', at_ c arg12 wd')
            ∗ stAt c arg10 arg13 arg14 arg11 (liveSt i v1 v4 hw ws xs wg wu dhc dhs s)) := by
  unfold segLive liveSt
  by_cases h : k0_cond3 v1 v4 = 1#1
  · rw [dif_pos h, dif_pos h]
    refine (live_run 𝒱 c bd E i arg2 harg2 arg3 harg3 arg4 harg4 arg5 harg5 arg6 harg6 arg7 harg7 arg8 harg8 arg9 harg9 arg10 harg10 arg11 harg11 arg12 harg12 arg13 harg13 arg14 harg14 arg15 v1 v4 hw h ws xs wg wu dhc dhs wd s).trans (wp_mono _ _ _ fun _ => ?_)
    iintro ⟨H3, H4, H5, H6, H7, H8, H12, HS⟩
    isplitl [H3]; · iexact H3
    isplitl [H4]; · iexact H4
    isplitl [H5]; · iexact H5
    isplitl [H6]; · iexact H6
    isplitl [H7]; · iexact H7
    isplitl [H8]; · iexact H8
    isplitl [H12]; · iexists _; iexact H12
    iexact HS
  · rw [dif_neg h, dif_neg h]
    iintro ⟨H3, H4, H5, H6, H7, H8, H12, HS⟩
    sl_step
    isplitl [H3]; · iexact H3
    isplitl [H4]; · iexact H4
    isplitl [H5]; · iexact H5
    isplitl [H6]; · iexact H6
    isplitl [H7]; · iexact H7
    isplitl [H8]; · iexact H8
    isplitl [H12]; · iexists _; iexact H12
    iexact HS

abbrev scM13 : Memref sig .tc .vmem S1536x128 .fp8e5m2 := Memref.whole cc0_scratch1
abbrev scM14 : Memref sig .tc .vmem S1536x128 .fp8e5m2 := Memref.whole cc0_scratch2
abbrev scM12 : Memref sig .tc .vmem S5120x256 .bf16 := Memref.whole cc0_scratch0
abbrev hbM9 : Memref sig .tc .hbm S1536x16384 .fp8e5m2 := Memref.whole main_v5_0

/-- A buffer held by a view's elements is held by two disjoint rectangles of it and the rest. -/
theorem split_two (c : Dev nD) {sp : Space} {S : Shape} {e : EltTy} (m : Memref sig .tc sp S e) (r r' : Rect S) (hr hr')
    (hd : Disjoint r.set r'.set) (f : Buf (Elt F) (m.view.loc (c : Thread nD τ))) :
    (m.view.loc (c : Thread nD τ) ↦[m.view.set]{fullShare} f : sProp 𝕄)
      ⊢ iprop(((m.slice r hr).view.loc (c : Thread nD τ) ↦[(m.slice r hr).view.set]{fullShare} f)
        ∗ ((m.slice r' hr').view.loc (c : Thread nD τ) ↦[(m.slice r' hr').view.set]{fullShare} f)
        ∗ (m.view.loc (c : Thread nD τ) ↦[(m.view.set \ (m.view.slice r).set) \ (m.view.slice r').set]{fullShare} f)) := by
  have h1 : (m.view.slice r).set ⊆ m.view.set := View.set_slice_subset _ _
  have h2 : (m.view.slice r').set ⊆ m.view.set \ (m.view.slice r).set := by
    intro x hx
    refine Finset.mem_sdiff.2 ⟨View.set_slice_subset _ _ hx, fun hx' => ?_⟩
    have hds : Disjoint (m.view.slice r).set (m.view.slice r').set := View.disjoint_slice hd
    exact Finset.disjoint_left.1 hds hx' hx
  iintro H
  ihave H := (pointsTo_split_subset h1).1 $$ H
  icases H with ⟨H1, H⟩
  ihave H := (pointsTo_split_subset h2).1 $$ H
  icases H with ⟨H2, H⟩
  isplitl [H1]; · iexact H1
  isplitl [H2]; · iexact H2
  iexact H

/-- Two disjoint windows, each holding its own payload, and the rest at the old words are the buffer at the payloads put. -/
theorem join_two (c : Dev nD) {sp : Space} {S : Shape} {e : EltTy} (m : Memref sig .tc sp S e) (off off' size : Fin S.rank → ℕ) (inb inb') (hr hr')
    (hd : Disjoint (Rect.unit (s := S) off size inb).set (Rect.unit (s := S) off' size inb').set) (x : S.Idx → Elt F e)
    (g g' : Buf (Elt F) (m.view.loc (c : Thread nD τ))) (w w' : ((a : Fin S.rank) → Fin (size a)) → Elt F e)
    (hg : (m.slice (Rect.unit (s := S) off size inb) hr).view.read (Elt F) g = w)
    (hg' : (m.slice (Rect.unit (s := S) off' size inb') hr').view.read (Elt F) g' = w') :
    (iprop(((m.slice (Rect.unit (s := S) off size inb) hr).view.loc (c : Thread nD τ) ↦[(m.slice (Rect.unit (s := S) off size inb) hr).view.set]{fullShare} g)
        ∗ ((m.slice (Rect.unit (s := S) off' size inb') hr').view.loc (c : Thread nD τ) ↦[(m.slice (Rect.unit (s := S) off' size inb') hr').view.set]{fullShare} g')
        ∗ (m.view.loc (c : Thread nD τ) ↦[(m.view.set \ (m.view.slice (Rect.unit (s := S) off size inb)).set) \ (m.view.slice (Rect.unit (s := S) off' size inb')).set]{fullShare} m.view.rep x)) : sProp 𝕄)
      ⊢ at_ c m (VecWindow.put (VecWindow.put x off size w) off' size w') := by
  set r := Rect.unit (s := S) off size inb with hrdef
  set r' := Rect.unit (s := S) off' size inb' with hrdef'
  have hds : Disjoint (m.view.slice r).set (m.view.slice r').set := View.disjoint_slice hd
  have h1 : (m.view.slice r).set ⊆ m.view.set := View.set_slice_subset _ _
  have h2 : (m.view.slice r').set ⊆ m.view.set \ (m.view.slice r).set := by
    intro y hy
    exact Finset.mem_sdiff.2 ⟨View.set_slice_subset _ _ hy, fun hy' => Finset.disjoint_left.1 hds hy' hy⟩
  iintro ⟨H1, H2, H3⟩
  ihave H := (pointsTo_join (ℓ := m.view.loc (c : Thread nD τ)) (I := (m.view.set \ (m.view.slice r).set) \ (m.view.slice r').set)
    (J := (m.view.slice r').set) (q := fullShare) (f := m.view.rep x) (g := g') Finset.sdiff_disjoint) $$ [H3 H2]
  · isplitl [H3]; · iexact H3
    iexact H2
  rw [Finset.sdiff_union_of_subset h2]
  ihave H := (pointsTo_join (ℓ := m.view.loc (c : Thread nD τ)) (I := m.view.set \ (m.view.slice r).set)
    (J := (m.view.slice r).set) (q := fullShare) (g := g) Finset.sdiff_disjoint) $$ [H H1]
  · isplitl [H]; · iexact H
    iexact H1
  rw [Finset.sdiff_union_of_subset h1]
  ihave H := (at_of_read c m _ (VecWindow.put (VecWindow.put x off size w) off' size w') ?h) $$ H
  case h =>
    funext y
    rw [View.read_apply]
    unfold VecWindow.put
    by_cases hy' : ∀ a, off' a ≤ (y a).val ∧ (y a).val < off' a + size a
    · have hm' : y ∈ r'.set := by rw [hrdef', Rect.mem_set_unit]; exact hy'
      have hm : m.view.emb y ∈ (m.view.slice r').set := by rw [View.set_slice]; exact Finset.mem_map_of_mem _ hm'
      rw [dif_pos hy', Finset.piecewise_eq_of_notMem _ _ _ (fun hn => Finset.disjoint_left.1 hds hn hm), Finset.piecewise_eq_of_mem _ _ _ hm, ← hg']
      rw [View.read_apply]
      have : m.view.emb y = (m.slice r' hr').view.emb (Rect.unitLocal (s := S) (off := off') (size := size) y hy') :=
        congrArg m.view.emb (funext fun a => Fin.ext (by
          show (y a).val = off' a + 1 * ((y a).val - off' a); have := hy' a; omega))
      rw [this]
    · rw [dif_neg hy']
      have hn' : m.view.emb y ∉ (m.view.slice r').set := by
        rw [View.set_slice]; intro hm
        obtain ⟨z, hz, e⟩ := Finset.mem_map.1 hm
        rw [m.view.emb.injective e, hrdef', Rect.mem_set_unit] at hz; exact hy' hz
      by_cases hy : ∀ a, off a ≤ (y a).val ∧ (y a).val < off a + size a
      · have hm' : y ∈ r.set := by rw [hrdef, Rect.mem_set_unit]; exact hy
        have hm : m.view.emb y ∈ (m.view.slice r).set := by rw [View.set_slice]; exact Finset.mem_map_of_mem _ hm'
        rw [dif_pos hy, Finset.piecewise_eq_of_mem _ _ _ hm, ← hg, View.read_apply]
        have : m.view.emb y = (m.slice r hr).view.emb (Rect.unitLocal (s := S) (off := off) (size := size) y hy) :=
          congrArg m.view.emb (funext fun a => Fin.ext (by
            show (y a).val = off a + 1 * ((y a).val - off a); have := hy a; omega))
        rw [this]
      · rw [dif_neg hy]
        have hn : m.view.emb y ∉ (m.view.slice r).set := by
          rw [View.set_slice]; intro hm
          obtain ⟨z, hz, e⟩ := Finset.mem_map.1 hm
          rw [m.view.emb.injective e, hrdef, Rect.mem_set_unit] at hz; exact hy hz
        rw [Finset.piecewise_eq_of_notMem _ _ _ hn, Finset.piecewise_eq_of_notMem _ _ _ hn', ← View.read_apply, View.read_rep]
  iexact H

/-- The two copied column panels do not meet. -/
theorem panels_disjoint (i : grid0.Coords) (inb inb') :
    Disjoint (Rect.unit (s := S1536x16384) (k0_off17 i) S1536x128.size inb).set (Rect.unit (s := S1536x16384) (k0_off18 i) S1536x128.size inb').set := by
  rw [Finset.disjoint_left]
  intro y hy hy'
  rw [Rect.mem_set_unit] at hy hy'
  have h1 := hy 1; have h2 := hy' 1
  have hi : (i 0).val < 64 := (i 0).isLt
  have e1 : k0_off17 i 1 = 128 * (i 0).val := by
    show (Scalar.muli (BitVec.ofNat 32 (i 0).val) 128#32).toNat = _
    simp only [Scalar.muli, IntOp.muli, BitVec.toNat_mul, BitVec.toNat_ofNat]; omega
  have e2 : k0_off18 i 1 = 8192 + 128 * (i 0).val := by
    show (Scalar.addi 8192#32 (Scalar.muli (BitVec.ofNat 32 (i 0).val) 128#32)).toNat = _
    simp only [Scalar.addi, Scalar.muli, IntOp.addi, IntOp.muli, BitVec.toNat_mul, BitVec.toNat_add, BitVec.toNat_ofNat]; omega
  rw [e1] at h1; rw [e2] at h2
  have : S1536x128.size 1 = 128 := rfl
  omega

/-- The codes array after the last stretch: at expert 3's points the two panels are copied out. -/
def outSt (i : grid0.Coords) (s : St F) (codes : Vec F S1536x16384 .fp8e5m2) : Vec F S1536x16384 .fp8e5m2 :=
  if h : k0_cond4 i = 1#1 then
    VecWindow.put (VecWindow.put codes (k0_off17 i) S1536x128.size s.cg) (k0_off18 i) S1536x128.size s.cu
  else codes

theorem segOut_run (𝒱 : Variants) (c : Dev nD) (i : grid0.Coords)
    (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg10 : Memref sig .tc .vmem S1536x128 .f32) (harg10 : arg10.IsWhole) (arg11 : Memref sig .tc .vmem S1536x5120 .f32) (harg11 : arg11.IsWhole)
    (s : St F) (codes : Vec F S1536x16384 .fp8e5m2) (W : Waits sig Unit) :
    (iprop(at_ c scM13 s.cg ∗ at_ c scM14 s.cu ∗ at_ c hbM9 codes
        ∗ semVal ((c : Thread nD τ), SemLoc.dma 11) 0 ∗ semVal ((c : Thread nD τ), SemLoc.dma 12) 0 ∗ owes (c : Thread nD τ) 0 W) : sProp 𝕄)
      ⊢ wp frame (wpE defs₀ 𝒱 (c : Thread nD τ) none) Set.univ (segOut (F := F) i arg2 harg2 arg3 harg3 arg4 harg4 arg5 harg5 arg6 harg6 arg7 harg7 arg8 harg8 hbM9 (Memref.isWhole_whole _) arg10 harg10 arg11 harg11 scM12 (Memref.isWhole_whole _) scM13 (Memref.isWhole_whole _) scM14 (Memref.isWhole_whole _) cc0_scratch3)
          fun _ => iprop(at_ c scM13 s.cg ∗ at_ c scM14 s.cu ∗ at_ c hbM9 (outSt i s codes)
        ∗ semVal ((c : Thread nD τ), SemLoc.dma 11) 0 ∗ semVal ((c : Thread nD τ), SemLoc.dma 12) 0 ∗ ∃ W', owes (c : Thread nD τ) 0 W') := by
  unfold segOut outSt
  by_cases h : k0_cond4 i = 1#1
  · rw [dif_pos h, dif_pos h]
    iintro ⟨H13, H14, H9, Hq0, Hq1, HO⟩
    ihave H9 := (split_two c hbM9 (Rect.unit (s := S1536x16384) (k0_off17 i) S1536x128.size (k0_off17_inb i h))
      (Rect.unit (s := S1536x16384) (k0_off18 i) S1536x128.size (k0_off18_inb i h)) (fun _ => rfl) (fun _ => rfl) (panels_disjoint i _ _) _) $$ H9
    icases H9 with ⟨Ha, Hb, Hc⟩
    sl_exec
    sl_step
    ihave H9 := (join_two c hbM9 (k0_off17 i) (k0_off18 i) S1536x128.size (k0_off17_inb i h) (k0_off18_inb i h) (fun _ => rfl) (fun _ => rfl)
      (panels_disjoint i _ _) codes _ _ s.cg s.cu ?hg ?hg') $$ [Ha Hb Hc]
    rotate_left 2
    · isplitl [Ha]; · iexact Ha
      isplitl [Hb]; · iexact Hb
      iexact Hc
    isplitl [H13]; · iexact H13
    isplitl [H14]; · iexact H14
    isplitl [H9]; · iexact H9
    isplitl [Hq0]; · iexact Hq0
    isplitl [Hq1]; · iexact Hq1
    iexists _; iexact HO
    case hg => exact (View.read_writes_whole _ _ _).trans (View.read_rep _ _)
    case hg' => exact (View.read_writes_whole _ _ _).trans (View.read_rep _ _)
  · rw [dif_neg h, dif_neg h]
    iintro ⟨H13, H14, H9, Hq0, Hq1, HO⟩
    sl_step
    sl_close

/-- The first word the body reads from the table: where expert `e`'s rows begin. -/
def tabLo (i : grid0.Coords) (tb : Vec F S5 .i32) : Elt F .i32 :=
  tb ((Rect.unit (s := S5) (k0_off1 i) S1.size (k0_off1_inb i)).emb (ix1 (n := 1) 0))
/-- The second word: where they end. -/
def tabHi (i : grid0.Coords) (tb : Vec F S5 .i32) : Elt F .i32 :=
  tb ((Rect.unit (s := S5) (k0_off2 i) S1.size (k0_off2_inb i)).emb (ix1 (n := 1) 0))

/-- The state after the body at one grid point. -/
def bodySt (i : grid0.Coords) (tb : Vec F S5 .i32) (hw : k0_chk1 (tabLo i tb) (tabHi i tb))
    (ws : Vec F S20480 .f32) (xs : Vec F S1536x5120 .bf16) (wg wu : Vec F S1x5120x128 .fp8e4m3) (dhc : Vec F S1536x128 .fp8e5m2) (dhs : Vec F S1536x128 .f32)
    (s : St F) : St F :=
  liveSt i (tabLo i tb) (tabHi i tb) hw ws xs wg wu dhc dhs (clearSt i (zeroSt i s))

theorem first_eq (z : S1.Idx) : z = ix1 (n := 1) 0 := funext fun a => by
  match a with | ⟨0, _⟩ => exact Subsingleton.elim (α := Fin 1) _ _

/-- A buffer held at the value `X`, at the share `q`. -/
abbrev atq (c : Dev nD) (q : PosShare TreeShare) {sp : Space} {S : Shape} {e : EltTy} (M : Memref sig .tc sp S e) (X : Vec F S e) : sProp 𝕄 :=
  M.view.loc (c : Thread nD τ) ↦[M.view.set]{q} M.view.rep (Val := Elt F) X

/-- The whole body at one grid point, by values. -/
theorem body_run (c : Dev nD) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg10 : Memref sig .tc .vmem S1536x128 .f32) (harg10 : arg10.IsWhole) (arg11 : Memref sig .tc .vmem S1536x5120 .f32) (harg11 : arg11.IsWhole)
    (qt : PosShare TreeShare) (tb : Vec F S5 .i32) (hw : k0_chk1 (tabLo i tb) (tabHi i tb))
    (ws : Vec F S20480 .f32) (xs : Vec F S1536x5120 .bf16) (wg wu : Vec F S1x5120x128 .fp8e4m3) (dhc : Vec F S1536x128 .fp8e5m2) (dhs : Vec F S1536x128 .f32)
    (wd : Vec F S5120x256 .bf16) (s : St F) (codes : Vec F S1536x16384 .fp8e5m2) (W : Waits sig Unit) (K : PUnit → sProp 𝕄) :
    (iprop(atq c qt arg2 tb ∗ at_ c arg3 ws ∗ at_ c arg4 xs ∗ at_ c arg5 wg ∗ at_ c arg6 wu ∗ at_ c arg7 dhc ∗ at_ c arg8 dhs ∗ at_ c scM12 wd
        ∗ stAt c arg10 scM13 scM14 arg11 s ∗ at_ c hbM9 codes
        ∗ semVal ((c : Thread nD τ), SemLoc.dma 11) 0 ∗ semVal ((c : Thread nD τ), SemLoc.dma 12) 0 ∗ owes (c : Thread nD τ) 0 W
        ∗ (iprop(atq c qt arg2 tb ∗ at_ c arg3 ws ∗ at_ c arg4 xs ∗ at_ c arg5 wg ∗ at_ c arg6 wu ∗ at_ c arg7 dhc ∗ at_ c arg8 dhs ∗ (∃ wd', at_ c scM12 wd')
            ∗ stAt c arg10 scM13 scM14 arg11 (bodySt i tb hw ws xs wg wu dhc dhs s)
            ∗ at_ c hbM9 (outSt i (bodySt i tb hw ws xs wg wu dhc dhs s) codes)
            ∗ semVal ((c : Thread nD τ), SemLoc.dma 11) 0 ∗ semVal ((c : Thread nD τ), SemLoc.dma 12) 0 ∗ ∃ W', owes (c : Thread nD τ) 0 W') -∗ K ⟨⟩)) : sProp 𝕄)
      ⊢ wp frame (wpE (defs₀ (F := F)) Variants.none (c : Thread nD τ) none) Set.univ (cc0_main (F := F) i arg2 harg2 arg3 harg3 arg4 harg4 arg5 harg5 arg6 harg6 arg7 harg7 arg8 harg8 hbM9 (Memref.isWhole_whole _) arg10 harg10 arg11 harg11 scM12 (Memref.isWhole_whole _) scM13 (Memref.isWhole_whole _) scM14 (Memref.isWhole_whole _) cc0_scratch3) K := by
  simp only [cc0_main_eq_skeleton]
  rw [body_eq]
  iintro ⟨H2, H3, H4, H5, H6, H7, H8, H12, HS, H9, Hq0, Hq1, HO, HK⟩
  sl_exec
  have e1 : body_run.sl.r i arg2 tb = tabLo i tb := by
    delta body_run.sl.r
    rw [readAt_win, View.read_rep, first_eq (Shape.Idx.first _)]; rfl
  have e2 : body_run.sl.r_1 i arg2 tb = tabHi i tb := by
    delta body_run.sl.r_1
    rw [readAt_win, View.read_rep, first_eq (Shape.Idx.first _)]; rfl
  rw [e1, e2]
  iapply (wp_assume _ _ _ _ hw)
  iapply (LaneScatter.bind_of_run _ _ _ (segZero_run Variants.none c none Set.univ i arg2 harg2 arg3 harg3 arg4 harg4 arg5 harg5 arg6 harg6 arg7 harg7 arg8 harg8 hbM9 (Memref.isWhole_whole _) arg10 harg10 arg11 harg11 scM12 (Memref.isWhole_whole _) scM13 (Memref.isWhole_whole _) scM14 (Memref.isWhole_whole _) cc0_scratch3 s))
  isplitl [HS]; · iexact HS
  iintro HS
  iapply (LaneScatter.bind_of_run _ _ _ (segClear_run Variants.none c none Set.univ i arg2 harg2 arg3 harg3 arg4 harg4 arg5 harg5 arg6 harg6 arg7 harg7 arg8 harg8 hbM9 (Memref.isWhole_whole _) arg10 harg10 arg11 harg11 scM12 (Memref.isWhole_whole _) scM13 (Memref.isWhole_whole _) scM14 (Memref.isWhole_whole _) cc0_scratch3 (zeroSt i s)))
  isplitl [HS]; · iexact HS
  iintro HS
  iapply (LaneScatter.bind_of_run _ _ _ (segLive_run Variants.none c none Set.univ i arg2 harg2 arg3 harg3 arg4 harg4 arg5 harg5 arg6 harg6 arg7 harg7 arg8 harg8 hbM9 (Memref.isWhole_whole _) arg10 harg10 arg11 harg11 scM12 (Memref.isWhole_whole _) scM13 (Memref.isWhole_whole _) scM14 (Memref.isWhole_whole _) cc0_scratch3 (tabLo i tb) (tabHi i tb) hw ws xs wg wu dhc dhs wd (clearSt i (zeroSt i s))))
  isplitl [H3 H4 H5 H6 H7 H8 H12 HS]
  · isplitl [H3]; · iexact H3
    isplitl [H4]; · iexact H4
    isplitl [H5]; · iexact H5
    isplitl [H6]; · iexact H6
    isplitl [H7]; · iexact H7
    isplitl [H8]; · iexact H8
    isplitl [H12]; · iexact H12
    iexact HS
  iintro ⟨H3, H4, H5, H6, H7, H8, H12, H10, H13, H14, H11⟩
  iapply (LaneScatter.bind_of_run _ _ _ (segOut_run Variants.none c i arg2 harg2 arg3 harg3 arg4 harg4 arg5 harg5 arg6 harg6 arg7 harg7 arg8 harg8 arg10 harg10 arg11 harg11
    (bodySt i tb hw ws xs wg wu dhc dhs s) codes W))
  isplitl [H13 H14 H9 Hq0 Hq1 HO]
  · isplitl [H13]; · iexact H13
    isplitl [H14]; · iexact H14
    isplitl [H9]; · iexact H9
    isplitl [Hq0]; · iexact Hq0
    isplitl [Hq1]; · iexact Hq1
    iexact HO
  iintro ⟨H13, H14, H9, Hq0, Hq1, HO⟩
  sl_step
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H12]; · iexact H12
  isplitl [H10 H13 H14 H11]
  · isplitl [H10]; · iexact H10
    isplitl [H13]; · iexact H13
    isplitl [H14]; · iexact H14
    iexact H11
  isplitl [H9]; · iexact H9
  isplitl [Hq0]; · iexact Hq0
  isplitl [Hq1]; · iexact Hq1
  iexact HO

end Cert.Kernel.Hand
-- ==== Proof.KLaunch.lean ====
/-
  The launch: what the buffers hold between grid points, the obligation of the body at each point, and the run of the whole program.
-/
module

public import proofs.«01_k».proof.Proof.KRun
public import proofs.«01_k».proof.Proof.Gen.Kernel.Launch
public import Idealize.ShloMosaic.Lib.Pipeline.FrameSuffixV
public import Idealize.ShloMosaic.Lib.Pipeline.FrameBody
public import Idealize.ShloMosaic.Lib.Pipeline.TableIdle

@[expose] public section

noncomputable section

namespace Cert.Kernel.Hand

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## Data of the launch -/

/-- The two transfer counters the body uses itself. -/
def osem0 : Fin 2 → SemLoc sig := fun | 0 => SemLoc.dma 11 | 1 => SemLoc.dma 12
theorem ownSemFacts0 : Pipeline.OwnSemFacts spec0 osem0 := by decide
theorem ownSems0_eq (c : Dev nD) :
    (Pipeline.ownSems0 osem0 c : sProp 𝕄) = iprop(semVal ((c : Thread nD τ), SemLoc.dma 11) 0 ∗ semVal ((c : Thread nD τ), SemLoc.dma 12) 0) :=
  Pipeline.ownSems0_eq_of_list c osem0 [0, 1] (by decide) (by decide)

/-- The body reads no buffer beside its windows and the table; it writes the codes itself. -/
abbrev H0 : Finset (Ref sig .tc) := ∅
abbrev R0 : Finset (Ref sig .tc) := {main_v5_0}
theorem H0_sub : H0 ⊆ Pipeline.restRefsP sig pre0 spec0 := Finset.empty_subset _
theorem R0_sub : R0 ⊆ Pipeline.restRefsP sig pre0 spec0 \ H0 := by decide

variable (m : (ℓ : Loc nD τ sig) → Buf (Elt F) ℓ)

/-- The host operations before the region. -/
abbrev opss0 : List (List (HloOp τ sig (Elt F))) := [hostOps0, hostOps0_1, hostOps0_2, hostOps0_3, hostOps0_4]
/-- What every buffer holds as the region is entered. -/
def V₀ (c : Dev nD) : Valuation τ sig (Elt F) := StableHlo.after opss0.flatten (fun b => m (c, b))
/-- The same by reference. -/
abbrev Vr (c : Dev nD) (b : Ref sig .tc) : Buf (Elt F) ((c : Thread nD τ).loc b) := V₀ m c (Proc.devRef .tc b)

/-- The table, the rows where each expert starts. -/
abbrev tb (c : Dev nD) : Vec F S5 .i32 := Vr m c main_v2
/-- The pipeline's tables. -/
def adm0 : (pcfg0 (F := F)).Adm := ⟨fun k => Vr m 0 (pre0.ref k), trivial⟩
def adm : (p : Fin 1) → (pcfgs (F := F) p).Adm := fun | ⟨0, _⟩ => adm0 m
abbrev cfgA : Pipeline.Cfg sig Λ₀ := cfg0 (adm0 m)

theorem N_cfg : (cfgA m).N = 256 := N_0

/-- The words of the table the body goes by are in order at every grid point. -/
def TableOk : Prop := ∀ (c : Dev nD) (i : grid0.Coords), k0_chk1 (tabLo i (tb m c)) (tabHi i (tb m c))

/-- The block of window `w` at point `t`. -/
def iblk (c : Dev nD) (w : Fin 8) (t : Fin grid0.N) : ((cfgA m).win w).block.Idx → Elt F ((cfgA m).win w).elt :=
  (((cfgA m).win w).blk t).view.read (Elt F) (Vr m c (Pipeline.arrRef spec0 w))

/-- The state after one grid point. -/
def stepSt (hok : TableOk m) (c : Dev nD) (t : Fin grid0.N) (s : St F) : St F :=
  bodySt (grid0.coords t) (tb m c) (hok c _) (iblk m c 0 t) (iblk m c 1 t) (iblk m c 2 t) (iblk m c 3 t) (iblk m c 4 t) (iblk m c 5 t) s

/-- The state before the `n`-th point (the values at `0` are never read). -/
def stAfter (hok : TableOk m) (c : Dev nD) : ℕ → St F
  | 0 => ⟨k0_pay2, k0_pay3, k0_pay4, k0_pay1⟩
  | n + 1 => if h : n < grid0.N then stepSt m hok c ⟨n, h⟩ (stAfter hok c n) else stAfter hok c n

/-- The codes before the `n`-th point. -/
def codesAfter (hok : TableOk m) (c : Dev nD) : ℕ → Vec F S1536x16384 .fp8e5m2
  | 0 => Vr m c main_v5_0
  | n + 1 => if h : n < grid0.N then outSt (grid0.coords ⟨n, h⟩) (stAfter m hok c (n + 1)) (codesAfter hok c n) else codesAfter hok c n

theorem stAfter_succ (hok : TableOk m) (c : Dev nD) (t : Fin grid0.N) :
    stAfter m hok c (t.val + 1) = stepSt m hok c t (stAfter m hok c t.val) := by
  obtain ⟨n, h⟩ := t; show (if h : n < grid0.N then _ else _) = _; rw [dif_pos h]
theorem codesAfter_succ (hok : TableOk m) (c : Dev nD) (t : Fin grid0.N) :
    codesAfter m hok c (t.val + 1) = outSt (grid0.coords t) (stAfter m hok c (t.val + 1)) (codesAfter m hok c t.val) := by
  obtain ⟨n, h⟩ := t
  show (if h : n < grid0.N then outSt (grid0.coords ⟨n, h⟩) (stAfter m hok c (n + 1)) (codesAfter m hok c n) else _) = _
  rw [dif_pos h]

/-- What the body keeps between points. -/
def Phi (hok : TableOk m) (c : Dev nD) (n : ℕ) : sProp 𝕄 :=
  iprop((∃ wd, at_ c scM12 wd)
    ∗ (∃ a, ⌜n ≠ 0 → a = (stAfter m hok c n).cg⌝ ∗ at_ c scM13 a)
    ∗ (∃ a, ⌜n ≠ 0 → a = (stAfter m hok c n).cu⌝ ∗ at_ c scM14 a)
    ∗ at_ c hbM9 (codesAfter m hok c n)
    ∗ semVal ((c : Thread nD τ), SemLoc.dma 11) 0 ∗ semVal ((c : Thread nD τ), SemLoc.dma 12) 0
    ∗ atq c fullShare.right (Memref.whole main_v2) (tb m c))

/-- The proof data of the pipeline on core `c`. -/
def dat (hok : TableOk m) (c : Dev nD) : Dat τ (Elt F) Unit ℕ (Pipeline.UD sig nD τ) ℕ (cfgA m) c where
  A w := Vr m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stAfter m hok c (t.val + 1)).sc
    | ⟨7, _⟩ => (stAfter m hok c (t.val + 1)).dx
    | ⟨_ + 8, h⟩ => absurd h (Nat.not_lt.2 (Nat.le_add_left _ _))
  Φ t := Phi m hok c t.val
  q w := Pipeline.shareOf spec0 w
  owed _ := 0

def dats (hok : TableOk m) : (p : Fin 1) → (c : Dev nD) → Dat τ (Elt F) Unit ℕ (Pipeline.UD sig nD τ) ℕ (Pipeline.pin (pcfgs (F := F)) (adm m) p) c :=
  fun | ⟨0, _⟩, c => dat m hok c

/-! ## The body's state at a point does not depend on what the buffers held before the first one -/

theorem cond1_zero : k0_cond1 (grid0.coords ⟨0, by decide⟩) = 1#1 := by decide +kernel
theorem clear_zero : clearCond (grid0.coords ⟨0, by decide⟩) = 1#1 := by decide +kernel

theorem bodySt_first (i : grid0.Coords) (h1 : k0_cond1 i = 1#1) (h2 : clearCond i = 1#1) (tb : Vec F S5 .i32) (hw : k0_chk1 (tabLo i tb) (tabHi i tb))
    (ws : Vec F S20480 .f32) (xs : Vec F S1536x5120 .bf16) (wg wu : Vec F S1x5120x128 .fp8e4m3) (dhc : Vec F S1536x128 .fp8e5m2) (dhs : Vec F S1536x128 .f32)
    (s s' : St F) : bodySt i tb hw ws xs wg wu dhc dhs s = bodySt i tb hw ws xs wg wu dhc dhs s' := by
  unfold bodySt clearSt zeroSt
  simp only [if_pos h1, if_pos h2]

theorem coords_congr {n : ℕ} (h : n < grid0.N) (h0 : n = 0) : grid0.coords ⟨n, h⟩ = grid0.coords ⟨0, by decide⟩ := by subst h0; rfl

/-- Whatever the buffers held before the first point, the state after a point is the recursion's. -/
theorem step_any (hok : TableOk m) (c : Dev nD) (t : Fin grid0.N) (s : St F) (h : t.val ≠ 0 → s = stAfter m hok c t.val) :
    stepSt m hok c t s = stAfter m hok c (t.val + 1) := by
  rw [stAfter_succ]
  by_cases h0 : t.val = 0
  · have e := coords_congr t.isLt h0
    exact bodySt_first _ (by rw [e]; exact cond1_zero) (by rw [e]; exact clear_zero) ..
  · rw [h h0]

/-- A point that neither zeroes nor has rows leaves the scales and the partial sums as they were. -/
theorem bodySt_idle (i : grid0.Coords) (tb : Vec F S5 .i32) (hw : k0_chk1 (tabLo i tb) (tabHi i tb)) (h1 : k0_cond1 i ≠ 1#1) (h3 : k0_cond3 (tabLo i tb) (tabHi i tb) ≠ 1#1)
    (ws : Vec F S20480 .f32) (xs : Vec F S1536x5120 .bf16) (wg wu : Vec F S1x5120x128 .fp8e4m3) (dhc : Vec F S1536x128 .fp8e5m2) (dhs : Vec F S1536x128 .f32)
    (s : St F) : (bodySt i tb hw ws xs wg wu dhc dhs s).sc = s.sc ∧ (bodySt i tb hw ws xs wg wu dhc dhs s).dx = s.dx := by
  unfold bodySt liveSt clearSt zeroSt
  rw [dif_neg h3, if_neg h1]
  split <;> exact ⟨rfl, rfl⟩

theorem atD_lo (i : grid0.Coords) : (adm0 m).1.atD 0 (k0_off1 i) = tabLo i (tb m 0) := by
  have h : ∀ a : Fin (pre0.ref 0).ty.shape.rank, k0_off1 i a + 1 ≤ (pre0.ref 0).ty.shape.size a := fun a => by
    match a with | ⟨0, _⟩ => exact k0_off1_inb i 0
  have e : (fun a => ⟨k0_off1 i a, h a⟩ : (pre0.ref 0).ty.shape.Idx) = (Rect.unit (s := S5) (k0_off1 i) S1.size (k0_off1_inb i)).emb (ix1 (n := 1) 0) :=
    funext fun a => Fin.ext (by match a with | ⟨0, _⟩ => exact (Nat.add_zero _).symm)
  unfold Pipeline.Prefetch.Contents.atD
  refine (dif_pos h).trans ?_
  exact congrArg ((adm0 m).1 0) e
theorem atD_hi (i : grid0.Coords) : (adm0 m).1.atD 0 (k0_off2 i) = tabHi i (tb m 0) := by
  have h : ∀ a : Fin (pre0.ref 0).ty.shape.rank, k0_off2 i a + 1 ≤ (pre0.ref 0).ty.shape.size a := fun a => by
    match a with | ⟨0, _⟩ => exact k0_off2_inb i 0
  have e : (fun a => ⟨k0_off2 i a, h a⟩ : (pre0.ref 0).ty.shape.Idx) = (Rect.unit (s := S5) (k0_off2 i) S1.size (k0_off2_inb i)).emb (ix1 (n := 1) 0) :=
    funext fun a => Fin.ext (by match a with | ⟨0, _⟩ => exact (Nat.add_zero _).symm)
  unfold Pipeline.Prefetch.Contents.atD
  refine (dif_pos h).trans ?_
  exact congrArg ((adm0 m).1 0) e

theorem idle6 (i : grid0.Coords) (h : (cfgA m).idle 6 i = true) : k0_cond1 i ≠ 1#1 ∧ k0_cond3 (tabLo i (tb m 0)) (tabHi i (tb m 0)) ≠ 1#1 := by
  rw [← atD_lo, ← atD_hi]
  have h' : (!(k0_cond1 i == 1#1) && !(k0_cond3 ((adm0 m).1.atD 0 (k0_off1 i)) ((adm0 m).1.atD 0 (k0_off2 i)) == 1#1)) = true := h
  simpa using h'
theorem idle7 (i : grid0.Coords) (h : (cfgA m).idle 7 i = true) : k0_cond1 i ≠ 1#1 ∧ k0_cond3 (tabLo i (tb m 0)) (tabHi i (tb m 0)) ≠ 1#1 := by
  rw [← atD_lo, ← atD_hi]
  have h' : (!(k0_cond1 i == 1#1) && !(k0_cond3 ((adm0 m).1.atD 0 (k0_off1 i)) ((adm0 m).1.atD 0 (k0_off2 i)) == 1#1)) = true := h
  simpa using h'

theorem idle_pos {t : Fin grid0.N} (h : k0_cond1 (grid0.coords t) ≠ 1#1) : t.val ≠ 0 := fun h0 =>
  h ((congrArg k0_cond1 (coords_congr t.isLt h0)).trans cond1_zero)

variable (hok : TableOk m)

theorem carry6 (c : Dev nD) (t : Fin grid0.N) (hi : (cfgA m).idle 6 (grid0.coords t) = true) :
    (dat m hok c).after 6 t = (stAfter m hok c t.val).sc := by
  obtain ⟨h1, h3⟩ := idle6 m _ hi
  obtain rfl : c = 0 := Subsingleton.elim _ _
  show (stAfter m hok 0 (t.val + 1)).sc = _
  rw [stAfter_succ]; exact (bodySt_idle _ _ _ h1 h3 _ _ _ _ _ _ _).1
theorem carry7 (c : Dev nD) (t : Fin grid0.N) (hi : (cfgA m).idle 7 (grid0.coords t) = true) :
    (dat m hok c).after 7 t = (stAfter m hok c t.val).dx := by
  obtain ⟨h1, h3⟩ := idle7 m _ hi
  obtain rfl : c = 0 := Subsingleton.elim _ _
  show (stAfter m hok 0 (t.val + 1)).dx = _
  rw [stAfter_succ]; exact (bodySt_idle _ _ _ h1 h3 _ _ _ _ _ _ _).2

theorem prev_eq {n : ℕ} (h : n ≠ 0) : n - 1 + 1 = n := Nat.succ_pred_eq_of_ne_zero h

/-- The two resident outputs are written back after the last point only. -/
theorem flush6 (t : Fin grid0.N) : ((cfgA m).win 6).flush t = decide (t.val + 1 = grid0.N) := by
  rw [Pipeline.Window.flush_eq_flushF]; unfold Pipeline.Window.flushF
  have : ¬ ∃ h : t.val + 1 < grid0.N, ∃ a, ((cfgA m).win 6).index ⟨t.val + 1, h⟩ a ≠ ((cfgA m).win 6).index t a := fun ⟨_, _, h⟩ => h rfl
  show (true && (decide (t.val + 1 = grid0.N) || decide _)) = _
  rw [decide_eq_false this, Bool.or_false, Bool.true_and]
theorem flush7 (t : Fin grid0.N) : ((cfgA m).win 7).flush t = decide (t.val + 1 = grid0.N) := by
  rw [Pipeline.Window.flush_eq_flushF]; unfold Pipeline.Window.flushF
  have : ¬ ∃ h : t.val + 1 < grid0.N, ∃ a, ((cfgA m).win 7).index ⟨t.val + 1, h⟩ a ≠ ((cfgA m).win 7).index t a := fun ⟨_, _, h⟩ => h rfl
  show (true && (decide (t.val + 1 = grid0.N) || decide _)) = _
  rw [decide_eq_false this, Bool.or_false, Bool.true_and]

theorem fresh6 (n : ℕ) (h : n < grid0.N) : (cfgA m).fresh 6 n = decide (n = 0) := by
  induction n with
  | zero => rfl
  | succ n ih =>
    have hn : n < grid0.N := by omega
    rw [Pipeline.Cfg.fresh_succ _ _ n hn, ih hn, flush6 m ⟨n, hn⟩]
    have e : decide (n + 1 = grid0.N) = false := decide_eq_false (by omega)
    rw [e, Bool.false_or, decide_eq_false (Nat.succ_ne_zero n)]
    cases hi : (cfgA m).idle 6 ((cfgA m).grid.coords ⟨n, hn⟩)
    · rfl
    · rw [decide_eq_false (idle_pos (t := ⟨n, hn⟩) (idle6 m _ hi).1)]; rfl
theorem fresh7 (n : ℕ) (h : n < grid0.N) : (cfgA m).fresh 7 n = decide (n = 0) := by
  induction n with
  | zero => rfl
  | succ n ih =>
    have hn : n < grid0.N := by omega
    rw [Pipeline.Cfg.fresh_succ _ _ n hn, ih hn, flush7 m ⟨n, hn⟩]
    have e : decide (n + 1 = grid0.N) = false := decide_eq_false (by omega)
    rw [e, Bool.false_or, decide_eq_false (Nat.succ_ne_zero n)]
    cases hi : (cfgA m).idle 7 ((cfgA m).grid.coords ⟨n, hn⟩)
    · rfl
    · rw [decide_eq_false (idle_pos (t := ⟨n, hn⟩) (idle7 m _ hi).1)]; rfl

theorem before6 (c : Dev nD) (t : Fin grid0.N) (d : ((cfgA m).win 6).block.Idx → Elt F ((cfgA m).win 6).elt) :
    t.val ≠ 0 → (dat m hok c).before 6 t d = (stAfter m hok c t.val).sc := fun h0 => by
  rw [(dat m hok c).before_out_traj 6 rfl (fun _ _ => rfl) (fun t ht hi _ => (carry6 m hok c t hi).trans
      (congrArg (fun n => (stAfter m hok c n).sc) (prev_eq ht).symm)) t.val t rfl d, fresh6 m t.val t.isLt, decide_eq_false h0, if_neg Bool.false_ne_true]
  exact congrArg (fun n => (stAfter m hok c n).sc) (prev_eq h0)
theorem before7 (c : Dev nD) (t : Fin grid0.N) (d : ((cfgA m).win 7).block.Idx → Elt F ((cfgA m).win 7).elt) :
    t.val ≠ 0 → (dat m hok c).before 7 t d = (stAfter m hok c t.val).dx := fun h0 => by
  rw [(dat m hok c).before_out_traj 7 rfl (fun _ _ => rfl) (fun t ht hi _ => (carry7 m hok c t hi).trans
      (congrArg (fun n => (stAfter m hok c n).dx) (prev_eq ht).symm)) t.val t rfl d, fresh7 m t.val t.isLt, decide_eq_false h0, if_neg Bool.false_ne_true]
  exact congrArg (fun n => (stAfter m hok c n).dx) (prev_eq h0)

/-- An input window holds its block. -/
theorem before0 (c : Dev nD) (t : Fin grid0.N) (d) : (dat m hok c).before 0 t d = iblk m c 0 t :=
  ((dat m hok c).before_in_eq_fetched 0 rfl (fun _ => rfl) (fun _ _ _ => rfl) (fun _ => rfl) t d).trans rfl
theorem before1 (c : Dev nD) (t : Fin grid0.N) (d) : (dat m hok c).before 1 t d = iblk m c 1 t :=
  ((dat m hok c).before_in_eq_fetched 1 rfl (fun _ => rfl) (fun _ _ _ => rfl) (fun _ => rfl) t d).trans rfl
theorem before2 (c : Dev nD) (t : Fin grid0.N) (d) : (dat m hok c).before 2 t d = iblk m c 2 t :=
  ((dat m hok c).before_in_eq_fetched 2 rfl (fun _ => rfl) (fun _ _ _ => rfl) (fun _ => rfl) t d).trans rfl
theorem before3 (c : Dev nD) (t : Fin grid0.N) (d) : (dat m hok c).before 3 t d = iblk m c 3 t :=
  ((dat m hok c).before_in_eq_fetched 3 rfl (fun _ => rfl) (fun _ _ _ => rfl) (fun _ => rfl) t d).trans rfl
theorem before4 (c : Dev nD) (t : Fin grid0.N) (d) : (dat m hok c).before 4 t d = iblk m c 4 t :=
  ((dat m hok c).before_in_eq_fetched 4 rfl (fun _ => rfl) (fun _ _ _ => rfl) (fun _ => rfl) t d).trans rfl
theorem before5 (c : Dev nD) (t : Fin grid0.N) (d) : (dat m hok c).before 5 t d = iblk m c 5 t :=
  ((dat m hok c).before_in_eq_fetched 5 rfl (fun _ => rfl) (fun _ _ _ => rfl) (fun _ => rfl) t d).trans rfl

/-! ## The body at one grid point -/

/-- The staging buffer of window `w` at point `t`. -/
abbrev ms (w : Fin 8) (t : Fin grid0.N) := (spec0 w).stage ((cfgA m).slots t w)

/-- The body as the pipeline calls it at point `t`. -/
abbrev bodyAt (t : Fin grid0.N) : Prog (TpuEff nD τ sig (Elt F) Λ₀ .tc) PUnit :=
  let s := (cfgA m).slots t
  cc0_main (grid0.coords t) (Memref.whole main_v2) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (Memref.whole main_v5_0) (Memref.isWhole_whole _) (spec0_6.stage (s 6)) (hstage0_6 ((s 6).cast nbuf0_6)) (spec0_7.stage (s 7)) (hstage0_7 ((s 7).cast nbuf0_7)) (Memref.whole cc0_scratch0) (Memref.isWhole_whole _) (Memref.whole cc0_scratch1) (Memref.isWhole_whole _) (Memref.whole cc0_scratch2) (Memref.isWhole_whole _) cc0_scratch3

theorem defs₀_row (t : Fin grid0.N) : defs₀ (F := F) .tc (cfgA m).body ((cfgA m).bodyArgs t ((cfgA m).slots t)) = bodyAt m t := by
  unfold defs₀; rw [Defs.onTc_tc]

/-- What an output window's buffer holds after the body is what the pipeline asks of it. -/
theorem leaves6 (c : Dev nD) (t : Fin grid0.N) :
    (owns (c : Thread nD τ) (((cfgA m).win 6).stage ((cfgA m).slots t 6)) fullShare ((dat m hok c).after 6 t) : sProp 𝕄) ⊢ (dat m hok c).leavesExact 6 t := by
  cases hi : (cfgA m).idle 6 ((cfgA m).grid.coords t)
  · unfold Dat.leavesExact; rw [hi]
  · cases hf : ((cfgA m).win 6).flush t
    · rw [(dat m hok c).leavesExact_idle 6 t hi hf, carry6 m hok c t hi,
        ← before6 m hok c t (dat m hok c |>.after 6 t) (idle_pos (idle6 m _ hi).1)]
      iintro H; iexists _; iexact H
    · unfold Dat.leavesExact; rw [hi, hf]
theorem leaves7 (c : Dev nD) (t : Fin grid0.N) :
    (owns (c : Thread nD τ) (((cfgA m).win 7).stage ((cfgA m).slots t 7)) fullShare ((dat m hok c).after 7 t) : sProp 𝕄) ⊢ (dat m hok c).leavesExact 7 t := by
  cases hi : (cfgA m).idle 7 ((cfgA m).grid.coords t)
  · unfold Dat.leavesExact; rw [hi]
  · cases hf : ((cfgA m).win 7).flush t
    · rw [(dat m hok c).leavesExact_idle 7 t hi hf, carry7 m hok c t hi,
        ← before7 m hok c t (dat m hok c |>.after 7 t) (idle_pos (idle7 m _ hi).1)]
      iintro H; iexists _; iexact H
    · unfold Dat.leavesExact; rw [hi, hf]

def bodyPre (c : Dev nD) (t : Fin grid0.N) : sProp 𝕄 :=
  iprop((dat m hok c).Φ t.castSucc ∗ (dat m hok c).owesAt () t.castSucc
    ∗ (∃ d, owns (c : Thread nD τ) (ms m 0 t) fullShare ((dat m hok c).before 0 t d)) ∗ (∃ d, owns (c : Thread nD τ) (ms m 1 t) fullShare ((dat m hok c).before 1 t d))
    ∗ (∃ d, owns (c : Thread nD τ) (ms m 2 t) fullShare ((dat m hok c).before 2 t d)) ∗ (∃ d, owns (c : Thread nD τ) (ms m 3 t) fullShare ((dat m hok c).before 3 t d))
    ∗ (∃ d, owns (c : Thread nD τ) (ms m 4 t) fullShare ((dat m hok c).before 4 t d)) ∗ (∃ d, owns (c : Thread nD τ) (ms m 5 t) fullShare ((dat m hok c).before 5 t d))
    ∗ (∃ d, owns (c : Thread nD τ) (ms m 6 t) fullShare ((dat m hok c).before 6 t d)) ∗ (∃ d, owns (c : Thread nD τ) (ms m 7 t) fullShare ((dat m hok c).before 7 t d)))
def bodyPost (c : Dev nD) (t : Fin grid0.N) : sProp 𝕄 :=
  iprop((dat m hok c).Φ t.succ ∗ (dat m hok c).owesAt () t.succ
    ∗ owns (c : Thread nD τ) (ms m 0 t) fullShare (iblk m c 0 t) ∗ owns (c : Thread nD τ) (ms m 1 t) fullShare (iblk m c 1 t)
    ∗ owns (c : Thread nD τ) (ms m 2 t) fullShare (iblk m c 2 t) ∗ owns (c : Thread nD τ) (ms m 3 t) fullShare (iblk m c 3 t)
    ∗ owns (c : Thread nD τ) (ms m 4 t) fullShare (iblk m c 4 t) ∗ owns (c : Thread nD τ) (ms m 5 t) fullShare (iblk m c 5 t)
    ∗ (dat m hok c).leavesExact 6 t ∗ (dat m hok c).leavesExact 7 t)

theorem sound_body (c : Dev nD) (t : Fin grid0.N) :
    bodyPre m hok c t ⊢ wp frame (wpE (defs₀ (F := F)) Variants.none c none) Set.univ (bodyAt m t) (fun _ => bodyPost m hok c t) := by
  unfold bodyPre bodyPost
  rw [show (dat m hok c).Φ t.succ = Phi m hok c (t.val + 1) from rfl, show (dat m hok c).Φ t.castSucc = Phi m hok c t.val from rfl]
  unfold Phi
  unfold Dat.owesAt Pipeline.owesWithin
  rw [show (dat m hok c).owed t.castSucc = 0 from rfl, show (dat m hok c).owed t.succ = 0 from rfl]
  simp only [before0, before1, before2, before3, before4, before5]
  iintro ⟨⟨⟨%wd, Hwd⟩, ⟨%ag, %hg, Hg⟩, ⟨%au, %hu, Hu⟩, Hc, Hs1, Hs2, Ht⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  have hs : t.val ≠ 0 → (⟨(dat m hok c).before 6 t d6, ag, au, (dat m hok c).before 7 t d7⟩ : St F) = stAfter m hok c t.val := fun h => by
    rw [hg h, hu h, before6 m hok c t d6 h, before7 m hok c t d7 h]
  have hst := step_any m hok c t _ hs
  iapply (body_run c (grid0.coords t) (Memref.whole main_v2) (Memref.isWhole_whole _) (ms m 0 t) _ (ms m 1 t) _ (ms m 2 t) _ (ms m 3 t) _ (ms m 4 t) _ (ms m 5 t) _
    (ms m 6 t) _ (ms m 7 t) _ fullShare.right (tb m c) (hok c _) (iblk m c 0 t) (iblk m c 1 t) (iblk m c 2 t) (iblk m c 3 t) (iblk m c 4 t) (iblk m c 5 t) wd
    ⟨(dat m hok c).before 6 t d6, ag, au, (dat m hok c).before 7 t d7⟩ (codesAfter m hok c t.val) W _)
  isplitl [Ht]; · iexact Ht
  isplitl [H0]; · iapply (rep_of_owns (c : Thread nD τ) (ms m 0 t) fullShare _); iexact H0
  isplitl [H1]; · iapply (rep_of_owns (c : Thread nD τ) (ms m 1 t) fullShare _); iexact H1
  isplitl [H2]; · iapply (rep_of_owns (c : Thread nD τ) (ms m 2 t) fullShare _); iexact H2
  isplitl [H3]; · iapply (rep_of_owns (c : Thread nD τ) (ms m 3 t) fullShare _); iexact H3
  isplitl [H4]; · iapply (rep_of_owns (c : Thread nD τ) (ms m 4 t) fullShare _); iexact H4
  isplitl [H5]; · iapply (rep_of_owns (c : Thread nD τ) (ms m 5 t) fullShare _); iexact H5
  isplitl [Hwd]; · iexact Hwd
  isplitl [H6 Hg Hu H7]
  · isplitl [H6]; · iapply (rep_of_owns (c : Thread nD τ) (ms m 6 t) fullShare _); iexact H6
    isplitl [Hg]; · iexact Hg
    isplitl [Hu]; · iexact Hu
    iapply (rep_of_owns (c : Thread nD τ) (ms m 7 t) fullShare _); iexact H7
  isplitl [Hc]; · iexact Hc
  isplitl [Hs1]; · iexact Hs1
  isplitl [Hs2]; · iexact Hs2
  isplitl [HW]; · iexact HW
  rw [show bodySt (grid0.coords t) (tb m c) (hok c _) (iblk m c 0 t) (iblk m c 1 t) (iblk m c 2 t) (iblk m c 3 t) (iblk m c 4 t) (iblk m c 5 t)
      ⟨(dat m hok c).before 6 t d6, ag, au, (dat m hok c).before 7 t d7⟩ = stAfter m hok c (t.val + 1) from hst, ← codesAfter_succ]
  iintro ⟨Ht, H0, H1, H2, H3, H4, H5, Hwd, ⟨H6, Hg, Hu, H7⟩, Hc, Hs1, Hs2, ⟨%W', HW⟩⟩
  isplitl [Ht Hwd Hg Hu Hc Hs1 Hs2]
  · isplitl [Hwd]; · iexact Hwd
    isplitl [Hg]
    · iexists _; isplitr; swap; · iexact Hg
      ipureintro; exact fun _ => rfl
    isplitl [Hu]
    · iexists _; isplitr; swap; · iexact Hu
      ipureintro; exact fun _ => rfl
    isplitl [Hc]; · iexact Hc
    isplitl [Hs1]; · iexact Hs1
    isplitl [Hs2]; · iexact Hs2
    iexact Ht
  isplitl [HW]
  · iexists W'; isplitr; · ipureintro; exact fun _ _ => Or.inl trivial
    iexact HW
  isplitl [H0]; · iapply (owns_of_rep (c : Thread nD τ) (ms m 0 t) fullShare _); iexact H0
  isplitl [H1]; · iapply (owns_of_rep (c : Thread nD τ) (ms m 1 t) fullShare _); iexact H1
  isplitl [H2]; · iapply (owns_of_rep (c : Thread nD τ) (ms m 2 t) fullShare _); iexact H2
  isplitl [H3]; · iapply (owns_of_rep (c : Thread nD τ) (ms m 3 t) fullShare _); iexact H3
  isplitl [H4]; · iapply (owns_of_rep (c : Thread nD τ) (ms m 4 t) fullShare _); iexact H4
  isplitl [H5]; · iapply (owns_of_rep (c : Thread nD τ) (ms m 5 t) fullShare _); iexact H5
  isplitl [H6]
  · iapply (leaves6 m hok c t)
    iapply (owns_of_rep (c : Thread nD τ) (ms m 6 t) fullShare _); iexact H6
  iapply (leaves7 m hok c t)
  iapply (owns_of_rep (c : Thread nD τ) (ms m 7 t) fullShare _); iexact H7

theorem body_obligation (c : Dev nD) : BodyObligation (dat m hok c) (defs₀ (F := F)) Variants.none () Set.univ := fun t => by
  rw [bigSep_W0, bigSep_W0, defs₀_row]
  exact triple_restated (sound_body m hok c t) rfl .rfl fun _ => .rfl

/-! ## The run -/

/-- A buffer held whole is the whole memref at its contents. -/
theorem at_whole (c : Dev nD) (q : PosShare TreeShare) (b : Ref sig .tc) (f : b.ty.Contents (Elt F)) :
    (atq c q (Memref.whole b) f : sProp 𝕄) = (((c : Thread nD τ).loc b) ↦{q} (show Buf (Elt F) ((c : Thread nD τ).loc b) from f)) := by
  show ((Memref.whole b).view.loc (c : Thread nD τ) ↦[(Memref.whole b).view.set]{q} (Memref.whole b).view.rep (Val := Elt F) f : sProp 𝕄) = _
  have h : ((Memref.whole b).view.loc (c : Thread nD τ) ↦[(Memref.whole b).view.set]{q} (show Buf (Elt F) ((c : Thread nD τ).loc b) from f) : sProp 𝕄)
      = ((Memref.whole b).view.loc (c : Thread nD τ) ↦[(Memref.whole b).view.set]{q} (Memref.whole b).view.rep (Val := Elt F) f) :=
    pointsTo_rep (c : Thread nD τ) (Memref.whole b) _ q
  rw [← h, show (Memref.whole b).view.set = Finset.univ from View.set_whole b]

theorem hin (c : Dev nD) :
    (iprop(Pipeline.ΦDRV osem0 spec0 H0 R0 (fun c b => V₀ m c (Proc.devRef .tc b)) (fun c b => V₀ m c (Proc.devRef .tc b)) c ∗ Pipeline.ΦT pre0 (adm0 m).1 c) : sProp 𝕄)
      ⊢ (dat m hok c).Φ 0 := by
  rw [show (dat m hok c).Φ 0 = Phi m hok c 0 from rfl]
  obtain rfl : c = 0 := Subsingleton.elim _ _
  unfold Pipeline.ΦDRV Phi Pipeline.ΦT
  unfold Pipeline.prefHeld
  rw [scopedRest0_eq, ownSems0_eq, BI.bigSep_empty,
    BI.bigSep_eq_bigSepL_of_eq [main_v5_0] (by decide) (by decide), BI.bigSep_eq_bigSepL_of_eq [(0 : Fin 1)] (by decide) (by decide),
    show (BI.bigSepL [main_v5_0] fun b => (((0 : Dev nD) : Thread nD τ).loc b) ↦{fullShare} V₀ m 0 (Proc.devRef .tc b) : sProp 𝕄)
      = ((((0 : Dev nD) : Thread nD τ).loc main_v5_0) ↦{fullShare} Vr m 0 main_v5_0) from rfl,
    show (BI.bigSepL [(0 : Fin 1)] fun k => (((0 : Dev nD) : Thread nD τ).loc (pre0.ref k)) ↦{fullShare.right} (adm0 m).1 k : sProp 𝕄)
      = ((((0 : Dev nD) : Thread nD τ).loc main_v2) ↦{fullShare.right} Vr m 0 main_v2) from rfl]
  iintro ⟨⟨⟨⟨%f0, Hf0⟩, ⟨%f1, Hf1⟩, ⟨%f2, Hf2⟩⟩, ⟨Hs1, Hs2⟩, -, HR⟩, HT⟩
  isplitl [Hf0]; · iexists f0; iapply (Entails.of_eq (at_whole 0 fullShare cc0_scratch0 f0).symm); iexact Hf0
  isplitl [Hf1]
  · iexists f1; isplitr; · ipureintro; exact fun h => absurd rfl h
    iapply (Entails.of_eq (at_whole 0 fullShare cc0_scratch1 f1).symm); iexact Hf1
  isplitl [Hf2]
  · iexists f2; isplitr; · ipureintro; exact fun h => absurd rfl h
    iapply (Entails.of_eq (at_whole 0 fullShare cc0_scratch2 f2).symm); iexact Hf2
  isplitl [HR]
  · iapply (Entails.of_eq (at_whole 0 fullShare main_v5_0 (Vr m 0 main_v5_0)).symm); iexact HR
  isplitl [Hs1]; · iexact Hs1
  isplitl [Hs2]; · iexact Hs2
  iapply (Entails.of_eq (at_whole 0 fullShare.right main_v2 (tb m 0)).symm); iexact HT

/-- What the buffer of the codes holds after the region. -/
def Gout (c : Dev nD) (b : Ref sig .tc) : Buf (Elt F) ((c : Thread nD τ).loc b) :=
  if h : b = main_v5_0 then h ▸ (codesAfter m hok c 256 : Buf (Elt F) ((c : Thread nD τ).loc main_v5_0)) else Vr m c b

theorem Gout_codes (c : Dev nD) : Gout m hok c main_v5_0 = codesAfter m hok c 256 := by
  unfold Gout; rw [dif_pos rfl]

theorem hout (c : Dev nD) :
    (dat m hok c).Φ (Fin.last (cfgA m).N) ⊢ (Pipeline.ΦDRV osem0 spec0 H0 R0 (fun c b => V₀ m c (Proc.devRef .tc b)) (Gout m hok) c : sProp 𝕄) := by
  rw [show (dat m hok c).Φ (Fin.last (cfgA m).N) = Phi m hok c 256 from congrArg (Phi m hok c) N_0]
  unfold Pipeline.ΦDRV Phi
  rw [scopedRest0_eq, ownSems0_eq, BI.bigSep_empty,
    BI.bigSep_eq_bigSepL_of_eq [main_v5_0] (by decide) (by decide)]
  iintro ⟨⟨%wd, Hwd⟩, ⟨%ag, -, Hg⟩, ⟨%au, -, Hu⟩, Hc, Hs1, Hs2, -⟩
  isplitl [Hwd Hg Hu]
  · isplitl [Hwd]; · iexists wd; iapply (Entails.of_eq (at_whole c fullShare cc0_scratch0 wd)); iexact Hwd
    isplitl [Hg]; · iexists ag; iapply (Entails.of_eq (at_whole c fullShare cc0_scratch1 ag)); iexact Hg
    iexists au; iapply (Entails.of_eq (at_whole c fullShare cc0_scratch2 au)); iexact Hu
  isplitl [Hs1 Hs2]
  · isplitl [Hs1]; · iexact Hs1
    iexact Hs2
  isplitr; · iempintro
  rw [show (BI.bigSepL [main_v5_0] fun b => (((c : Thread nD τ).loc b) ↦{fullShare} Gout m hok c b) : sProp 𝕄)
    = (((c : Thread nD τ).loc main_v5_0) ↦{fullShare} Gout m hok c main_v5_0) from rfl, Gout_codes]
  iapply (Entails.of_eq (at_whole c fullShare main_v5_0 (codesAfter m hok c 256))); iexact Hc

theorem hmain : Pipeline.HMainPK (Ix := Unit) (Name := ℕ) (U := Pipeline.UD sig nD τ) (Lvl := ℕ) (pcfgs (F := F)) 0 defs₀ Variants.none m main
    (fun c b => V₀ m c (Proc.devRef .tc b)) (fun _ => Pipeline.chain (([] : List (List (HloOp τ sig (Elt F)))).map StableHlo.seq)) :=
  Pipeline.hmainP_around pcfgs 0 defs₀ Variants.none m main opss0 []
    ⟨hostOps0_sub, hostOps0_1_sub, hostOps0_2_sub, hostOps0_3_sub, hostOps0_4_sub⟩
    ⟨⟨rfl, rfl⟩, ⟨rfl, rfl, rfl⟩, ⟨rfl, rfl⟩, ⟨rfl, rfl⟩, rfl⟩
    (fun c => (main_chain c).trans rfl)

variable (ρ : Dev nD → PrngReg)

/-- What every final memory holds: each window's array, and every other buffer the core keeps. -/
def Post (r : PUnit × MemSt nD τ sig (Elt F)) : Prop :=
  (∀ c : Dev nD, (∀ w : Fin 8, r.2.mem ((spec0 w).arr.view.loc (c : Thread nD τ)) = (dat m hok c).arrAt w grid0.N)
    ∧ ∀ b ∈ Pipeline.restRefsP sig pre0 spec0, r.2.mem ((c : Thread nD τ).loc b)
        = Pipeline.withArrays spec0 c (Pipeline.withR (V₀ m c) R0 c (Gout m hok c)) (fun w => (dat m hok c).arrAt w grid0.N) (Proc.devRef .tc b))
  ∧ r.2.sem = fun _ => 0

set_option backward.isDefEq.respectTransparency.types false in
theorem run_main : θ_run defs (onTc (τ := τ) (main (F := F))) (s₀ m ρ) (Post m hok) :=
  Pipeline.θ_run_frameP_dmaR_aroundV_shared (pcfgs (F := F)) (adm m) (dats m hok) (0 : Fin 1) launch₀0 osem0 defs₀ Variants.none ownSemFacts0 H0 R0 H0_sub R0_sub m ρ main
    (hbody := fun c => (body_obligation m hok c).loose) (hq := fun _ _ _ => rfl) (howed := fun _ _ => rfl)
    (V₀ := V₀ m) (opss := []) (hsub := fun _ h => absurd h List.not_mem_nil) (hfresh := fun _ h => absurd h List.not_mem_nil) (hkeep := fun _ h => absurd h List.not_mem_nil)
    (G := Gout m hok) (hmain := hmain m) (hA := fun _ _ => rfl)
    (hpf := fun c k => by obtain rfl : c = 0 := Subsingleton.elim _ _; rfl)
    (hin := hin m hok) (hout := hout m hok) (Q' := Post m hok) (hQ' := fun r h => h)

end Cert.Kernel.Hand

end
-- ==== Proof.KWords.lean ====
/-
  The words of the inner loop: for row bounds `a ≤ b ≤ 1536` the tiles visited are `a/128, …, ⌈b/128⌉ - 1`, and every access of
  the body at such a tile lies inside its array.
-/
module

public import proofs.«01_k».proof.Kernel
public import Idealize.ShloMosaic.Lib.LoopRemainder

@[expose] public section

namespace Cert.Kernel.Hand

open Cert.Kernel
open Idealize.ShloMosaic

/-- The quotient by 128 rounded down, as the kernel computes it on words. -/
def floorW (x : BitVec 32) : BitVec 32 :=
  Scalar.select
    (Scalar.andi
      (Scalar.cmpi .ne (Scalar.subi (Scalar.extui (Scalar.cmpi .sgt x 0#32)) (Scalar.extui (Scalar.cmpi .slt x 0#32)) : BitVec 32)
        (Scalar.subi (Scalar.extui (Scalar.cmpi .sgt 128#32 0#32)) (Scalar.extui (Scalar.cmpi .slt 128#32 0#32)) : BitVec 32))
      (Scalar.cmpi .ne (Scalar.remsi x 128#32) 0#32))
    (Scalar.subi (Scalar.divsi x 128#32) 1#32) (Scalar.divsi x 128#32)

theorem floorW_fin : ∀ n : Fin 1664, floorW (BitVec.ofNat 32 n.val) = BitVec.ofNat 32 (n.val / 128) := by decide +kernel

/-- On a word below 1664 it is the quotient of the values. -/
theorem floorW_eq (x : BitVec 32) (h : x.toNat < 1664) : floorW x = BitVec.ofNat 32 (x.toNat / 128) := by
  have := floorW_fin ⟨x.toNat, h⟩
  rwa [show BitVec.ofNat 32 x.toNat = x from BitVec.ofNat_toNat 32 x ▸ by simp] at this

/-- The word of the first tile, -/
def loW (v1 : BitVec 32) : BitVec 32 := floorW v1
/-- and the word after the last. -/
def hiW (v4 : BitVec 32) : BitVec 32 := floorW (Scalar.subi (Scalar.addi v4 128#32) 1#32)

theorem loW_eq (v1 : BitVec 32) (h : v1.toNat ≤ 1536) : loW v1 = BitVec.ofNat 32 (v1.toNat / 128) := floorW_eq _ (by omega)

theorem hiW_eq (v4 : BitVec 32) (h : v4.toNat ≤ 1536) : hiW v4 = BitVec.ofNat 32 ((v4.toNat + 127) / 128) := by
  have e : (Scalar.subi (Scalar.addi v4 128#32) 1#32).toNat = v4.toNat + 127 := by
    show (v4 + 128#32 - 1#32).toNat = _
    rw [BitVec.toNat_sub, BitVec.toNat_add]; simp; omega
  unfold hiW
  rw [floorW_eq _ (by omega), e]

theorem t1_loop_eq (v1 v4 : BitVec 32) :
    k0_t1_loop v1 v4 = ⟨loW v1, Scalar.addi (loW v1) (Scalar.muli (Scalar.divsi (Scalar.subi (hiW v4) (loW v1)) 1#32) 1#32), 1#32⟩ := rfl
theorem t2_loop_eq (v1 v4 : BitVec 32) :
    k0_t2_loop v1 v4 = ⟨Scalar.addi (loW v1) (Scalar.muli (Scalar.divsi (Scalar.subi (hiW v4) (loW v1)) 1#32) 1#32),
      Scalar.addi (loW v1) (Scalar.subi (hiW v4) (loW v1)), 1#32⟩ := rfl

theorem t1_ub (v1 v4 : BitVec 32) : (k0_t1_loop v1 v4).ub = hiW v4 := by
  rw [t1_loop_eq, Scalar.muli_divsi_one]
  show loW v1 + (hiW v4 - loW v1) = _
  rw [BitVec.add_comm, BitVec.sub_add_cancel]

theorem toInt_small (n : ℕ) (h : n < 2 ^ 31) : (BitVec.ofNat 32 n).toInt = (n : ℤ) := by
  rw [BitVec.toInt_eq_msb_cond, BitVec.msb_eq_false_iff_two_mul_lt.mpr (by simp [BitVec.toNat_ofNat]; omega)]
  simp [BitVec.toNat_ofNat]; omega

/-- The number of tiles visited. -/
theorem t1_trips (v1 v4 : BitVec 32) (h1 : v1.toNat ≤ 1536) (h4 : v4.toNat ≤ 1536) :
    (k0_t1_loop v1 v4).trips = (v4.toNat + 127) / 128 - v1.toNat / 128 := by
  show ((((k0_t1_loop v1 v4).ub).toInt - (loW v1).toInt + (1#32 : BitVec 32).toInt - 1) / (1#32 : BitVec 32).toInt).toNat = _
  rw [t1_ub, loW_eq _ h1, hiW_eq _ h4, toInt_small _ (by omega), toInt_small _ (by omega), show (1#32 : BitVec 32).toInt = 1 from by decide]
  omega

theorem t1_ok (v1 v4 : BitVec 32) (h1 : v1.toNat ≤ 1536) (h4 : v4.toNat ≤ 1536) : (k0_t1_loop v1 v4).OK := by
  refine ⟨by show 0 < (1#32 : BitVec 32).toInt; decide, ?_⟩
  rw [show (k0_t1_loop v1 v4).st.toInt = 1 from (by decide : (1#32 : BitVec 32).toInt = 1),
    show Scf.trips (k0_t1_loop v1 v4).lb (k0_t1_loop v1 v4).ub (k0_t1_loop v1 v4).st = _ from t1_trips v1 v4 h1 h4,
    show (k0_t1_loop v1 v4).lb = loW v1 from rfl, loW_eq _ h1, toInt_small _ (by omega)]
  omega

/-- The first row of tile `k` of the visit. -/
theorem t1_row (v1 v4 : BitVec 32) (h1 : v1.toNat ≤ 1536) (h4 : v4.toNat ≤ 1536) (k : ℕ) (hk : k < (k0_t1_loop v1 v4).trips) :
    (Scalar.muli (Scf.iv (loW v1) 1#32 k) 128#32).toNat = (v1.toNat / 128 + k) * 128 := by
  rw [t1_trips v1 v4 h1 h4] at hk
  rw [loW_eq _ h1]
  show ((BitVec.ofNat 32 (v1.toNat / 128) + BitVec.ofNat 32 k * 1#32) * 128#32).toNat = _
  simp [BitVec.toNat_add, BitVec.toNat_mul, BitVec.toNat_ofNat]
  omega

theorem row_bound (v1 v4 : BitVec 32) (h1 : v1.toNat ≤ 1536) (h4 : v4.toNat ≤ 1536) (k : ℕ) (hk : k < (k0_t1_loop v1 v4).trips) :
    (v1.toNat / 128 + k) * 128 + 128 ≤ 1536 := by
  rw [t1_trips v1 v4 h1 h4] at hk
  omega

theorem index_toNat (x : BitVec 32) (h : x.toNat < 2 ^ 31) : (Scalar.indexCast x : Index).toNat = x.toNat := rfl

section offs
variable (v1 v4 : BitVec 32) (h1 : v1.toNat ≤ 1536) (h4 : v4.toNat ≤ 1536) (k : Fin (k0_t1_loop v1 v4).trips)
include h1 h4

theorem row_index : (Scalar.indexCast (Scalar.muli (Scf.iv (loW v1) 1#32 k) 128#32) : Index).toNat = (v1.toNat / 128 + k) * 128 := by
  have := row_bound v1 v4 h1 h4 k k.isLt
  rw [index_toNat _ (by rw [t1_row v1 v4 h1 h4 k k.isLt]; omega), t1_row v1 v4 h1 h4 k k.isLt]

theorem off5_eq : k0_off5 v1 v4 k = ![(v1.toNat / 128 + k) * 128, 0] := congrArg (fun n => (![n, 0] : Fin 2 → ℕ)) (row_index v1 v4 h1 h4 k)
theorem off6_eq : k0_off6 v1 v4 k = ![(v1.toNat / 128 + k) * 128, 0] := congrArg (fun n => (![n, 0] : Fin 2 → ℕ)) (row_index v1 v4 h1 h4 k)
theorem off7_eq : k0_off7 v1 v4 k = ![(v1.toNat / 128 + k) * 128, 0] := congrArg (fun n => (![n, 0] : Fin 2 → ℕ)) (row_index v1 v4 h1 h4 k)
theorem off8_eq : k0_off8 v1 v4 k = ![(v1.toNat / 128 + k) * 128, 1280] := congrArg (fun n => (![n, 1280] : Fin 2 → ℕ)) (row_index v1 v4 h1 h4 k)
theorem off9_eq : k0_off9 v1 v4 k = ![(v1.toNat / 128 + k) * 128, 2560] := congrArg (fun n => (![n, 2560] : Fin 2 → ℕ)) (row_index v1 v4 h1 h4 k)
theorem off10_eq : k0_off10 v1 v4 k = ![(v1.toNat / 128 + k) * 128, 3840] := congrArg (fun n => (![n, 3840] : Fin 2 → ℕ)) (row_index v1 v4 h1 h4 k)

end offs

/-- Every access of the inner loop lies inside its array, and its rows start at whole tiles, for row bounds inside the array. -/
theorem chk_of_bounds (v1 v4 : BitVec 32) (h1 : v1.toNat ≤ 1536) (h4 : v4.toNat ≤ 1536) : k0_chk1 v1 v4 := by
  have b := fun k : Fin (k0_t1_loop v1 v4).trips => row_bound v1 v4 h1 h4 k k.isLt
  have no := fun k : Fin (k0_t2_loop v1 v4).trips => Scf.rem_no_trip (loW v1) (Scalar.subi (hiW v4) (loW v1)) k
  refine ⟨fun _ => t1_ok v1 v4 h1 h4, fun k _ => ?_, fun k _ => ?_, fun k _ => ?_, fun k _ hin => ?_, fun k _ => ?_, fun k _ => ?_, fun k _ => ?_,
    fun k _ => ?_, fun _ => Scf.rem_ok (loW v1) (Scalar.subi (hiW v4) (loW v1)), fun k => (no k).elim, fun k => (no k).elim, fun k => (no k).elim, fun k => (no k).elim,
    fun k => (no k).elim, fun k => (no k).elim, fun k => (no k).elim, fun k => (no k).elim⟩
  · exact ⟨_, (t1_row v1 v4 h1 h4 k k.isLt).trans (Nat.mul_comm _ _)⟩
  · rw [off5_eq v1 v4 h1 h4]; intro a; have := b k; match a with | 0 => exact this | 1 => exact Nat.le_refl 5120
  · rw [off6_eq v1 v4 h1 h4]; intro a; have := b k; match a with | 0 => exact this | 1 => exact Nat.le_refl 128
  · refine .inr ⟨by decide, rfl, .inl ⟨?_, ?_⟩⟩
    · show 4 ∣ k0_off6 v1 v4 k 0
      rw [off6_eq v1 v4 h1 h4]
      exact ⟨(v1.toNat / 128 + k) * 32, by show (v1.toNat / 128 + k) * 128 = _; omega⟩
    · show 4 ∣ 128
      decide
  · rw [off7_eq v1 v4 h1 h4]; intro a; have := b k; match a with | 0 => exact this | 1 => show 0 + 1280 ≤ 5120; decide
  · rw [off8_eq v1 v4 h1 h4]; intro a; have := b k; match a with | 0 => exact this | 1 => show 1280 + 1280 ≤ 5120; decide
  · rw [off9_eq v1 v4 h1 h4]; intro a; have := b k; match a with | 0 => exact this | 1 => show 2560 + 1280 ≤ 5120; decide
  · rw [off10_eq v1 v4 h1 h4]; intro a; have := b k; match a with | 0 => exact this | 1 => show 3840 + 1280 ≤ 5120; decide

end Cert.Kernel.Hand
-- ==== Proof.KTable.lean ====
/-
  The table of first rows: what it holds, that it is in range under the precondition, and what the other host arrays hold as
  the region is entered.
-/
module

public import proofs.«01_k».proof.Proof.KLaunch
public import proofs.«01_k».proof.Proof.KWords
public import proofs.«01_k».proof.Pre_sizes_partition_rows
public import Idealize.ShloMosaic.Lib.StableHlo.RunRead
public import Idealize.ShloMosaic.Lib.StableHlo.ReadAt
public import Idealize.ShloMosaic.Lib.StableHlo.Predicate

@[expose] public section

noncomputable section

namespace Cert.Kernel.Hand

open Cert.Kernel Cert.Kernel.Gen
open Idealize.ShloMosaic Idealize.ShloMosaic.ValueIdx Idealize.ShloMosaic.TcCoe Idealize.ShloMosaic.Tactic
open Idealize.SL Idealize.SL.RA Idealize.SL.BI

/-- The running sums of the sizes, as the host computes them. -/
def cum (gs : IVec S4 32) : IVec S4 32 :=
  Host.reduceWindow (u := S_) IntOp.addi ![4] ![1] ![3] ![0] gs (fun _ => 0#32) Facts₀.reduceWindows_S4_S4_w4s1p3_0 Facts₀.h_S_
/-- The table: zero and the running sums. -/
def tableOf (gs : IVec S4 32) : IVec S5 32 :=
  concatenate S5 0 [⟨S1, fun _ => 0#32⟩, ⟨S4, cum gs⟩] Facts₀.concatenates_S1_S4_S5_d0

/-- Four words as an array. -/
def vec4 (a b c d : BitVec 32) : IVec S4 32 := fun i => (![a, b, c, d] : Fin 4 → BitVec 32) (i 0)

theorem vec4_eta (gs : IVec S4 32) : gs = vec4 (gs (ValueIdx.ix1 (0 : Fin 4))) (gs (ValueIdx.ix1 (1 : Fin 4))) (gs (ValueIdx.ix1 (2 : Fin 4))) (gs (ValueIdx.ix1 (3 : Fin 4))) := by
  funext i
  have hi : i = ValueIdx.ix1 (i 0 : Fin 4) := by funext a; match a with | 0 => rfl
  rw [hi]
  have : ∀ k : Fin 4, gs (ValueIdx.ix1 k) = vec4 (gs (ValueIdx.ix1 (0 : Fin 4))) (gs (ValueIdx.ix1 (1 : Fin 4))) (gs (ValueIdx.ix1 (2 : Fin 4))) (gs (ValueIdx.ix1 (3 : Fin 4))) (ValueIdx.ix1 k) := by
    intro k
    match k with
    | 0 => rfl
    | 1 => rfl
    | 2 => rfl
    | 3 => rfl
  exact this (i 0)

theorem tab0 (a b c d : BitVec 32) : tableOf (vec4 a b c d) (ValueIdx.ix1 (0 : Fin 5)) = 0#32 := by rfl
theorem tab1 (a b c d : BitVec 32) : tableOf (vec4 a b c d) (ValueIdx.ix1 (1 : Fin 5)) = 0#32 + 0#32 + 0#32 + 0#32 + a := by rfl
theorem tab2 (a b c d : BitVec 32) : tableOf (vec4 a b c d) (ValueIdx.ix1 (2 : Fin 5)) = 0#32 + 0#32 + 0#32 + a + b := by rfl
theorem tab3 (a b c d : BitVec 32) : tableOf (vec4 a b c d) (ValueIdx.ix1 (3 : Fin 5)) = 0#32 + 0#32 + a + b + c := by rfl
theorem tab4 (a b c d : BitVec 32) : tableOf (vec4 a b c d) (ValueIdx.ix1 (4 : Fin 5)) = 0#32 + a + b + c + d := by rfl

/-- The row at which expert `e`'s rows start, as a number. -/
def startN (gs : IVec S4 32) (e : ℕ) : ℕ := ((List.range e).map fun k => if h : k < 4 then (gs (ValueIdx.ix1 (⟨k, h⟩ : Fin 4))).toNat else 0).sum

theorem startN_zero (gs : IVec S4 32) : startN gs 0 = 0 := rfl
theorem startN_succ (gs : IVec S4 32) (e : Fin 4) : startN gs (e.val + 1) = startN gs e.val + (gs (ValueIdx.ix1 e)).toNat := by
  unfold startN
  rw [List.range_succ, List.map_append, List.sum_append]
  simp
theorem startN_mono (gs : IVec S4 32) {e e' : ℕ} (h : e ≤ e') : startN gs e ≤ startN gs e' := by
  induction h with
  | refl => exact Nat.le_refl _
  | step _ ih =>
    refine ih.trans ?_
    unfold startN
    rw [List.range_succ, List.map_append, List.sum_append]
    exact Nat.le_add_right _ _

/-- The sizes fill the rows: what the precondition says, in numbers. -/
def Parts (gs : IVec S4 32) : Prop := startN gs 4 = 1536

/-- Under it the table holds the start rows. -/
theorem table_toNat (gs : IVec S4 32) (h : Parts gs) (e : Fin 5) : (tableOf gs (ValueIdx.ix1 e)).toNat = startN gs e.val := by
  have s1 := startN_succ gs 0
  have s2 := startN_succ gs 1
  have s3 := startN_succ gs 2
  have s4 := startN_succ gs 3
  have s0 := startN_zero gs
  unfold Parts at h
  simp only [Fin.val_zero, Fin.val_one, Fin.val_two, show ((3 : Fin 4) : ℕ) = 3 from rfl, Nat.zero_add, Nat.reduceAdd] at s1 s2 s3 s4
  have e0 := vec4_eta gs
  generalize gs (ValueIdx.ix1 (0 : Fin 4)) = a at *
  generalize gs (ValueIdx.ix1 (1 : Fin 4)) = b at *
  generalize gs (ValueIdx.ix1 (2 : Fin 4)) = c at *
  generalize gs (ValueIdx.ix1 (3 : Fin 4)) = d at *
  have T := congrArg tableOf e0
  match e with
  | 0 => rw [T, tab0]; exact s0.symm
  | 1 => rw [T, tab1]; show _ = startN gs 1; simp only [BitVec.toNat_add, BitVec.toNat_ofNat]; omega
  | 2 => rw [T, tab2]; show _ = startN gs 2; simp only [BitVec.toNat_add, BitVec.toNat_ofNat]; omega
  | 3 => rw [T, tab3]; show _ = startN gs 3; simp only [BitVec.toNat_add, BitVec.toNat_ofNat]; omega
  | 4 => rw [T, tab4]; show _ = startN gs 4; simp only [BitVec.toNat_add, BitVec.toNat_ofNat]; omega

section pre
variable [Cert.Pre_sizes_partition_rows.Facts] {F : FTy → Type} [FloatOps F]

theorem pre_sum (a b c d : BitVec 32) (h : S4.ReducesTo [0] S_) (hu : 0 < S_.numel) (i : S_.Idx) :
    Host.reduce IntOp.addi (vec4 a b c d) (constantI S_ 32 0#32) h hu i = 0#32 + a + b + c + d := by rfl

/-- The printed precondition, in numbers. -/
theorem parts_of_pre (x0 : FVec F S1536x5120 .bf16) (x1 : FVec F S4x5120x16384 .fp8e4m3) (x2 : FVec F S4x40x128 .f32)
    (x3 : FVec F S1536x8192 .fp8e5m2) (x4 : FVec F S1536x64 .f32) (gs : IVec S4 32)
    (h : Cert.Pre_sizes_partition_rows.fn x0 x1 x2 x3 x4 gs = fun _ => 1#1) : Parts gs := by
  have key : ∀ e : Fin 4, (0#32).sle (gs (ValueIdx.ix1 e)) = true ∧ (gs (ValueIdx.ix1 e)).sle 1536#32 = true ∧
      0#32 + gs (ValueIdx.ix1 (0 : Fin 4)) + gs (ValueIdx.ix1 (1 : Fin 4)) + gs (ValueIdx.ix1 (2 : Fin 4)) + gs (ValueIdx.ix1 (3 : Fin 4)) = 1536#32 := by
    intro e
    have e1 := congrFun h (ValueIdx.ix1 e)
    have e2 : IntOp.andi (IntOp.andi (BitVec.ofBool ((0#32).sle (gs (ValueIdx.ix1 e)))) (BitVec.ofBool ((gs (ValueIdx.ix1 e)).sle 1536#32)))
        (BitVec.ofBool (Host.reduce IntOp.addi gs (constantI S_ 32 0#32) Cert.Pre_sizes_partition_rows.Facts.reducesTo_S4_S_d0
          Cert.Pre_sizes_partition_rows.Facts.h_S_ (fun a => a.elim0) == 1536#32)) = 1#1 := by
      rw [← e1]
      unfold Cert.Pre_sizes_partition_rows.fn
      refine congrArg₂ IntOp.andi rfl ?_
      refine congrArg (fun t => BitVec.ofBool (Host.reduce IntOp.addi gs (constantI S_ 32 0#32) Cert.Pre_sizes_partition_rows.Facts.reducesTo_S4_S_d0
          Cert.Pre_sizes_partition_rows.Facts.h_S_ t == 1536#32)) ?_
      funext a; exact a.elim0
    have d : ∀ p q r : Bool, IntOp.andi (IntOp.andi (BitVec.ofBool p) (BitVec.ofBool q)) (BitVec.ofBool r) = 1#1 → p = true ∧ q = true ∧ r = true := by decide
    obtain ⟨p, q, r⟩ := d _ _ _ e2
    refine ⟨p, q, ?_⟩
    have r' := eq_of_beq r
    rw [vec4_eta gs, pre_sum] at r'
    exact r'
  have bd : ∀ e : Fin 4, (gs (ValueIdx.ix1 e)).toNat ≤ 1536 := by
    intro e
    obtain ⟨p, q, -⟩ := key e
    simp only [BitVec.sle, decide_eq_true_eq] at p q
    rw [show (0#32 : BitVec 32).toInt = 0 from by decide] at p
    rw [show (1536#32 : BitVec 32).toInt = 1536 from by decide] at q
    have := BitVec.toInt_eq_toNat_cond (gs (ValueIdx.ix1 e))
    have := (gs (ValueIdx.ix1 e)).isLt
    split at * <;> omega
  have sm := congrArg BitVec.toNat (key 0).2.2
  have b0 := bd 0
  have b1 := bd 1
  have b2 := bd 2
  have b3 := bd 3
  simp only [BitVec.toNat_add, BitVec.toNat_ofNat] at sm
  have s1 := startN_succ gs 0
  have s2 := startN_succ gs 1
  have s3 := startN_succ gs 2
  have s4 := startN_succ gs 3
  have s0 := startN_zero gs
  simp only [Fin.val_zero, Fin.val_one, Fin.val_two, show ((3 : Fin 4) : ℕ) = 3 from rfl, Nat.zero_add, Nat.reduceAdd] at s1 s2 s3 s4
  show startN gs 4 = 1536
  omega

end pre

variable {F : FTy → Type} [FloatOps F]
variable (m : (ℓ : Loc nD τ sig) → Buf (Elt F) ℓ) (c : Dev nD)

theorem tb_eq : tb m c = tableOf (m ((c : Thread nD τ).loc main_arg5)) := by
  show V₀ m c (Proc.devRef .tc main_v2) = _
  unfold V₀
  after_reads_simp
  rfl
theorem arg0_eq : Vr m c main_arg0 = m ((c : Thread nD τ).loc main_arg0) := by
  show V₀ m c (Proc.devRef .tc main_arg0) = _
  unfold V₀
  after_reads_simp
theorem arg1_eq : Vr m c main_arg1 = m ((c : Thread nD τ).loc main_arg1) := by
  show V₀ m c (Proc.devRef .tc main_arg1) = _
  unfold V₀
  after_reads_simp
theorem arg2_eq : Vr m c main_arg2 = m ((c : Thread nD τ).loc main_arg2) := by
  show V₀ m c (Proc.devRef .tc main_arg2) = _
  unfold V₀
  after_reads_simp
theorem arg3_eq : Vr m c main_arg3 = m ((c : Thread nD τ).loc main_arg3) := by
  show V₀ m c (Proc.devRef .tc main_arg3) = _
  unfold V₀
  after_reads_simp
theorem arg4_eq : Vr m c main_arg4 = m ((c : Thread nD τ).loc main_arg4) := by
  show V₀ m c (Proc.devRef .tc main_arg4) = _
  unfold V₀
  after_reads_simp
theorem arg5_eq : Vr m c main_arg5 = m ((c : Thread nD τ).loc main_arg5) := by
  show V₀ m c (Proc.devRef .tc main_arg5) = _
  unfold V₀
  after_reads_simp
theorem v4_eq : (Vr m c main_v4 : Vec F S20480 .f32) = shapeCast S20480 (m ((c : Thread nD τ).loc main_arg2)) Facts₀.shapeCasts_S4x40x128_S20480 := by
  show V₀ m c (Proc.devRef .tc main_v4) = _
  unfold V₀
  after_reads_simp
  rfl

/-- The words the body reads at a point are the start rows of its expert and the next. -/
theorem tabLo_eq (hp : Parts (m ((c : Thread nD τ).loc main_arg5))) (i : grid0.Coords) :
    (tabLo i (tb m c)).toNat = startN (m ((c : Thread nD τ).loc main_arg5)) (i 1).val := by
  have e : (Rect.unit (s := S5) (k0_off1 i) S1.size (k0_off1_inb i)).emb (ValueIdx.ix1 (n := 1) 0) = ValueIdx.ix1 (⟨(i 1).val, by have := (i 1).isLt; exact Nat.lt_succ_of_lt this⟩ : Fin 5) := by
    have h1 : (i 1).val < 4 := (i 1).isLt
    funext a
    match a with
    | 0 =>
      refine Fin.ext ?_
      show (BitVec.ofNat 32 (i 1).val).toNat + 1 * 0 = (i 1).val
      rw [BitVec.toNat_ofNat]
      omega
  unfold tabLo
  rw [tb_eq, e]
  exact table_toNat _ hp _
theorem tabHi_eq (hp : Parts (m ((c : Thread nD τ).loc main_arg5))) (i : grid0.Coords) :
    (tabHi i (tb m c)).toNat = startN (m ((c : Thread nD τ).loc main_arg5)) ((i 1).val + 1) := by
  have e : (Rect.unit (s := S5) (k0_off2 i) S1.size (k0_off2_inb i)).emb (ValueIdx.ix1 (n := 1) 0) = ValueIdx.ix1 (⟨(i 1).val + 1, by have := (i 1).isLt; exact Nat.succ_lt_succ this⟩ : Fin 5) := by
    have h1 : (i 1).val < 4 := (i 1).isLt
    funext a
    match a with
    | 0 =>
      refine Fin.ext ?_
      show (BitVec.ofNat 32 (i 1).val + 1#32).toNat + 1 * 0 = (i 1).val + 1
      rw [BitVec.toNat_add, BitVec.toNat_ofNat, BitVec.toNat_ofNat]
      omega
  unfold tabHi
  rw [tb_eq, e]
  exact table_toNat _ hp _

theorem tableOk_of_parts (hp : ∀ c : Dev nD, Parts (m ((c : Thread nD τ).loc main_arg5))) : TableOk m := by
  intro c i
  have h := hp c
  refine chk_of_bounds _ _ ?_ ?_
  · rw [tabLo_eq m c h i]; exact (startN_mono _ (by have := (i 1).isLt; exact Nat.le_of_lt this)).trans (le_of_eq h)
  · rw [tabHi_eq m c h i]; exact (startN_mono _ (by have := (i 1).isLt; exact this)).trans (le_of_eq h)

end Cert.Kernel.Hand
-- ==== Proof.KResults.lean ====
/-
  What the run leaves: the three results as the recursion over the grid points gives them, the arguments unchanged, every
  semaphore at zero.
-/
module

public import proofs.«01_k».proof.Proof.KTable

@[expose] public section

noncomputable section

namespace Cert.Kernel.Hand

open Cert.Kernel Cert.Kernel.Gen
open Idealize.ShloMosaic Idealize.ShloMosaic.ValueIdx Idealize.ShloMosaic.TcCoe Idealize.ShloMosaic.Tactic
open Idealize.SL Idealize.SL.RA Idealize.SL.BI Idealize.SL.Sem
open Idealize.ShloMosaic.Pipeline (Dat)

variable {F : FTy → Type} [FloatOps F]
variable (m : (ℓ : Loc nD τ sig) → Buf (Elt F) ℓ) (hok : TableOk m) (c : Dev nD)

/-- The last grid point. -/
def tEnd : Fin grid0.N := ⟨255, by decide⟩

theorem flush6_end (t : Fin grid0.N) (h : ((cfgA m).win 6).flush t = true) : t = tEnd := by
  rw [flush6] at h
  have := of_decide_eq_true h
  exact Fin.ext (by have e : grid0.N = 256 := N_0; show t.val = 255; omega)
theorem flush7_end (t : Fin grid0.N) (h : ((cfgA m).win 7).flush t = true) : t = tEnd := by
  rw [flush7] at h
  have := of_decide_eq_true h
  exact Fin.ext (by have e : grid0.N = 256 := N_0; show t.val = 255; omega)

theorem after6 (t : Fin grid0.N) : (dat m hok c).after 6 t = (stAfter m hok c (t.val + 1)).sc := rfl
theorem index6 (t : Fin grid0.N) (a) : ((cfgA m).win 6).index t a = 0 := by
  match a with
  | ⟨0, _⟩ => rfl
  | ⟨1, _⟩ => rfl
theorem emb6 (t : Fin grid0.N) (y : (((cfgA m).win 6).xblock (grid0.coords t)).Idx) : (((cfgA m).win 6).blk t).view.emb y = y := by
  funext a
  match a with
  | ⟨0, _⟩ => exact Fin.ext (Pipeline.Window.rect_emb_val_of_index_zero ((cfgA m).win 6) t (⟨0, by decide⟩ : Fin 2) (index6 m t _) y)
  | ⟨1, _⟩ => exact Fin.ext (Pipeline.Window.rect_emb_val_of_index_zero ((cfgA m).win 6) t (⟨1, by decide⟩ : Fin 2) (index6 m t _) y)
theorem arr6 : (dat m hok c).arrAt 6 grid0.N = (stAfter m hok c 256).sc := by
  have e : tEnd.val + 1 = 256 := rfl
  rw [← e, ← after6]
  generalize tEnd = t at *
  funext i
  have h := (dat m hok c).arrAt_emb_eq_flushed 6
    (fun t t' h h' hne => absurd ((flush6_end m t h).trans (flush6_end m t' h').symm) hne) t
    (by rw [flush6]; exact decide_eq_true (e.trans N_0.symm)) i
  refine Eq.trans (congrArg ((dat m hok c).arrAt 6 grid0.N) (emb6 m t i).symm) h
theorem after7 (t : Fin grid0.N) : (dat m hok c).after 7 t = (stAfter m hok c (t.val + 1)).dx := rfl
theorem index7 (t : Fin grid0.N) (a) : ((cfgA m).win 7).index t a = 0 := by
  match a with
  | ⟨0, _⟩ => rfl
  | ⟨1, _⟩ => rfl
theorem emb7 (t : Fin grid0.N) (y : (((cfgA m).win 7).xblock (grid0.coords t)).Idx) : (((cfgA m).win 7).blk t).view.emb y = y := by
  funext a
  match a with
  | ⟨0, _⟩ => exact Fin.ext (Pipeline.Window.rect_emb_val_of_index_zero ((cfgA m).win 7) t (⟨0, by decide⟩ : Fin 2) (index7 m t _) y)
  | ⟨1, _⟩ => exact Fin.ext (Pipeline.Window.rect_emb_val_of_index_zero ((cfgA m).win 7) t (⟨1, by decide⟩ : Fin 2) (index7 m t _) y)
theorem arr7 : (dat m hok c).arrAt 7 grid0.N = (stAfter m hok c 256).dx := by
  have e : tEnd.val + 1 = 256 := rfl
  rw [← e, ← after7]
  generalize tEnd = t at *
  funext i
  have h := (dat m hok c).arrAt_emb_eq_flushed 7
    (fun t t' h h' hne => absurd ((flush7_end m t h).trans (flush7_end m t' h').symm) hne) t
    (by rw [flush7]; exact decide_eq_true (e.trans N_0.symm)) i
  refine Eq.trans (congrArg ((dat m hok c).arrAt 7 grid0.N) (emb7 m t i).symm) h

variable (ρ : Dev nD → PrngReg)

/-- A buffer that is no window's array and that the body does not write holds at the end what it held at the region's entry. -/
theorem kept (r : PUnit × MemSt nD τ sig (Elt F)) (h : Post m hok r) (b : Ref sig .tc) (hb : b ∈ Pipeline.restRefsP sig pre0 spec0)
    (hne : ∀ w, Pipeline.arrRef spec0 w ≠ b) (hR : b ∉ R0) : r.2.mem ((c : Thread nD τ).loc b) = Vr m c b := by
  rw [(h.1 c).2 b hb, Pipeline.withArrays_of_ne spec0 c _ _ b hne]
  exact Pipeline.withR_of_not_mem _ _ c _ b hR

/-- The run: the results, the arguments, the semaphores. -/
theorem run_results : θ_run defs (onTc (τ := τ) (main (F := F))) (s₀ m ρ) (fun r =>
    (∀ c : Dev nD, r.2.mem ((c : Thread nD τ).loc main_v5_0) = codesAfter m hok c 256
      ∧ r.2.mem ((c : Thread nD τ).loc main_v5_1) = (stAfter m hok c 256).sc
      ∧ r.2.mem ((c : Thread nD τ).loc main_v5_2) = (stAfter m hok c 256).dx
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
    ∧ r.2.sem = fun _ => 0) :=
  (θ_run defs _ _).mono (fun r h => ⟨fun c => ⟨by
        rw [(h.1 c).2 main_v5_0 (by decide), Pipeline.withArrays_of_ne spec0 c _ _ main_v5_0 (by decide),
          Pipeline.withR_of_mem _ _ c _ main_v5_0 (by decide)]
        exact Gout_codes m hok c,
      ((h.1 c).1 6).trans (arr6 m hok c),
      ((h.1 c).1 7).trans (arr7 m hok c),
      ((h.1 c).1 1).trans (((dat m hok c).arrAt_in 1 rfl _).trans (arg0_eq m c)),
      ((h.1 c).1 2).trans (((dat m hok c).arrAt_in 2 rfl _).trans (arg1_eq m c)),
      (kept m hok c r h main_arg2 (by decide) (by decide) (by decide)).trans (arg2_eq m c),
      ((h.1 c).1 4).trans (((dat m hok c).arrAt_in 4 rfl _).trans (arg3_eq m c)),
      (kept m hok c r h main_arg4 (by decide) (by decide) (by decide)).trans (arg4_eq m c),
      (kept m hok c r h main_arg5 (by decide) (by decide) (by decide)).trans (arg5_eq m c)⟩, h.2⟩)
    (run_main m hok ρ)

end Cert.Kernel.Hand
-- ==== Proof.ITrip.lean ====
/-
  One trip of the kernel's loop over row blocks, as a function of the values it reads: which 128-row window of each
  array it replaces and by what.  The triple at the end runs the printed trip and says that it does exactly that.
-/
module

public import proofs.«01_k».proof.Proof.Gen.KernelIdeal.Loops
public import Idealize.ShloMosaic.Lib.Tactic
public import Idealize.ShloMosaic.Lib.VecWindow
public import Idealize.ShloMosaic.Lib.LoopRemainder
public import Idealize.ShloMosaic.Lib.Pipeline.Frame
public import Idealize.ShloMosaic.Lib.Pipeline.TableIdle

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the accumulating arrays hold: the scales, the two code panels, and the input gradient. -/
structure St (F : FTy → Type) where
  sc : Vec F S1536x128 .f32
  cg : Vec F S1536x128 .fp8e5m2
  cu : Vec F S1536x128 .fp8e5m2
  dx : Vec F S1536x5120 .f32

/-- The two scales and the two code blocks one row block produces. -/
structure Quant (F : FTy → Type) where
  sg : FVec F S128x1 .f32
  su : FVec F S128x1 .f32
  cg : FVec F S128x128 .fp8e5m2
  cu : FVec F S128x128 .fp8e5m2

/-- The quantised gate gradient of a block: scale and codes of the gradient `v`, whose row maximum over the largest code is `y`. -/
def quantG (v : FVec F S128x128 .f32) (y : FVec F S128x1 .f32) (b : IVec S128x1 32) : FVec F S128x1 .f32 × FVec F S128x128 .fp8e5m2 :=
  (k0_pay22 y b, k0_pay26 v (k0_pay23 y b) (k0_pay24 y b) k0_pay25)

/-- The quantised up gradient of a block. -/
def quantU (v : FVec F S128x128 .f32) : FVec F S128x1 .f32 × FVec F S128x128 .fp8e5m2 :=
  (k0_pay32 (k0_pay27 v) (k0_pay28 v) (k0_pay29 v) (k0_pay30 v), k0_pay33 v (k0_pay27 v) (k0_pay28 v) (k0_pay29 v) (k0_pay30 v))

/-- The scales and codes of one row block, from its rows, the dequantised weights and the output gradient. -/
def quant (arg0 : BitVec 32) (lane : IVec S128x128 32) (x : Vec F S128x5120 .bf16) (w : Vec F S5120x256 .bf16)
    (dhs : Vec F S128x128 .f32) (dhc : Vec F S128x128 .fp8e5m2) : Quant F :=
  let g := quantG (k0_pay17 arg0 lane x w dhs dhc) (k0_pay19 arg0 lane x w dhs dhc) (k0_pay20 arg0 lane x w dhs dhc)
  let u := quantU (k0_pay18 arg0 lane x w dhs dhc)
  ⟨g.1, u.1, g.2, u.2⟩

/-- The new block of scales: columns `arg0` and `arg0 + 64` of the expert's rows. -/
def scBlk (arg0 : BitVec 32) (v1 v4 : Elt F .i32) (lane : IVec S128x128 32) (row : BitVec 32) (old : Vec F S128x128 .f32)
    (x : Vec F S128x5120 .bf16) (w : Vec F S5120x256 .bf16) (dhs : Vec F S128x128 .f32) (dhc : Vec F S128x128 .fp8e5m2) : FVec F S128x128 .f32 :=
  let v := k0_pay18 arg0 lane x w dhs dhc
  k0_pay38 (quant arg0 lane x w dhs dhc).sg (k0_pay34 (F := F) v1 v4 row) (k0_pay35 old) (k0_pay36 arg0 lane)
    (k0_pay37 arg0 lane (k0_pay27 v) (k0_pay28 v) (k0_pay29 v) (k0_pay30 v) old)

/-- The dequantised gradients of the expert's rows, gate columns then up columns. -/
def ddBlk (q : Quant F) (v1 v4 : Elt F .i32) (row : BitVec 32) : FVec F S128x256 .bf16 :=
  k0_pay43 q.sg q.cg q.su q.cu (k0_pay34 (F := F) v1 v4 row)

/-- ONE TRIP: the state after row block `k`, from the state before it. -/
def trip (arg0 : BitVec 32) (v1 v4 : Elt F .i32) (hw : k0_chk1 v1 v4) (h3 : k0_cond3 v1 v4 = 1#1) (lane : IVec S128x128 32)
    (v1156 : BitVec 32) (xs : Vec F S1536x5120 .bf16) (dhc : Vec F S1536x128 .fp8e5m2) (dhs : Vec F S1536x128 .f32)
    (wd : Vec F S5120x256 .bf16) (k : Fin (k0_t1_loop v1 v4).trips) (s : St F) : St F :=
  let row := Scf.iv v1156 1#32 k
  let x : Vec F S128x5120 .bf16 := VecWindow.window xs (k0_off5 v1 v4 k) S128x5120.size (k0_off5_inb v1 v4 hw k h3)
  let ds : Vec F S128x128 .f32 := VecWindow.window dhs (k0_off6 v1 v4 k) S128x128.size (k0_off6_inb v1 v4 hw k h3)
  let dc : Vec F S128x128 .fp8e5m2 := VecWindow.window dhc (k0_off6 v1 v4 k) S128x128.size (k0_off6_inb v1 v4 hw k h3)
  let w : Vec F S5120x256 .bf16 := VecWindow.window wd ![0, 0] S5120x256.size inb_S5120x256_S5120x256_0_0
  let q := quant arg0 lane x w ds dc
  let dd := ddBlk q v1 v4 row
  let d7 := VecWindow.put s.dx (k0_off7 v1 v4 k) S128x1280.size
    (k0_pay5 dd (k0_pay44 (VecWindow.window s.dx (k0_off7 v1 v4 k) S128x1280.size (k0_off7_inb v1 v4 hw k h3)))
      (VecWindow.window wd ![0, 0] S1280x256.size inb_S5120x256_S1280x256_0_0))
  let d8 := VecWindow.put d7 (k0_off8 v1 v4 k) S128x1280.size
    (k0_pay6 dd (VecWindow.window d7 (k0_off8 v1 v4 k) S128x1280.size (k0_off8_inb v1 v4 hw k h3))
      (VecWindow.window wd ![1280, 0] S1280x256.size inb_S5120x256_S1280x256_1280_0))
  let d9 := VecWindow.put d8 (k0_off9 v1 v4 k) S128x1280.size
    (k0_pay7 dd (VecWindow.window d8 (k0_off9 v1 v4 k) S128x1280.size (k0_off9_inb v1 v4 hw k h3))
      (VecWindow.window wd ![2560, 0] S1280x256.size inb_S5120x256_S1280x256_2560_0))
  let d10 := VecWindow.put d9 (k0_off10 v1 v4 k) S128x1280.size
    (k0_pay8 dd (VecWindow.window d9 (k0_off10 v1 v4 k) S128x1280.size (k0_off10_inb v1 v4 hw k h3))
      (VecWindow.window wd ![3840, 0] S1280x256.size inb_S5120x256_S1280x256_3840_0))
  { sc := VecWindow.put s.sc (k0_off6 v1 v4 k) S128x128.size
      (scBlk arg0 v1 v4 lane row (VecWindow.window s.sc (k0_off6 v1 v4 k) S128x128.size (k0_off6_inb v1 v4 hw k h3)) x w ds dc)
    cg := VecWindow.put s.cg (k0_off6 v1 v4 k) S128x128.size
      (k0_pay41 q.cg (k0_pay34 (F := F) v1 v4 row) (VecWindow.window s.cg (k0_off6 v1 v4 k) S128x128.size (k0_off6_inb v1 v4 hw k h3)))
    cu := VecWindow.put s.cu (k0_off6 v1 v4 k) S128x128.size
      (k0_pay42 q.cu (k0_pay34 (F := F) v1 v4 row) (VecWindow.window s.cu (k0_off6 v1 v4 k) S128x128.size (k0_off6_inb v1 v4 hw k h3)))
    dx := d10 }

/-- A memref's elements on core `c`, all of them, holding the vector `X`. -/
abbrev at_ (c : Dev nD) {sp : Space} {S : Shape} {e : EltTy} (M : Memref sig .tc sp S e) (X : Vec F S e) : sProp 𝕄 :=
  M.view.loc (c : Thread nD τ) ↦[M.view.set]{fullShare} M.view.rep (Val := Elt F) X

/-- The four accumulating arrays holding a state. -/
abbrev stAt (c : Dev nD) (arg10 : Memref sig .tc .vmem S1536x128 .f32) (arg13 arg14 : Memref sig .tc .vmem S1536x128 .fp8e5m2)
    (arg11 : Memref sig .tc .vmem S1536x5120 .f32) (s : St F) : sProp 𝕄 :=
  iprop(at_ c arg10 s.sc ∗ at_ c arg13 s.cg ∗ at_ c arg14 s.cu ∗ at_ c arg11 s.dx)

/-- Contents that read as `X` hold `X`. -/
theorem at_of_read (c : Dev nD) {sp : Space} {S : Shape} {e : EltTy} (M : Memref sig .tc sp S e)
    (g : BufTy.Contents (Elt F) M.view.ty) (X : Vec F S e) (h : M.view.read (Elt F) g = X) :
    (M.view.loc (c : Thread nD τ) ↦[M.view.set]{fullShare} g : sProp 𝕄) ⊢ at_ c M X :=
  pointsTo_rep_of_read (c : Thread nD τ) M g fullShare X h

/-- A load of a unit-stride rectangle reads the window there of what the array holds. -/
theorem readAt_win {sp : Space} {S : Shape} {e : EltTy} (v : View sig .tc sp S e) (f : v.ty.Contents (Elt F)) {off size : Fin S.rank → ℕ}
    (inb : ∀ a, off a + size a ≤ S.size a) :
    v.readAt (Elt F) (Rect.unit off size inb).toLoadRect f = VecWindow.window (v.read (Elt F) f) off size inb := rfl
/-- The window of everything is everything. -/
theorem readAt_all {S : Shape} {α : Type} (x : S.Idx → α) {off : Fin S.rank → ℕ} (inb : ∀ a, off a + S.size a ≤ S.size a) :
    VecWindow.window x off S.size inb = x :=
  funext fun y => congrArg x (funext fun a => Fin.ext (by
    show off a + 1 * (y a).val = (y a).val
    have := inb a; omega))
/-- A store to a unit-stride rectangle puts its payload there. -/
theorem read_writes_put {sp : Space} {S : Shape} {e : EltTy} (v : View sig .tc sp S e) (f : v.ty.Contents (Elt F)) {off size : Fin S.rank → ℕ}
    (inb : ∀ a, off a + size a ≤ S.size a) (w : (Rect.unit off size inb).shape.Idx → Elt F e) (L : List (View.Piece (Elt F) S e)) :
    v.read (Elt F) (v.writes (Elt F) f (⟨Rect.unit off size inb, w⟩ :: L)) = VecWindow.put (v.read (Elt F) (v.writes (Elt F) f L)) off size w :=
  View.read_writes_cons_put v f inb w L rfl
theorem writes_nil' {sp : Space} {S : Shape} {e : EltTy} (v : View sig .tc sp S e) (f : v.ty.Contents (Elt F)) :
    v.writes (Elt F) f [] = f := rfl

set_option maxHeartbeats 4000000 in
/-- The printed trip, run: the pieces it stores into the four arrays. -/
def tripRun (𝒱 : Variants) (c : Dev nD) (bd : Option 𝒱.V) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (arg0 : BitVec 32) (v1 v4 : Elt F .i32) (hw : k0_chk1 v1 v4) (h3 : k0_cond3 v1 v4 = 1#1) (lane : IVec S128x128 32) (v1156 : BitVec 32)
    (xs : Vec F S1536x5120 .bf16) (dhc : Vec F S1536x128 .fp8e5m2) (dhs : Vec F S1536x128 .f32) (wd : Vec F S5120x256 .bf16)
    (k : Fin (k0_t1_loop v1 v4).trips) (s : St F) :
    Σ' (L10 : List (View.Piece (Elt F) S1536x128 .f32)) (L13 L14 : List (View.Piece (Elt F) S1536x128 .fp8e5m2)),
      { L11 : List (View.Piece (Elt F) S1536x5120 .f32) // ∀ (E : Set ℕ) (acc : BitVec 32),
    (iprop(at_ c arg4 xs ∗ at_ c arg7 dhc ∗ at_ c arg8 dhs ∗ at_ c arg12 wd ∗ stAt c arg10 arg13 arg14 arg11 s) : sProp 𝕄)
      ⊢ wp frame (wpE defs₀ 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 k acc)
          fun _ => iprop(at_ c arg4 xs ∗ at_ c arg7 dhc ∗ at_ c arg8 dhs ∗ at_ c arg12 wd
            ∗ (arg10.view.loc (c : Thread nD τ) ↦[arg10.view.set]{fullShare} arg10.view.writes (Elt F) (arg10.view.rep s.sc) L10)
            ∗ (arg13.view.loc (c : Thread nD τ) ↦[arg13.view.set]{fullShare} arg13.view.writes (Elt F) (arg13.view.rep s.cg) L13)
            ∗ (arg14.view.loc (c : Thread nD τ) ↦[arg14.view.set]{fullShare} arg14.view.writes (Elt F) (arg14.view.rep s.cu) L14)
            ∗ (arg11.view.loc (c : Thread nD τ) ↦[arg11.view.set]{fullShare} arg11.view.writes (Elt F) (arg11.view.rep s.dx) L11)) } := by
  refine ⟨?_, ?_, ?_, ?_, fun E acc => ?run⟩
  case run =>
    unfold k0_t1_body
    iintro ⟨H4, H7, H8, H12, H10, H13, H14, H11⟩
    sl_exec
    sl_step
    sl_close

theorem tripRun_sc (𝒱 : Variants) (c : Dev nD) (bd : Option 𝒱.V) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (arg0 : BitVec 32) (v1 v4 : Elt F .i32) (hw : k0_chk1 v1 v4) (h3 : k0_cond3 v1 v4 = 1#1) (lane : IVec S128x128 32) (v1156 : BitVec 32)
    (xs : Vec F S1536x5120 .bf16) (dhc : Vec F S1536x128 .fp8e5m2) (dhs : Vec F S1536x128 .f32) (wd : Vec F S5120x256 .bf16)
    (k : Fin (k0_t1_loop v1 v4).trips) (s : St F) :
    arg10.view.read (Elt F) (arg10.view.writes (Elt F) (arg10.view.rep s.sc) (tripRun 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s).1)
      = (trip arg0 v1 v4 hw h3 lane v1156 xs dhc dhs wd k s).sc := by
  rw [show (tripRun 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s).1 = [⟨Rect.unit (k0_off6 v1 v4 k) S128x128.size (k0_off6_inb v1 v4 hw k h3), _⟩] from rfl, read_writes_put, writes_nil', View.read_rep]
  try delta tripRun.sl.H11_3
  try delta tripRun.sl.H11_2
  try delta tripRun.sl.H11_1
  try delta tripRun.sl.r_17
  try delta tripRun.sl.r_16
  try delta tripRun.sl.r_15
  try delta tripRun.sl.r_14
  try delta tripRun.sl.r_13
  try delta tripRun.sl.r_12
  try delta tripRun.sl.r_11
  try delta tripRun.sl.r_10
  try delta tripRun.sl.r_9
  try delta tripRun.sl.r_8
  try delta tripRun.sl.r_7
  try delta tripRun.sl.r_6
  try delta tripRun.sl.r_5
  try delta tripRun.sl.r_4
  try delta tripRun.sl.r_3
  try delta tripRun.sl.r_2
  try delta tripRun.sl.r_1
  try delta tripRun.sl.r
  try delta tripRun.sl.arg16
  simp only [writes_nil', readAt_win, View.read_rep, trip, scBlk, ddBlk, quant, quantG, quantU]

theorem tripRun_cg (𝒱 : Variants) (c : Dev nD) (bd : Option 𝒱.V) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (arg0 : BitVec 32) (v1 v4 : Elt F .i32) (hw : k0_chk1 v1 v4) (h3 : k0_cond3 v1 v4 = 1#1) (lane : IVec S128x128 32) (v1156 : BitVec 32)
    (xs : Vec F S1536x5120 .bf16) (dhc : Vec F S1536x128 .fp8e5m2) (dhs : Vec F S1536x128 .f32) (wd : Vec F S5120x256 .bf16)
    (k : Fin (k0_t1_loop v1 v4).trips) (s : St F) :
    arg13.view.read (Elt F) (arg13.view.writes (Elt F) (arg13.view.rep s.cg) (tripRun 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s).2.1)
      = (trip arg0 v1 v4 hw h3 lane v1156 xs dhc dhs wd k s).cg := by
  rw [show (tripRun 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s).2.1 = [⟨Rect.unit (k0_off6 v1 v4 k) S128x128.size (k0_off6_inb v1 v4 hw k h3), _⟩] from rfl, read_writes_put, writes_nil', View.read_rep]
  try delta tripRun.sl.H11_3
  try delta tripRun.sl.H11_2
  try delta tripRun.sl.H11_1
  try delta tripRun.sl.r_17
  try delta tripRun.sl.r_16
  try delta tripRun.sl.r_15
  try delta tripRun.sl.r_14
  try delta tripRun.sl.r_13
  try delta tripRun.sl.r_12
  try delta tripRun.sl.r_11
  try delta tripRun.sl.r_10
  try delta tripRun.sl.r_9
  try delta tripRun.sl.r_8
  try delta tripRun.sl.r_7
  try delta tripRun.sl.r_6
  try delta tripRun.sl.r_5
  try delta tripRun.sl.r_4
  try delta tripRun.sl.r_3
  try delta tripRun.sl.r_2
  try delta tripRun.sl.r_1
  try delta tripRun.sl.r
  try delta tripRun.sl.arg16
  simp only [writes_nil', readAt_win, View.read_rep, trip, scBlk, ddBlk, quant, quantG, quantU]

theorem tripRun_cu (𝒱 : Variants) (c : Dev nD) (bd : Option 𝒱.V) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (arg0 : BitVec 32) (v1 v4 : Elt F .i32) (hw : k0_chk1 v1 v4) (h3 : k0_cond3 v1 v4 = 1#1) (lane : IVec S128x128 32) (v1156 : BitVec 32)
    (xs : Vec F S1536x5120 .bf16) (dhc : Vec F S1536x128 .fp8e5m2) (dhs : Vec F S1536x128 .f32) (wd : Vec F S5120x256 .bf16)
    (k : Fin (k0_t1_loop v1 v4).trips) (s : St F) :
    arg14.view.read (Elt F) (arg14.view.writes (Elt F) (arg14.view.rep s.cu) (tripRun 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s).2.2.1)
      = (trip arg0 v1 v4 hw h3 lane v1156 xs dhc dhs wd k s).cu := by
  rw [show (tripRun 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s).2.2.1 = [⟨Rect.unit (k0_off6 v1 v4 k) S128x128.size (k0_off6_inb v1 v4 hw k h3), _⟩] from rfl, read_writes_put, writes_nil', View.read_rep]
  try delta tripRun.sl.H11_3
  try delta tripRun.sl.H11_2
  try delta tripRun.sl.H11_1
  try delta tripRun.sl.r_17
  try delta tripRun.sl.r_16
  try delta tripRun.sl.r_15
  try delta tripRun.sl.r_14
  try delta tripRun.sl.r_13
  try delta tripRun.sl.r_12
  try delta tripRun.sl.r_11
  try delta tripRun.sl.r_10
  try delta tripRun.sl.r_9
  try delta tripRun.sl.r_8
  try delta tripRun.sl.r_7
  try delta tripRun.sl.r_6
  try delta tripRun.sl.r_5
  try delta tripRun.sl.r_4
  try delta tripRun.sl.r_3
  try delta tripRun.sl.r_2
  try delta tripRun.sl.r_1
  try delta tripRun.sl.r
  try delta tripRun.sl.arg16
  simp only [writes_nil', readAt_win, View.read_rep, trip, scBlk, ddBlk, quant, quantG, quantU]

/-- The dequantised gradients the trip multiplies by the weights. -/
theorem tripRun_dd (𝒱 : Variants) (c : Dev nD) (bd : Option 𝒱.V) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (arg0 : BitVec 32) (v1 v4 : Elt F .i32) (hw : k0_chk1 v1 v4) (h3 : k0_cond3 v1 v4 = 1#1) (lane : IVec S128x128 32) (v1156 : BitVec 32)
    (xs : Vec F S1536x5120 .bf16) (dhc : Vec F S1536x128 .fp8e5m2) (dhs : Vec F S1536x128 .f32) (wd : Vec F S5120x256 .bf16)
    (k : Fin (k0_t1_loop v1 v4).trips) :
    tripRun.sl.r_17 arg4 arg7 arg8 arg12 arg0 v1 v4 hw h3 lane v1156 xs dhc dhs wd k
      = ddBlk (quant arg0 lane (VecWindow.window xs (k0_off5 v1 v4 k) S128x5120.size (k0_off5_inb v1 v4 hw k h3))
          (VecWindow.window wd ![0, 0] S5120x256.size inb_S5120x256_S5120x256_0_0)
          (VecWindow.window dhs (k0_off6 v1 v4 k) S128x128.size (k0_off6_inb v1 v4 hw k h3))
          (VecWindow.window dhc (k0_off6 v1 v4 k) S128x128.size (k0_off6_inb v1 v4 hw k h3))) v1 v4 (Scf.iv v1156 1#32 k) := by
  try delta tripRun.sl.r_17
  try delta tripRun.sl.r_16
  try delta tripRun.sl.r_15
  try delta tripRun.sl.r_14
  try delta tripRun.sl.r_13
  try delta tripRun.sl.r_12
  try delta tripRun.sl.r_11
  try delta tripRun.sl.r_10
  try delta tripRun.sl.r_9
  try delta tripRun.sl.r_8
  try delta tripRun.sl.r_7
  try delta tripRun.sl.r_6
  try delta tripRun.sl.r_5
  try delta tripRun.sl.r_4
  try delta tripRun.sl.r_3
  try delta tripRun.sl.r_2
  try delta tripRun.sl.r_1
  try delta tripRun.sl.r
  try delta tripRun.sl.arg16
  simp only [readAt_win, View.read_rep, ddBlk, quant, quantG, quantU]

theorem tripRun_dx (𝒱 : Variants) (c : Dev nD) (bd : Option 𝒱.V) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (arg0 : BitVec 32) (v1 v4 : Elt F .i32) (hw : k0_chk1 v1 v4) (h3 : k0_cond3 v1 v4 = 1#1) (lane : IVec S128x128 32) (v1156 : BitVec 32)
    (xs : Vec F S1536x5120 .bf16) (dhc : Vec F S1536x128 .fp8e5m2) (dhs : Vec F S1536x128 .f32) (wd : Vec F S5120x256 .bf16)
    (k : Fin (k0_t1_loop v1 v4).trips) (s : St F) :
    arg11.view.read (Elt F) (arg11.view.writes (Elt F) (arg11.view.rep s.dx) (tripRun 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s).2.2.2.1)
      = (trip arg0 v1 v4 hw h3 lane v1156 xs dhc dhs wd k s).dx := by
  rw [show (tripRun 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s).2.2.2.1 = ⟨Rect.unit (k0_off10 v1 v4 k) S128x1280.size (k0_off10_inb v1 v4 hw k h3), _⟩ :: tripRun.sl.H11_3 arg4 arg7 arg8 arg11 arg12 arg0 v1 v4 hw h3 lane v1156 xs dhc dhs wd k s from rfl]
  delta tripRun.sl.H11_3 tripRun.sl.H11_2 tripRun.sl.H11_1
  try delta tripRun.sl.r_18
  simp only [tripRun_dd 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k, trip]
  generalize ddBlk (quant arg0 lane (VecWindow.window xs (k0_off5 v1 v4 k) S128x5120.size (k0_off5_inb v1 v4 hw k h3))
          (VecWindow.window wd ![0, 0] S5120x256.size inb_S5120x256_S5120x256_0_0)
          (VecWindow.window dhs (k0_off6 v1 v4 k) S128x128.size (k0_off6_inb v1 v4 hw k h3))
          (VecWindow.window dhc (k0_off6 v1 v4 k) S128x128.size (k0_off6_inb v1 v4 hw k h3))) v1 v4 (Scf.iv v1156 1#32 k) = dd
  simp only [read_writes_put, writes_nil', readAt_win, View.read_rep]

/-- The printed trip takes the arrays from a state to `trip` of it; the arrays it reads stay. -/
theorem trip_run (𝒱 : Variants) (c : Dev nD) (bd : Option 𝒱.V) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (arg0 : BitVec 32) (v1 v4 : Elt F .i32) (hw : k0_chk1 v1 v4) (h3 : k0_cond3 v1 v4 = 1#1) (lane : IVec S128x128 32) (v1156 : BitVec 32)
    (xs : Vec F S1536x5120 .bf16) (dhc : Vec F S1536x128 .fp8e5m2) (dhs : Vec F S1536x128 .f32) (wd : Vec F S5120x256 .bf16)
    (k : Fin (k0_t1_loop v1 v4).trips) (s : St F) (E : Set ℕ) (acc : BitVec 32) :
    (iprop(at_ c arg4 xs ∗ at_ c arg7 dhc ∗ at_ c arg8 dhs ∗ at_ c arg12 wd ∗ stAt c arg10 arg13 arg14 arg11 s) : sProp 𝕄)
      ⊢ wp frame (wpE defs₀ 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 k acc)
          fun _ => iprop(at_ c arg4 xs ∗ at_ c arg7 dhc ∗ at_ c arg8 dhs ∗ at_ c arg12 wd
            ∗ stAt c arg10 arg13 arg14 arg11 (trip arg0 v1 v4 hw h3 lane v1156 xs dhc dhs wd k s)) := by
  refine ((tripRun 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s).2.2.2.2 E acc).trans (wp_mono _ _ _ fun _ => ?_)
  iintro ⟨H4, H7, H8, H12, H10, H13, H14, H11⟩
  ihave H10' := (at_of_read c arg10 _ _ (tripRun_sc 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s)) $$ H10
  ihave H13' := (at_of_read c arg13 _ _ (tripRun_cg 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s)) $$ H13
  ihave H14' := (at_of_read c arg14 _ _ (tripRun_cu 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s)) $$ H14
  ihave H11' := (at_of_read c arg11 _ _ (tripRun_dx 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 lane v1156 xs dhc dhs wd k s)) $$ H11
  sl_close

end Cert.KernelIdeal.Hand
-- ==== Proof.ISeg.lean ====
/-
  The kernel's body, cut into its consecutive stretches: the scalar words, the clearing of the resident outputs at the first
  grid point, the clearing of the code panels at an expert's first point, the work on an expert with rows, and the two
  transfers that write the code panels out.
-/
module

public import proofs.«01_k».proof.Proof.ITrip

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The first grid point clears the two resident outputs. -/
def segZero (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2) : Prog (TpuEff nD τ sig (Elt F) Λ₀ .tc) PUnit := do
  if k0_h1 : k0_cond1 i = 1#1 then do
    let v20 : Vec F S1536x5120 .f32 ← Prog.lift (.load arg11 (Rect.unit (s := S1536x5120) ![0, 0] S1536x5120.size inb_S1536x5120_S1536x5120_0_0).toLoadRect (View.loadsAt_vmem h_S1536x5120))
    Prog.lift (.store arg11 (Rect.unit (s := S1536x5120) ![0, 0] S1536x5120.size inb_S1536x5120_S1536x5120_0_0) (k0_pay1 (F := F)) Finset.univ (View.stores_vmem_bits_univ h_S1536x5120 rfl) (.inl rfl))
    let v22 : Vec F S1536x128 .f32 ← Prog.lift (.load arg10 (Rect.unit (s := S1536x128) ![0, 0] S1536x128.size inb_S1536x128_S1536x128_0_0).toLoadRect (View.loadsAt_vmem h_S1536x128))
    Prog.lift (.store arg10 (Rect.unit (s := S1536x128) ![0, 0] S1536x128.size inb_S1536x128_S1536x128_0_0) (k0_pay2 (F := F)) Finset.univ (View.stores_vmem_bits_univ h_S1536x128 rfl) (.inl rfl))
    pure ⟨⟩
  else do
    pure ⟨⟩

/-- An expert's first point (in each column step) clears the two code panels. -/
def segClear (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2) : Prog (TpuEff nD τ sig (Elt F) Λ₀ .tc) PUnit := do
  let arg1 : BitVec 32 := BitVec.ofNat 32 (i 1).val
  let v10 : BitVec 1 := Scalar.cmpi .eq arg1 0#32
  let v11 : BitVec 32 := Scalar.extui v10
  let v12 : BitVec 1 := Scalar.cmpi .ne v11 0#32
  if k0_h2 : v12 = 1#1 then do
    let v20 : Vec F S1536x128 .fp8e5m2 ← Prog.lift (.load arg13 (Rect.unit (s := S1536x128) ![0, 0] S1536x128.size inb_S1536x128_S1536x128_0_0).toLoadRect (View.loadsAt_vmem h_S1536x128))
    Prog.lift (.store arg13 (Rect.unit (s := S1536x128) ![0, 0] S1536x128.size inb_S1536x128_S1536x128_0_0) (k0_pay3 (F := F)) Finset.univ (View.stores_vmem h_S1536x128 (harg13.storeExact_slice rfl _ packedfp8e5m2_S1536x128_S1536x128_0_0) (fun _ => rfl)) (.inl rfl))
    let v24 : Vec F S1536x128 .fp8e5m2 ← Prog.lift (.load arg14 (Rect.unit (s := S1536x128) ![0, 0] S1536x128.size inb_S1536x128_S1536x128_0_0).toLoadRect (View.loadsAt_vmem h_S1536x128))
    Prog.lift (.store arg14 (Rect.unit (s := S1536x128) ![0, 0] S1536x128.size inb_S1536x128_S1536x128_0_0) (k0_pay4 (F := F)) Finset.univ (View.stores_vmem h_S1536x128 (harg14.storeExact_slice rfl _ packedfp8e5m2_S1536x128_S1536x128_0_0) (fun _ => rfl)) (.inl rfl))
    pure ⟨⟩
  else do
    pure ⟨⟩

/-- The work on an expert that has rows: dequantise its two weight blocks, then go through its row blocks. -/
def live (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2) (v1 v4 : Elt F .i32) (k0_hw1 : k0_chk1 v1 v4) (k0_h3 : k0_cond3 v1 v4 = 1#1) :
    Prog (TpuEff nD τ sig (Elt F) Λ₀ .tc) PUnit := do
    let arg0 : BitVec 32 := BitVec.ofNat 32 (i 0).val
    let arg1 : BitVec 32 := BitVec.ofNat 32 (i 1).val
    let ⟨v54, v58⟩ : Σ' (v54 : FVec F S128x128 .bf16), Elt F .f32 ← k0_part11 i arg2 harg2 arg3 harg3 arg4 harg4 arg5 harg5 arg6 harg6 arg7 harg7 arg8 harg8 arg9 harg9 arg10 harg10 arg11 harg11 arg12 harg12 arg13 harg13 arg14 harg14 arg15 arg0 arg1
    let v88 : FVec F S128x128 .bf16 ← k0_part12 i arg2 harg2 arg3 harg3 arg4 harg4 arg5 harg5 arg6 harg6 arg7 harg7 arg8 harg8 arg9 harg9 arg10 harg10 arg11 harg11 arg12 harg12 arg13 harg13 arg14 harg14 arg15 arg0 arg1 v54 v58
    let v132 : BitVec 32 ← k0_part13 i arg2 harg2 arg3 harg3 arg4 harg4 arg5 harg5 arg6 harg6 arg7 harg7 arg8 harg8 arg9 harg9 arg10 harg10 arg11 harg11 arg12 harg12 arg13 harg13 arg14 harg14 arg15 arg0 arg1 v88
    let ⟨v166, v172⟩ : Σ' (v166 : FVec F S128x128 .bf16), FVec F S128x128 .bf16 ← k0_part14 i arg2 harg2 arg3 harg3 arg4 harg4 arg5 harg5 arg6 harg6 arg7 harg7 arg8 harg8 arg9 harg9 arg10 harg10 arg11 harg11 arg12 harg12 arg13 harg13 arg14 harg14 arg15 arg0 arg1 v132
    let ⟨v200, v209⟩ : Σ' (v200 : FVec F S128x128 .bf16), FVec F S128x128 .fp8e4m3 ← k0_part15 i arg2 harg2 arg3 harg3 arg4 harg4 arg5 harg5 arg6 harg6 arg7 harg7 arg8 harg8 arg9 harg9 arg10 harg10 arg11 harg11 arg12 harg12 arg13 harg13 arg14 harg14 arg15 arg0 arg1 v166 v172
    let v245 : BitVec 32 ← k0_part16 i arg2 harg2 arg3 harg3 arg4 harg4 arg5 harg5 arg6 harg6 arg7 harg7 arg8 harg8 arg9 harg9 arg10 harg10 arg11 harg11 arg12 harg12 arg13 harg13 arg14 harg14 arg15 arg0 arg1 v200 v209
    let ⟨v278, v284, v287⟩ : Σ' (v278 : FVec F S128x128 .bf16) (v284 : FVec F S128x128 .bf16), FVec F S128x128 .bf16 ← k0_part17 i arg2 harg2 arg3 harg3 arg4 harg4 arg5 harg5 arg6 harg6 arg7 harg7 arg8 harg8 arg9 harg9 arg10 harg10 arg11 harg11 arg12 harg12 arg13 harg13 arg14 harg14 arg15 arg0 arg1 v245
    let v323 : FVec F S128x128 .bf16 ← k0_part18 i arg2 harg2 arg3 harg3 arg4 harg4 arg5 harg5 arg6 harg6 arg7 harg7 arg8 harg8 arg9 harg9 arg10 harg10 arg11 harg11 arg12 harg12 arg13 harg13 arg14 harg14 arg15 arg0 arg1 v278 v284 v287
    let ⟨v362, v363⟩ : Σ' (v362 : FVec F S128x128 .bf16), BitVec 32 ← k0_part19 i arg2 harg2 arg3 harg3 arg4 harg4 arg5 harg5 arg6 harg6 arg7 harg7 arg8 harg8 arg9 harg9 arg10 harg10 arg11 harg11 arg12 harg12 arg13 harg13 arg14 harg14 arg15 arg0 arg1 v323
    let ⟨v396, v400, v401⟩ : Σ' (v396 : FVec F S128x128 .bf16) (v400 : FVec F S128x128 .bf16), Vec F S128x128 .bf16 ← k0_part20 i arg2 harg2 arg3 harg3 arg4 harg4 arg5 harg5 arg6 harg6 arg7 harg7 arg8 harg8 arg9 harg9 arg10 harg10 arg11 harg11 arg12 harg12 arg13 harg13 arg14 harg14 arg15 arg0 arg1 v362 v363
    k0_part21 i arg2 harg2 arg3 harg3 arg4 harg4 arg5 harg5 arg6 harg6 arg7 harg7 arg8 harg8 arg9 harg9 arg10 harg10 arg11 harg11 arg12 harg12 arg13 harg13 arg14 harg14 arg15 arg0 arg1 v396 v400 v401
    let ⟨v474, v478⟩ : Σ' (v474 : FVec F S128x128 .bf16), Elt F .f32 ← k0_part22 i arg2 harg2 arg3 harg3 arg4 harg4 arg5 harg5 arg6 harg6 arg7 harg7 arg8 harg8 arg9 harg9 arg10 harg10 arg11 harg11 arg12 harg12 arg13 harg13 arg14 harg14 arg15 arg0 arg1
    let v508 : FVec F S128x128 .bf16 ← k0_part23 i arg2 harg2 arg3 harg3 arg4 harg4 arg5 harg5 arg6 harg6 arg7 harg7 arg8 harg8 arg9 harg9 arg10 harg10 arg11 harg11 arg12 harg12 arg13 harg13 arg14 harg14 arg15 arg0 arg1 v474 v478
    let v552 : BitVec 32 ← k0_part24 i arg2 harg2 arg3 harg3 arg4 harg4 arg5 harg5 arg6 harg6 arg7 harg7 arg8 harg8 arg9 harg9 arg10 harg10 arg11 harg11 arg12 harg12 arg13 harg13 arg14 harg14 arg15 arg0 arg1 v508
    let ⟨v586, v592⟩ : Σ' (v586 : FVec F S128x128 .bf16), FVec F S128x128 .bf16 ← k0_part25 i arg2 harg2 arg3 harg3 arg4 harg4 arg5 harg5 arg6 harg6 arg7 harg7 arg8 harg8 arg9 harg9 arg10 harg10 arg11 harg11 arg12 harg12 arg13 harg13 arg14 harg14 arg15 arg0 arg1 v552
    let ⟨v620, v629⟩ : Σ' (v620 : FVec F S128x128 .bf16), FVec F S128x128 .fp8e4m3 ← k0_part26 i arg2 harg2 arg3 harg3 arg4 harg4 arg5 harg5 arg6 harg6 arg7 harg7 arg8 harg8 arg9 harg9 arg10 harg10 arg11 harg11 arg12 harg12 arg13 harg13 arg14 harg14 arg15 arg0 arg1 v586 v592
    let v665 : BitVec 32 ← k0_part27 i arg2 harg2 arg3 harg3 arg4 harg4 arg5 harg5 arg6 harg6 arg7 harg7 arg8 harg8 arg9 harg9 arg10 harg10 arg11 harg11 arg12 harg12 arg13 harg13 arg14 harg14 arg15 arg0 arg1 v620 v629
    let ⟨v698, v704, v707⟩ : Σ' (v698 : FVec F S128x128 .bf16) (v704 : FVec F S128x128 .bf16), FVec F S128x128 .bf16 ← k0_part28 i arg2 harg2 arg3 harg3 arg4 harg4 arg5 harg5 arg6 harg6 arg7 harg7 arg8 harg8 arg9 harg9 arg10 harg10 arg11 harg11 arg12 harg12 arg13 harg13 arg14 harg14 arg15 arg0 arg1 v665
    let v743 : FVec F S128x128 .bf16 ← k0_part29 i arg2 harg2 arg3 harg3 arg4 harg4 arg5 harg5 arg6 harg6 arg7 harg7 arg8 harg8 arg9 harg9 arg10 harg10 arg11 harg11 arg12 harg12 arg13 harg13 arg14 harg14 arg15 arg0 arg1 v698 v704 v707
    let ⟨v782, v783⟩ : Σ' (v782 : FVec F S128x128 .bf16), BitVec 32 ← k0_part30 i arg2 harg2 arg3 harg3 arg4 harg4 arg5 harg5 arg6 harg6 arg7 harg7 arg8 harg8 arg9 harg9 arg10 harg10 arg11 harg11 arg12 harg12 arg13 harg13 arg14 harg14 arg15 arg0 arg1 v743
    let ⟨v816, v820, v821⟩ : Σ' (v816 : FVec F S128x128 .bf16) (v820 : FVec F S128x128 .bf16), Vec F S128x128 .bf16 ← k0_part31 i arg2 harg2 arg3 harg3 arg4 harg4 arg5 harg5 arg6 harg6 arg7 harg7 arg8 harg8 arg9 harg9 arg10 harg10 arg11 harg11 arg12 harg12 arg13 harg13 arg14 harg14 arg15 arg0 arg1 v782 v783
    k0_part32 i arg2 harg2 arg3 harg3 arg4 harg4 arg5 harg5 arg6 harg6 arg7 harg7 arg8 harg8 arg9 harg9 arg10 harg10 arg11 harg11 arg12 harg12 arg13 harg13 arg14 harg14 arg15 arg0 arg1 v816 v820 v821
    let ⟨v894, v898⟩ : Σ' (v894 : FVec F S128x128 .bf16), Elt F .f32 ← k0_part33 i arg2 harg2 arg3 harg3 arg4 harg4 arg5 harg5 arg6 harg6 arg7 harg7 arg8 harg8 arg9 harg9 arg10 harg10 arg11 harg11 arg12 harg12 arg13 harg13 arg14 harg14 arg15 arg0 arg1
    let v928 : FVec F S128x128 .bf16 ← k0_part34 i arg2 harg2 arg3 harg3 arg4 harg4 arg5 harg5 arg6 harg6 arg7 harg7 arg8 harg8 arg9 harg9 arg10 harg10 arg11 harg11 arg12 harg12 arg13 harg13 arg14 harg14 arg15 arg0 arg1 v894 v898
    let v972 : BitVec 32 ← k0_part35 i arg2 harg2 arg3 harg3 arg4 harg4 arg5 harg5 arg6 harg6 arg7 harg7 arg8 harg8 arg9 harg9 arg10 harg10 arg11 harg11 arg12 harg12 arg13 harg13 arg14 harg14 arg15 arg0 arg1 v928
    let ⟨v1006, v1012⟩ : Σ' (v1006 : FVec F S128x128 .bf16), FVec F S128x128 .bf16 ← k0_part36 i arg2 harg2 arg3 harg3 arg4 harg4 arg5 harg5 arg6 harg6 arg7 harg7 arg8 harg8 arg9 harg9 arg10 harg10 arg11 harg11 arg12 harg12 arg13 harg13 arg14 harg14 arg15 arg0 arg1 v972
    let ⟨v1040, v1049⟩ : Σ' (v1040 : FVec F S128x128 .bf16), FVec F S128x128 .fp8e4m3 ← k0_part37 i arg2 harg2 arg3 harg3 arg4 harg4 arg5 harg5 arg6 harg6 arg7 harg7 arg8 harg8 arg9 harg9 arg10 harg10 arg11 harg11 arg12 harg12 arg13 harg13 arg14 harg14 arg15 arg0 arg1 v1006 v1012
    let v1085 : BitVec 32 ← k0_part38 i arg2 harg2 arg3 harg3 arg4 harg4 arg5 harg5 arg6 harg6 arg7 harg7 arg8 harg8 arg9 harg9 arg10 harg10 arg11 harg11 arg12 harg12 arg13 harg13 arg14 harg14 arg15 arg0 arg1 v1040 v1049
    let ⟨v1118, v1124, v1127⟩ : Σ' (v1118 : FVec F S128x128 .bf16) (v1124 : FVec F S128x128 .bf16), FVec F S128x128 .bf16 ← k0_part39 i arg2 harg2 arg3 harg3 arg4 harg4 arg5 harg5 arg6 harg6 arg7 harg7 arg8 harg8 arg9 harg9 arg10 harg10 arg11 harg11 arg12 harg12 arg13 harg13 arg14 harg14 arg15 arg0 arg1 v1085
    let ⟨v1139, v1156, v1158, c128_i32_495, v1159, v1164, v1165⟩ : Σ' (v1139 : IVec S128x128 32) (v1156 : BitVec 32) (v1158 : BitVec 32) (c128_i32_495 : BitVec 32) (v1159 : BitVec 32) (v1164 : BitVec 32), BitVec 1 ← k0_part40 i arg2 harg2 arg3 harg3 arg4 harg4 arg5 harg5 arg6 harg6 arg7 harg7 arg8 harg8 arg9 harg9 arg10 harg10 arg11 harg11 arg12 harg12 arg13 harg13 arg14 harg14 arg15 v1 v4 v1118 v1124 v1127
    let v1166 : BitVec 32 := Scalar.extui v1165
    let v1167 : BitVec 1 := Scalar.cmpi .slt c128_i32_495 0#32
    let v1168 : BitVec 32 := Scalar.extui v1167
    let v1169 : BitVec 32 := Scalar.subi v1166 v1168
    let v1170 : BitVec 1 := Scalar.cmpi .ne v1164 v1169
    let v1171 : BitVec 32 := Scalar.remsi v1158 c128_i32_495
    let v1172 : BitVec 1 := Scalar.cmpi .ne v1171 0#32
    let v1173 : BitVec 1 := Scalar.andi v1170 v1172
    let v1174 : BitVec 32 := Scalar.subi v1159 1#32
    let v1175 : BitVec 32 := Scalar.select v1173 v1174 v1159
    let v1176 : BitVec 32 := Scalar.subi v1175 v1156
    let v1178 : BitVec 32 := Scalar.divsi v1176 1#32
    let v1179 : BitVec 32 := Scalar.muli v1178 1#32
    let v1180 : BitVec 32 := Scalar.addi v1156 v1179
    let v1181 : BitVec 32 ← Scf.Loop.for (k0_t1_loop v1 v4) (k0_t1_ok v1 v4 k0_hw1 k0_h3) 0#32 (k0_t1_body i arg2 harg2 arg3 harg3 arg4 harg4 arg5 harg5 arg6 harg6 arg7 harg7 arg8 harg8 arg9 harg9 arg10 harg10 arg11 harg11 arg12 harg12 arg13 harg13 arg14 harg14 arg15 arg0 v1 v4 k0_hw1 k0_h3 v1139 v1156)
    let v1182 : BitVec 32 ← Scf.Loop.for (k0_t2_loop v1 v4) (k0_t2_ok v1 v4 k0_hw1 k0_h3) v1181 (k0_t2_body i arg2 harg2 arg3 harg3 arg4 harg4 arg5 harg5 arg6 harg6 arg7 harg7 arg8 harg8 arg9 harg9 arg10 harg10 arg11 harg11 arg12 harg12 arg13 harg13 arg14 harg14 arg15 arg0 v1 v4 k0_hw1 k0_h3 v1139 v1180)
    pure ⟨⟩

def segLive (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2) (v1 v4 : Elt F .i32) (k0_hw1 : k0_chk1 v1 v4) : Prog (TpuEff nD τ sig (Elt F) Λ₀ .tc) PUnit :=
  if k0_h3 : k0_cond3 v1 v4 = 1#1 then live i arg2 harg2 arg3 harg3 arg4 harg4 arg5 harg5 arg6 harg6 arg7 harg7 arg8 harg8 arg9 harg9 arg10 harg10 arg11 harg11 arg12 harg12 arg13 harg13 arg14 harg14 arg15 v1 v4 k0_hw1 k0_h3 else pure ⟨⟩

/-- After the last expert the two code panels are copied to their columns of the codes. -/
def segOut (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2) : Prog (TpuEff nD τ sig (Elt F) Λ₀ .tc) PUnit := do
  if k0_h4 : k0_cond4 i = 1#1 then do
    let v24 : DmaSems sig S1 := arg15.slice (Rect.unit (s := S2) ![0] S1.size inb_S2_S1_0)
    let v25 : DmaSems sig S_ := v24.squeeze S_ squeezes_S1_S_
    let v26 : Memref sig .tc .hbm S1536x128 .fp8e5m2 := arg9.slice (Rect.unit (s := S1536x16384) (k0_off17 i) S1536x128.size (k0_off17_inb i k0_h4)) (fun _ => rfl)
    Prog.lift (.enqueueDma arg13 (.here v26) (.dma v25.sem) harg13.wordExact (harg9.wordExact_slice rfl _ (k0_off17_wordsfp8e5m2 i k0_h4)) ⟨Or.inl rfl, trivial⟩)
    let v27 : DmaSems sig S1 := arg15.slice (Rect.unit (s := S2) ![1] S1.size inb_S2_S1_1)
    let v28 : DmaSems sig S_ := v27.squeeze S_ squeezes_S1_S_
    let v29 : Memref sig .tc .hbm S1536x128 .fp8e5m2 := arg9.slice (Rect.unit (s := S1536x16384) (k0_off18 i) S1536x128.size (k0_off18_inb i k0_h4)) (fun _ => rfl)
    Prog.lift (.enqueueDma arg14 (.here v29) (.dma v28.sem) harg14.wordExact (harg9.wordExact_slice rfl _ (k0_off18_wordsfp8e5m2 i k0_h4)) ⟨Or.inl rfl, trivial⟩)
    let v30 : DmaSems sig S1 := arg15.slice (Rect.unit (s := S2) ![0] S1.size inb_S2_S1_0)
    let v31 : DmaSems sig S_ := v30.squeeze S_ squeezes_S1_S_
    let v32 : Memref sig .tc .hbm S1536x128 .fp8e5m2 := arg9.slice (Rect.unit (s := S1536x16384) (k0_off17 i) S1536x128.size (k0_off17_inb i k0_h4)) (fun _ => rfl)
    Prog.lift (.waitDma2 v31.sem arg13 v32 harg13.wordExact (harg9.wordExact_slice rfl _ (k0_off17_wordsfp8e5m2 i k0_h4)))
    let v33 : DmaSems sig S1 := arg15.slice (Rect.unit (s := S2) ![1] S1.size inb_S2_S1_1)
    let v34 : DmaSems sig S_ := v33.squeeze S_ squeezes_S1_S_
    let v35 : Memref sig .tc .hbm S1536x128 .fp8e5m2 := arg9.slice (Rect.unit (s := S1536x16384) (k0_off18 i) S1536x128.size (k0_off18_inb i k0_h4)) (fun _ => rfl)
    Prog.lift (.waitDma2 v34.sem arg14 v35 harg14.wordExact (harg9.wordExact_slice rfl _ (k0_off18_wordsfp8e5m2 i k0_h4)))
    pure ⟨⟩
  else do
    pure ⟨⟩

/-- A conditional whose continuation was copied into both branches is the conditional followed by the continuation. -/
theorem seg_jp {E : Type → Type} {β : Type} {c : Prop} {dc : Decidable c} {A' : c → Prog E β} {A : c → Prog E PUnit} {k k' : Prog E β}
    (hA : ∀ h, A' h = (A h >>= fun _ => k)) (hk : k = k') :
    dite c A' (fun _ => k) = (dite c A (fun _ => pure ⟨⟩) >>= fun _ => k') := by
  subst hk
  by_cases h : c
  · rw [dif_pos h, dif_pos h]; exact hA h
  · rw [dif_neg h, dif_neg h]; rfl

/-- The body is its stretches, in order. -/
theorem body_eq (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2) :
    cc0_main_skel (F := F) i arg2 harg2 arg3 harg3 arg4 harg4 arg5 harg5 arg6 harg6 arg7 harg7 arg8 harg8 arg9 harg9 arg10 harg10 arg11 harg11 arg12 harg12 arg13 harg13 arg14 harg14 arg15 = (do
      let v1 : Elt F .i32 ← smemLoad arg2 (Rect.unit (s := S5) (k0_off1 i) S1.size (k0_off1_inb i)) numel1_S1 rfl
      let v4 : Elt F .i32 ← smemLoad arg2 (Rect.unit (s := S5) (k0_off2 i) S1.size (k0_off2_inb i)) numel1_S1 rfl
      have k0_hw1 : k0_chk1 v1 v4 := (← Prog.lift (TpuEff.assume (k0_chk1 v1 v4) (k0_chk1.dec v1 v4))).down
      segZero i arg2 harg2 arg3 harg3 arg4 harg4 arg5 harg5 arg6 harg6 arg7 harg7 arg8 harg8 arg9 harg9 arg10 harg10 arg11 harg11 arg12 harg12 arg13 harg13 arg14 harg14 arg15
      segClear i arg2 harg2 arg3 harg3 arg4 harg4 arg5 harg5 arg6 harg6 arg7 harg7 arg8 harg8 arg9 harg9 arg10 harg10 arg11 harg11 arg12 harg12 arg13 harg13 arg14 harg14 arg15
      segLive i arg2 harg2 arg3 harg3 arg4 harg4 arg5 harg5 arg6 harg6 arg7 harg7 arg8 harg8 arg9 harg9 arg10 harg10 arg11 harg11 arg12 harg12 arg13 harg13 arg14 harg14 arg15 v1 v4 k0_hw1
      segOut i arg2 harg2 arg3 harg3 arg4 harg4 arg5 harg5 arg6 harg6 arg7 harg7 arg8 harg8 arg9 harg9 arg10 harg10 arg11 harg11 arg12 harg12 arg13 harg13 arg14 harg14 arg15
      pure ⟨⟩) := by
  unfold segZero segClear segLive segOut cc0_main_skel
  refine congrArg _ (funext fun v1 => ?_)
  refine congrArg _ (funext fun v4 => ?_)
  refine congrArg _ (funext fun hw => ?_)
  refine congrArg _ (funext fun hw' => ?_)
  dsimp only
  refine seg_jp (fun h => ?_) ?_
  · rfl
  refine seg_jp (fun h => ?_) ?_
  · rfl
  refine seg_jp (fun h => ?_) ?_
  · unfold live
    simp only [bind_assoc]
    rfl
  refine seg_jp (fun h => ?_) ?_
  · rfl
  · rfl

end Cert.KernelIdeal.Hand
-- ==== Proof.ILive.lean ====
/-
  The third stretch of the body: expert `e`'s rows are not empty, so its dequantised block of the two weight panels is
  written out in full and the loop over the 128-row groups is run.
-/
module

public import proofs.«01_k».proof.Proof.ISeg
public import Idealize.ShloMosaic.Lib.ValueIdxCore
public import Idealize.ShloMosaic.Lib.Pipeline.Value
public import Idealize.ShloMosaic.Lib.LoopRemainder

@[expose] public section

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One dequantised weight: the stored code by its block's scale, rounded as the kernel rounds it. -/
def wdAt (s : Elt F .f32) (w : Elt F .fp8e4m3) : Elt F .bf16 :=
  k0_pay99 s (fun _ => w) (ix2 (n0 := 128) (n1 := 128) 0 0)

/-- The scale of the gate panel's block `kb` at grid point `i`. -/
def wsGate (i : grid0.Coords) (kb : Fin 40) (ws : Vec F S20480 .f32) : Elt F .f32 :=
  ws ((Rect.unit (s := S20480) (k0_off3 i (BitVec.ofNat 32 kb.val)) S1.size (k0_off3_inb i kb)).emb (ix1 (n := 1) 0))
/-- The scale of the up panel's block `kb` at grid point `i`. -/
def wsUp (i : grid0.Coords) (kb : Fin 40) (ws : Vec F S20480 .f32) : Elt F .f32 :=
  ws ((Rect.unit (s := S20480) (k0_off4 i (BitVec.ofNat 32 kb.val)) S1.size (k0_off4_inb i kb)).emb (ix1 (n := 1) 0))

/-- The dequantised block of the two weight panels: columns 0..127 gate, 128..255 up. -/
def wdSpec (i : grid0.Coords) (ws : Vec F S20480 .f32) (wg wu : Vec F S1x5120x128 .fp8e4m3) : Vec F S5120x256 .bf16 := fun y =>
  if h : (y 1).val < 128 then
    wdAt (wsGate i ⟨(y 0).val / 128, by have := idx2_lt0 y; omega⟩ ws) (wg (ix3 (n0 := 1) (n1 := 5120) (n2 := 128) 0 (y 0) ⟨(y 1).val, h⟩))
  else
    wdAt (wsUp i ⟨(y 0).val / 128, by have := idx2_lt0 y; omega⟩ ws)
      (wu (ix3 (n0 := 1) (n1 := 5120) (n2 := 128) 0 (y 0) ⟨(y 1).val - 128, by have := idx2_lt1 y; omega⟩))

/-- A block's dequantisation is cell by cell. -/
theorem pay99_apply (s : Elt F .f32) (w : Vec F S1x128x128 .fp8e4m3) (p : S128x128.Idx) :
    k0_pay99 s w p = wdAt s (w (ix3 (n0 := 1) (n1 := 128) (n2 := 128) 0 (p 0) (p 1))) := by
  have e : shapeCast S128x128 w shapeCasts_S1x128x128_S128x128 p = w (ix3 (n0 := 1) (n1 := 128) (n2 := 128) 0 (p 0) (p 1)) :=
    (shapeCast_dropUnit_apply ![128, 128] w shapeCasts_S1x128x128_S128x128 p).trans
      (congrArg w (funext fun a => by match a with | ⟨0, _⟩ => rfl | ⟨1, _⟩ => rfl | ⟨2, _⟩ => rfl))
  unfold wdAt k0_pay99
  rw [shapeCast_self, shapeCast_self, ← e]
  rfl

/-- The pieces `L` cover the first `128 * b` rows of the panel buffer and agree there with `X`. -/
def Fills (X : Vec F S5120x256 .bf16) (b : ℕ) (L : List (View.Piece (Elt F) S5120x256 .bf16)) : Prop :=
  (∀ p ∈ L, ∀ j : p.1.shape.Idx, p.2 j = X (p.1.emb j)) ∧ ∀ y : S5120x256.Idx, (y 0).val < 128 * b → ∃ p ∈ L, y ∈ p.1.set

theorem fills_nil (X : Vec F S5120x256 .bf16) : Fills X 0 [] := ⟨by simp, fun y h => by omega⟩

theorem inb_wd (k n : ℕ) (hk : k < 40) (hn : n ≤ 128) : ∀ a, (![128 * k, n] : Fin 2 → ℕ) a + S128x128.size a ≤ S5120x256.size a := by
  intro a; fin_cases a <;> simp <;> omega
theorem inb_wv (k : ℕ) (hk : k < 40) : ∀ a, (![0, 128 * k, 0] : Fin 3 → ℕ) a + S1x128x128.size a ≤ S1x5120x128.size a := by
  intro a; fin_cases a <;> simp <;> omega

/-- One more pair of blocks. -/
theorem fills_step (i : grid0.Coords) (arg3 : Memref sig .tc .smem S20480 .f32) (ws : Vec F S20480 .f32)
    (arg5 : Memref sig .tc .vmem S1x5120x128 .fp8e4m3) (wg : Vec F S1x5120x128 .fp8e4m3)
    (arg6 : Memref sig .tc .vmem S1x5120x128 .fp8e4m3) (wu : Vec F S1x5120x128 .fp8e4m3) (k : ℕ) (hk : k < 40) (z : S1.Idx)
    {L : List (View.Piece (Elt F) S5120x256 .bf16)} (hL : Fills (wdSpec i ws wg wu) k L) :
    Fills (wdSpec i ws wg wu) (k + 1)
      (⟨Rect.unit ![128 * k, 128] S128x128.size (inb_wd k 128 hk le_rfl),
          k0_pay99 (View.readAt (Elt F) arg3.view (Rect.unit (s := S20480) (k0_off4 i (BitVec.ofNat 32 k)) S1.size (k0_off4_inb i ⟨k, hk⟩)).toLoadRect (arg3.view.rep ws)
              z)
            (View.readAt (Elt F) arg6.view (Rect.unit (s := S1x5120x128) ![0, 128 * k, 0] S1x128x128.size (inb_wv k hk)).toLoadRect (arg6.view.rep wu))⟩
        :: ⟨Rect.unit ![128 * k, 0] S128x128.size (inb_wd k 0 hk (by decide)),
          k0_pay99 (View.readAt (Elt F) arg3.view (Rect.unit (s := S20480) (k0_off3 i (BitVec.ofNat 32 k)) S1.size (k0_off3_inb i ⟨k, hk⟩)).toLoadRect (arg3.view.rep ws)
              z)
            (View.readAt (Elt F) arg5.view (Rect.unit (s := S1x5120x128) ![0, 128 * k, 0] S1x128x128.size (inb_wv k hk)).toLoadRect (arg5.view.rep wg))⟩
        :: L) := by
  have hz : z = ix1 (n := 1) 0 := funext fun a => by
    match a with | ⟨0, _⟩ => exact Subsingleton.elim (α := Fin 1) _ _
  refine ⟨?_, ?_⟩
  · refine List.forall_mem_cons.2 ⟨fun j => ?_, List.forall_mem_cons.2 ⟨fun j => ?_, hL.1⟩⟩
    · have h0 : (j 0).val < 128 := (j 0).isLt
      have h1 : (j 1).val < 128 := (j 1).isLt
      have e0 : ∀ inb, ((Rect.unit (s := S5120x256) ![128 * k, 128] S128x128.size inb).emb j 0).val = 128 * k + (j 0).val := fun inb => by
        show 128 * k + 1 * (j 0).val = _; omega
      have e1 : ∀ inb, ((Rect.unit (s := S5120x256) ![128 * k, 128] S128x128.size inb).emb j 1).val = 128 + (j 1).val := fun inb => by
        show 128 + 1 * (j 1).val = _; omega
      dsimp only
      rw [readAt_win, readAt_win, View.read_rep, View.read_rep]
      refine (pay99_apply _ _ j).trans ?_
      unfold wdSpec
      rw [dif_neg (by rw [e1]; omega)]
      unfold wsUp
      refine congrArg₂ wdAt ?_ ?_
      · have : (⟨((Rect.unit (s := S5120x256) ![128 * k, 128] S128x128.size (inb_wd k 128 hk le_rfl)).emb j 0).val / 128, by
            rw [e0]; omega⟩ : Fin 40) = ⟨k, hk⟩ := Fin.ext (by simp only [e0]; omega)
        rw [this, hz]; rfl
      · exact congrArg wu (funext fun a => Fin.ext (by
          match a with
          | ⟨0, _⟩ => rfl
          | ⟨1, _⟩ => show 128 * k + 1 * (j 0).val = _; exact ((e0 _).trans (by omega)).symm
          | ⟨2, _⟩ => show 0 + 1 * (j 1).val = _ - 128; rw [e1]; omega))
    · have h0 : (j 0).val < 128 := (j 0).isLt
      have h1 : (j 1).val < 128 := (j 1).isLt
      have e0 : ∀ inb, ((Rect.unit (s := S5120x256) ![128 * k, 0] S128x128.size inb).emb j 0).val = 128 * k + (j 0).val := fun inb => by
        show 128 * k + 1 * (j 0).val = _; omega
      have e1 : ∀ inb, ((Rect.unit (s := S5120x256) ![128 * k, 0] S128x128.size inb).emb j 1).val = (j 1).val := fun inb => by
        show 0 + 1 * (j 1).val = _; omega
      dsimp only
      rw [readAt_win, readAt_win, View.read_rep, View.read_rep]
      refine (pay99_apply _ _ j).trans ?_
      unfold wdSpec
      rw [dif_pos (by rw [e1]; omega)]
      unfold wsGate
      refine congrArg₂ wdAt ?_ ?_
      · have : (⟨((Rect.unit (s := S5120x256) ![128 * k, 0] S128x128.size (inb_wd k 0 hk (by decide))).emb j 0).val / 128, by
            rw [e0]; omega⟩ : Fin 40) = ⟨k, hk⟩ := Fin.ext (by simp only [e0]; omega)
        rw [this, hz]; rfl
      · exact congrArg wg (funext fun a => Fin.ext (by
          match a with
          | ⟨0, _⟩ => rfl
          | ⟨1, _⟩ => show 128 * k + 1 * (j 0).val = _; exact ((e0 _).trans (by omega)).symm
          | ⟨2, _⟩ => show 0 + 1 * (j 1).val = _; rw [e1]; omega))
  · intro y hy
    have h1 := idx2_lt1 y
    by_cases hlt : (y 0).val < 128 * k
    · obtain ⟨p, hp, hy⟩ := hL.2 y hlt
      exact ⟨p, List.mem_cons_of_mem _ (List.mem_cons_of_mem _ hp), hy⟩
    · by_cases hu : (y 1).val < 128
      · refine ⟨_, List.mem_cons_of_mem _ List.mem_cons_self, ?_⟩
        rw [Rect.mem_set_unit]
        intro a; match a with
        | ⟨0, _⟩ => exact ⟨show 128 * k ≤ (y 0).val by omega, show (y 0).val < 128 * k + 128 by omega⟩
        | ⟨1, _⟩ => exact ⟨show 0 ≤ (y 1).val by omega, show (y 1).val < 0 + 128 by omega⟩
      · refine ⟨_, List.mem_cons_self, ?_⟩
        rw [Rect.mem_set_unit]
        intro a; match a with
        | ⟨0, _⟩ => exact ⟨show 128 * k ≤ (y 0).val by omega, show (y 0).val < 128 * k + 128 by omega⟩
        | ⟨1, _⟩ => exact ⟨show 128 ≤ (y 1).val by omega, show (y 1).val < 128 + 128 by omega⟩

/-- Forty pairs of blocks are the whole panel buffer. -/
theorem fills_read (arg12 : Memref sig .tc .vmem S5120x256 .bf16) (f) (X : Vec F S5120x256 .bf16)
    {L : List (View.Piece (Elt F) S5120x256 .bf16)} (hL : Fills X 40 L) :
    arg12.view.read (Elt F) (arg12.view.writes (Elt F) f L) = X := by
  have hc : ∀ y : S5120x256.Idx, ∃ p ∈ L, y ∈ p.1.set := fun y => hL.2 y (by have := idx2_lt0 y; omega)
  rw [View.read_writes_eq_canon _ _ _ hc]
  exact funext fun y => View.canon_apply_of_pieces X L hL.1 y (hc y)

/-- The lane number of each column. -/
def laneV : IVec S128x128 32 := iota .tc S128x128 32 [1] iota_S128x128_d1_w32

/-- The state before trip `k` of the loop over row groups. -/
def loopSt (arg0 : BitVec 32) (v1 v4 : Elt F .i32) (hw : k0_chk1 v1 v4) (h3 : k0_cond3 v1 v4 = 1#1)
    (xs : Vec F S1536x5120 .bf16) (dhc : Vec F S1536x128 .fp8e5m2) (dhs : Vec F S1536x128 .f32)
    (wd : Vec F S5120x256 .bf16) (s : St F) : ℕ → St F
  | 0 => s
  | k + 1 => if hk : k < (k0_t1_loop v1 v4).trips then
      trip arg0 v1 v4 hw h3 laneV (k0_t1_loop v1 v4).lb xs dhc dhs wd ⟨k, hk⟩ (loopSt arg0 v1 v4 hw h3 xs dhc dhs wd s k)
    else loopSt arg0 v1 v4 hw h3 xs dhc dhs wd s k

/-- The state after the third stretch. -/
def liveSt (i : grid0.Coords) (v1 v4 : Elt F .i32) (hw : k0_chk1 v1 v4)
    (ws : Vec F S20480 .f32) (xs : Vec F S1536x5120 .bf16) (wg wu : Vec F S1x5120x128 .fp8e4m3) (dhc : Vec F S1536x128 .fp8e5m2) (dhs : Vec F S1536x128 .f32)
    (s : St F) : St F :=
  if h3 : k0_cond3 v1 v4 = 1#1 then
    loopSt (BitVec.ofNat 32 (i 0).val) v1 v4 hw h3 xs dhc dhs (wdSpec i ws wg wu) s (k0_t1_loop v1 v4).trips
  else s

/-- The loop's invariant, by values. -/
abbrev loopI (c : Dev nD) (arg4 : Memref sig .tc .vmem S1536x5120 .bf16) (arg7 : Memref sig .tc .vmem S1536x128 .fp8e5m2) (arg8 : Memref sig .tc .vmem S1536x128 .f32)
    (arg10 : Memref sig .tc .vmem S1536x128 .f32) (arg11 : Memref sig .tc .vmem S1536x5120 .f32) (arg12 : Memref sig .tc .vmem S5120x256 .bf16)
    (arg13 arg14 : Memref sig .tc .vmem S1536x128 .fp8e5m2)
    (arg0 : BitVec 32) (v1 v4 : Elt F .i32) (hw : k0_chk1 v1 v4) (h3 : k0_cond3 v1 v4 = 1#1)
    (xs : Vec F S1536x5120 .bf16) (dhc : Vec F S1536x128 .fp8e5m2) (dhs : Vec F S1536x128 .f32)
    (wd : Vec F S5120x256 .bf16) (s : St F) : ℕ → BitVec 32 → sProp 𝕄 := fun k _ =>
  iprop(at_ c arg4 xs ∗ at_ c arg7 dhc ∗ at_ c arg8 dhs ∗ at_ c arg12 wd
    ∗ stAt c arg10 arg13 arg14 arg11 (loopSt arg0 v1 v4 hw h3 xs dhc dhs wd s k))

theorem loop_step (𝒱 : Variants) (c : Dev nD) (bd : Option 𝒱.V) (E : Set ℕ) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (arg0 : BitVec 32) (v1 v4 : Elt F .i32) (hw : k0_chk1 v1 v4) (h3 : k0_cond3 v1 v4 = 1#1)
    (xs : Vec F S1536x5120 .bf16) (dhc : Vec F S1536x128 .fp8e5m2) (dhs : Vec F S1536x128 .f32)
    (wd : Vec F S5120x256 .bf16) (s : St F) (k : Fin (k0_t1_loop v1 v4).trips) (acc : BitVec 32) :
    loopI c arg4 arg7 arg8 arg10 arg11 arg12 arg13 arg14 arg0 v1 v4 hw h3 xs dhc dhs wd s k.val acc
      ⊢ wp frame (wpE defs₀ 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 arg0 v1 v4 hw h3 laneV (k0_t1_loop v1 v4).lb k acc)
          (loopI c arg4 arg7 arg8 arg10 arg11 arg12 arg13 arg14 arg0 v1 v4 hw h3 xs dhc dhs wd s (k.val + 1)) := by
  refine (trip_run 𝒱 c bd i arg2 harg2 arg3 harg3 arg4 harg4 arg5 harg5 arg6 harg6 arg7 harg7 arg8 harg8 arg9 harg9 arg10 harg10 arg11 harg11 arg12 harg12 arg13 harg13 arg14 harg14 arg15 arg0 v1 v4 hw h3 laneV (k0_t1_loop v1 v4).lb xs dhc dhs wd k _ E acc).trans (wp_mono _ _ _ fun _ => ?_)
  rw [show loopI c arg4 arg7 arg8 arg10 arg11 arg12 arg13 arg14 arg0 v1 v4 hw h3 xs dhc dhs wd s (k.val + 1) = fun _ => iprop(at_ c arg4 xs ∗ at_ c arg7 dhc ∗ at_ c arg8 dhs ∗ at_ c arg12 wd
    ∗ stAt c arg10 arg13 arg14 arg11 (trip arg0 v1 v4 hw h3 laneV (k0_t1_loop v1 v4).lb xs dhc dhs wd k (loopSt arg0 v1 v4 hw h3 xs dhc dhs wd s k.val))) from by
    unfold loopI; rw [loopSt, dif_pos k.isLt]]

set_option maxRecDepth 20000 in
set_option maxHeartbeats 4000000 in
theorem live_run (𝒱 : Variants) (c : Dev nD) (bd : Option 𝒱.V) (E : Set ℕ) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (v1 v4 : Elt F .i32) (hw : k0_chk1 v1 v4) (h3 : k0_cond3 v1 v4 = 1#1)
    (ws : Vec F S20480 .f32) (xs : Vec F S1536x5120 .bf16) (wg wu : Vec F S1x5120x128 .fp8e4m3) (dhc : Vec F S1536x128 .fp8e5m2) (dhs : Vec F S1536x128 .f32)
    (wd : Vec F S5120x256 .bf16) (s : St F) :
    (iprop(at_ c arg3 ws ∗ at_ c arg4 xs ∗ at_ c arg5 wg ∗ at_ c arg6 wu ∗ at_ c arg7 dhc ∗ at_ c arg8 dhs ∗ at_ c arg12 wd ∗ stAt c arg10 arg13 arg14 arg11 s) : sProp 𝕄)
      ⊢ wp frame (wpE defs₀ 𝒱 (c : Thread nD τ) bd) E (live (F := F) i arg2 harg2 arg3 harg3 arg4 harg4 arg5 harg5 arg6 harg6 arg7 harg7 arg8 harg8 arg9 harg9 arg10 harg10 arg11 harg11 arg12 harg12 arg13 harg13 arg14 harg14 arg15 v1 v4 hw h3)
          fun _ => iprop(at_ c arg3 ws ∗ at_ c arg4 xs ∗ at_ c arg5 wg ∗ at_ c arg6 wu ∗ at_ c arg7 dhc ∗ at_ c arg8 dhs ∗ at_ c arg12 (wdSpec i ws wg wu)
            ∗ stAt c arg10 arg13 arg14 arg11 (loopSt (BitVec.ofNat 32 (i 0).val) v1 v4 hw h3 xs dhc dhs (wdSpec i ws wg wu) s (k0_t1_loop v1 v4).trips)) := by
  unfold live
  iintro ⟨H3, H4, H5, H6, H7, H8, H12, H10, H13, H14, H11⟩
  sl_exec
  ihave HW := (at_of_read c arg12 _ (wdSpec i ws wg wu) ?hwd) $$ H12
  case hwd =>
    delta live_run.sl.H12_80
    refine fills_read arg12 _ _ ?_
    refine fills_step i arg3 ws arg5 wg arg6 wu 39 (by decide) _ ?_
    refine fills_step i arg3 ws arg5 wg arg6 wu 38 (by decide) _ ?_
    refine fills_step i arg3 ws arg5 wg arg6 wu 37 (by decide) _ ?_
    refine fills_step i arg3 ws arg5 wg arg6 wu 36 (by decide) _ ?_
    refine fills_step i arg3 ws arg5 wg arg6 wu 35 (by decide) _ ?_
    refine fills_step i arg3 ws arg5 wg arg6 wu 34 (by decide) _ ?_
    refine fills_step i arg3 ws arg5 wg arg6 wu 33 (by decide) _ ?_
    refine fills_step i arg3 ws arg5 wg arg6 wu 32 (by decide) _ ?_
    refine fills_step i arg3 ws arg5 wg arg6 wu 31 (by decide) _ ?_
    refine fills_step i arg3 ws arg5 wg arg6 wu 30 (by decide) _ ?_
    refine fills_step i arg3 ws arg5 wg arg6 wu 29 (by decide) _ ?_
    refine fills_step i arg3 ws arg5 wg arg6 wu 28 (by decide) _ ?_
    refine fills_step i arg3 ws arg5 wg arg6 wu 27 (by decide) _ ?_
    refine fills_step i arg3 ws arg5 wg arg6 wu 26 (by decide) _ ?_
    refine fills_step i arg3 ws arg5 wg arg6 wu 25 (by decide) _ ?_
    refine fills_step i arg3 ws arg5 wg arg6 wu 24 (by decide) _ ?_
    refine fills_step i arg3 ws arg5 wg arg6 wu 23 (by decide) _ ?_
    refine fills_step i arg3 ws arg5 wg arg6 wu 22 (by decide) _ ?_
    refine fills_step i arg3 ws arg5 wg arg6 wu 21 (by decide) _ ?_
    refine fills_step i arg3 ws arg5 wg arg6 wu 20 (by decide) _ ?_
    refine fills_step i arg3 ws arg5 wg arg6 wu 19 (by decide) _ ?_
    refine fills_step i arg3 ws arg5 wg arg6 wu 18 (by decide) _ ?_
    refine fills_step i arg3 ws arg5 wg arg6 wu 17 (by decide) _ ?_
    refine fills_step i arg3 ws arg5 wg arg6 wu 16 (by decide) _ ?_
    refine fills_step i arg3 ws arg5 wg arg6 wu 15 (by decide) _ ?_
    refine fills_step i arg3 ws arg5 wg arg6 wu 14 (by decide) _ ?_
    refine fills_step i arg3 ws arg5 wg arg6 wu 13 (by decide) _ ?_
    refine fills_step i arg3 ws arg5 wg arg6 wu 12 (by decide) _ ?_
    refine fills_step i arg3 ws arg5 wg arg6 wu 11 (by decide) _ ?_
    refine fills_step i arg3 ws arg5 wg arg6 wu 10 (by decide) _ ?_
    refine fills_step i arg3 ws arg5 wg arg6 wu 9 (by decide) _ ?_
    refine fills_step i arg3 ws arg5 wg arg6 wu 8 (by decide) _ ?_
    refine fills_step i arg3 ws arg5 wg arg6 wu 7 (by decide) _ ?_
    refine fills_step i arg3 ws arg5 wg arg6 wu 6 (by decide) _ ?_
    refine fills_step i arg3 ws arg5 wg arg6 wu 5 (by decide) _ ?_
    refine fills_step i arg3 ws arg5 wg arg6 wu 4 (by decide) _ ?_
    refine fills_step i arg3 ws arg5 wg arg6 wu 3 (by decide) _ ?_
    refine fills_step i arg3 ws arg5 wg arg6 wu 2 (by decide) _ ?_
    refine fills_step i arg3 ws arg5 wg arg6 wu 1 (by decide) _ ?_
    refine fills_step i arg3 ws arg5 wg arg6 wu 0 (by decide) _ ?_
    exact fills_nil _
  icases HW with H12
  sl_for (loopI c arg4 arg7 arg8 arg10 arg11 arg12 arg13 arg14 (BitVec.ofNat 32 (i 0).val) v1 v4 hw h3 xs dhc dhs (wdSpec i ws wg wu) s) $$ [H4 H7 H8 H12 H10 H13 H14 H11]
  case region =>
    intro k acc
    exact loop_step 𝒱 c bd E i arg2 harg2 arg3 harg3 arg4 harg4 arg5 harg5 arg6 harg6 arg7 harg7 arg8 harg8 arg9 harg9 arg10 harg10 arg11 harg11 arg12 harg12 arg13 harg13 arg14 harg14 arg15 (BitVec.ofNat 32 (i 0).val) v1 v4 hw h3 xs dhc dhs (wdSpec i ws wg wu) s k acc
  · isplitl [H4]; · iexact H4
    isplitl [H7]; · iexact H7
    isplitl [H8]; · iexact H8
    isplitl [H12]; · iexact H12
    isplitl [H10]; · iexact H10
    isplitl [H13]; · iexact H13
    isplitl [H14]; · iexact H14
    iexact H11
  · iintro %acc ⟨H4, H7, H8, H12, H10, H13, H14, H11⟩
    sl_exec
    sl_step
    sl_close

end Cert.KernelIdeal.Hand
-- ==== Proof.IRun.lean ====
/-
  What each stretch of the body does, by values.
-/
module

public import proofs.«01_k».proof.Proof.ILive
public import Idealize.ShloMosaic.Lib.Transfers
public import Idealize.ShloMosaic.Lib.ViewIndex
public import Idealize.ShloMosaic.Lib.LaneScatter.Fold

@[expose] public section

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The state after the first stretch: at the first grid point scales and gradient are zero. -/
def zeroSt (i : grid0.Coords) (s : St F) : St F :=
  if k0_cond1 i = 1#1 then { s with sc := k0_pay2, dx := k0_pay1 } else s

/-- The clearing of the code panels happens at the points of expert 0. -/
def clearCond (i : grid0.Coords) : BitVec 1 :=
  Scalar.cmpi .ne (Scalar.extui (Scalar.cmpi .eq (BitVec.ofNat 32 (i 1).val) 0#32)) 0#32

/-- The state after the second stretch: at expert 0's points the code panels are zero. -/
def clearSt (i : grid0.Coords) (s : St F) : St F :=
  if clearCond i = 1#1 then { s with cg := k0_pay3, cu := k0_pay4 } else s

theorem read_writes_all {sp : Space} {S : Shape} {e : EltTy} (v : View sig .tc sp S e) (f : v.ty.Contents (Elt F)) {off : Fin S.rank → ℕ}
    (inb : ∀ a, off a + S.size a ≤ S.size a) (w : (Rect.unit off S.size inb).shape.Idx → Elt F e) (L : List (View.Piece (Elt F) S e)) :
    v.read (Elt F) (v.writes (Elt F) f (⟨Rect.unit off S.size inb, w⟩ :: L)) = w := View.read_writes_full v f inb w L

theorem segZero_run (𝒱 : Variants) (c : Dev nD) (bd : Option 𝒱.V) (E : Set ℕ) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2) (s : St F) :
    (iprop(stAt c arg10 arg13 arg14 arg11 s) : sProp 𝕄)
      ⊢ wp frame (wpE defs₀ 𝒱 (c : Thread nD τ) bd) E (segZero (F := F) i arg2 harg2 arg3 harg3 arg4 harg4 arg5 harg5 arg6 harg6 arg7 harg7 arg8 harg8 arg9 harg9 arg10 harg10 arg11 harg11 arg12 harg12 arg13 harg13 arg14 harg14 arg15)
          fun _ => iprop(stAt c arg10 arg13 arg14 arg11 (zeroSt i s)) := by
  unfold segZero zeroSt
  by_cases h : k0_cond1 i = 1#1
  · rw [if_pos h]
    iintro ⟨H10, H13, H14, H11⟩
    sl_exec (disch := exact h)
    sl_step
    ihave H10' := (at_of_read c arg10 _ (k0_pay2 (F := F)) (read_writes_all _ _ _ _ _)) $$ H10
    ihave H11' := (at_of_read c arg11 _ (k0_pay1 (F := F)) (read_writes_all _ _ _ _ _)) $$ H11
    sl_close
  · rw [if_neg h]
    iintro ⟨H10, H13, H14, H11⟩
    sl_exec (disch := exact h)
    sl_step
    sl_close

theorem segClear_run (𝒱 : Variants) (c : Dev nD) (bd : Option 𝒱.V) (E : Set ℕ) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2) (s : St F) :
    (iprop(stAt c arg10 arg13 arg14 arg11 s) : sProp 𝕄)
      ⊢ wp frame (wpE defs₀ 𝒱 (c : Thread nD τ) bd) E (segClear (F := F) i arg2 harg2 arg3 harg3 arg4 harg4 arg5 harg5 arg6 harg6 arg7 harg7 arg8 harg8 arg9 harg9 arg10 harg10 arg11 harg11 arg12 harg12 arg13 harg13 arg14 harg14 arg15)
          fun _ => iprop(stAt c arg10 arg13 arg14 arg11 (clearSt i s)) := by
  unfold segClear clearSt
  by_cases h : clearCond i = 1#1
  · rw [if_pos h]
    iintro ⟨H10, H13, H14, H11⟩
    sl_exec (disch := exact h)
    sl_step
    ihave H13' := (at_of_read c arg13 _ (k0_pay3 (F := F)) (read_writes_all _ _ _ _ _)) $$ H13
    ihave H14' := (at_of_read c arg14 _ (k0_pay4 (F := F)) (read_writes_all _ _ _ _ _)) $$ H14
    sl_close
  · rw [if_neg h]
    iintro ⟨H10, H13, H14, H11⟩
    sl_exec (disch := exact h)
    sl_step
    sl_close

theorem segLive_run (𝒱 : Variants) (c : Dev nD) (bd : Option 𝒱.V) (E : Set ℕ) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg9 : Memref sig .tc .hbm S1536x16384 .fp8e5m2) (harg9 : arg9.IsWhole) (arg10 : Memref sig .tc .vmem S1536x128 .f32) (harg10 : arg10.IsWhole) (arg11 : Memref sig .tc .vmem S1536x5120 .f32) (harg11 : arg11.IsWhole) (arg12 : Memref sig .tc .vmem S5120x256 .bf16) (harg12 : arg12.IsWhole) (arg13 : Memref sig .tc .vmem S1536x128 .fp8e5m2) (harg13 : arg13.IsWhole) (arg14 : Memref sig .tc .vmem S1536x128 .fp8e5m2) (harg14 : arg14.IsWhole) (arg15 : DmaSems sig S2)
    (v1 v4 : Elt F .i32) (hw : k0_chk1 v1 v4)
    (ws : Vec F S20480 .f32) (xs : Vec F S1536x5120 .bf16) (wg wu : Vec F S1x5120x128 .fp8e4m3) (dhc : Vec F S1536x128 .fp8e5m2) (dhs : Vec F S1536x128 .f32)
    (wd : Vec F S5120x256 .bf16) (s : St F) :
    (iprop(at_ c arg3 ws ∗ at_ c arg4 xs ∗ at_ c arg5 wg ∗ at_ c arg6 wu ∗ at_ c arg7 dhc ∗ at_ c arg8 dhs ∗ at_ c arg12 wd ∗ stAt c arg10 arg13 arg14 arg11 s) : sProp 𝕄)
      ⊢ wp frame (wpE defs₀ 𝒱 (c : Thread nD τ) bd) E (segLive (F := F) i arg2 harg2 arg3 harg3 arg4 harg4 arg5 harg5 arg6 harg6 arg7 harg7 arg8 harg8 arg9 harg9 arg10 harg10 arg11 harg11 arg12 harg12 arg13 harg13 arg14 harg14 arg15 v1 v4 hw)
          fun _ => iprop(at_ c arg3 ws ∗ at_ c arg4 xs ∗ at_ c arg5 wg ∗ at_ c arg6 wu ∗ at_ c arg7 dhc ∗ at_ c arg8 dhs ∗ (∃ wd', at_ c arg12 wd')
            ∗ stAt c arg10 arg13 arg14 arg11 (liveSt i v1 v4 hw ws xs wg wu dhc dhs s)) := by
  unfold segLive liveSt
  by_cases h : k0_cond3 v1 v4 = 1#1
  · rw [dif_pos h, dif_pos h]
    refine (live_run 𝒱 c bd E i arg2 harg2 arg3 harg3 arg4 harg4 arg5 harg5 arg6 harg6 arg7 harg7 arg8 harg8 arg9 harg9 arg10 harg10 arg11 harg11 arg12 harg12 arg13 harg13 arg14 harg14 arg15 v1 v4 hw h ws xs wg wu dhc dhs wd s).trans (wp_mono _ _ _ fun _ => ?_)
    iintro ⟨H3, H4, H5, H6, H7, H8, H12, HS⟩
    isplitl [H3]; · iexact H3
    isplitl [H4]; · iexact H4
    isplitl [H5]; · iexact H5
    isplitl [H6]; · iexact H6
    isplitl [H7]; · iexact H7
    isplitl [H8]; · iexact H8
    isplitl [H12]; · iexists _; iexact H12
    iexact HS
  · rw [dif_neg h, dif_neg h]
    iintro ⟨H3, H4, H5, H6, H7, H8, H12, HS⟩
    sl_step
    isplitl [H3]; · iexact H3
    isplitl [H4]; · iexact H4
    isplitl [H5]; · iexact H5
    isplitl [H6]; · iexact H6
    isplitl [H7]; · iexact H7
    isplitl [H8]; · iexact H8
    isplitl [H12]; · iexists _; iexact H12
    iexact HS

abbrev scM13 : Memref sig .tc .vmem S1536x128 .fp8e5m2 := Memref.whole cc0_scratch1
abbrev scM14 : Memref sig .tc .vmem S1536x128 .fp8e5m2 := Memref.whole cc0_scratch2
abbrev scM12 : Memref sig .tc .vmem S5120x256 .bf16 := Memref.whole cc0_scratch0
abbrev hbM9 : Memref sig .tc .hbm S1536x16384 .fp8e5m2 := Memref.whole main_v5_0

/-- A buffer held by a view's elements is held by two disjoint rectangles of it and the rest. -/
theorem split_two (c : Dev nD) {sp : Space} {S : Shape} {e : EltTy} (m : Memref sig .tc sp S e) (r r' : Rect S) (hr hr')
    (hd : Disjoint r.set r'.set) (f : Buf (Elt F) (m.view.loc (c : Thread nD τ))) :
    (m.view.loc (c : Thread nD τ) ↦[m.view.set]{fullShare} f : sProp 𝕄)
      ⊢ iprop(((m.slice r hr).view.loc (c : Thread nD τ) ↦[(m.slice r hr).view.set]{fullShare} f)
        ∗ ((m.slice r' hr').view.loc (c : Thread nD τ) ↦[(m.slice r' hr').view.set]{fullShare} f)
        ∗ (m.view.loc (c : Thread nD τ) ↦[(m.view.set \ (m.view.slice r).set) \ (m.view.slice r').set]{fullShare} f)) := by
  have h1 : (m.view.slice r).set ⊆ m.view.set := View.set_slice_subset _ _
  have h2 : (m.view.slice r').set ⊆ m.view.set \ (m.view.slice r).set := by
    intro x hx
    refine Finset.mem_sdiff.2 ⟨View.set_slice_subset _ _ hx, fun hx' => ?_⟩
    have hds : Disjoint (m.view.slice r).set (m.view.slice r').set := View.disjoint_slice hd
    exact Finset.disjoint_left.1 hds hx' hx
  iintro H
  ihave H := (pointsTo_split_subset h1).1 $$ H
  icases H with ⟨H1, H⟩
  ihave H := (pointsTo_split_subset h2).1 $$ H
  icases H with ⟨H2, H⟩
  isplitl [H1]; · iexact H1
  isplitl [H2]; · iexact H2
  iexact H

/-- Two disjoint windows, each holding its own payload, and the rest at the old words are the buffer at the payloads put. -/
theorem join_two (c : Dev nD) {sp : Space} {S : Shape} {e : EltTy} (m : Memref sig .tc sp S e) (off off' size : Fin S.rank → ℕ) (inb inb') (hr hr')
    (hd : Disjoint (Rect.unit (s := S) off size inb).set (Rect.unit (s := S) off' size inb').set) (x : S.Idx → Elt F e)
    (g g' : Buf (Elt F) (m.view.loc (c : Thread nD τ))) (w w' : ((a : Fin S.rank) → Fin (size a)) → Elt F e)
    (hg : (m.slice (Rect.unit (s := S) off size inb) hr).view.read (Elt F) g = w)
    (hg' : (m.slice (Rect.unit (s := S) off' size inb') hr').view.read (Elt F) g' = w') :
    (iprop(((m.slice (Rect.unit (s := S) off size inb) hr).view.loc (c : Thread nD τ) ↦[(m.slice (Rect.unit (s := S) off size inb) hr).view.set]{fullShare} g)
        ∗ ((m.slice (Rect.unit (s := S) off' size inb') hr').view.loc (c : Thread nD τ) ↦[(m.slice (Rect.unit (s := S) off' size inb') hr').view.set]{fullShare} g')
        ∗ (m.view.loc (c : Thread nD τ) ↦[(m.view.set \ (m.view.slice (Rect.unit (s := S) off size inb)).set) \ (m.view.slice (Rect.unit (s := S) off' size inb')).set]{fullShare} m.view.rep x)) : sProp 𝕄)
      ⊢ at_ c m (VecWindow.put (VecWindow.put x off size w) off' size w') := by
  set r := Rect.unit (s := S) off size inb with hrdef
  set r' := Rect.unit (s := S) off' size inb' with hrdef'
  have hds : Disjoint (m.view.slice r).set (m.view.slice r').set := View.disjoint_slice hd
  have h1 : (m.view.slice r).set ⊆ m.view.set := View.set_slice_subset _ _
  have h2 : (m.view.slice r').set ⊆ m.view.set \ (m.view.slice r).set := by
    intro y hy
    exact Finset.mem_sdiff.2 ⟨View.set_slice_subset _ _ hy, fun hy' => Finset.disjoint_left.1 hds hy' hy⟩
  iintro ⟨H1, H2, H3⟩
  ihave H := (pointsTo_join (ℓ := m.view.loc (c : Thread nD τ)) (I := (m.view.set \ (m.view.slice r).set) \ (m.view.slice r').set)
    (J := (m.view.slice r').set) (q := fullShare) (f := m.view.rep x) (g := g') Finset.sdiff_disjoint) $$ [H3 H2]
  · isplitl [H3]; · iexact H3
    iexact H2
  rw [Finset.sdiff_union_of_subset h2]
  ihave H := (pointsTo_join (ℓ := m.view.loc (c : Thread nD τ)) (I := m.view.set \ (m.view.slice r).set)
    (J := (m.view.slice r).set) (q := fullShare) (g := g) Finset.sdiff_disjoint) $$ [H H1]
  · isplitl [H]; · iexact H
    iexact H1
  rw [Finset.sdiff_union_of_subset h1]
  ihave H := (at_of_read c m _ (VecWindow.put (VecWindow.put x off size w) off' size w') ?h) $$ H
  case h =>
    funext y
    rw [View.read_apply]
    unfold VecWindow.put
    by_cases hy' : ∀ a, off' a ≤ (y a).val ∧ (y a).val < off' a + size a
    · have hm' : y ∈ r'.set := by rw [hrdef', Rect.mem_set_unit]; exact hy'
      have hm : m.view.emb y ∈ (m.view.slice r').set := by rw [View.set_slice]; exact Finset.mem_map_of_mem _ hm'
      rw [dif_pos hy', Finset.piecewise_eq_of_notMem _ _ _ (fun hn => Finset.disjoint_left.1 hds hn hm), Finset.piecewise_eq_of_mem _ _ _ hm, ← hg']
      rw [View.read_apply]
      have : m.view.emb y = (m.slice r' hr').view.emb (Rect.unitLocal (s := S) (off := off') (size := size) y hy') :=
        congrArg m.view.emb (funext fun a => Fin.ext (by
          show (y a).val = off' a + 1 * ((y a).val - off' a); have := hy' a; omega))
      rw [this]
    · rw [dif_neg hy']
      have hn' : m.view.emb y ∉ (m.view.slice r').set := by
        rw [View.set_slice]; intro hm
        obtain ⟨z, hz, e⟩ := Finset.mem_map.1 hm
        rw [m.view.emb.injective e, hrdef', Rect.mem_set_unit] at hz; exact hy' hz
      by_cases hy : ∀ a, off a ≤ (y a).val ∧ (y a).val < off a + size a
      · have hm' : y ∈ r.set := by rw [hrdef, Rect.mem_set_unit]; exact hy
        have hm : m.view.emb y ∈ (m.view.slice r).set := by rw [View.set_slice]; exact Finset.mem_map_of_mem _ hm'
        rw [dif_pos hy, Finset.piecewise_eq_of_mem _ _ _ hm, ← hg, View.read_apply]
        have : m.view.emb y = (m.slice r hr).view.emb (Rect.unitLocal (s := S) (off := off) (size := size) y hy) :=
          congrArg m.view.emb (funext fun a => Fin.ext (by
            show (y a).val = off a + 1 * ((y a).val - off a); have := hy a; omega))
        rw [this]
      · rw [dif_neg hy]
        have hn : m.view.emb y ∉ (m.view.slice r).set := by
          rw [View.set_slice]; intro hm
          obtain ⟨z, hz, e⟩ := Finset.mem_map.1 hm
          rw [m.view.emb.injective e, hrdef, Rect.mem_set_unit] at hz; exact hy hz
        rw [Finset.piecewise_eq_of_notMem _ _ _ hn, Finset.piecewise_eq_of_notMem _ _ _ hn', ← View.read_apply, View.read_rep]
  iexact H

/-- The two copied column panels do not meet. -/
theorem panels_disjoint (i : grid0.Coords) (inb inb') :
    Disjoint (Rect.unit (s := S1536x16384) (k0_off17 i) S1536x128.size inb).set (Rect.unit (s := S1536x16384) (k0_off18 i) S1536x128.size inb').set := by
  rw [Finset.disjoint_left]
  intro y hy hy'
  rw [Rect.mem_set_unit] at hy hy'
  have h1 := hy 1; have h2 := hy' 1
  have hi : (i 0).val < 64 := (i 0).isLt
  have e1 : k0_off17 i 1 = 128 * (i 0).val := by
    show (Scalar.muli (BitVec.ofNat 32 (i 0).val) 128#32).toNat = _
    simp only [Scalar.muli, IntOp.muli, BitVec.toNat_mul, BitVec.toNat_ofNat]; omega
  have e2 : k0_off18 i 1 = 8192 + 128 * (i 0).val := by
    show (Scalar.addi 8192#32 (Scalar.muli (BitVec.ofNat 32 (i 0).val) 128#32)).toNat = _
    simp only [Scalar.addi, Scalar.muli, IntOp.addi, IntOp.muli, BitVec.toNat_mul, BitVec.toNat_add, BitVec.toNat_ofNat]; omega
  rw [e1] at h1; rw [e2] at h2
  have : S1536x128.size 1 = 128 := rfl
  omega

/-- The codes array after the last stretch: at expert 3's points the two panels are copied out. -/
def outSt (i : grid0.Coords) (s : St F) (codes : Vec F S1536x16384 .fp8e5m2) : Vec F S1536x16384 .fp8e5m2 :=
  if h : k0_cond4 i = 1#1 then
    VecWindow.put (VecWindow.put codes (k0_off17 i) S1536x128.size s.cg) (k0_off18 i) S1536x128.size s.cu
  else codes

theorem segOut_run (𝒱 : Variants) (c : Dev nD) (i : grid0.Coords)
    (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg10 : Memref sig .tc .vmem S1536x128 .f32) (harg10 : arg10.IsWhole) (arg11 : Memref sig .tc .vmem S1536x5120 .f32) (harg11 : arg11.IsWhole)
    (s : St F) (codes : Vec F S1536x16384 .fp8e5m2) (W : Waits sig Unit) :
    (iprop(at_ c scM13 s.cg ∗ at_ c scM14 s.cu ∗ at_ c hbM9 codes
        ∗ semVal ((c : Thread nD τ), SemLoc.dma 11) 0 ∗ semVal ((c : Thread nD τ), SemLoc.dma 12) 0 ∗ owes (c : Thread nD τ) 0 W) : sProp 𝕄)
      ⊢ wp frame (wpE defs₀ 𝒱 (c : Thread nD τ) none) Set.univ (segOut (F := F) i arg2 harg2 arg3 harg3 arg4 harg4 arg5 harg5 arg6 harg6 arg7 harg7 arg8 harg8 hbM9 (Memref.isWhole_whole _) arg10 harg10 arg11 harg11 scM12 (Memref.isWhole_whole _) scM13 (Memref.isWhole_whole _) scM14 (Memref.isWhole_whole _) cc0_scratch3)
          fun _ => iprop(at_ c scM13 s.cg ∗ at_ c scM14 s.cu ∗ at_ c hbM9 (outSt i s codes)
        ∗ semVal ((c : Thread nD τ), SemLoc.dma 11) 0 ∗ semVal ((c : Thread nD τ), SemLoc.dma 12) 0 ∗ ∃ W', owes (c : Thread nD τ) 0 W') := by
  unfold segOut outSt
  by_cases h : k0_cond4 i = 1#1
  · rw [dif_pos h, dif_pos h]
    iintro ⟨H13, H14, H9, Hq0, Hq1, HO⟩
    ihave H9 := (split_two c hbM9 (Rect.unit (s := S1536x16384) (k0_off17 i) S1536x128.size (k0_off17_inb i h))
      (Rect.unit (s := S1536x16384) (k0_off18 i) S1536x128.size (k0_off18_inb i h)) (fun _ => rfl) (fun _ => rfl) (panels_disjoint i _ _) _) $$ H9
    icases H9 with ⟨Ha, Hb, Hc⟩
    sl_exec
    sl_step
    ihave H9 := (join_two c hbM9 (k0_off17 i) (k0_off18 i) S1536x128.size (k0_off17_inb i h) (k0_off18_inb i h) (fun _ => rfl) (fun _ => rfl)
      (panels_disjoint i _ _) codes _ _ s.cg s.cu ?hg ?hg') $$ [Ha Hb Hc]
    rotate_left 2
    · isplitl [Ha]; · iexact Ha
      isplitl [Hb]; · iexact Hb
      iexact Hc
    isplitl [H13]; · iexact H13
    isplitl [H14]; · iexact H14
    isplitl [H9]; · iexact H9
    isplitl [Hq0]; · iexact Hq0
    isplitl [Hq1]; · iexact Hq1
    iexists _; iexact HO
    case hg => exact (View.read_writes_whole _ _ _).trans (View.read_rep _ _)
    case hg' => exact (View.read_writes_whole _ _ _).trans (View.read_rep _ _)
  · rw [dif_neg h, dif_neg h]
    iintro ⟨H13, H14, H9, Hq0, Hq1, HO⟩
    sl_step
    sl_close

/-- The first word the body reads from the table: where expert `e`'s rows begin. -/
def tabLo (i : grid0.Coords) (tb : Vec F S5 .i32) : Elt F .i32 :=
  tb ((Rect.unit (s := S5) (k0_off1 i) S1.size (k0_off1_inb i)).emb (ix1 (n := 1) 0))
/-- The second word: where they end. -/
def tabHi (i : grid0.Coords) (tb : Vec F S5 .i32) : Elt F .i32 :=
  tb ((Rect.unit (s := S5) (k0_off2 i) S1.size (k0_off2_inb i)).emb (ix1 (n := 1) 0))

/-- The state after the body at one grid point. -/
def bodySt (i : grid0.Coords) (tb : Vec F S5 .i32) (hw : k0_chk1 (tabLo i tb) (tabHi i tb))
    (ws : Vec F S20480 .f32) (xs : Vec F S1536x5120 .bf16) (wg wu : Vec F S1x5120x128 .fp8e4m3) (dhc : Vec F S1536x128 .fp8e5m2) (dhs : Vec F S1536x128 .f32)
    (s : St F) : St F :=
  liveSt i (tabLo i tb) (tabHi i tb) hw ws xs wg wu dhc dhs (clearSt i (zeroSt i s))

theorem first_eq (z : S1.Idx) : z = ix1 (n := 1) 0 := funext fun a => by
  match a with | ⟨0, _⟩ => exact Subsingleton.elim (α := Fin 1) _ _

/-- A buffer held at the value `X`, at the share `q`. -/
abbrev atq (c : Dev nD) (q : PosShare TreeShare) {sp : Space} {S : Shape} {e : EltTy} (M : Memref sig .tc sp S e) (X : Vec F S e) : sProp 𝕄 :=
  M.view.loc (c : Thread nD τ) ↦[M.view.set]{q} M.view.rep (Val := Elt F) X

/-- The whole body at one grid point, by values. -/
theorem body_run (c : Dev nD) (i : grid0.Coords) (arg2 : Memref sig .tc .smem S5 .i32) (harg2 : arg2.IsWhole) (arg3 : Memref sig .tc .smem S20480 .f32) (harg3 : arg3.IsWhole) (arg4 : Memref sig .tc .vmem S1536x5120 .bf16) (harg4 : arg4.IsWhole) (arg5 : Memref sig .tc .vmem S1x5120x128 .fp8e4m3) (harg5 : arg5.IsWhole) (arg6 : Memref sig .tc .vmem S1x5120x128 .fp8e4m3) (harg6 : arg6.IsWhole) (arg7 : Memref sig .tc .vmem S1536x128 .fp8e5m2) (harg7 : arg7.IsWhole) (arg8 : Memref sig .tc .vmem S1536x128 .f32) (harg8 : arg8.IsWhole) (arg10 : Memref sig .tc .vmem S1536x128 .f32) (harg10 : arg10.IsWhole) (arg11 : Memref sig .tc .vmem S1536x5120 .f32) (harg11 : arg11.IsWhole)
    (qt : PosShare TreeShare) (tb : Vec F S5 .i32) (hw : k0_chk1 (tabLo i tb) (tabHi i tb))
    (ws : Vec F S20480 .f32) (xs : Vec F S1536x5120 .bf16) (wg wu : Vec F S1x5120x128 .fp8e4m3) (dhc : Vec F S1536x128 .fp8e5m2) (dhs : Vec F S1536x128 .f32)
    (wd : Vec F S5120x256 .bf16) (s : St F) (codes : Vec F S1536x16384 .fp8e5m2) (W : Waits sig Unit) (K : PUnit → sProp 𝕄) :
    (iprop(atq c qt arg2 tb ∗ at_ c arg3 ws ∗ at_ c arg4 xs ∗ at_ c arg5 wg ∗ at_ c arg6 wu ∗ at_ c arg7 dhc ∗ at_ c arg8 dhs ∗ at_ c scM12 wd
        ∗ stAt c arg10 scM13 scM14 arg11 s ∗ at_ c hbM9 codes
        ∗ semVal ((c : Thread nD τ), SemLoc.dma 11) 0 ∗ semVal ((c : Thread nD τ), SemLoc.dma 12) 0 ∗ owes (c : Thread nD τ) 0 W
        ∗ (iprop(atq c qt arg2 tb ∗ at_ c arg3 ws ∗ at_ c arg4 xs ∗ at_ c arg5 wg ∗ at_ c arg6 wu ∗ at_ c arg7 dhc ∗ at_ c arg8 dhs ∗ (∃ wd', at_ c scM12 wd')
            ∗ stAt c arg10 scM13 scM14 arg11 (bodySt i tb hw ws xs wg wu dhc dhs s)
            ∗ at_ c hbM9 (outSt i (bodySt i tb hw ws xs wg wu dhc dhs s) codes)
            ∗ semVal ((c : Thread nD τ), SemLoc.dma 11) 0 ∗ semVal ((c : Thread nD τ), SemLoc.dma 12) 0 ∗ ∃ W', owes (c : Thread nD τ) 0 W') -∗ K ⟨⟩)) : sProp 𝕄)
      ⊢ wp frame (wpE (defs₀ (F := F)) Variants.none (c : Thread nD τ) none) Set.univ (cc0_main (F := F) i arg2 harg2 arg3 harg3 arg4 harg4 arg5 harg5 arg6 harg6 arg7 harg7 arg8 harg8 hbM9 (Memref.isWhole_whole _) arg10 harg10 arg11 harg11 scM12 (Memref.isWhole_whole _) scM13 (Memref.isWhole_whole _) scM14 (Memref.isWhole_whole _) cc0_scratch3) K := by
  simp only [cc0_main_eq_skeleton]
  rw [body_eq]
  iintro ⟨H2, H3, H4, H5, H6, H7, H8, H12, HS, H9, Hq0, Hq1, HO, HK⟩
  sl_exec
  have e1 : body_run.sl.r i arg2 tb = tabLo i tb := by
    delta body_run.sl.r
    rw [readAt_win, View.read_rep, first_eq (Shape.Idx.first _)]; rfl
  have e2 : body_run.sl.r_1 i arg2 tb = tabHi i tb := by
    delta body_run.sl.r_1
    rw [readAt_win, View.read_rep, first_eq (Shape.Idx.first _)]; rfl
  rw [e1, e2]
  iapply (wp_assume _ _ _ _ hw)
  iapply (LaneScatter.bind_of_run _ _ _ (segZero_run Variants.none c none Set.univ i arg2 harg2 arg3 harg3 arg4 harg4 arg5 harg5 arg6 harg6 arg7 harg7 arg8 harg8 hbM9 (Memref.isWhole_whole _) arg10 harg10 arg11 harg11 scM12 (Memref.isWhole_whole _) scM13 (Memref.isWhole_whole _) scM14 (Memref.isWhole_whole _) cc0_scratch3 s))
  isplitl [HS]; · iexact HS
  iintro HS
  iapply (LaneScatter.bind_of_run _ _ _ (segClear_run Variants.none c none Set.univ i arg2 harg2 arg3 harg3 arg4 harg4 arg5 harg5 arg6 harg6 arg7 harg7 arg8 harg8 hbM9 (Memref.isWhole_whole _) arg10 harg10 arg11 harg11 scM12 (Memref.isWhole_whole _) scM13 (Memref.isWhole_whole _) scM14 (Memref.isWhole_whole _) cc0_scratch3 (zeroSt i s)))
  isplitl [HS]; · iexact HS
  iintro HS
  iapply (LaneScatter.bind_of_run _ _ _ (segLive_run Variants.none c none Set.univ i arg2 harg2 arg3 harg3 arg4 harg4 arg5 harg5 arg6 harg6 arg7 harg7 arg8 harg8 hbM9 (Memref.isWhole_whole _) arg10 harg10 arg11 harg11 scM12 (Memref.isWhole_whole _) scM13 (Memref.isWhole_whole _) scM14 (Memref.isWhole_whole _) cc0_scratch3 (tabLo i tb) (tabHi i tb) hw ws xs wg wu dhc dhs wd (clearSt i (zeroSt i s))))
  isplitl [H3 H4 H5 H6 H7 H8 H12 HS]
  · isplitl [H3]; · iexact H3
    isplitl [H4]; · iexact H4
    isplitl [H5]; · iexact H5
    isplitl [H6]; · iexact H6
    isplitl [H7]; · iexact H7
    isplitl [H8]; · iexact H8
    isplitl [H12]; · iexact H12
    iexact HS
  iintro ⟨H3, H4, H5, H6, H7, H8, H12, H10, H13, H14, H11⟩
  iapply (LaneScatter.bind_of_run _ _ _ (segOut_run Variants.none c i arg2 harg2 arg3 harg3 arg4 harg4 arg5 harg5 arg6 harg6 arg7 harg7 arg8 harg8 arg10 harg10 arg11 harg11
    (bodySt i tb hw ws xs wg wu dhc dhs s) codes W))
  isplitl [H13 H14 H9 Hq0 Hq1 HO]
  · isplitl [H13]; · iexact H13
    isplitl [H14]; · iexact H14
    isplitl [H9]; · iexact H9
    isplitl [Hq0]; · iexact Hq0
    isplitl [Hq1]; · iexact Hq1
    iexact HO
  iintro ⟨H13, H14, H9, Hq0, Hq1, HO⟩
  sl_step
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H12]; · iexact H12
  isplitl [H10 H13 H14 H11]
  · isplitl [H10]; · iexact H10
    isplitl [H13]; · iexact H13
    isplitl [H14]; · iexact H14
    iexact H11
  isplitl [H9]; · iexact H9
  isplitl [Hq0]; · iexact Hq0
  isplitl [Hq1]; · iexact Hq1
  iexact HO

end Cert.KernelIdeal.Hand
-- ==== Proof.ILaunch.lean ====
/-
  The launch: what the buffers hold between grid points, the obligation of the body at each point, and the run of the whole program.
-/
module

public import proofs.«01_k».proof.Proof.IRun
public import proofs.«01_k».proof.Proof.Gen.KernelIdeal.Launch
public import Idealize.ShloMosaic.Lib.Pipeline.FrameSuffixV
public import Idealize.ShloMosaic.Lib.Pipeline.FrameBody
public import Idealize.ShloMosaic.Lib.Pipeline.TableIdle

@[expose] public section

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## Data of the launch -/

/-- The two transfer counters the body uses itself. -/
def osem0 : Fin 2 → SemLoc sig := fun | 0 => SemLoc.dma 11 | 1 => SemLoc.dma 12
theorem ownSemFacts0 : Pipeline.OwnSemFacts spec0 osem0 := by decide
theorem ownSems0_eq (c : Dev nD) :
    (Pipeline.ownSems0 osem0 c : sProp 𝕄) = iprop(semVal ((c : Thread nD τ), SemLoc.dma 11) 0 ∗ semVal ((c : Thread nD τ), SemLoc.dma 12) 0) :=
  Pipeline.ownSems0_eq_of_list c osem0 [0, 1] (by decide) (by decide)

/-- The body reads no buffer beside its windows and the table; it writes the codes itself. -/
abbrev H0 : Finset (Ref sig .tc) := ∅
abbrev R0 : Finset (Ref sig .tc) := {main_v5_0}
theorem H0_sub : H0 ⊆ Pipeline.restRefsP sig pre0 spec0 := Finset.empty_subset _
theorem R0_sub : R0 ⊆ Pipeline.restRefsP sig pre0 spec0 \ H0 := by decide

variable (m : (ℓ : Loc nD τ sig) → Buf (Elt F) ℓ)

/-- The host operations before the region. -/
abbrev opss0 : List (List (HloOp τ sig (Elt F))) := [hostOps0, hostOps0_1, hostOps0_2, hostOps0_3, hostOps0_4]
/-- What every buffer holds as the region is entered. -/
def V₀ (c : Dev nD) : Valuation τ sig (Elt F) := StableHlo.after opss0.flatten (fun b => m (c, b))
/-- The same by reference. -/
abbrev Vr (c : Dev nD) (b : Ref sig .tc) : Buf (Elt F) ((c : Thread nD τ).loc b) := V₀ m c (Proc.devRef .tc b)

/-- The table, the rows where each expert starts. -/
abbrev tb (c : Dev nD) : Vec F S5 .i32 := Vr m c main_v2
/-- The pipeline's tables. -/
def adm0 : (pcfg0 (F := F)).Adm := ⟨fun k => Vr m 0 (pre0.ref k), trivial⟩
def adm : (p : Fin 1) → (pcfgs (F := F) p).Adm := fun | ⟨0, _⟩ => adm0 m
abbrev cfgA : Pipeline.Cfg sig Λ₀ := cfg0 (adm0 m)

theorem N_cfg : (cfgA m).N = 256 := N_0

/-- The words of the table the body goes by are in order at every grid point. -/
def TableOk : Prop := ∀ (c : Dev nD) (i : grid0.Coords), k0_chk1 (tabLo i (tb m c)) (tabHi i (tb m c))

/-- The block of window `w` at point `t`. -/
def iblk (c : Dev nD) (w : Fin 8) (t : Fin grid0.N) : ((cfgA m).win w).block.Idx → Elt F ((cfgA m).win w).elt :=
  (((cfgA m).win w).blk t).view.read (Elt F) (Vr m c (Pipeline.arrRef spec0 w))

/-- The state after one grid point. -/
def stepSt (hok : TableOk m) (c : Dev nD) (t : Fin grid0.N) (s : St F) : St F :=
  bodySt (grid0.coords t) (tb m c) (hok c _) (iblk m c 0 t) (iblk m c 1 t) (iblk m c 2 t) (iblk m c 3 t) (iblk m c 4 t) (iblk m c 5 t) s

/-- The state before the `n`-th point (the values at `0` are never read). -/
def stAfter (hok : TableOk m) (c : Dev nD) : ℕ → St F
  | 0 => ⟨k0_pay2, k0_pay3, k0_pay4, k0_pay1⟩
  | n + 1 => if h : n < grid0.N then stepSt m hok c ⟨n, h⟩ (stAfter hok c n) else stAfter hok c n

/-- The codes before the `n`-th point. -/
def codesAfter (hok : TableOk m) (c : Dev nD) : ℕ → Vec F S1536x16384 .fp8e5m2
  | 0 => Vr m c main_v5_0
  | n + 1 => if h : n < grid0.N then outSt (grid0.coords ⟨n, h⟩) (stAfter m hok c (n + 1)) (codesAfter hok c n) else codesAfter hok c n

theorem stAfter_succ (hok : TableOk m) (c : Dev nD) (t : Fin grid0.N) :
    stAfter m hok c (t.val + 1) = stepSt m hok c t (stAfter m hok c t.val) := by
  obtain ⟨n, h⟩ := t; show (if h : n < grid0.N then _ else _) = _; rw [dif_pos h]
theorem codesAfter_succ (hok : TableOk m) (c : Dev nD) (t : Fin grid0.N) :
    codesAfter m hok c (t.val + 1) = outSt (grid0.coords t) (stAfter m hok c (t.val + 1)) (codesAfter m hok c t.val) := by
  obtain ⟨n, h⟩ := t
  show (if h : n < grid0.N then outSt (grid0.coords ⟨n, h⟩) (stAfter m hok c (n + 1)) (codesAfter m hok c n) else _) = _
  rw [dif_pos h]

/-- What the body keeps between points. -/
def Phi (hok : TableOk m) (c : Dev nD) (n : ℕ) : sProp 𝕄 :=
  iprop((∃ wd, at_ c scM12 wd)
    ∗ (∃ a, ⌜n ≠ 0 → a = (stAfter m hok c n).cg⌝ ∗ at_ c scM13 a)
    ∗ (∃ a, ⌜n ≠ 0 → a = (stAfter m hok c n).cu⌝ ∗ at_ c scM14 a)
    ∗ at_ c hbM9 (codesAfter m hok c n)
    ∗ semVal ((c : Thread nD τ), SemLoc.dma 11) 0 ∗ semVal ((c : Thread nD τ), SemLoc.dma 12) 0
    ∗ atq c fullShare.right (Memref.whole main_v2) (tb m c))

/-- The proof data of the pipeline on core `c`. -/
def dat (hok : TableOk m) (c : Dev nD) : Dat τ (Elt F) Unit ℕ (Pipeline.UD sig nD τ) ℕ (cfgA m) c where
  A w := Vr m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stAfter m hok c (t.val + 1)).sc
    | ⟨7, _⟩ => (stAfter m hok c (t.val + 1)).dx
    | ⟨_ + 8, h⟩ => absurd h (Nat.not_lt.2 (Nat.le_add_left _ _))
  Φ t := Phi m hok c t.val
  q w := Pipeline.shareOf spec0 w
  owed _ := 0

def dats (hok : TableOk m) : (p : Fin 1) → (c : Dev nD) → Dat τ (Elt F) Unit ℕ (Pipeline.UD sig nD τ) ℕ (Pipeline.pin (pcfgs (F := F)) (adm m) p) c :=
  fun | ⟨0, _⟩, c => dat m hok c

/-! ## The body's state at a point does not depend on what the buffers held before the first one -/

theorem cond1_zero : k0_cond1 (grid0.coords ⟨0, by decide⟩) = 1#1 := by decide +kernel
theorem clear_zero : clearCond (grid0.coords ⟨0, by decide⟩) = 1#1 := by decide +kernel

theorem bodySt_first (i : grid0.Coords) (h1 : k0_cond1 i = 1#1) (h2 : clearCond i = 1#1) (tb : Vec F S5 .i32) (hw : k0_chk1 (tabLo i tb) (tabHi i tb))
    (ws : Vec F S20480 .f32) (xs : Vec F S1536x5120 .bf16) (wg wu : Vec F S1x5120x128 .fp8e4m3) (dhc : Vec F S1536x128 .fp8e5m2) (dhs : Vec F S1536x128 .f32)
    (s s' : St F) : bodySt i tb hw ws xs wg wu dhc dhs s = bodySt i tb hw ws xs wg wu dhc dhs s' := by
  unfold bodySt clearSt zeroSt
  simp only [if_pos h1, if_pos h2]

theorem coords_congr {n : ℕ} (h : n < grid0.N) (h0 : n = 0) : grid0.coords ⟨n, h⟩ = grid0.coords ⟨0, by decide⟩ := by subst h0; rfl

/-- Whatever the buffers held before the first point, the state after a point is the recursion's. -/
theorem step_any (hok : TableOk m) (c : Dev nD) (t : Fin grid0.N) (s : St F) (h : t.val ≠ 0 → s = stAfter m hok c t.val) :
    stepSt m hok c t s = stAfter m hok c (t.val + 1) := by
  rw [stAfter_succ]
  by_cases h0 : t.val = 0
  · have e := coords_congr t.isLt h0
    exact bodySt_first _ (by rw [e]; exact cond1_zero) (by rw [e]; exact clear_zero) ..
  · rw [h h0]

/-- A point that neither zeroes nor has rows leaves the scales and the partial sums as they were. -/
theorem bodySt_idle (i : grid0.Coords) (tb : Vec F S5 .i32) (hw : k0_chk1 (tabLo i tb) (tabHi i tb)) (h1 : k0_cond1 i ≠ 1#1) (h3 : k0_cond3 (tabLo i tb) (tabHi i tb) ≠ 1#1)
    (ws : Vec F S20480 .f32) (xs : Vec F S1536x5120 .bf16) (wg wu : Vec F S1x5120x128 .fp8e4m3) (dhc : Vec F S1536x128 .fp8e5m2) (dhs : Vec F S1536x128 .f32)
    (s : St F) : (bodySt i tb hw ws xs wg wu dhc dhs s).sc = s.sc ∧ (bodySt i tb hw ws xs wg wu dhc dhs s).dx = s.dx := by
  unfold bodySt liveSt clearSt zeroSt
  rw [dif_neg h3, if_neg h1]
  split <;> exact ⟨rfl, rfl⟩

theorem atD_lo (i : grid0.Coords) : (adm0 m).1.atD 0 (k0_off1 i) = tabLo i (tb m 0) := by
  have h : ∀ a : Fin (pre0.ref 0).ty.shape.rank, k0_off1 i a + 1 ≤ (pre0.ref 0).ty.shape.size a := fun a => by
    match a with | ⟨0, _⟩ => exact k0_off1_inb i 0
  have e : (fun a => ⟨k0_off1 i a, h a⟩ : (pre0.ref 0).ty.shape.Idx) = (Rect.unit (s := S5) (k0_off1 i) S1.size (k0_off1_inb i)).emb (ix1 (n := 1) 0) :=
    funext fun a => Fin.ext (by match a with | ⟨0, _⟩ => exact (Nat.add_zero _).symm)
  unfold Pipeline.Prefetch.Contents.atD
  refine (dif_pos h).trans ?_
  exact congrArg ((adm0 m).1 0) e
theorem atD_hi (i : grid0.Coords) : (adm0 m).1.atD 0 (k0_off2 i) = tabHi i (tb m 0) := by
  have h : ∀ a : Fin (pre0.ref 0).ty.shape.rank, k0_off2 i a + 1 ≤ (pre0.ref 0).ty.shape.size a := fun a => by
    match a with | ⟨0, _⟩ => exact k0_off2_inb i 0
  have e : (fun a => ⟨k0_off2 i a, h a⟩ : (pre0.ref 0).ty.shape.Idx) = (Rect.unit (s := S5) (k0_off2 i) S1.size (k0_off2_inb i)).emb (ix1 (n := 1) 0) :=
    funext fun a => Fin.ext (by match a with | ⟨0, _⟩ => exact (Nat.add_zero _).symm)
  unfold Pipeline.Prefetch.Contents.atD
  refine (dif_pos h).trans ?_
  exact congrArg ((adm0 m).1 0) e

theorem idle6 (i : grid0.Coords) (h : (cfgA m).idle 6 i = true) : k0_cond1 i ≠ 1#1 ∧ k0_cond3 (tabLo i (tb m 0)) (tabHi i (tb m 0)) ≠ 1#1 := by
  rw [← atD_lo, ← atD_hi]
  have h' : (!(k0_cond1 i == 1#1) && !(k0_cond3 ((adm0 m).1.atD 0 (k0_off1 i)) ((adm0 m).1.atD 0 (k0_off2 i)) == 1#1)) = true := h
  simpa using h'
theorem idle7 (i : grid0.Coords) (h : (cfgA m).idle 7 i = true) : k0_cond1 i ≠ 1#1 ∧ k0_cond3 (tabLo i (tb m 0)) (tabHi i (tb m 0)) ≠ 1#1 := by
  rw [← atD_lo, ← atD_hi]
  have h' : (!(k0_cond1 i == 1#1) && !(k0_cond3 ((adm0 m).1.atD 0 (k0_off1 i)) ((adm0 m).1.atD 0 (k0_off2 i)) == 1#1)) = true := h
  simpa using h'

theorem idle_pos {t : Fin grid0.N} (h : k0_cond1 (grid0.coords t) ≠ 1#1) : t.val ≠ 0 := fun h0 =>
  h ((congrArg k0_cond1 (coords_congr t.isLt h0)).trans cond1_zero)

variable (hok : TableOk m)

theorem carry6 (c : Dev nD) (t : Fin grid0.N) (hi : (cfgA m).idle 6 (grid0.coords t) = true) :
    (dat m hok c).after 6 t = (stAfter m hok c t.val).sc := by
  obtain ⟨h1, h3⟩ := idle6 m _ hi
  obtain rfl : c = 0 := Subsingleton.elim _ _
  show (stAfter m hok 0 (t.val + 1)).sc = _
  rw [stAfter_succ]; exact (bodySt_idle _ _ _ h1 h3 _ _ _ _ _ _ _).1
theorem carry7 (c : Dev nD) (t : Fin grid0.N) (hi : (cfgA m).idle 7 (grid0.coords t) = true) :
    (dat m hok c).after 7 t = (stAfter m hok c t.val).dx := by
  obtain ⟨h1, h3⟩ := idle7 m _ hi
  obtain rfl : c = 0 := Subsingleton.elim _ _
  show (stAfter m hok 0 (t.val + 1)).dx = _
  rw [stAfter_succ]; exact (bodySt_idle _ _ _ h1 h3 _ _ _ _ _ _ _).2

theorem prev_eq {n : ℕ} (h : n ≠ 0) : n - 1 + 1 = n := Nat.succ_pred_eq_of_ne_zero h

/-- The two resident outputs are written back after the last point only. -/
theorem flush6 (t : Fin grid0.N) : ((cfgA m).win 6).flush t = decide (t.val + 1 = grid0.N) := by
  rw [Pipeline.Window.flush_eq_flushF]; unfold Pipeline.Window.flushF
  have : ¬ ∃ h : t.val + 1 < grid0.N, ∃ a, ((cfgA m).win 6).index ⟨t.val + 1, h⟩ a ≠ ((cfgA m).win 6).index t a := fun ⟨_, _, h⟩ => h rfl
  show (true && (decide (t.val + 1 = grid0.N) || decide _)) = _
  rw [decide_eq_false this, Bool.or_false, Bool.true_and]
theorem flush7 (t : Fin grid0.N) : ((cfgA m).win 7).flush t = decide (t.val + 1 = grid0.N) := by
  rw [Pipeline.Window.flush_eq_flushF]; unfold Pipeline.Window.flushF
  have : ¬ ∃ h : t.val + 1 < grid0.N, ∃ a, ((cfgA m).win 7).index ⟨t.val + 1, h⟩ a ≠ ((cfgA m).win 7).index t a := fun ⟨_, _, h⟩ => h rfl
  show (true && (decide (t.val + 1 = grid0.N) || decide _)) = _
  rw [decide_eq_false this, Bool.or_false, Bool.true_and]

theorem fresh6 (n : ℕ) (h : n < grid0.N) : (cfgA m).fresh 6 n = decide (n = 0) := by
  induction n with
  | zero => rfl
  | succ n ih =>
    have hn : n < grid0.N := by omega
    rw [Pipeline.Cfg.fresh_succ _ _ n hn, ih hn, flush6 m ⟨n, hn⟩]
    have e : decide (n + 1 = grid0.N) = false := decide_eq_false (by omega)
    rw [e, Bool.false_or, decide_eq_false (Nat.succ_ne_zero n)]
    cases hi : (cfgA m).idle 6 ((cfgA m).grid.coords ⟨n, hn⟩)
    · rfl
    · rw [decide_eq_false (idle_pos (t := ⟨n, hn⟩) (idle6 m _ hi).1)]; rfl
theorem fresh7 (n : ℕ) (h : n < grid0.N) : (cfgA m).fresh 7 n = decide (n = 0) := by
  induction n with
  | zero => rfl
  | succ n ih =>
    have hn : n < grid0.N := by omega
    rw [Pipeline.Cfg.fresh_succ _ _ n hn, ih hn, flush7 m ⟨n, hn⟩]
    have e : decide (n + 1 = grid0.N) = false := decide_eq_false (by omega)
    rw [e, Bool.false_or, decide_eq_false (Nat.succ_ne_zero n)]
    cases hi : (cfgA m).idle 7 ((cfgA m).grid.coords ⟨n, hn⟩)
    · rfl
    · rw [decide_eq_false (idle_pos (t := ⟨n, hn⟩) (idle7 m _ hi).1)]; rfl

theorem before6 (c : Dev nD) (t : Fin grid0.N) (d : ((cfgA m).win 6).block.Idx → Elt F ((cfgA m).win 6).elt) :
    t.val ≠ 0 → (dat m hok c).before 6 t d = (stAfter m hok c t.val).sc := fun h0 => by
  rw [(dat m hok c).before_out_traj 6 rfl (fun _ _ => rfl) (fun t ht hi _ => (carry6 m hok c t hi).trans
      (congrArg (fun n => (stAfter m hok c n).sc) (prev_eq ht).symm)) t.val t rfl d, fresh6 m t.val t.isLt, decide_eq_false h0, if_neg Bool.false_ne_true]
  exact congrArg (fun n => (stAfter m hok c n).sc) (prev_eq h0)
theorem before7 (c : Dev nD) (t : Fin grid0.N) (d : ((cfgA m).win 7).block.Idx → Elt F ((cfgA m).win 7).elt) :
    t.val ≠ 0 → (dat m hok c).before 7 t d = (stAfter m hok c t.val).dx := fun h0 => by
  rw [(dat m hok c).before_out_traj 7 rfl (fun _ _ => rfl) (fun t ht hi _ => (carry7 m hok c t hi).trans
      (congrArg (fun n => (stAfter m hok c n).dx) (prev_eq ht).symm)) t.val t rfl d, fresh7 m t.val t.isLt, decide_eq_false h0, if_neg Bool.false_ne_true]
  exact congrArg (fun n => (stAfter m hok c n).dx) (prev_eq h0)

/-- An input window holds its block. -/
theorem before0 (c : Dev nD) (t : Fin grid0.N) (d) : (dat m hok c).before 0 t d = iblk m c 0 t :=
  ((dat m hok c).before_in_eq_fetched 0 rfl (fun _ => rfl) (fun _ _ _ => rfl) (fun _ => rfl) t d).trans rfl
theorem before1 (c : Dev nD) (t : Fin grid0.N) (d) : (dat m hok c).before 1 t d = iblk m c 1 t :=
  ((dat m hok c).before_in_eq_fetched 1 rfl (fun _ => rfl) (fun _ _ _ => rfl) (fun _ => rfl) t d).trans rfl
theorem before2 (c : Dev nD) (t : Fin grid0.N) (d) : (dat m hok c).before 2 t d = iblk m c 2 t :=
  ((dat m hok c).before_in_eq_fetched 2 rfl (fun _ => rfl) (fun _ _ _ => rfl) (fun _ => rfl) t d).trans rfl
theorem before3 (c : Dev nD) (t : Fin grid0.N) (d) : (dat m hok c).before 3 t d = iblk m c 3 t :=
  ((dat m hok c).before_in_eq_fetched 3 rfl (fun _ => rfl) (fun _ _ _ => rfl) (fun _ => rfl) t d).trans rfl
theorem before4 (c : Dev nD) (t : Fin grid0.N) (d) : (dat m hok c).before 4 t d = iblk m c 4 t :=
  ((dat m hok c).before_in_eq_fetched 4 rfl (fun _ => rfl) (fun _ _ _ => rfl) (fun _ => rfl) t d).trans rfl
theorem before5 (c : Dev nD) (t : Fin grid0.N) (d) : (dat m hok c).before 5 t d = iblk m c 5 t :=
  ((dat m hok c).before_in_eq_fetched 5 rfl (fun _ => rfl) (fun _ _ _ => rfl) (fun _ => rfl) t d).trans rfl

/-! ## The body at one grid point -/

/-- The staging buffer of window `w` at point `t`. -/
abbrev ms (w : Fin 8) (t : Fin grid0.N) := (spec0 w).stage ((cfgA m).slots t w)

/-- The body as the pipeline calls it at point `t`. -/
abbrev bodyAt (t : Fin grid0.N) : Prog (TpuEff nD τ sig (Elt F) Λ₀ .tc) PUnit :=
  let s := (cfgA m).slots t
  cc0_main (grid0.coords t) (Memref.whole main_v2) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (Memref.whole main_v5_0) (Memref.isWhole_whole _) (spec0_6.stage (s 6)) (hstage0_6 ((s 6).cast nbuf0_6)) (spec0_7.stage (s 7)) (hstage0_7 ((s 7).cast nbuf0_7)) (Memref.whole cc0_scratch0) (Memref.isWhole_whole _) (Memref.whole cc0_scratch1) (Memref.isWhole_whole _) (Memref.whole cc0_scratch2) (Memref.isWhole_whole _) cc0_scratch3

theorem defs₀_row (t : Fin grid0.N) : defs₀ (F := F) .tc (cfgA m).body ((cfgA m).bodyArgs t ((cfgA m).slots t)) = bodyAt m t := by
  unfold defs₀; rw [Defs.onTc_tc]

/-- What an output window's buffer holds after the body is what the pipeline asks of it. -/
theorem leaves6 (c : Dev nD) (t : Fin grid0.N) :
    (owns (c : Thread nD τ) (((cfgA m).win 6).stage ((cfgA m).slots t 6)) fullShare ((dat m hok c).after 6 t) : sProp 𝕄) ⊢ (dat m hok c).leavesExact 6 t := by
  cases hi : (cfgA m).idle 6 ((cfgA m).grid.coords t)
  · unfold Dat.leavesExact; rw [hi]
  · cases hf : ((cfgA m).win 6).flush t
    · rw [(dat m hok c).leavesExact_idle 6 t hi hf, carry6 m hok c t hi,
        ← before6 m hok c t (dat m hok c |>.after 6 t) (idle_pos (idle6 m _ hi).1)]
      iintro H; iexists _; iexact H
    · unfold Dat.leavesExact; rw [hi, hf]
theorem leaves7 (c : Dev nD) (t : Fin grid0.N) :
    (owns (c : Thread nD τ) (((cfgA m).win 7).stage ((cfgA m).slots t 7)) fullShare ((dat m hok c).after 7 t) : sProp 𝕄) ⊢ (dat m hok c).leavesExact 7 t := by
  cases hi : (cfgA m).idle 7 ((cfgA m).grid.coords t)
  · unfold Dat.leavesExact; rw [hi]
  · cases hf : ((cfgA m).win 7).flush t
    · rw [(dat m hok c).leavesExact_idle 7 t hi hf, carry7 m hok c t hi,
        ← before7 m hok c t (dat m hok c |>.after 7 t) (idle_pos (idle7 m _ hi).1)]
      iintro H; iexists _; iexact H
    · unfold Dat.leavesExact; rw [hi, hf]

def bodyPre (c : Dev nD) (t : Fin grid0.N) : sProp 𝕄 :=
  iprop((dat m hok c).Φ t.castSucc ∗ (dat m hok c).owesAt () t.castSucc
    ∗ (∃ d, owns (c : Thread nD τ) (ms m 0 t) fullShare ((dat m hok c).before 0 t d)) ∗ (∃ d, owns (c : Thread nD τ) (ms m 1 t) fullShare ((dat m hok c).before 1 t d))
    ∗ (∃ d, owns (c : Thread nD τ) (ms m 2 t) fullShare ((dat m hok c).before 2 t d)) ∗ (∃ d, owns (c : Thread nD τ) (ms m 3 t) fullShare ((dat m hok c).before 3 t d))
    ∗ (∃ d, owns (c : Thread nD τ) (ms m 4 t) fullShare ((dat m hok c).before 4 t d)) ∗ (∃ d, owns (c : Thread nD τ) (ms m 5 t) fullShare ((dat m hok c).before 5 t d))
    ∗ (∃ d, owns (c : Thread nD τ) (ms m 6 t) fullShare ((dat m hok c).before 6 t d)) ∗ (∃ d, owns (c : Thread nD τ) (ms m 7 t) fullShare ((dat m hok c).before 7 t d)))
def bodyPost (c : Dev nD) (t : Fin grid0.N) : sProp 𝕄 :=
  iprop((dat m hok c).Φ t.succ ∗ (dat m hok c).owesAt () t.succ
    ∗ owns (c : Thread nD τ) (ms m 0 t) fullShare (iblk m c 0 t) ∗ owns (c : Thread nD τ) (ms m 1 t) fullShare (iblk m c 1 t)
    ∗ owns (c : Thread nD τ) (ms m 2 t) fullShare (iblk m c 2 t) ∗ owns (c : Thread nD τ) (ms m 3 t) fullShare (iblk m c 3 t)
    ∗ owns (c : Thread nD τ) (ms m 4 t) fullShare (iblk m c 4 t) ∗ owns (c : Thread nD τ) (ms m 5 t) fullShare (iblk m c 5 t)
    ∗ (dat m hok c).leavesExact 6 t ∗ (dat m hok c).leavesExact 7 t)

theorem sound_body (c : Dev nD) (t : Fin grid0.N) :
    bodyPre m hok c t ⊢ wp frame (wpE (defs₀ (F := F)) Variants.none c none) Set.univ (bodyAt m t) (fun _ => bodyPost m hok c t) := by
  unfold bodyPre bodyPost
  rw [show (dat m hok c).Φ t.succ = Phi m hok c (t.val + 1) from rfl, show (dat m hok c).Φ t.castSucc = Phi m hok c t.val from rfl]
  unfold Phi
  unfold Dat.owesAt Pipeline.owesWithin
  rw [show (dat m hok c).owed t.castSucc = 0 from rfl, show (dat m hok c).owed t.succ = 0 from rfl]
  simp only [before0, before1, before2, before3, before4, before5]
  iintro ⟨⟨⟨%wd, Hwd⟩, ⟨%ag, %hg, Hg⟩, ⟨%au, %hu, Hu⟩, Hc, Hs1, Hs2, Ht⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  have hs : t.val ≠ 0 → (⟨(dat m hok c).before 6 t d6, ag, au, (dat m hok c).before 7 t d7⟩ : St F) = stAfter m hok c t.val := fun h => by
    rw [hg h, hu h, before6 m hok c t d6 h, before7 m hok c t d7 h]
  have hst := step_any m hok c t _ hs
  iapply (body_run c (grid0.coords t) (Memref.whole main_v2) (Memref.isWhole_whole _) (ms m 0 t) _ (ms m 1 t) _ (ms m 2 t) _ (ms m 3 t) _ (ms m 4 t) _ (ms m 5 t) _
    (ms m 6 t) _ (ms m 7 t) _ fullShare.right (tb m c) (hok c _) (iblk m c 0 t) (iblk m c 1 t) (iblk m c 2 t) (iblk m c 3 t) (iblk m c 4 t) (iblk m c 5 t) wd
    ⟨(dat m hok c).before 6 t d6, ag, au, (dat m hok c).before 7 t d7⟩ (codesAfter m hok c t.val) W _)
  isplitl [Ht]; · iexact Ht
  isplitl [H0]; · iapply (rep_of_owns (c : Thread nD τ) (ms m 0 t) fullShare _); iexact H0
  isplitl [H1]; · iapply (rep_of_owns (c : Thread nD τ) (ms m 1 t) fullShare _); iexact H1
  isplitl [H2]; · iapply (rep_of_owns (c : Thread nD τ) (ms m 2 t) fullShare _); iexact H2
  isplitl [H3]; · iapply (rep_of_owns (c : Thread nD τ) (ms m 3 t) fullShare _); iexact H3
  isplitl [H4]; · iapply (rep_of_owns (c : Thread nD τ) (ms m 4 t) fullShare _); iexact H4
  isplitl [H5]; · iapply (rep_of_owns (c : Thread nD τ) (ms m 5 t) fullShare _); iexact H5
  isplitl [Hwd]; · iexact Hwd
  isplitl [H6 Hg Hu H7]
  · isplitl [H6]; · iapply (rep_of_owns (c : Thread nD τ) (ms m 6 t) fullShare _); iexact H6
    isplitl [Hg]; · iexact Hg
    isplitl [Hu]; · iexact Hu
    iapply (rep_of_owns (c : Thread nD τ) (ms m 7 t) fullShare _); iexact H7
  isplitl [Hc]; · iexact Hc
  isplitl [Hs1]; · iexact Hs1
  isplitl [Hs2]; · iexact Hs2
  isplitl [HW]; · iexact HW
  rw [show bodySt (grid0.coords t) (tb m c) (hok c _) (iblk m c 0 t) (iblk m c 1 t) (iblk m c 2 t) (iblk m c 3 t) (iblk m c 4 t) (iblk m c 5 t)
      ⟨(dat m hok c).before 6 t d6, ag, au, (dat m hok c).before 7 t d7⟩ = stAfter m hok c (t.val + 1) from hst, ← codesAfter_succ]
  iintro ⟨Ht, H0, H1, H2, H3, H4, H5, Hwd, ⟨H6, Hg, Hu, H7⟩, Hc, Hs1, Hs2, ⟨%W', HW⟩⟩
  isplitl [Ht Hwd Hg Hu Hc Hs1 Hs2]
  · isplitl [Hwd]; · iexact Hwd
    isplitl [Hg]
    · iexists _; isplitr; swap; · iexact Hg
      ipureintro; exact fun _ => rfl
    isplitl [Hu]
    · iexists _; isplitr; swap; · iexact Hu
      ipureintro; exact fun _ => rfl
    isplitl [Hc]; · iexact Hc
    isplitl [Hs1]; · iexact Hs1
    isplitl [Hs2]; · iexact Hs2
    iexact Ht
  isplitl [HW]
  · iexists W'; isplitr; · ipureintro; exact fun _ _ => Or.inl trivial
    iexact HW
  isplitl [H0]; · iapply (owns_of_rep (c : Thread nD τ) (ms m 0 t) fullShare _); iexact H0
  isplitl [H1]; · iapply (owns_of_rep (c : Thread nD τ) (ms m 1 t) fullShare _); iexact H1
  isplitl [H2]; · iapply (owns_of_rep (c : Thread nD τ) (ms m 2 t) fullShare _); iexact H2
  isplitl [H3]; · iapply (owns_of_rep (c : Thread nD τ) (ms m 3 t) fullShare _); iexact H3
  isplitl [H4]; · iapply (owns_of_rep (c : Thread nD τ) (ms m 4 t) fullShare _); iexact H4
  isplitl [H5]; · iapply (owns_of_rep (c : Thread nD τ) (ms m 5 t) fullShare _); iexact H5
  isplitl [H6]
  · iapply (leaves6 m hok c t)
    iapply (owns_of_rep (c : Thread nD τ) (ms m 6 t) fullShare _); iexact H6
  iapply (leaves7 m hok c t)
  iapply (owns_of_rep (c : Thread nD τ) (ms m 7 t) fullShare _); iexact H7

theorem body_obligation (c : Dev nD) : BodyObligation (dat m hok c) (defs₀ (F := F)) Variants.none () Set.univ := fun t => by
  rw [bigSep_W0, bigSep_W0, defs₀_row]
  exact triple_restated (sound_body m hok c t) rfl .rfl fun _ => .rfl

/-! ## The run -/

/-- A buffer held whole is the whole memref at its contents. -/
theorem at_whole (c : Dev nD) (q : PosShare TreeShare) (b : Ref sig .tc) (f : b.ty.Contents (Elt F)) :
    (atq c q (Memref.whole b) f : sProp 𝕄) = (((c : Thread nD τ).loc b) ↦{q} (show Buf (Elt F) ((c : Thread nD τ).loc b) from f)) := by
  show ((Memref.whole b).view.loc (c : Thread nD τ) ↦[(Memref.whole b).view.set]{q} (Memref.whole b).view.rep (Val := Elt F) f : sProp 𝕄) = _
  have h : ((Memref.whole b).view.loc (c : Thread nD τ) ↦[(Memref.whole b).view.set]{q} (show Buf (Elt F) ((c : Thread nD τ).loc b) from f) : sProp 𝕄)
      = ((Memref.whole b).view.loc (c : Thread nD τ) ↦[(Memref.whole b).view.set]{q} (Memref.whole b).view.rep (Val := Elt F) f) :=
    pointsTo_rep (c : Thread nD τ) (Memref.whole b) _ q
  rw [← h, show (Memref.whole b).view.set = Finset.univ from View.set_whole b]

theorem hin (c : Dev nD) :
    (iprop(Pipeline.ΦDRV osem0 spec0 H0 R0 (fun c b => V₀ m c (Proc.devRef .tc b)) (fun c b => V₀ m c (Proc.devRef .tc b)) c ∗ Pipeline.ΦT pre0 (adm0 m).1 c) : sProp 𝕄)
      ⊢ (dat m hok c).Φ 0 := by
  rw [show (dat m hok c).Φ 0 = Phi m hok c 0 from rfl]
  obtain rfl : c = 0 := Subsingleton.elim _ _
  unfold Pipeline.ΦDRV Phi Pipeline.ΦT
  unfold Pipeline.prefHeld
  rw [scopedRest0_eq, ownSems0_eq, BI.bigSep_empty,
    BI.bigSep_eq_bigSepL_of_eq [main_v5_0] (by decide) (by decide), BI.bigSep_eq_bigSepL_of_eq [(0 : Fin 1)] (by decide) (by decide),
    show (BI.bigSepL [main_v5_0] fun b => (((0 : Dev nD) : Thread nD τ).loc b) ↦{fullShare} V₀ m 0 (Proc.devRef .tc b) : sProp 𝕄)
      = ((((0 : Dev nD) : Thread nD τ).loc main_v5_0) ↦{fullShare} Vr m 0 main_v5_0) from rfl,
    show (BI.bigSepL [(0 : Fin 1)] fun k => (((0 : Dev nD) : Thread nD τ).loc (pre0.ref k)) ↦{fullShare.right} (adm0 m).1 k : sProp 𝕄)
      = ((((0 : Dev nD) : Thread nD τ).loc main_v2) ↦{fullShare.right} Vr m 0 main_v2) from rfl]
  iintro ⟨⟨⟨⟨%f0, Hf0⟩, ⟨%f1, Hf1⟩, ⟨%f2, Hf2⟩⟩, ⟨Hs1, Hs2⟩, -, HR⟩, HT⟩
  isplitl [Hf0]; · iexists f0; iapply (Entails.of_eq (at_whole 0 fullShare cc0_scratch0 f0).symm); iexact Hf0
  isplitl [Hf1]
  · iexists f1; isplitr; · ipureintro; exact fun h => absurd rfl h
    iapply (Entails.of_eq (at_whole 0 fullShare cc0_scratch1 f1).symm); iexact Hf1
  isplitl [Hf2]
  · iexists f2; isplitr; · ipureintro; exact fun h => absurd rfl h
    iapply (Entails.of_eq (at_whole 0 fullShare cc0_scratch2 f2).symm); iexact Hf2
  isplitl [HR]
  · iapply (Entails.of_eq (at_whole 0 fullShare main_v5_0 (Vr m 0 main_v5_0)).symm); iexact HR
  isplitl [Hs1]; · iexact Hs1
  isplitl [Hs2]; · iexact Hs2
  iapply (Entails.of_eq (at_whole 0 fullShare.right main_v2 (tb m 0)).symm); iexact HT

/-- What the buffer of the codes holds after the region. -/
def Gout (c : Dev nD) (b : Ref sig .tc) : Buf (Elt F) ((c : Thread nD τ).loc b) :=
  if h : b = main_v5_0 then h ▸ (codesAfter m hok c 256 : Buf (Elt F) ((c : Thread nD τ).loc main_v5_0)) else Vr m c b

theorem Gout_codes (c : Dev nD) : Gout m hok c main_v5_0 = codesAfter m hok c 256 := by
  unfold Gout; rw [dif_pos rfl]

theorem hout (c : Dev nD) :
    (dat m hok c).Φ (Fin.last (cfgA m).N) ⊢ (Pipeline.ΦDRV osem0 spec0 H0 R0 (fun c b => V₀ m c (Proc.devRef .tc b)) (Gout m hok) c : sProp 𝕄) := by
  rw [show (dat m hok c).Φ (Fin.last (cfgA m).N) = Phi m hok c 256 from congrArg (Phi m hok c) N_0]
  unfold Pipeline.ΦDRV Phi
  rw [scopedRest0_eq, ownSems0_eq, BI.bigSep_empty,
    BI.bigSep_eq_bigSepL_of_eq [main_v5_0] (by decide) (by decide)]
  iintro ⟨⟨%wd, Hwd⟩, ⟨%ag, -, Hg⟩, ⟨%au, -, Hu⟩, Hc, Hs1, Hs2, -⟩
  isplitl [Hwd Hg Hu]
  · isplitl [Hwd]; · iexists wd; iapply (Entails.of_eq (at_whole c fullShare cc0_scratch0 wd)); iexact Hwd
    isplitl [Hg]; · iexists ag; iapply (Entails.of_eq (at_whole c fullShare cc0_scratch1 ag)); iexact Hg
    iexists au; iapply (Entails.of_eq (at_whole c fullShare cc0_scratch2 au)); iexact Hu
  isplitl [Hs1 Hs2]
  · isplitl [Hs1]; · iexact Hs1
    iexact Hs2
  isplitr; · iempintro
  rw [show (BI.bigSepL [main_v5_0] fun b => (((c : Thread nD τ).loc b) ↦{fullShare} Gout m hok c b) : sProp 𝕄)
    = (((c : Thread nD τ).loc main_v5_0) ↦{fullShare} Gout m hok c main_v5_0) from rfl, Gout_codes]
  iapply (Entails.of_eq (at_whole c fullShare main_v5_0 (codesAfter m hok c 256))); iexact Hc

theorem hmain : Pipeline.HMainPK (Ix := Unit) (Name := ℕ) (U := Pipeline.UD sig nD τ) (Lvl := ℕ) (pcfgs (F := F)) 0 defs₀ Variants.none m main
    (fun c b => V₀ m c (Proc.devRef .tc b)) (fun _ => Pipeline.chain (([] : List (List (HloOp τ sig (Elt F)))).map StableHlo.seq)) :=
  Pipeline.hmainP_around pcfgs 0 defs₀ Variants.none m main opss0 []
    ⟨hostOps0_sub, hostOps0_1_sub, hostOps0_2_sub, hostOps0_3_sub, hostOps0_4_sub⟩
    ⟨⟨rfl, rfl⟩, ⟨rfl, rfl, rfl⟩, ⟨rfl, rfl⟩, ⟨rfl, rfl⟩, rfl⟩
    (fun c => (main_chain c).trans rfl)

variable (ρ : Dev nD → PrngReg)

/-- What every final memory holds: each window's array, and every other buffer the core keeps. -/
def Post (r : PUnit × MemSt nD τ sig (Elt F)) : Prop :=
  (∀ c : Dev nD, (∀ w : Fin 8, r.2.mem ((spec0 w).arr.view.loc (c : Thread nD τ)) = (dat m hok c).arrAt w grid0.N)
    ∧ ∀ b ∈ Pipeline.restRefsP sig pre0 spec0, r.2.mem ((c : Thread nD τ).loc b)
        = Pipeline.withArrays spec0 c (Pipeline.withR (V₀ m c) R0 c (Gout m hok c)) (fun w => (dat m hok c).arrAt w grid0.N) (Proc.devRef .tc b))
  ∧ r.2.sem = fun _ => 0

set_option backward.isDefEq.respectTransparency.types false in
theorem run_main : θ_run defs (onTc (τ := τ) (main (F := F))) (s₀ m ρ) (Post m hok) :=
  Pipeline.θ_run_frameP_dmaR_aroundV_shared (pcfgs (F := F)) (adm m) (dats m hok) (0 : Fin 1) launch₀0 osem0 defs₀ Variants.none ownSemFacts0 H0 R0 H0_sub R0_sub m ρ main
    (hbody := fun c => (body_obligation m hok c).loose) (hq := fun _ _ _ => rfl) (howed := fun _ _ => rfl)
    (V₀ := V₀ m) (opss := []) (hsub := fun _ h => absurd h List.not_mem_nil) (hfresh := fun _ h => absurd h List.not_mem_nil) (hkeep := fun _ h => absurd h List.not_mem_nil)
    (G := Gout m hok) (hmain := hmain m) (hA := fun _ _ => rfl)
    (hpf := fun c k => by obtain rfl : c = 0 := Subsingleton.elim _ _; rfl)
    (hin := hin m hok) (hout := hout m hok) (Q' := Post m hok) (hQ' := fun r h => h)

end Cert.KernelIdeal.Hand

end
-- ==== Proof.IWords.lean ====
/-
  The words of the inner loop: for row bounds `a ≤ b ≤ 1536` the tiles visited are `a/128, …, ⌈b/128⌉ - 1`, and every access of
  the body at such a tile lies inside its array.
-/
module

public import proofs.«01_k».proof.KernelIdeal
public import Idealize.ShloMosaic.Lib.LoopRemainder

@[expose] public section

namespace Cert.KernelIdeal.Hand

open Cert.KernelIdeal
open Idealize.ShloMosaic

/-- The quotient by 128 rounded down, as the kernel computes it on words. -/
def floorW (x : BitVec 32) : BitVec 32 :=
  Scalar.select
    (Scalar.andi
      (Scalar.cmpi .ne (Scalar.subi (Scalar.extui (Scalar.cmpi .sgt x 0#32)) (Scalar.extui (Scalar.cmpi .slt x 0#32)) : BitVec 32)
        (Scalar.subi (Scalar.extui (Scalar.cmpi .sgt 128#32 0#32)) (Scalar.extui (Scalar.cmpi .slt 128#32 0#32)) : BitVec 32))
      (Scalar.cmpi .ne (Scalar.remsi x 128#32) 0#32))
    (Scalar.subi (Scalar.divsi x 128#32) 1#32) (Scalar.divsi x 128#32)

theorem floorW_fin : ∀ n : Fin 1664, floorW (BitVec.ofNat 32 n.val) = BitVec.ofNat 32 (n.val / 128) := by decide +kernel

/-- On a word below 1664 it is the quotient of the values. -/
theorem floorW_eq (x : BitVec 32) (h : x.toNat < 1664) : floorW x = BitVec.ofNat 32 (x.toNat / 128) := by
  have := floorW_fin ⟨x.toNat, h⟩
  rwa [show BitVec.ofNat 32 x.toNat = x from BitVec.ofNat_toNat 32 x ▸ by simp] at this

/-- The word of the first tile, -/
def loW (v1 : BitVec 32) : BitVec 32 := floorW v1
/-- and the word after the last. -/
def hiW (v4 : BitVec 32) : BitVec 32 := floorW (Scalar.subi (Scalar.addi v4 128#32) 1#32)

theorem loW_eq (v1 : BitVec 32) (h : v1.toNat ≤ 1536) : loW v1 = BitVec.ofNat 32 (v1.toNat / 128) := floorW_eq _ (by omega)

theorem hiW_eq (v4 : BitVec 32) (h : v4.toNat ≤ 1536) : hiW v4 = BitVec.ofNat 32 ((v4.toNat + 127) / 128) := by
  have e : (Scalar.subi (Scalar.addi v4 128#32) 1#32).toNat = v4.toNat + 127 := by
    show (v4 + 128#32 - 1#32).toNat = _
    rw [BitVec.toNat_sub, BitVec.toNat_add]; simp; omega
  unfold hiW
  rw [floorW_eq _ (by omega), e]

theorem t1_loop_eq (v1 v4 : BitVec 32) :
    k0_t1_loop v1 v4 = ⟨loW v1, Scalar.addi (loW v1) (Scalar.muli (Scalar.divsi (Scalar.subi (hiW v4) (loW v1)) 1#32) 1#32), 1#32⟩ := rfl
theorem t2_loop_eq (v1 v4 : BitVec 32) :
    k0_t2_loop v1 v4 = ⟨Scalar.addi (loW v1) (Scalar.muli (Scalar.divsi (Scalar.subi (hiW v4) (loW v1)) 1#32) 1#32),
      Scalar.addi (loW v1) (Scalar.subi (hiW v4) (loW v1)), 1#32⟩ := rfl

theorem t1_ub (v1 v4 : BitVec 32) : (k0_t1_loop v1 v4).ub = hiW v4 := by
  rw [t1_loop_eq, Scalar.muli_divsi_one]
  show loW v1 + (hiW v4 - loW v1) = _
  rw [BitVec.add_comm, BitVec.sub_add_cancel]

theorem toInt_small (n : ℕ) (h : n < 2 ^ 31) : (BitVec.ofNat 32 n).toInt = (n : ℤ) := by
  rw [BitVec.toInt_eq_msb_cond, BitVec.msb_eq_false_iff_two_mul_lt.mpr (by simp [BitVec.toNat_ofNat]; omega)]
  simp [BitVec.toNat_ofNat]; omega

/-- The number of tiles visited. -/
theorem t1_trips (v1 v4 : BitVec 32) (h1 : v1.toNat ≤ 1536) (h4 : v4.toNat ≤ 1536) :
    (k0_t1_loop v1 v4).trips = (v4.toNat + 127) / 128 - v1.toNat / 128 := by
  show ((((k0_t1_loop v1 v4).ub).toInt - (loW v1).toInt + (1#32 : BitVec 32).toInt - 1) / (1#32 : BitVec 32).toInt).toNat = _
  rw [t1_ub, loW_eq _ h1, hiW_eq _ h4, toInt_small _ (by omega), toInt_small _ (by omega), show (1#32 : BitVec 32).toInt = 1 from by decide]
  omega

theorem t1_ok (v1 v4 : BitVec 32) (h1 : v1.toNat ≤ 1536) (h4 : v4.toNat ≤ 1536) : (k0_t1_loop v1 v4).OK := by
  refine ⟨by show 0 < (1#32 : BitVec 32).toInt; decide, ?_⟩
  rw [show (k0_t1_loop v1 v4).st.toInt = 1 from (by decide : (1#32 : BitVec 32).toInt = 1),
    show Scf.trips (k0_t1_loop v1 v4).lb (k0_t1_loop v1 v4).ub (k0_t1_loop v1 v4).st = _ from t1_trips v1 v4 h1 h4,
    show (k0_t1_loop v1 v4).lb = loW v1 from rfl, loW_eq _ h1, toInt_small _ (by omega)]
  omega

/-- The first row of tile `k` of the visit. -/
theorem t1_row (v1 v4 : BitVec 32) (h1 : v1.toNat ≤ 1536) (h4 : v4.toNat ≤ 1536) (k : ℕ) (hk : k < (k0_t1_loop v1 v4).trips) :
    (Scalar.muli (Scf.iv (loW v1) 1#32 k) 128#32).toNat = (v1.toNat / 128 + k) * 128 := by
  rw [t1_trips v1 v4 h1 h4] at hk
  rw [loW_eq _ h1]
  show ((BitVec.ofNat 32 (v1.toNat / 128) + BitVec.ofNat 32 k * 1#32) * 128#32).toNat = _
  simp [BitVec.toNat_add, BitVec.toNat_mul, BitVec.toNat_ofNat]
  omega

theorem row_bound (v1 v4 : BitVec 32) (h1 : v1.toNat ≤ 1536) (h4 : v4.toNat ≤ 1536) (k : ℕ) (hk : k < (k0_t1_loop v1 v4).trips) :
    (v1.toNat / 128 + k) * 128 + 128 ≤ 1536 := by
  rw [t1_trips v1 v4 h1 h4] at hk
  omega

theorem index_toNat (x : BitVec 32) (h : x.toNat < 2 ^ 31) : (Scalar.indexCast x : Index).toNat = x.toNat := rfl

section offs
variable (v1 v4 : BitVec 32) (h1 : v1.toNat ≤ 1536) (h4 : v4.toNat ≤ 1536) (k : Fin (k0_t1_loop v1 v4).trips)
include h1 h4

theorem row_index : (Scalar.indexCast (Scalar.muli (Scf.iv (loW v1) 1#32 k) 128#32) : Index).toNat = (v1.toNat / 128 + k) * 128 := by
  have := row_bound v1 v4 h1 h4 k k.isLt
  rw [index_toNat _ (by rw [t1_row v1 v4 h1 h4 k k.isLt]; omega), t1_row v1 v4 h1 h4 k k.isLt]

theorem off5_eq : k0_off5 v1 v4 k = ![(v1.toNat / 128 + k) * 128, 0] := congrArg (fun n => (![n, 0] : Fin 2 → ℕ)) (row_index v1 v4 h1 h4 k)
theorem off6_eq : k0_off6 v1 v4 k = ![(v1.toNat / 128 + k) * 128, 0] := congrArg (fun n => (![n, 0] : Fin 2 → ℕ)) (row_index v1 v4 h1 h4 k)
theorem off7_eq : k0_off7 v1 v4 k = ![(v1.toNat / 128 + k) * 128, 0] := congrArg (fun n => (![n, 0] : Fin 2 → ℕ)) (row_index v1 v4 h1 h4 k)
theorem off8_eq : k0_off8 v1 v4 k = ![(v1.toNat / 128 + k) * 128, 1280] := congrArg (fun n => (![n, 1280] : Fin 2 → ℕ)) (row_index v1 v4 h1 h4 k)
theorem off9_eq : k0_off9 v1 v4 k = ![(v1.toNat / 128 + k) * 128, 2560] := congrArg (fun n => (![n, 2560] : Fin 2 → ℕ)) (row_index v1 v4 h1 h4 k)
theorem off10_eq : k0_off10 v1 v4 k = ![(v1.toNat / 128 + k) * 128, 3840] := congrArg (fun n => (![n, 3840] : Fin 2 → ℕ)) (row_index v1 v4 h1 h4 k)

end offs

/-- Every access of the inner loop lies inside its array, and its rows start at whole tiles, for row bounds inside the array. -/
theorem chk_of_bounds (v1 v4 : BitVec 32) (h1 : v1.toNat ≤ 1536) (h4 : v4.toNat ≤ 1536) : k0_chk1 v1 v4 := by
  have b := fun k : Fin (k0_t1_loop v1 v4).trips => row_bound v1 v4 h1 h4 k k.isLt
  have no := fun k : Fin (k0_t2_loop v1 v4).trips => Scf.rem_no_trip (loW v1) (Scalar.subi (hiW v4) (loW v1)) k
  refine ⟨fun _ => t1_ok v1 v4 h1 h4, fun k _ => ?_, fun k _ => ?_, fun k _ => ?_, fun k _ hin => ?_, fun k _ => ?_, fun k _ => ?_, fun k _ => ?_,
    fun k _ => ?_, fun _ => Scf.rem_ok (loW v1) (Scalar.subi (hiW v4) (loW v1)), fun k => (no k).elim, fun k => (no k).elim, fun k => (no k).elim, fun k => (no k).elim,
    fun k => (no k).elim, fun k => (no k).elim, fun k => (no k).elim, fun k => (no k).elim⟩
  · exact ⟨_, (t1_row v1 v4 h1 h4 k k.isLt).trans (Nat.mul_comm _ _)⟩
  · rw [off5_eq v1 v4 h1 h4]; intro a; have := b k; match a with | 0 => exact this | 1 => exact Nat.le_refl 5120
  · rw [off6_eq v1 v4 h1 h4]; intro a; have := b k; match a with | 0 => exact this | 1 => exact Nat.le_refl 128
  · refine .inr ⟨by decide, rfl, .inl ⟨?_, ?_⟩⟩
    · show 4 ∣ k0_off6 v1 v4 k 0
      rw [off6_eq v1 v4 h1 h4]
      exact ⟨(v1.toNat / 128 + k) * 32, by show (v1.toNat / 128 + k) * 128 = _; omega⟩
    · show 4 ∣ 128
      decide
  · rw [off7_eq v1 v4 h1 h4]; intro a; have := b k; match a with | 0 => exact this | 1 => show 0 + 1280 ≤ 5120; decide
  · rw [off8_eq v1 v4 h1 h4]; intro a; have := b k; match a with | 0 => exact this | 1 => show 1280 + 1280 ≤ 5120; decide
  · rw [off9_eq v1 v4 h1 h4]; intro a; have := b k; match a with | 0 => exact this | 1 => show 2560 + 1280 ≤ 5120; decide
  · rw [off10_eq v1 v4 h1 h4]; intro a; have := b k; match a with | 0 => exact this | 1 => show 3840 + 1280 ≤ 5120; decide

end Cert.KernelIdeal.Hand
-- ==== Proof.ITable.lean ====
/-
  The table of first rows: what it holds, that it is in range under the precondition, and what the other host arrays hold as
  the region is entered.
-/
module

public import proofs.«01_k».proof.Proof.ILaunch
public import proofs.«01_k».proof.Proof.IWords
public import proofs.«01_k».proof.Pre_sizes_partition_rows
public import Idealize.ShloMosaic.Lib.StableHlo.RunRead
public import Idealize.ShloMosaic.Lib.StableHlo.ReadAt
public import Idealize.ShloMosaic.Lib.StableHlo.Predicate

@[expose] public section

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI

/-- The running sums of the sizes, as the host computes them. -/
def cum (gs : IVec S4 32) : IVec S4 32 :=
  Host.reduceWindow (u := S_) IntOp.addi ![4] ![1] ![3] ![0] gs (fun _ => 0#32) Facts₀.reduceWindows_S4_S4_w4s1p3_0 Facts₀.h_S_
/-- The table: zero and the running sums. -/
def tableOf (gs : IVec S4 32) : IVec S5 32 :=
  concatenate S5 0 [⟨S1, fun _ => 0#32⟩, ⟨S4, cum gs⟩] Facts₀.concatenates_S1_S4_S5_d0

/-- Four words as an array. -/
def vec4 (a b c d : BitVec 32) : IVec S4 32 := fun i => (![a, b, c, d] : Fin 4 → BitVec 32) (i 0)

theorem vec4_eta (gs : IVec S4 32) : gs = vec4 (gs (ValueIdx.ix1 (0 : Fin 4))) (gs (ValueIdx.ix1 (1 : Fin 4))) (gs (ValueIdx.ix1 (2 : Fin 4))) (gs (ValueIdx.ix1 (3 : Fin 4))) := by
  funext i
  have hi : i = ValueIdx.ix1 (i 0 : Fin 4) := by funext a; match a with | 0 => rfl
  rw [hi]
  have : ∀ k : Fin 4, gs (ValueIdx.ix1 k) = vec4 (gs (ValueIdx.ix1 (0 : Fin 4))) (gs (ValueIdx.ix1 (1 : Fin 4))) (gs (ValueIdx.ix1 (2 : Fin 4))) (gs (ValueIdx.ix1 (3 : Fin 4))) (ValueIdx.ix1 k) := by
    intro k
    match k with
    | 0 => rfl
    | 1 => rfl
    | 2 => rfl
    | 3 => rfl
  exact this (i 0)

theorem tab0 (a b c d : BitVec 32) : tableOf (vec4 a b c d) (ValueIdx.ix1 (0 : Fin 5)) = 0#32 := by rfl
theorem tab1 (a b c d : BitVec 32) : tableOf (vec4 a b c d) (ValueIdx.ix1 (1 : Fin 5)) = 0#32 + 0#32 + 0#32 + 0#32 + a := by rfl
theorem tab2 (a b c d : BitVec 32) : tableOf (vec4 a b c d) (ValueIdx.ix1 (2 : Fin 5)) = 0#32 + 0#32 + 0#32 + a + b := by rfl
theorem tab3 (a b c d : BitVec 32) : tableOf (vec4 a b c d) (ValueIdx.ix1 (3 : Fin 5)) = 0#32 + 0#32 + a + b + c := by rfl
theorem tab4 (a b c d : BitVec 32) : tableOf (vec4 a b c d) (ValueIdx.ix1 (4 : Fin 5)) = 0#32 + a + b + c + d := by rfl

/-- The row at which expert `e`'s rows start, as a number. -/
def startN (gs : IVec S4 32) (e : ℕ) : ℕ := ((List.range e).map fun k => if h : k < 4 then (gs (ValueIdx.ix1 (⟨k, h⟩ : Fin 4))).toNat else 0).sum

theorem startN_zero (gs : IVec S4 32) : startN gs 0 = 0 := rfl
theorem startN_succ (gs : IVec S4 32) (e : Fin 4) : startN gs (e.val + 1) = startN gs e.val + (gs (ValueIdx.ix1 e)).toNat := by
  unfold startN
  rw [List.range_succ, List.map_append, List.sum_append]
  simp
theorem startN_mono (gs : IVec S4 32) {e e' : ℕ} (h : e ≤ e') : startN gs e ≤ startN gs e' := by
  induction h with
  | refl => exact Nat.le_refl _
  | step _ ih =>
    refine ih.trans ?_
    unfold startN
    rw [List.range_succ, List.map_append, List.sum_append]
    exact Nat.le_add_right _ _

/-- The sizes fill the rows: what the precondition says, in numbers. -/
def Parts (gs : IVec S4 32) : Prop := startN gs 4 = 1536

/-- Under it the table holds the start rows. -/
theorem table_toNat (gs : IVec S4 32) (h : Parts gs) (e : Fin 5) : (tableOf gs (ValueIdx.ix1 e)).toNat = startN gs e.val := by
  have s1 := startN_succ gs 0
  have s2 := startN_succ gs 1
  have s3 := startN_succ gs 2
  have s4 := startN_succ gs 3
  have s0 := startN_zero gs
  unfold Parts at h
  simp only [Fin.val_zero, Fin.val_one, Fin.val_two, show ((3 : Fin 4) : ℕ) = 3 from rfl, Nat.zero_add, Nat.reduceAdd] at s1 s2 s3 s4
  have e0 := vec4_eta gs
  generalize gs (ValueIdx.ix1 (0 : Fin 4)) = a at *
  generalize gs (ValueIdx.ix1 (1 : Fin 4)) = b at *
  generalize gs (ValueIdx.ix1 (2 : Fin 4)) = c at *
  generalize gs (ValueIdx.ix1 (3 : Fin 4)) = d at *
  have T := congrArg tableOf e0
  match e with
  | 0 => rw [T, tab0]; exact s0.symm
  | 1 => rw [T, tab1]; show _ = startN gs 1; simp only [BitVec.toNat_add, BitVec.toNat_ofNat]; omega
  | 2 => rw [T, tab2]; show _ = startN gs 2; simp only [BitVec.toNat_add, BitVec.toNat_ofNat]; omega
  | 3 => rw [T, tab3]; show _ = startN gs 3; simp only [BitVec.toNat_add, BitVec.toNat_ofNat]; omega
  | 4 => rw [T, tab4]; show _ = startN gs 4; simp only [BitVec.toNat_add, BitVec.toNat_ofNat]; omega

section pre
variable [Cert.Pre_sizes_partition_rows.Facts] {F : FTy → Type} [FloatOps F]

theorem pre_sum (a b c d : BitVec 32) (h : S4.ReducesTo [0] S_) (hu : 0 < S_.numel) (i : S_.Idx) :
    Host.reduce IntOp.addi (vec4 a b c d) (constantI S_ 32 0#32) h hu i = 0#32 + a + b + c + d := by rfl

/-- The printed precondition, in numbers. -/
theorem parts_of_pre (x0 : FVec F S1536x5120 .bf16) (x1 : FVec F S4x5120x16384 .fp8e4m3) (x2 : FVec F S4x40x128 .f32)
    (x3 : FVec F S1536x8192 .fp8e5m2) (x4 : FVec F S1536x64 .f32) (gs : IVec S4 32)
    (h : Cert.Pre_sizes_partition_rows.fn x0 x1 x2 x3 x4 gs = fun _ => 1#1) : Parts gs := by
  have key : ∀ e : Fin 4, (0#32).sle (gs (ValueIdx.ix1 e)) = true ∧ (gs (ValueIdx.ix1 e)).sle 1536#32 = true ∧
      0#32 + gs (ValueIdx.ix1 (0 : Fin 4)) + gs (ValueIdx.ix1 (1 : Fin 4)) + gs (ValueIdx.ix1 (2 : Fin 4)) + gs (ValueIdx.ix1 (3 : Fin 4)) = 1536#32 := by
    intro e
    have e1 := congrFun h (ValueIdx.ix1 e)
    have e2 : IntOp.andi (IntOp.andi (BitVec.ofBool ((0#32).sle (gs (ValueIdx.ix1 e)))) (BitVec.ofBool ((gs (ValueIdx.ix1 e)).sle 1536#32)))
        (BitVec.ofBool (Host.reduce IntOp.addi gs (constantI S_ 32 0#32) Cert.Pre_sizes_partition_rows.Facts.reducesTo_S4_S_d0
          Cert.Pre_sizes_partition_rows.Facts.h_S_ (fun a => a.elim0) == 1536#32)) = 1#1 := by
      rw [← e1]
      unfold Cert.Pre_sizes_partition_rows.fn
      refine congrArg₂ IntOp.andi rfl ?_
      refine congrArg (fun t => BitVec.ofBool (Host.reduce IntOp.addi gs (constantI S_ 32 0#32) Cert.Pre_sizes_partition_rows.Facts.reducesTo_S4_S_d0
          Cert.Pre_sizes_partition_rows.Facts.h_S_ t == 1536#32)) ?_
      funext a; exact a.elim0
    have d : ∀ p q r : Bool, IntOp.andi (IntOp.andi (BitVec.ofBool p) (BitVec.ofBool q)) (BitVec.ofBool r) = 1#1 → p = true ∧ q = true ∧ r = true := by decide
    obtain ⟨p, q, r⟩ := d _ _ _ e2
    refine ⟨p, q, ?_⟩
    have r' := eq_of_beq r
    rw [vec4_eta gs, pre_sum] at r'
    exact r'
  have bd : ∀ e : Fin 4, (gs (ValueIdx.ix1 e)).toNat ≤ 1536 := by
    intro e
    obtain ⟨p, q, -⟩ := key e
    simp only [BitVec.sle, decide_eq_true_eq] at p q
    rw [show (0#32 : BitVec 32).toInt = 0 from by decide] at p
    rw [show (1536#32 : BitVec 32).toInt = 1536 from by decide] at q
    have := BitVec.toInt_eq_toNat_cond (gs (ValueIdx.ix1 e))
    have := (gs (ValueIdx.ix1 e)).isLt
    split at * <;> omega
  have sm := congrArg BitVec.toNat (key 0).2.2
  have b0 := bd 0
  have b1 := bd 1
  have b2 := bd 2
  have b3 := bd 3
  simp only [BitVec.toNat_add, BitVec.toNat_ofNat] at sm
  have s1 := startN_succ gs 0
  have s2 := startN_succ gs 1
  have s3 := startN_succ gs 2
  have s4 := startN_succ gs 3
  have s0 := startN_zero gs
  simp only [Fin.val_zero, Fin.val_one, Fin.val_two, show ((3 : Fin 4) : ℕ) = 3 from rfl, Nat.zero_add, Nat.reduceAdd] at s1 s2 s3 s4
  show startN gs 4 = 1536
  omega

end pre

variable {F : FTy → Type} [FloatOps F]
variable (m : (ℓ : Loc nD τ sig) → Buf (Elt F) ℓ) (c : Dev nD)

theorem tb_eq : tb m c = tableOf (m ((c : Thread nD τ).loc main_arg5)) := by
  show V₀ m c (Proc.devRef .tc main_v2) = _
  unfold V₀
  after_reads_simp
  rfl
theorem arg0_eq : Vr m c main_arg0 = m ((c : Thread nD τ).loc main_arg0) := by
  show V₀ m c (Proc.devRef .tc main_arg0) = _
  unfold V₀
  after_reads_simp
theorem arg1_eq : Vr m c main_arg1 = m ((c : Thread nD τ).loc main_arg1) := by
  show V₀ m c (Proc.devRef .tc main_arg1) = _
  unfold V₀
  after_reads_simp
theorem arg2_eq : Vr m c main_arg2 = m ((c : Thread nD τ).loc main_arg2) := by
  show V₀ m c (Proc.devRef .tc main_arg2) = _
  unfold V₀
  after_reads_simp
theorem arg3_eq : Vr m c main_arg3 = m ((c : Thread nD τ).loc main_arg3) := by
  show V₀ m c (Proc.devRef .tc main_arg3) = _
  unfold V₀
  after_reads_simp
theorem arg4_eq : Vr m c main_arg4 = m ((c : Thread nD τ).loc main_arg4) := by
  show V₀ m c (Proc.devRef .tc main_arg4) = _
  unfold V₀
  after_reads_simp
theorem arg5_eq : Vr m c main_arg5 = m ((c : Thread nD τ).loc main_arg5) := by
  show V₀ m c (Proc.devRef .tc main_arg5) = _
  unfold V₀
  after_reads_simp
theorem v4_eq : (Vr m c main_v4 : Vec F S20480 .f32) = shapeCast S20480 (m ((c : Thread nD τ).loc main_arg2)) Facts₀.shapeCasts_S4x40x128_S20480 := by
  show V₀ m c (Proc.devRef .tc main_v4) = _
  unfold V₀
  after_reads_simp
  rfl

/-- The words the body reads at a point are the start rows of its expert and the next. -/
theorem tabLo_eq (hp : Parts (m ((c : Thread nD τ).loc main_arg5))) (i : grid0.Coords) :
    (tabLo i (tb m c)).toNat = startN (m ((c : Thread nD τ).loc main_arg5)) (i 1).val := by
  have e : (Rect.unit (s := S5) (k0_off1 i) S1.size (k0_off1_inb i)).emb (ValueIdx.ix1 (n := 1) 0) = ValueIdx.ix1 (⟨(i 1).val, by have := (i 1).isLt; exact Nat.lt_succ_of_lt this⟩ : Fin 5) := by
    have h1 : (i 1).val < 4 := (i 1).isLt
    funext a
    match a with
    | 0 =>
      refine Fin.ext ?_
      show (BitVec.ofNat 32 (i 1).val).toNat + 1 * 0 = (i 1).val
      rw [BitVec.toNat_ofNat]
      omega
  unfold tabLo
  rw [tb_eq, e]
  exact table_toNat _ hp _
theorem tabHi_eq (hp : Parts (m ((c : Thread nD τ).loc main_arg5))) (i : grid0.Coords) :
    (tabHi i (tb m c)).toNat = startN (m ((c : Thread nD τ).loc main_arg5)) ((i 1).val + 1) := by
  have e : (Rect.unit (s := S5) (k0_off2 i) S1.size (k0_off2_inb i)).emb (ValueIdx.ix1 (n := 1) 0) = ValueIdx.ix1 (⟨(i 1).val + 1, by have := (i 1).isLt; exact Nat.succ_lt_succ this⟩ : Fin 5) := by
    have h1 : (i 1).val < 4 := (i 1).isLt
    funext a
    match a with
    | 0 =>
      refine Fin.ext ?_
      show (BitVec.ofNat 32 (i 1).val + 1#32).toNat + 1 * 0 = (i 1).val + 1
      rw [BitVec.toNat_add, BitVec.toNat_ofNat, BitVec.toNat_ofNat]
      omega
  unfold tabHi
  rw [tb_eq, e]
  exact table_toNat _ hp _

theorem tableOk_of_parts (hp : ∀ c : Dev nD, Parts (m ((c : Thread nD τ).loc main_arg5))) : TableOk m := by
  intro c i
  have h := hp c
  refine chk_of_bounds _ _ ?_ ?_
  · rw [tabLo_eq m c h i]; exact (startN_mono _ (by have := (i 1).isLt; exact Nat.le_of_lt this)).trans (le_of_eq h)
  · rw [tabHi_eq m c h i]; exact (startN_mono _ (by have := (i 1).isLt; exact this)).trans (le_of_eq h)

end Cert.KernelIdeal.Hand
-- ==== Proof.IResults.lean ====
/-
  What the run leaves: the three results as the recursion over the grid points gives them, the arguments unchanged, every
  semaphore at zero.
-/
module

public import proofs.«01_k».proof.Proof.ITable

@[expose] public section

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI Idealize.SL.Sem
open Idealize.ShloMosaic.Pipeline (Dat)

variable {F : FTy → Type} [FloatOps F]
variable (m : (ℓ : Loc nD τ sig) → Buf (Elt F) ℓ) (hok : TableOk m) (c : Dev nD)

/-- The last grid point. -/
def tEnd : Fin grid0.N := ⟨255, by decide⟩

theorem flush6_end (t : Fin grid0.N) (h : ((cfgA m).win 6).flush t = true) : t = tEnd := by
  rw [flush6] at h
  have := of_decide_eq_true h
  exact Fin.ext (by have e : grid0.N = 256 := N_0; show t.val = 255; omega)
theorem flush7_end (t : Fin grid0.N) (h : ((cfgA m).win 7).flush t = true) : t = tEnd := by
  rw [flush7] at h
  have := of_decide_eq_true h
  exact Fin.ext (by have e : grid0.N = 256 := N_0; show t.val = 255; omega)

theorem after6 (t : Fin grid0.N) : (dat m hok c).after 6 t = (stAfter m hok c (t.val + 1)).sc := rfl
theorem index6 (t : Fin grid0.N) (a) : ((cfgA m).win 6).index t a = 0 := by
  match a with
  | ⟨0, _⟩ => rfl
  | ⟨1, _⟩ => rfl
theorem emb6 (t : Fin grid0.N) (y : (((cfgA m).win 6).xblock (grid0.coords t)).Idx) : (((cfgA m).win 6).blk t).view.emb y = y := by
  funext a
  match a with
  | ⟨0, _⟩ => exact Fin.ext (Pipeline.Window.rect_emb_val_of_index_zero ((cfgA m).win 6) t (⟨0, by decide⟩ : Fin 2) (index6 m t _) y)
  | ⟨1, _⟩ => exact Fin.ext (Pipeline.Window.rect_emb_val_of_index_zero ((cfgA m).win 6) t (⟨1, by decide⟩ : Fin 2) (index6 m t _) y)
theorem arr6 : (dat m hok c).arrAt 6 grid0.N = (stAfter m hok c 256).sc := by
  have e : tEnd.val + 1 = 256 := rfl
  rw [← e, ← after6]
  generalize tEnd = t at *
  funext i
  have h := (dat m hok c).arrAt_emb_eq_flushed 6
    (fun t t' h h' hne => absurd ((flush6_end m t h).trans (flush6_end m t' h').symm) hne) t
    (by rw [flush6]; exact decide_eq_true (e.trans N_0.symm)) i
  refine Eq.trans (congrArg ((dat m hok c).arrAt 6 grid0.N) (emb6 m t i).symm) h
theorem after7 (t : Fin grid0.N) : (dat m hok c).after 7 t = (stAfter m hok c (t.val + 1)).dx := rfl
theorem index7 (t : Fin grid0.N) (a) : ((cfgA m).win 7).index t a = 0 := by
  match a with
  | ⟨0, _⟩ => rfl
  | ⟨1, _⟩ => rfl
theorem emb7 (t : Fin grid0.N) (y : (((cfgA m).win 7).xblock (grid0.coords t)).Idx) : (((cfgA m).win 7).blk t).view.emb y = y := by
  funext a
  match a with
  | ⟨0, _⟩ => exact Fin.ext (Pipeline.Window.rect_emb_val_of_index_zero ((cfgA m).win 7) t (⟨0, by decide⟩ : Fin 2) (index7 m t _) y)
  | ⟨1, _⟩ => exact Fin.ext (Pipeline.Window.rect_emb_val_of_index_zero ((cfgA m).win 7) t (⟨1, by decide⟩ : Fin 2) (index7 m t _) y)
theorem arr7 : (dat m hok c).arrAt 7 grid0.N = (stAfter m hok c 256).dx := by
  have e : tEnd.val + 1 = 256 := rfl
  rw [← e, ← after7]
  generalize tEnd = t at *
  funext i
  have h := (dat m hok c).arrAt_emb_eq_flushed 7
    (fun t t' h h' hne => absurd ((flush7_end m t h).trans (flush7_end m t' h').symm) hne) t
    (by rw [flush7]; exact decide_eq_true (e.trans N_0.symm)) i
  refine Eq.trans (congrArg ((dat m hok c).arrAt 7 grid0.N) (emb7 m t i).symm) h

variable (ρ : Dev nD → PrngReg)

/-- A buffer that is no window's array and that the body does not write holds at the end what it held at the region's entry. -/
theorem kept (r : PUnit × MemSt nD τ sig (Elt F)) (h : Post m hok r) (b : Ref sig .tc) (hb : b ∈ Pipeline.restRefsP sig pre0 spec0)
    (hne : ∀ w, Pipeline.arrRef spec0 w ≠ b) (hR : b ∉ R0) : r.2.mem ((c : Thread nD τ).loc b) = Vr m c b := by
  rw [(h.1 c).2 b hb, Pipeline.withArrays_of_ne spec0 c _ _ b hne]
  exact Pipeline.withR_of_not_mem _ _ c _ b hR

/-- The run: the results, the arguments, the semaphores. -/
theorem run_results : θ_run defs (onTc (τ := τ) (main (F := F))) (s₀ m ρ) (fun r =>
    (∀ c : Dev nD, r.2.mem ((c : Thread nD τ).loc main_v5_0) = codesAfter m hok c 256
      ∧ r.2.mem ((c : Thread nD τ).loc main_v5_1) = (stAfter m hok c 256).sc
      ∧ r.2.mem ((c : Thread nD τ).loc main_v5_2) = (stAfter m hok c 256).dx
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
    ∧ r.2.sem = fun _ => 0) :=
  (θ_run defs _ _).mono (fun r h => ⟨fun c => ⟨by
        rw [(h.1 c).2 main_v5_0 (by decide), Pipeline.withArrays_of_ne spec0 c _ _ main_v5_0 (by decide),
          Pipeline.withR_of_mem _ _ c _ main_v5_0 (by decide)]
        exact Gout_codes m hok c,
      ((h.1 c).1 6).trans (arr6 m hok c),
      ((h.1 c).1 7).trans (arr7 m hok c),
      ((h.1 c).1 1).trans (((dat m hok c).arrAt_in 1 rfl _).trans (arg0_eq m c)),
      ((h.1 c).1 2).trans (((dat m hok c).arrAt_in 2 rfl _).trans (arg1_eq m c)),
      (kept m hok c r h main_arg2 (by decide) (by decide) (by decide)).trans (arg2_eq m c),
      ((h.1 c).1 4).trans (((dat m hok c).arrAt_in 4 rfl _).trans (arg3_eq m c)),
      (kept m hok c r h main_arg4 (by decide) (by decide) (by decide)).trans (arg4_eq m c),
      (kept m hok c r h main_arg5 (by decide) (by decide) (by decide)).trans (arg5_eq m c)⟩, h.2⟩)
    (run_main m hok ρ)

end Cert.KernelIdeal.Hand
-- ==== Proof.Quantise.lean ====
/-
  The power-of-two scale of a row of 128 numbers, found in two ways: by a ladder of comparisons that builds the exponent
  bits of the scale, and as the largest of a list of powers of two that do not exceed the row's bound. The two agree.
-/
module

public import Idealize.ShloMosaic.Lib.Pipeline.ValueKit

@[expose] public section

set_option maxRecDepth 16384

noncomputable section

namespace Cert.Quantise

open Idealize.ShloMosaic

/-- One rung: the exponent bits grow by `inc` when the number they then spell does not exceed `y`. -/
def rung (y : EReal) (inc b : BitVec 32) : BitVec 32 := if Ideal.ofBits .f32 (b + inc) ≤ y then b + inc else b

/-- The exponent bits of the largest power of two not above `y`, or zero when `y` is below them all. -/
def ladder (y : EReal) : BitVec 32 :=
  rung y 8388608#32 (rung y 16777216#32 (rung y 33554432#32 (rung y 67108864#32 (rung y 134217728#32
    (rung y 268435456#32 (rung y 528482304#32 (rung y 1056964608#32 0#32)))))))

/-- The scale spelt by its bits. -/
def bitScale (y : EReal) : EReal :=
  Ideal.ofBits .f32 (if ladder y = 0#32 then 1065353216#32 else ladder y + 8388608#32)

/-- The scale's inverse spelt by its bits. -/
def bitInv (y : EReal) : EReal :=
  Ideal.ofBits .f32 (if ladder y = 0#32 then 1065353216#32 else 2122317824#32 - ladder y)

/-- The `i`-th power of two of the list. -/
def power (i : Fin 252) : EReal :=
  FloatOps.exp2 (F := Ideal) (φ := .f32) (FloatOps.sitofp (F := Ideal) .f32 (BitVec.ofNat 32 i.val) - Ideal.ofBits .f32 1123811328#32)

/-- The largest power of two of the list not above `y`, or zero. -/
def below (y : EReal) : EReal :=
  Finset.fold max (Ideal.ofBits .f32 4286578688#32) (fun i => if power i ≤ y then power i else 0) Finset.univ

/-- The scale as twice that power of two. -/
def scale (y : EReal) : EReal := if 0 < below y then Ideal.ofBits .f32 1073741824#32 * below y else 1

/-- The power of two whose exponent field is `n`. -/
def pw (n : ℕ) : EReal := (((2 : ℝ) ^ ((n : ℤ) - 127) : ℝ) : EReal)

theorem pw_pos (n : ℕ) : 0 < pw n := by
  unfold pw; exact EReal.coe_pos.mpr (zpow_pos (by norm_num) _)

theorem pw_le {a b : ℕ} (h : a ≤ b) : pw a ≤ pw b := by
  unfold pw
  rw [EReal.coe_le_coe_iff]
  exact zpow_le_zpow_right₀ (by norm_num) (by omega)

theorem pw_lt {a b : ℕ} (h : a < b) : pw a < pw b := by
  unfold pw
  rw [EReal.coe_lt_coe_iff]
  exact zpow_lt_zpow_right₀ (by norm_num) (by omega)

/-- The sign, exponent and fraction of a pattern that has an exponent field alone, and the patterns the inverse is spelt by. -/
theorem fields : ∀ n : Fin 255, ((BitVec.ofNat 32 (n.val * 8388608)).extractLsb' 31 1 == 1#1) = false
    ∧ ((BitVec.ofNat 32 (n.val * 8388608)).extractLsb' 23 8).toNat = n.val
    ∧ ((BitVec.ofNat 32 (n.val * 8388608)).extractLsb' 0 23).toNat = 0 := by decide +kernel

theorem bits_ne_zero : ∀ n : Fin 253, n.val ≠ 0 → BitVec.ofNat 32 (n.val * 8388608) ≠ 0#32 := by decide +kernel

theorem bits_inv : ∀ n : Fin 253, 2122317824#32 - BitVec.ofNat 32 (n.val * 8388608) = BitVec.ofNat 32 ((253 - n.val) * 8388608) := by
  decide +kernel

/-- A bit pattern with exponent field `n` and nothing else spells that power of two. -/
theorem ofBits_pw (n : ℕ) (h1 : 1 ≤ n) (h2 : n ≤ 254) : Ideal.ofBits .f32 (BitVec.ofNat 32 (n * 8388608)) = pw n := by
  obtain ⟨e1, e2, e3⟩ := fields ⟨n, by omega⟩
  simp only at e1 e2 e3
  show Ideal.ieee 8 23 (BitVec.ofNat 32 (n * 8388608)) = pw n
  unfold Ideal.ieee
  simp only [show 8 + 23 = 31 from rfl, e1, e2, e3]
  rw [if_neg (by omega), if_neg (by omega)]
  unfold pw
  rw [EReal.coe_eq_coe_iff]
  rw [show ((n : ℤ) - ((2 : ℤ) ^ (8 - 1) - 1) - (23 : ℕ)) = ((n : ℤ) - 127) - 23 by norm_num]
  rw [zpow_sub₀ (by norm_num)]
  have h23 : ((2 ^ 23 + 0 : ℕ) : ℝ) = 8388608 := by norm_num
  have h23' : ((2 : ℝ) ^ (23 : ℤ)) = 8388608 := by norm_num
  rw [h23, h23']
  simp only [Bool.false_eq_true, if_false, one_mul]
  rw [mul_div_assoc']
  exact mul_div_cancel_left₀ _ (by norm_num)

/-- Exponent fields add. -/
theorem ofNat_add_field (a b : ℕ) :
    BitVec.ofNat 32 (a * 8388608) + BitVec.ofNat 32 (b * 8388608) = BitVec.ofNat 32 ((a + b) * 8388608) := by
  rw [← BitVec.ofNat_add, ← Nat.add_mul]

/-- What the ladder keeps: the bits spell `c`, whose power of two is not above `y`, and `y` is below what the remaining rungs can still reach. -/
structure Inv (y : EReal) (c r : ℕ) (b : BitVec 32) : Prop where
  bits : b = BitVec.ofNat 32 (c * 8388608)
  top : c + r ≤ 252
  lo : c = 0 ∨ pw c ≤ y
  hi : c + r = 252 ∨ y < pw (c + r + 1)

theorem Inv.rung {y : EReal} {c r : ℕ} {b : BitVec 32} (h : Inv y c r b) (s r' : ℕ) (inc : BitVec 32)
    (hinc : inc = BitVec.ofNat 32 (s * 8388608)) (hs : 1 ≤ s) (hr : r = s + r') (hs' : s ≤ r' + 1) :
    ∃ c', Inv y c' r' (rung y inc b) := by
  obtain ⟨hb, ht, hl, hh⟩ := h
  have hadd : b + inc = BitVec.ofNat 32 ((c + s) * 8388608) := by
    rw [hb, hinc, ofNat_add_field]
  unfold Quantise.rung
  rw [hadd, ofBits_pw _ (by omega) (by omega)]
  split
  · rename_i hc
    exact ⟨c + s, rfl, by omega, .inr hc, by
      rcases hh with hh | hh
      · left; omega
      · right; rwa [show c + s + r' + 1 = c + r + 1 by omega]⟩
  · rename_i hc
    exact ⟨c, hb, by omega, hl, .inr (lt_of_lt_of_le (not_le.mp hc) (pw_le (by omega)))⟩

/-- The ladder ends at the greatest exponent it may reach. -/
theorem ladder_inv (y : EReal) : ∃ c, Inv y c 0 (ladder y) := by
  have h0 : Inv y 0 252 0#32 := ⟨rfl, by omega, .inl rfl, .inl rfl⟩
  obtain ⟨c1, h1⟩ := h0.rung 126 126 1056964608#32 rfl (by omega) (by omega) (by omega)
  obtain ⟨c2, h2⟩ := h1.rung 63 63 528482304#32 rfl (by omega) (by omega) (by omega)
  obtain ⟨c3, h3⟩ := h2.rung 32 31 268435456#32 rfl (by omega) (by omega) (by omega)
  obtain ⟨c4, h4⟩ := h3.rung 16 15 134217728#32 rfl (by omega) (by omega) (by omega)
  obtain ⟨c5, h5⟩ := h4.rung 8 7 67108864#32 rfl (by omega) (by omega) (by omega)
  obtain ⟨c6, h6⟩ := h5.rung 4 3 33554432#32 rfl (by omega) (by omega) (by omega)
  obtain ⟨c7, h7⟩ := h6.rung 2 1 16777216#32 rfl (by omega) (by omega) (by omega)
  exact h7.rung 1 0 8388608#32 rfl (by omega) (by omega) (by omega)

theorem ofBits_126 : Ideal.ofBits .f32 1123811328#32 = ((126 : ℝ) : EReal) := by
  simp [Ideal.ofBits, Ideal.ieee, -EReal.coe_mul]; norm_num

theorem ofBits_two : Ideal.ofBits .f32 1073741824#32 = ((2 : ℝ) : EReal) := by
  simp [Ideal.ofBits, Ideal.ieee, -EReal.coe_mul]; norm_num

theorem ofBits_one : Ideal.ofBits .f32 1065353216#32 = 1 := by
  simp [Ideal.ofBits, Ideal.ieee, -EReal.coe_mul]; norm_num

theorem ofBits_bot : Ideal.ofBits .f32 4286578688#32 = ⊥ := by
  simp [Ideal.ofBits, Ideal.ieee]

/-- The `i`-th power of two of the list has exponent field `i + 1`. -/
theorem power_eq (i : Fin 252) : power i = pw (i.val + 1) := by
  have hs : FloatOps.sitofp (F := Ideal) .f32 (BitVec.ofNat 32 i.val) = ((i.val : ℝ) : EReal) := by
    show (((BitVec.ofNat 32 i.val).toInt : ℝ) : EReal) = _
    have : (BitVec.ofNat 32 i.val).toInt = (i.val : ℤ) := by
      rw [BitVec.toInt_eq_toNat_of_lt] <;> simp only [BitVec.toNat_ofNat] <;> omega
    rw [this]; norm_cast
  unfold power
  rw [hs, ofBits_126]
  show Ideal.exp2 (((i.val : ℝ) : EReal) - ((126 : ℝ) : EReal)) = _
  rw [← EReal.coe_sub, Ideal.exp2_coe]
  unfold pw
  congr 1
  show (2 : ℝ) ^ ((i.val : ℝ) - 126) = _
  rw [← Real.rpow_intCast]
  congr 1
  push_cast; ring

theorem below_eq {y : EReal} {c : ℕ} {b : BitVec 32} (h : Inv y c 0 b) : below y = if c = 0 then 0 else pw c := by
  obtain ⟨-, ht, hl, hh⟩ := h
  unfold below
  rw [ofBits_bot]
  apply le_antisymm
  · rw [Finset.fold_max_le]
    refine ⟨bot_le, fun i _ => ?_⟩
    rw [power_eq]
    split
    · rename_i hi
      split
      · rename_i hc
        exfalso
        rcases hh with hh | hh
        · omega
        · exact absurd (lt_of_le_of_lt hi hh) (not_lt.mpr (pw_le (by omega)))
      · refine pw_le ?_
        by_contra hlt
        rcases hh with hh | hh
        · omega
        · exact absurd (lt_of_le_of_lt hi hh) (not_lt.mpr (pw_le (by omega)))
    · split
      · exact le_rfl
      · exact (pw_pos _).le
  · rw [Finset.le_fold_max]
    right
    split
    · rename_i hc
      refine ⟨⟨0, by omega⟩, Finset.mem_univ _, ?_⟩
      split
      · rw [power_eq]; exact (pw_pos _).le
      · exact le_rfl
    · rename_i hc
      refine ⟨⟨c - 1, by omega⟩, Finset.mem_univ _, ?_⟩
      rw [power_eq]
      have hcc : c - 1 + 1 = c := by omega
      simp only [hcc]
      rw [if_pos (hl.resolve_left hc)]

theorem two_mul_pw (c : ℕ) : Ideal.ofBits .f32 1073741824#32 * pw c = pw (c + 1) := by
  rw [ofBits_two]
  unfold pw
  rw [← EReal.coe_mul]
  congr 1
  rw [show (((c + 1 : ℕ) : ℤ) - 127) = 1 + ((c : ℤ) - 127) by push_cast; ring, zpow_add₀ (by norm_num)]
  simp

theorem ofNat_ne_zero {c : ℕ} (h : c ≠ 0) (h' : c ≤ 252) : BitVec.ofNat 32 (c * 8388608) ≠ 0#32 :=
  bits_ne_zero ⟨c, by omega⟩ h

/-- The two scales agree. -/
theorem bitScale_eq (y : EReal) : bitScale y = scale y := by
  obtain ⟨c, h⟩ := ladder_inv y
  unfold bitScale scale
  rw [below_eq h, h.bits]
  have ht := h.top
  by_cases hc : c = 0
  · subst hc
    rw [if_pos rfl, if_neg (by simp), ofBits_one]
  · rw [if_neg (ofNat_ne_zero hc (by omega)), if_neg hc, if_pos (pw_pos c), two_mul_pw]
    rw [show BitVec.ofNat 32 (c * 8388608) + 8388608#32 = BitVec.ofNat 32 ((c + 1) * 8388608) from ofNat_add_field c 1]
    exact ofBits_pw _ (by omega) (by omega)

theorem div_pw {a b : ℕ} (h : a + b = 254) : Ideal.div 1 (pw a) = pw b := by
  unfold Ideal.div
  rw [if_neg (pw_pos a).ne', one_mul]
  unfold pw
  rw [← EReal.coe_inv, ← zpow_neg]
  congr 2
  omega

/-- The inverse spelt by its bits is the inverse of the scale. -/
theorem bitInv_eq (y : EReal) : bitInv y = Ideal.div 1 (scale y) := by
  obtain ⟨c, h⟩ := ladder_inv y
  unfold bitInv scale
  rw [below_eq h, h.bits]
  have ht := h.top
  by_cases hc : c = 0
  · subst hc
    rw [if_pos rfl, if_neg (by simp), ofBits_one]
    unfold Ideal.div
    rw [if_neg one_ne_zero]; simp
  · rw [if_neg (ofNat_ne_zero hc (by omega)), if_neg hc, if_pos (pw_pos c), two_mul_pw]
    rw [show 2122317824#32 - BitVec.ofNat 32 (c * 8388608) = BitVec.ofNat 32 ((253 - c) * 8388608) from bits_inv ⟨c, by omega⟩]
    rw [ofBits_pw (253 - c) (by omega) (by omega), div_pw (show c + 1 + (253 - c) = 254 by omega)]

/-! ### The gradients and their quantised form -/

/-- The gate half of the gradient of `silu g * u`. -/
def dgS (g u dh : EReal) : EReal := dh * u * Ideal.logistic g * (1 + g * (1 - Ideal.logistic g))

/-- The up half of the gradient of `silu g * u`. -/
def duS (g dh : EReal) : EReal := dh * g * Ideal.logistic g

/-- The bound of a row of 128 numbers that its scale is taken from: the largest magnitude over the largest code. -/
def bound (v : Fin 128 → EReal) : EReal :=
  Finset.fold max (Ideal.ofBits .f32 4286578688#32) (fun q => FloatOps.absf (F := Ideal) (φ := .f32) (v q)) Finset.univ * Ideal.ofBits .f32 932333861#32

/-- The code of a number at a scale: the number over the scale, kept within the codes' range. -/
def codeS (v s : EReal) : EReal :=
  min (Ideal.ofBits .f32 1197473792#32) (max (Ideal.ofBits .f32 3344957440#32) (v * Ideal.div 1 s))

end Cert.Quantise
-- ==== Proof.MainSpec.lean ====
/-
  What the main call computes, entry by entry, over the extended reals: for a row owned by expert `e`, the forward
  product, the gradient of `silu(g) * u`, its power-of-two scales and codes, and the input gradient from the codes. Also
  that the input gradient's sum over all 16384 columns is the sum over 64 column tiles of a gate group and an up group.
-/
module

public import proofs.«01_k».proof.Proof.Quantise

@[expose] public section

noncomputable section

namespace Cert.MainSpec

open Idealize.ShloMosaic
open Cert.Quantise

/-- The float inputs by entries: rows, weight codes, weight scales, output-gradient codes, output-gradient scales. -/
structure Ins where
  x : Fin 1536 → Fin 5120 → EReal
  w : Fin 4 → Fin 5120 → Fin 16384 → EReal
  ws : Fin 4 → Fin 40 → Fin 128 → EReal
  dc : Fin 1536 → Fin 8192 → EReal
  ds : Fin 1536 → Fin 64 → EReal

variable (A : Ins) (e : Fin 4) (r : Fin 1536)

/-- The dequantised weight. -/
def wt (k : Fin 5120) (f : Fin 16384) : EReal := A.w e k f * A.ws e ⟨k.val / 128, by omega⟩ ⟨f.val / 128, by omega⟩
/-- The forward product. -/
def gu (f : Fin 16384) : EReal := ∑ k : Fin 5120, A.x r k * wt A e k f
/-- The dequantised output gradient. -/
def dh (f : Fin 8192) : EReal := A.dc r f * A.ds r ⟨f.val / 128, by omega⟩
/-- The gradient of group `g` (64 gate groups, then 64 up groups) at column `q`. -/
def val (g q : Fin 128) : EReal :=
  if h : g.val < 64 then
    dgS (gu A e r ⟨128 * g.val + q.val, by omega⟩) (gu A e r ⟨8192 + (128 * g.val + q.val), by omega⟩) (dh A r ⟨128 * g.val + q.val, by omega⟩)
  else duS (gu A e r ⟨128 * (g.val - 64) + q.val, by omega⟩) (dh A r ⟨128 * (g.val - 64) + q.val, by omega⟩)
/-- The scale of a group. -/
def sc (g : Fin 128) : EReal := scale (bound fun q => val A e r g q)
/-- The code at a group and column. -/
def codeG (g q : Fin 128) : EReal := codeS (val A e r g q) (sc A e r g)
/-- The code of a column. -/
def code (f : Fin 16384) : EReal := codeG A e r ⟨f.val / 128, by omega⟩ ⟨f.val % 128, by omega⟩
/-- A column from its group and its place there. -/
def col (g q : Fin 128) : Fin 16384 := ⟨128 * g.val + q.val, by omega⟩
/-- A group's part of the input gradient. -/
def part (c : Fin 5120) (g : Fin 128) : EReal := ∑ q : Fin 128, codeG A e r g q * sc A e r g * wt A e c (col g q)
/-- The input gradient. -/
def dx (c : Fin 5120) : EReal := ∑ f : Fin 16384, code A e r f * sc A e r ⟨f.val / 128, by omega⟩ * wt A e c f
/-- A tile's part of the input gradient: a gate group and an up group. -/
def tilePart (c : Fin 5120) (j : Fin 64) : EReal := part A e r c ⟨j.val, by omega⟩ + part A e r c ⟨64 + j.val, by omega⟩

theorem code_col (g q : Fin 128) : code A e r (col g q) = codeG A e r g q := by
  have e1 : (⟨(col g q).val / 128, by have := (col g q).isLt; omega⟩ : Fin 128) = g := Fin.ext (by show (128 * g.val + q.val) / 128 = g.val; omega)
  have e2 : (⟨(col g q).val % 128, by omega⟩ : Fin 128) = q := Fin.ext (by show (128 * g.val + q.val) % 128 = q.val; omega)
  unfold code; rw [e1, e2]

/-- A sum over the columns, group by group. -/
theorem sum_cols (f : Fin 16384 → EReal) : ∑ i, f i = ∑ g : Fin 128, ∑ q : Fin 128, f (col g q) := by
  rw [← Fintype.sum_prod_type' (f := fun g q => f (col g q))]
  refine (Fintype.sum_equiv (finProdFinEquiv (m := 128) (n := 128)) (fun p => f (col p.1 p.2)) (fun i : Fin (128 * 128) => f i) fun p => ?_).symm
  refine congrArg f (Fin.ext ?_)
  show 128 * p.1.val + p.2.val = p.2.val + 128 * p.1.val
  omega

theorem dx_eq (c : Fin 5120) : dx A e r c = ∑ j : Fin 64, tilePart A e r c j := by
  unfold dx
  rw [sum_cols]
  have h : ∀ g : Fin 128, ∑ q : Fin 128, code A e r (col g q) * sc A e r ⟨(col g q).val / 128, by have := (col g q).isLt; omega⟩ * wt A e c (col g q) = part A e r c g := fun g =>
    Finset.sum_congr rfl fun q _ => by
      have e1 : (⟨(col g q).val / 128, by have := (col g q).isLt; omega⟩ : Fin 128) = g := Fin.ext (by show (128 * g.val + q.val) / 128 = g.val; omega)
      rw [code_col, e1]
  rw [Finset.sum_congr rfl fun g _ => h g]
  unfold tilePart
  rw [Finset.sum_add_distrib]
  exact Fin.sum_univ_add (a := 64) (b := 64) (fun g : Fin (64 + 64) => part A e r c g)

end Cert.MainSpec
-- ==== Proof.RPay.lean ====
/-
  The reference's stages at the extended reals, entry by entry, over any arrays.
-/
module

public import proofs.«01_k».proof.Proof.Gen.ReferenceIdeal.Value
public import proofs.«01_k».proof.Proof.MainSpec
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe
open Cert.Quantise

/-- The four masks: a row's place against the first row and the end of an expert. -/
theorem mask0_at (s0 : BitVec 32) (r : Fin 1536) : k0_pay2 (F := Ideal) s0 (ix2 r 0)
    = IntOp.andi (IntOp.cmpi CmpIPredicate.sge (BitVec.ofNat 32 r.val) 0#32) (IntOp.cmpi CmpIPredicate.slt (BitVec.ofNat 32 r.val) (Scalar.addi 0#32 s0)) := by
  pointwise [k0_pay2]
theorem mask1_at (s0 s1 : BitVec 32) (r : Fin 1536) : k0_pay5 (F := Ideal) s0 s1 (ix2 r 0)
    = IntOp.andi (IntOp.cmpi CmpIPredicate.sge (BitVec.ofNat 32 r.val) (Scalar.addi 0#32 s0)) (IntOp.cmpi CmpIPredicate.slt (BitVec.ofNat 32 r.val) (Scalar.addi (Scalar.addi 0#32 s0) s1)) := by
  pointwise [k0_pay5]
theorem mask2_at (b s2 : BitVec 32) (r : Fin 1536) : k0_pay9 (F := Ideal) (iota Kind.tc S1536x1 32 [0] iota_S1536x1_d0_w32) b s2 (ix2 r 0)
    = IntOp.andi (IntOp.cmpi CmpIPredicate.sge (BitVec.ofNat 32 r.val) b) (IntOp.cmpi CmpIPredicate.slt (BitVec.ofNat 32 r.val) (Scalar.addi b s2)) := by
  pointwise [k0_pay9]
theorem mask3_at (b s2 s3 : BitVec 32) (r : Fin 1536) : k0_pay12 (F := Ideal) (iota Kind.tc S1536x1 32 [0] iota_S1536x1_d0_w32) b s2 s3 (ix2 r 0)
    = IntOp.andi (IntOp.cmpi CmpIPredicate.sge (BitVec.ofNat 32 r.val) (Scalar.addi b s2)) (IntOp.cmpi CmpIPredicate.slt (BitVec.ofNat 32 r.val) (Scalar.addi (Scalar.addi b s2) s3)) := by
  pointwise [k0_pay12]

/-- The dequantised weights of an expert. -/
theorem wd0_at (a : Vec Ideal S1x5120x16384 .fp8e4m3) (b : Vec Ideal S1x40x128 .f32) (k : Fin 5120) (f : Fin 16384) :
    k0_pay3 a b (ix2 k f) = a (ix3 0 k f) * b (ix3 0 ⟨k.val / 128, by omega⟩ ⟨f.val / 128, by omega⟩) := by
  pointwise [k0_pay3]
theorem wd1_at (a : Vec Ideal S1x5120x16384 .fp8e4m3) (b : Vec Ideal S1x40x128 .f32) (k : Fin 5120) (f : Fin 16384) :
    k0_pay8 (k0_pay6 a) (k0_pay7 b) (ix2 k f) = a (ix3 0 k f) * b (ix3 0 ⟨k.val / 128, by omega⟩ ⟨f.val / 128, by omega⟩) := by
  pointwise [k0_pay6, k0_pay7, k0_pay8]
theorem wd2_at (a : Vec Ideal S1x5120x16384 .fp8e4m3) (b : Vec Ideal S1x40x128 .f32) (k : Fin 5120) (f : Fin 16384) :
    k0_pay10 a b (ix2 k f) = a (ix3 0 k f) * b (ix3 0 ⟨k.val / 128, by omega⟩ ⟨f.val / 128, by omega⟩) := by
  pointwise [k0_pay10]
theorem wd3_at (a : Vec Ideal S1x5120x16384 .fp8e4m3) (b : Vec Ideal S1x40x128 .f32) (k : Fin 5120) (f : Fin 16384) :
    k0_pay14 (k0_pay13 a) b (ix2 k f) = a (ix3 0 k f) * b (ix3 0 ⟨k.val / 128, by omega⟩ ⟨f.val / 128, by omega⟩) := by
  pointwise [k0_pay13, k0_pay14]

/-- The forward product after expert 0, and after experts 1 and 2. -/
theorem fwd0_at (v2 : Elt Ideal .i32) (a : Vec Ideal S1x5120x16384 .fp8e4m3) (b : Vec Ideal S1x40x128 .f32) (x : Vec Ideal S1536x5120 .bf16)
    (r : Fin 1536) (f : Fin 16384) :
    k0_pay4 v2 a b x (ix2 r f) = Scalar.select (k0_pay2 (F := Ideal) v2 (ix2 r 0)) (∑ k : Fin 5120, x (ix2 r k) * k0_pay3 a b (ix2 k f)) 0 := by
  pointwise [k0_pay4]
  all_goals exact Ideal.ofBits_zero _

theorem fwd2_at (v0 : IVec S1536x1 32) (v24 : FVec Ideal S1536x16384 .f32) (v26 : BitVec 32) (v31 : IVec S1536x1 1) (v35 : FVec Ideal S40x128x128x128 .bf16)
    (v39 : FVec Ideal S40x1x128x1 .bf16) (v43 : Vec Ideal S1536x5120 .bf16) (v48 : Elt Ideal .i32) (v55 : Vec Ideal S1x5120x16384 .fp8e4m3)
    (v59 : Vec Ideal S1x40x128 .f32) (v66 : Vec Ideal S1536x5120 .bf16) (r : Fin 1536) (f : Fin 16384) :
    k0_pay11 v0 v24 v26 v31 v35 v39 v43 v48 v55 v59 v66 (ix2 r f)
      = Scalar.select (k0_pay9 (F := Ideal) v0 v26 v48 (ix2 r 0)) (∑ k : Fin 5120, v66 (ix2 r k) * k0_pay10 v55 v59 (ix2 k f))
        (Scalar.select (v31 (ix2 r 0)) (∑ k : Fin 5120, v43 (ix2 r k) * k0_pay8 v35 v39 (ix2 k f)) (v24 (ix2 r f))) := by
  pointwise [k0_pay11]

/-- The forward product after all experts. -/
def fwd (v70 : FVec Ideal S1536x16384 .f32) (v77 : IVec S1536x1 1) (v81 : FVec Ideal S40x128x128x128 .bf16) (v82 : Vec Ideal S1x40x128 .f32)
    (v89 : Vec Ideal S1536x5120 .bf16) (r : Fin 1536) (f : Fin 16384) : EReal :=
  Scalar.select (v77 (ix2 r 0)) (∑ k : Fin 5120, v89 (ix2 r k) * k0_pay14 v81 v82 (ix2 k f)) (v70 (ix2 r f))

/-- The largest listed power of two not above the bound, group by group; the scales from it; the codes from the scales;
    the bounds: the stages the payloads are made of. -/
def belowV (b c : FVec Ideal S1536x128x252 .f32) : FVec Ideal S1536x128 .f32 :=
  multiReduction .maximumf [2] S1536x128 (select (cmpf .ole b c) b (broadcast S1536x128x252 (Scalar.ofBits .f32 0x00000000#32))) 0xFF800000#32
    reduces_S1536x128x252_S1536x128 (.inl rfl) rfl
def scaleV (v : FVec Ideal S1536x128 .f32) : FVec Ideal S1536x128 .f32 :=
  select (cmpf .ogt v (broadcast S1536x128 (Scalar.ofBits .f32 0x00000000#32))) (mulf (broadcast S1536x128 (Scalar.ofBits .f32 0x40000000#32)) v)
    (broadcast S1536x128 (Scalar.ofBits .f32 0x3F800000#32))
def codesV (a : FVec Ideal S1536x128x128 .f32) (s : FVec Ideal S1536x128 .f32) : FVec Ideal S1536x128x128 .fp8e5m2 :=
  truncf .fp8e5m2 (minimumf (broadcast S1536x128x128 (Scalar.ofBits .f32 0x47600000#32)) (maximumf (broadcast S1536x128x128 (Scalar.ofBits .f32 0xC7600000#32))
    (mulf a (broadcastTo S1536x128x128 (shapeCast S1536x128x1 (divf (broadcast S1536x128 (Scalar.ofBits .f32 0x3F800000#32)) s)
      shapeCasts_S1536x128_S1536x128x1) broadcasts_S1536x128x1_S1536x128x128)))) bitsLt_fp8e5m2_f32
def boundV (a : FVec Ideal S1536x128x128 .f32) : FVec Ideal S1536x128 .f32 :=
  mulf (multiReduction .maximumf [2] S1536x128 (absf a) 0xFF800000#32 reduces_S1536x128x128_S1536x128 (.inl rfl) rfl)
    (broadcast S1536x128 (Scalar.ofBits .f32 0x37924925#32))
def spreadV (a : FVec Ideal S1536x128 .f32) : FVec Ideal S1536x128x252 .f32 :=
  broadcastTo S1536x128x252 (shapeCast S1536x128x1 a shapeCasts_S1536x128_S1536x128x1) broadcasts_S1536x128x1_S1536x128x252

theorem pay18_eq (b c : FVec Ideal S1536x128x252 .f32) : k0_pay18 b c = scaleV (belowV b c) := rfl
theorem pay19_eq (a : FVec Ideal S1536x128x128 .f32) (b c : FVec Ideal S1536x128x252 .f32) : k0_pay19 a b c = codesV a (k0_pay18 b c) := rfl
theorem pay17_eq (v70 : FVec Ideal S1536x16384 .f32) (v77 : IVec S1536x1 1) (v81 : FVec Ideal S40x128x128x128 .bf16) (v82 : Vec Ideal S1x40x128 .f32)
    (v89 : Vec Ideal S1536x5120 .bf16) (v96 : Vec Ideal S1536x8192 .fp8e5m2) (v99 : Vec Ideal S1536x64 .f32) :
    k0_pay17 v70 v77 v81 v82 v89 v96 v99 = spreadV (boundV (k0_pay15 v70 v77 v81 v82 v89 v96 v99)) := rfl

theorem belowV_at (b c : FVec Ideal S1536x128x252 .f32) (r : Fin 1536) (g : Fin 128) :
    belowV b c (ix2 r g) = Finset.fold max (Ideal.ofBits .f32 4286578688#32) (fun i : Fin 252 => if b (ix3 r g i) ≤ c (ix3 r g i) then b (ix3 r g i) else 0) Finset.univ := by
  pointwise [belowV]
theorem scaleV_at (v : FVec Ideal S1536x128 .f32) (r : Fin 1536) (g : Fin 128) :
    scaleV v (ix2 r g) = if 0 < v (ix2 r g) then Ideal.ofBits .f32 1073741824#32 * v (ix2 r g) else 1 := by
  pointwise [scaleV]
theorem codesV_at (a : FVec Ideal S1536x128x128 .f32) (s : FVec Ideal S1536x128 .f32) (r : Fin 1536) (g q : Fin 128) :
    codesV a s (ix3 r g q) = codeS (a (ix3 r g q)) (s (ix2 r g)) := by
  unfold codeS
  pointwise [codesV]
/-- The largest entry of each group. -/
def mxV (a : FVec Ideal S1536x128x128 .f32) : FVec Ideal S1536x128 .f32 :=
  multiReduction .maximumf [2] S1536x128 a 0xFF800000#32 reduces_S1536x128x128_S1536x128 (.inl rfl) rfl
theorem mxV_at (a : FVec Ideal S1536x128x128 .f32) (r : Fin 1536) (g : Fin 128) :
    mxV a (ix2 r g) = Finset.fold max (Ideal.ofBits .f32 4286578688#32) (fun q : Fin 128 => a (ix3 r g q)) Finset.univ := by
  pointwise [mxV]
theorem absV_at (a : FVec Ideal S1536x128x128 .f32) (r : Fin 1536) (g q : Fin 128) :
    absf a (ix3 r g q) = FloatOps.absf (F := Ideal) (φ := .f32) (a (ix3 r g q)) := rfl
theorem boundV_eq (a : FVec Ideal S1536x128x128 .f32) : boundV a = mulf (mxV (absf a)) (broadcast S1536x128 (Scalar.ofBits .f32 0x37924925#32)) := rfl
theorem mul_at (a : FVec Ideal S1536x128 .f32) (r : Fin 1536) (g : Fin 128) :
   mulf a (broadcast S1536x128 (Scalar.ofBits .f32 0x37924925#32)) (ix2 r g) = a (ix2 r g) * Ideal.ofBits .f32 932333861#32 := rfl
theorem boundV_at (a : FVec Ideal S1536x128x128 .f32) (r : Fin 1536) (g : Fin 128) :
    boundV a (ix2 r g) = bound fun q => a (ix3 r g q) := by
  rw [boundV_eq, mul_at, mxV_at]
  simp only [absV_at]
  rfl
theorem spreadV_at (a : FVec Ideal S1536x128 .f32) (r : Fin 1536) (g : Fin 128) (i : Fin 252) : spreadV a (ix3 r g i) = a (ix2 r g) := by
  pointwise [spreadV]
theorem powers_at (r : Fin 1536) (g : Fin 128) (i : Fin 252) : k0_pay16 (F := Ideal) (ix3 r g i) = power i := by
  unfold power
  pointwise [k0_pay16]
theorem codesG_at (a : FVec Ideal S1536x128x128 .f32) (b c : FVec Ideal S1536x128x252 .f32) (r : Fin 1536) (g q : Fin 128) :
    k0_pay19 a b c (ix3 r g q) = codeS (a (ix3 r g q)) (k0_pay18 b c (ix2 r g)) := by
  rw [pay19_eq, codesV_at]
theorem codes_at (a : FVec Ideal S1536x128x128 .f32) (b c : FVec Ideal S1536x128x252 .f32) (r : Fin 1536) (f : Fin 16384) :
    k0_pay20 a b c (ix2 r f) = k0_pay19 a b c (ix3 r ⟨f.val / 128, by omega⟩ ⟨f.val % 128, by omega⟩) := by
  pointwise [k0_pay20]
theorem deq_at (a : FVec Ideal S1536x128x128 .f32) (b c : FVec Ideal S1536x128x252 .f32) (r : Fin 1536) (f : Fin 16384) :
    k0_pay21 a b c (ix2 r f) = k0_pay19 a b c (ix3 r ⟨f.val / 128, by omega⟩ ⟨f.val % 128, by omega⟩) * k0_pay18 b c (ix2 r ⟨f.val / 128, by omega⟩) := by
  pointwise [k0_pay21]

/-- The gradients, from the forward product and the dequantised output gradient. -/
theorem grad_at (v70 : FVec Ideal S1536x16384 .f32) (v77 : IVec S1536x1 1) (v81 : FVec Ideal S40x128x128x128 .bf16) (v82 : Vec Ideal S1x40x128 .f32)
    (v89 : Vec Ideal S1536x5120 .bf16) (v96 : Vec Ideal S1536x8192 .fp8e5m2) (v99 : Vec Ideal S1536x64 .f32) (r : Fin 1536) (g q : Fin 128) :
    k0_pay15 v70 v77 v81 v82 v89 v96 v99 (ix3 r g q)
      = if h : g.val < 64 then
        dgS (fwd v70 v77 v81 v82 v89 r ⟨128 * g.val + q.val, by omega⟩) (fwd v70 v77 v81 v82 v89 r ⟨8192 + (128 * g.val + q.val), by omega⟩)
          (v96 (ix2 r ⟨128 * g.val + q.val, by omega⟩) * v99 (ix2 r ⟨(128 * g.val + q.val) / 128, by omega⟩))
        else duS (fwd v70 v77 v81 v82 v89 r ⟨128 * (g.val - 64) + q.val, by omega⟩)
          (v96 (ix2 r ⟨128 * (g.val - 64) + q.val, by omega⟩) * v99 (ix2 r ⟨(128 * (g.val - 64) + q.val) / 128, by omega⟩)) := by
  pointwise [k0_pay15]
  have hq := q.isLt
  by_cases h : g.val < 64
  · have n0 : g.val * 128 + q.val = 128 * g.val + q.val := by omega
    have n1 : (g.val * 128 + q.val) / 128 * 128 + q.val = 128 * g.val + q.val := by omega
    rw [dif_pos (show g.val * 128 + q.val < 8192 by omega), dif_pos h]
    unfold dgS fwd
    simp only [n1]
    simp only [n0]
  · have n0 : g.val * 128 + q.val - 8192 = 128 * (g.val - 64) + q.val := by omega
    have n1 : (g.val * 128 + q.val - 8192) / 128 * 128 + (g.val * 128 + q.val - 8192) % 128 = 128 * (g.val - 64) + q.val := by omega
    rw [dif_neg (show ¬ g.val * 128 + q.val < 8192 by omega), dif_neg h]
    unfold duS fwd
    simp only [n1]
    simp only [n0]

/-- The input gradient after experts 0 to 2, and after all. -/
theorem bwd2_at (v8 : IVec S1536x1 1) (v19 : FVec Ideal S5120x16384 .bf16) (v31 : IVec S1536x1 1) (v42 : FVec Ideal S5120x16384 .bf16) (v54 : IVec S1536x1 1)
    (v65 : FVec Ideal S5120x16384 .bf16) (a : FVec Ideal S1536x128x128 .f32) (b c : FVec Ideal S1536x128x252 .f32) (r : Fin 1536) (k : Fin 5120) :
    k0_pay22 v8 v19 v31 v42 v54 v65 a b c (ix2 r k)
      = Scalar.select (v54 (ix2 r 0)) (∑ f : Fin 16384, k0_pay21 a b c (ix2 r f) * v65 (ix2 k f))
        (Scalar.select (v31 (ix2 r 0)) (∑ f : Fin 16384, k0_pay21 a b c (ix2 r f) * v42 (ix2 k f))
          (Scalar.select (v8 (ix2 r 0)) (∑ f : Fin 16384, k0_pay21 a b c (ix2 r f) * v19 (ix2 k f)) 0)) := by
  pointwise [k0_pay22]
  all_goals exact Ideal.ofBits_zero _
theorem bwd_at (v77 : IVec S1536x1 1) (v88 : FVec Ideal S5120x16384 .bf16) (v156 : FVec Ideal S1536x16384 .bf16) (v169 : FVec Ideal S1536x5120 .f32)
    (r : Fin 1536) (k : Fin 5120) :
    k0_pay1 v77 v88 v156 v169 (ix2 r k) = Scalar.select (v77 (ix2 r 0)) (∑ f : Fin 16384, v156 (ix2 r f) * v88 (ix2 k f)) (v169 (ix2 r k)) := by
  pointwise [k0_pay1]

end Cert.ReferenceIdeal.Hand
-- ==== Proof.RRun.lean ====
/-
  What the reference leaves in its three results, as its stages applied to the argument arrays.
-/
module

public import proofs.«01_k».proof.Proof.RPay
public import Idealize.ShloMosaic.Lib.Pipeline.ReadBack

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Cert.Quantise

/-- Expert `e`'s weight codes and scales, and its size, as the reference loads them. -/
def wE (a : Vec Ideal S4x5120x16384 .fp8e4m3) (e : ℕ) (h : ∀ i, ![e, 0, 0] i + ![1, 5120, 16384] i ≤ S4x5120x16384.size i) : Vec Ideal S1x5120x16384 .fp8e4m3 :=
  View.ld a (Rect.unit ![e, 0, 0] ![1, 5120, 16384] h)
def sE (a : Vec Ideal S4x40x128 .f32) (e : ℕ) (h : ∀ i, ![e, 0, 0] i + ![1, 40, 128] i ≤ S4x40x128.size i) : Vec Ideal S1x40x128 .f32 :=
  View.ld a (Rect.unit ![e, 0, 0] ![1, 40, 128] h)
def sz (gs : Vec Ideal S4 .i32) (e : ℕ) (h : ∀ i, ![e] i + ![1] i ≤ S4.size i) : BitVec 32 :=
  View.ld gs (Rect.unit ![e] ![1] h) (Shape.Idx.first (s := S1) (by decide))

section Arrays

variable (x : Vec Ideal S1536x5120 .bf16) (w : Vec Ideal S4x5120x16384 .fp8e4m3) (ws : Vec Ideal S4x40x128 .f32)
  (dc : Vec Ideal S1536x8192 .fp8e5m2) (ds : Vec Ideal S1536x64 .f32) (gs : Vec Ideal S4 .i32)

/-- The row numbers, and the end of expert 1. -/
def rowsV : IVec S1536x1 32 := iota Kind.tc S1536x1 32 [0] iota_S1536x1_d0_w32
def end1 : BitVec 32 := Scalar.addi (Scalar.addi 0#32 (sz gs 0 inb_S4_S1_0)) (sz gs 1 inb_S4_S1_1)
/-- The masks of the experts. -/
def mask0 : IVec S1536x1 1 := k0_pay2 (F := Ideal) (sz gs 0 inb_S4_S1_0)
def mask1 : IVec S1536x1 1 := k0_pay5 (F := Ideal) (sz gs 0 inb_S4_S1_0) (sz gs 1 inb_S4_S1_1)
def mask2 : IVec S1536x1 1 := k0_pay9 (F := Ideal) rowsV (end1 gs) (sz gs 2 inb_S4_S1_2)
def mask3 : IVec S1536x1 1 := k0_pay12 (F := Ideal) rowsV (end1 gs) (sz gs 2 inb_S4_S1_2) (sz gs 3 inb_S4_S1_3)
/-- The dequantised weights of the experts. -/
def wd0 : FVec Ideal S5120x16384 .bf16 := k0_pay3 (wE w 0 inb_S4x5120x16384_S1x5120x16384_0_0_0) (sE ws 0 inb_S4x40x128_S1x40x128_0_0_0)
def wd1 : FVec Ideal S5120x16384 .bf16 := k0_pay8 (k0_pay6 (wE w 1 inb_S4x5120x16384_S1x5120x16384_1_0_0)) (k0_pay7 (sE ws 1 inb_S4x40x128_S1x40x128_1_0_0))
def wd2 : FVec Ideal S5120x16384 .bf16 := k0_pay10 (wE w 2 inb_S4x5120x16384_S1x5120x16384_2_0_0) (sE ws 2 inb_S4x40x128_S1x40x128_2_0_0)
def wd3 : FVec Ideal S5120x16384 .bf16 := k0_pay14 (k0_pay13 (wE w 3 inb_S4x5120x16384_S1x5120x16384_3_0_0)) (sE ws 3 inb_S4x40x128_S1x40x128_3_0_0)
/-- The forward product after expert 2. -/
def fwd2 : FVec Ideal S1536x16384 .f32 :=
  k0_pay11 rowsV (k0_pay4 (sz gs 0 inb_S4_S1_0) (wE w 0 inb_S4x5120x16384_S1x5120x16384_0_0_0) (sE ws 0 inb_S4x40x128_S1x40x128_0_0_0) x) (end1 gs) (mask1 gs) (k0_pay6 (wE w 1 inb_S4x5120x16384_S1x5120x16384_1_0_0)) (k0_pay7 (sE ws 1 inb_S4x40x128_S1x40x128_1_0_0)) x (sz gs 2 inb_S4_S1_2) (wE w 2 inb_S4x5120x16384_S1x5120x16384_2_0_0) (sE ws 2 inb_S4x40x128_S1x40x128_2_0_0) x
/-- The gradients by groups, and the bounds their scales come from. -/
def gradV : FVec Ideal S1536x128x128 .f32 := k0_pay15 (fwd2 x w ws gs) (mask3 gs) (k0_pay13 (wE w 3 inb_S4x5120x16384_S1x5120x16384_3_0_0)) (sE ws 3 inb_S4x40x128_S1x40x128_3_0_0) x dc ds
def bndV : FVec Ideal S1536x128x252 .f32 := k0_pay17 (fwd2 x w ws gs) (mask3 gs) (k0_pay13 (wE w 3 inb_S4x5120x16384_S1x5120x16384_3_0_0)) (sE ws 3 inb_S4x40x128_S1x40x128_3_0_0) x dc ds
/-- The three results. -/
def codesR : FVec Ideal S1536x16384 .fp8e5m2 := k0_pay20 (gradV x w ws dc ds gs) k0_pay16 (bndV x w ws dc ds gs)
def scalesR : FVec Ideal S1536x128 .f32 := k0_pay18 k0_pay16 (bndV x w ws dc ds gs)
def dxR : FVec Ideal S1536x5120 .f32 :=
  k0_pay1 (mask3 gs) (wd3 w ws) (k0_pay21 (gradV x w ws dc ds gs) k0_pay16 (bndV x w ws dc ds gs))
    (k0_pay22 (mask0 gs) (wd0 w ws) (mask1 gs) (wd1 w ws) (mask2 gs) (wd2 w ws) (gradV x w ws dc ds gs) k0_pay16 (bndV x w ws dc ds gs))

/-- Which entries those loads read. -/
theorem wE_at (e : Fin 4) (h) (k : Fin 5120) (f : Fin 16384) : wE w e.val h (ix3 0 k f) = w (ix3 e k f) := by
  refine congrArg w ?_
  funext a
  refine Fin.ext ?_
  match a with
  | ⟨0, _⟩ => show e.val + 1 * 0 = e.val; omega
  | ⟨1, _⟩ => show 0 + 1 * k.val = k.val; omega
  | ⟨2, _⟩ => show 0 + 1 * f.val = f.val; omega
theorem sE_at (e : Fin 4) (h) (k : Fin 40) (f : Fin 128) : sE ws e.val h (ix3 0 k f) = ws (ix3 e k f) := by
  refine congrArg ws ?_
  funext a
  refine Fin.ext ?_
  match a with
  | ⟨0, _⟩ => show e.val + 1 * 0 = e.val; omega
  | ⟨1, _⟩ => show 0 + 1 * k.val = k.val; omega
  | ⟨2, _⟩ => show 0 + 1 * f.val = f.val; omega
theorem sz_at (e : Fin 4) (h) : sz gs e.val h = gs (ValueIdx.ix1 e) := by
  refine congrArg gs ?_
  funext a
  refine Fin.ext ?_
  match a with
  | ⟨0, _⟩ => show e.val + 1 * 0 = e.val; omega

end Arrays

variable (m : (ℓ : Loc nD τ sig) → Buf (Elt Ideal) ℓ) (c : Dev nD)

/-- The one block of each window is its whole array. -/
theorem idx : ∀ t : Fin cfg0.N, win0_0.index t = ![0, 0] ∧ win0_1.index t = ![0, 0, 0] ∧ win0_2.index t = ![0, 0, 0] ∧ win0_3.index t = ![0, 0]
    ∧ win0_4.index t = ![0, 0] ∧ win0_5.index t = ![0] ∧ win0_6.index t = ![0, 0] ∧ win0_7.index t = ![0, 0] ∧ win0_8.index t = ![0, 0] :=
  (by decide +kernel : ∀ t : Fin grid0.N, _)
abbrev arg0 : Vec Ideal S1536x5120 .bf16 := m ((c : Thread nD τ).loc main_arg0)
abbrev arg1 : Vec Ideal S4x5120x16384 .fp8e4m3 := m ((c : Thread nD τ).loc main_arg1)
abbrev arg2 : Vec Ideal S4x40x128 .f32 := m ((c : Thread nD τ).loc main_arg2)
abbrev arg3 : Vec Ideal S1536x8192 .fp8e5m2 := m ((c : Thread nD τ).loc main_arg3)
abbrev arg4 : Vec Ideal S1536x64 .f32 := m ((c : Thread nD τ).loc main_arg4)
abbrev arg5 : Vec Ideal S4 .i32 := m ((c : Thread nD τ).loc main_arg5)
theorem blk0 : iblk m c 0 t0_0 = arg0 m c := by funext i; blk_ext [iblk, V, idx t0_0]
theorem blk1 : iblk m c 1 t0_0 = arg1 m c := by funext i; blk_ext [iblk, V, idx t0_0]
theorem blk2 : iblk m c 2 t0_0 = arg2 m c := by funext i; blk_ext [iblk, V, idx t0_0]
theorem blk3 : iblk m c 3 t0_0 = arg3 m c := by funext i; blk_ext [iblk, V, idx t0_0]
theorem blk4 : iblk m c 4 t0_0 = arg4 m c := by funext i; blk_ext [iblk, V, idx t0_0]
theorem blk5 : iblk m c 5 t0_0 = arg5 m c := by funext i; blk_ext [iblk, V, idx t0_0]

/-- What the one point leaves for the codes, and so what the array ends with. -/
theorem out6 : (outsAt0 m c t0_0).1 = codesR (arg0 m c) (arg1 m c) (arg2 m c) (arg3 m c) (arg4 m c) (arg5 m c) := by
  funext j
  unfold outsAt0
  dsimp only
  unfold out0_A_6
  frame_out
  simp only [read_unread_whole]
  simp only [blk0, blk1, blk2, blk3, blk4, blk5]
  unfold codesR gradV bndV fwd2 mask1 mask3 end1 rowsV wE sE sz
  rfl
theorem final6 : (dats m 0 c).arrAt 6 cfg0.N = codesR (arg0 m c) (arg1 m c) (arg2 m c) (arg3 m c) (arg4 m c) (arg5 m c) := by
  refine (dats m 0 c).arrAt_eq_of_after_last 6 t0_0 (by decide +kernel) _ fun j => ?_
  blk_simp
  rw [after0_6, out6]
  blk_ext [idx t0_0]

/-- What the one point leaves for the scales, and so what the array ends with. -/
theorem out7 : (outsAt0 m c t0_0).2.1 = scalesR (arg0 m c) (arg1 m c) (arg2 m c) (arg3 m c) (arg4 m c) (arg5 m c) := by
  funext j
  unfold outsAt0
  dsimp only
  unfold out0_A_7
  frame_out
  simp only [read_unread_whole]
  simp only [blk0, blk1, blk2, blk3, blk4, blk5]
  unfold scalesR bndV fwd2 mask1 mask3 end1 rowsV wE sE sz
  rfl
theorem final7 : (dats m 0 c).arrAt 7 cfg0.N = scalesR (arg0 m c) (arg1 m c) (arg2 m c) (arg3 m c) (arg4 m c) (arg5 m c) := by
  refine (dats m 0 c).arrAt_eq_of_after_last 7 t0_0 (by decide +kernel) _ fun j => ?_
  blk_simp
  rw [after0_7, out7]
  blk_ext [idx t0_0]

/-- What the one point leaves for the input gradient, and so what the array ends with. -/
theorem out8 : (outsAt0 m c t0_0).2.2 = dxR (arg0 m c) (arg1 m c) (arg2 m c) (arg3 m c) (arg4 m c) (arg5 m c) := by
  funext j
  unfold outsAt0
  dsimp only
  unfold out0_A_8
  frame_out
  simp only [read_unread_whole]
  simp only [blk0, blk1, blk2, blk3, blk4, blk5]
  unfold dxR gradV bndV fwd2 mask0 mask1 mask2 mask3 wd0 wd1 wd2 wd3 end1 rowsV wE sE sz
  rfl
theorem final8 : (dats m 0 c).arrAt 8 cfg0.N = dxR (arg0 m c) (arg1 m c) (arg2 m c) (arg3 m c) (arg4 m c) (arg5 m c) := by
  refine (dats m 0 c).arrAt_eq_of_after_last 8 t0_0 (by decide +kernel) _ fun j => ?_
  blk_simp
  rw [after0_8, out8]
  blk_ext [idx t0_0]

end Cert.ReferenceIdeal.Hand
-- ==== Proof.IBlock.lean ====
/-
  One row block of the kernel's loop at the extended reals, entry by entry: the two gradients, their scales and their codes.
-/
module

public import proofs.«01_k».proof.Proof.ILive
public import proofs.«01_k».proof.Proof.Quantise

@[expose] public section

set_option maxRecDepth 16384

noncomputable section

namespace Cert.KernelIdeal.Hand

open Cert.KernelIdeal Cert.KernelIdeal.Gen
open Idealize.ShloMosaic Idealize.ShloMosaic.TcCoe
open Cert.Quantise

variable {α : Type}

/-- A window of a matrix, at an entry. -/
theorem window2 {n0 n1 m0 m1 : ℕ} (x : (⟨2, ![n0, n1]⟩ : Shape).Idx → α) (off : Fin 2 → ℕ) (o0 o1 : ℕ) (hoff : off = ![o0, o1])
    (inb : ∀ a, off a + (![m0, m1] : Fin 2 → ℕ) a ≤ (⟨2, ![n0, n1]⟩ : Shape).size a) (p : Fin m0) (q : Fin m1) (h0 : o0 + p.val < n0) (h1 : o1 + q.val < n1) :
    VecWindow.window (s := ⟨2, ![n0, n1]⟩) x off ![m0, m1] inb (ix2 p q) = x (ix2 ⟨o0 + p.val, h0⟩ ⟨o1 + q.val, h1⟩) := by
  subst hoff
  exact congrArg x (funext fun a => Fin.ext (by
    match a with
    | ⟨0, _⟩ => show o0 + 1 * p.val = o0 + p.val; omega
    | ⟨1, _⟩ => show o1 + 1 * q.val = o1 + q.val; omega))

/-- A matrix with a window replaced, at an entry of the window. -/
theorem put2_in {n0 n1 m0 m1 : ℕ} (x : (⟨2, ![n0, n1]⟩ : Shape).Idx → α) (off : Fin 2 → ℕ) (o0 o1 : ℕ) (hoff : off = ![o0, o1])
    (w : (⟨2, ![m0, m1]⟩ : Shape).Idx → α) (r : Fin n0) (c : Fin n1) (p : Fin m0) (q : Fin m1) (h0 : r.val = o0 + p.val) (h1 : c.val = o1 + q.val) :
    VecWindow.put (s := ⟨2, ![n0, n1]⟩) x off ![m0, m1] w (ix2 r c) = w (ix2 p q) := by
  subst hoff
  have h : ∀ a, (![o0, o1] : Fin 2 → ℕ) a ≤ ((ix2 r c) a).val ∧ ((ix2 r c) a).val < (![o0, o1] : Fin 2 → ℕ) a + (![m0, m1] : Fin 2 → ℕ) a := fun a => by
    match a with
    | ⟨0, _⟩ => have := p.isLt; exact ⟨show o0 ≤ r.val by omega, show r.val < o0 + m0 by omega⟩
    | ⟨1, _⟩ => have := q.isLt; exact ⟨show o1 ≤ c.val by omega, show c.val < o1 + m1 by omega⟩
  refine (dif_pos h).trans (congrArg w (funext fun a => Fin.ext ?_))
  match a with
  | ⟨0, _⟩ => show r.val - o0 = p.val; omega
  | ⟨1, _⟩ => show c.val - o1 = q.val; omega

/-- A matrix with a window replaced, at an entry outside the window. -/
theorem put2_out {n0 n1 m0 m1 : ℕ} (x : (⟨2, ![n0, n1]⟩ : Shape).Idx → α) (off : Fin 2 → ℕ) (o0 o1 : ℕ) (hoff : off = ![o0, o1])
    (w : (⟨2, ![m0, m1]⟩ : Shape).Idx → α) (r : Fin n0) (c : Fin n1)
    (h : ¬((o0 ≤ r.val ∧ r.val < o0 + m0) ∧ (o1 ≤ c.val ∧ c.val < o1 + m1))) :
    VecWindow.put (s := ⟨2, ![n0, n1]⟩) x off ![m0, m1] w (ix2 r c) = x (ix2 r c) := by
  subst hoff
  exact dif_neg fun hall => h ⟨hall 0, hall 1⟩

/-- The output gradient of one entry, dequantised. -/
def dhAt (ds : Vec Ideal S128x128 .f32) (dc : Vec Ideal S128x128 .fp8e5m2) (j : Fin 128) (p q : Fin 128) : EReal :=
  dc (ix2 p q) * ds (ix2 p j)

theorem lane_sum (j : Fin 128) (f : Fin 128 → EReal) :
    ∑ l : Fin 128, Scalar.select (IntOp.cmpi CmpIPredicate.eq (BitVec.ofNat 32 l.val) (BitVec.ofNat 32 j.val)) (f l) 0 = f j := by
  rw [Finset.sum_eq_single j]
  · simp [IntOp.cmpi, Scalar.select]
  · intro b _ hb
    have : BitVec.ofNat 32 b.val ≠ BitVec.ofNat 32 j.val := fun e => hb (Fin.ext (by
      have := congrArg BitVec.toNat e
      simp only [BitVec.toNat_ofNat] at this
      have := b.isLt; have := j.isLt
      omega))
    have hf : (BitVec.ofNat 32 b.val == BitVec.ofNat 32 j.val) = false := by simpa using this
    simp [IntOp.cmpi, Scalar.select, hf]
  · intro h; exact absurd (Finset.mem_univ _) h

section Block

variable (j : Fin 128) (x : Vec Ideal S128x5120 .bf16) (w : Vec Ideal S5120x256 .bf16) (ds : Vec Ideal S128x128 .f32) (dc : Vec Ideal S128x128 .fp8e5m2)

theorem dhB_at (p q : Fin 128) : k0_pay15 (BitVec.ofNat 32 j.val) laneV ds dc (ix2 p q) = dhAt ds dc j p q := by
  have : k0_pay15 (BitVec.ofNat 32 j.val) laneV ds dc (ix2 p q) = dc (ix2 p q) * ∑ l : Fin 128,
      Scalar.select (IntOp.cmpi CmpIPredicate.eq (BitVec.ofNat 32 l.val) (BitVec.ofNat 32 j.val)) (ds (ix2 p l)) 0 := by
    pointwise [k0_pay15, laneV]
  rw [this, lane_sum j (fun l => ds (ix2 p l))]; rfl

theorem vG_at (p q : Fin 128) : k0_pay17 (BitVec.ofNat 32 j.val) laneV x w ds dc (ix2 p q)
    = dgS (∑ k : Fin 5120, x (ix2 p k) * w (ix2 k ⟨q.val, by omega⟩)) (∑ k : Fin 5120, x (ix2 p k) * w (ix2 k ⟨128 + q.val, by omega⟩)) (dhAt ds dc j p q) := by
  rw [← dhB_at]
  pointwise [k0_pay13, k0_pay14, k0_pay16, k0_pay17, dgS]

theorem vU_at (p q : Fin 128) : k0_pay18 (BitVec.ofNat 32 j.val) laneV x w ds dc (ix2 p q)
    = duS (∑ k : Fin 5120, x (ix2 p k) * w (ix2 k ⟨q.val, by omega⟩)) (dhAt ds dc j p q) := by
  rw [← dhB_at]
  pointwise [k0_pay13, k0_pay14, k0_pay16, k0_pay18, duS]

end Block

/-- One rung of the ladder, on every row of a block. -/
def rungV (y : FVec Ideal S128x1 .f32) (inc : BitVec 32) (b : IVec S128x1 32) : IVec S128x1 32 :=
  select (cmpf .oge y (bitcastToFloat .f32 (addi b (broadcast S128x1 inc)))) (addi b (broadcast S128x1 inc)) b

theorem rungV_at (y : FVec Ideal S128x1 .f32) (inc : BitVec 32) (b : IVec S128x1 32) (p : Fin 128) :
    rungV y inc b (ix2 p 0) = rung (y (ix2 p 0)) inc (b (ix2 p 0)) := by
  pointwise [rungV, rung]
  rfl

/-- The whole ladder, on every row of a block. -/
def ladderV (y : FVec Ideal S128x1 .f32) : IVec S128x1 32 :=
  rungV y 8388608#32 (rungV y 16777216#32 (rungV y 33554432#32 (rungV y 67108864#32 (rungV y 134217728#32
    (rungV y 268435456#32 (rungV y 528482304#32 (rungV y 1056964608#32 (broadcast S128x1 0#32))))))))

theorem ladderV_at (y : FVec Ideal S128x1 .f32) (p : Fin 128) : ladderV y (ix2 p 0) = ladder (y (ix2 p 0)) := by
  unfold ladderV ladder
  simp only [rungV_at]; rfl

theorem pay21_eq (arg0 : BitVec 32) (lane : IVec S128x128 32) (x : Vec Ideal S128x5120 .bf16) (w : Vec Ideal S5120x256 .bf16)
    (ds : Vec Ideal S128x128 .f32) (dc : Vec Ideal S128x128 .fp8e5m2) :
    k0_pay21 (k0_pay19 arg0 lane x w ds dc) (k0_pay20 arg0 lane x w ds dc) = ladderV (k0_pay19 arg0 lane x w ds dc) := rfl

theorem pay31_eq (v : FVec Ideal S128x128 .f32) :
    k0_pay31 (k0_pay27 v) (k0_pay28 v) (k0_pay29 v) (k0_pay30 v) = ladderV (k0_pay27 v) := rfl

theorem bound19_at (arg0 : BitVec 32) (lane : IVec S128x128 32) (x : Vec Ideal S128x5120 .bf16) (w : Vec Ideal S5120x256 .bf16)
    (ds : Vec Ideal S128x128 .f32) (dc : Vec Ideal S128x128 .fp8e5m2) (p : Fin 128) :
    k0_pay19 arg0 lane x w ds dc (ix2 p 0) = bound fun q => k0_pay17 arg0 lane x w ds dc (ix2 p q) := by
  pointwise [k0_pay19, bound]

theorem bound27_at (v : FVec Ideal S128x128 .f32) (p : Fin 128) : k0_pay27 v (ix2 p 0) = bound fun q => v (ix2 p q) := by
  pointwise [k0_pay27, bound]

/-- A choice between two bit patterns on a zero test, read as a float, is the choice the scale makes. -/
theorem select_zero (l a b : BitVec 32) :
    Scalar.select (IntOp.cmpi CmpIPredicate.eq l 0#32) a b = if l = 0#32 then a else b := by
  by_cases h : l = 0#32
  · subst h; rfl
  · have hb : (l == 0#32) = false := by simpa using h
    simp [IntOp.cmpi, Scalar.select, h, hb]

section QuantBlock

variable (arg0 : BitVec 32) (lane : IVec S128x128 32) (x : Vec Ideal S128x5120 .bf16) (w : Vec Ideal S5120x256 .bf16)
  (ds : Vec Ideal S128x128 .f32) (dc : Vec Ideal S128x128 .fp8e5m2)

theorem sg_at (p : Fin 128) : (quant arg0 lane x w ds dc).sg (ix2 p 0)
    = scale (bound fun q => k0_pay17 arg0 lane x w ds dc (ix2 p q)) := by
  rw [← bitScale_eq, ← bound19_at, bitScale, ← ladderV_at, ← pay21_eq, ← select_zero]
  show k0_pay22 (k0_pay19 arg0 lane x w ds dc) (k0_pay20 arg0 lane x w ds dc) (ix2 p 0) = _
  pointwise [k0_pay22]
  rfl

theorem cg_at (p q : Fin 128) : (quant arg0 lane x w ds dc).cg (ix2 p q)
    = codeS (k0_pay17 arg0 lane x w ds dc (ix2 p q)) (scale (bound fun q => k0_pay17 arg0 lane x w ds dc (ix2 p q))) := by
  unfold codeS
  rw [← bitInv_eq, ← bound19_at, bitInv, ← ladderV_at, ← pay21_eq, ← select_zero]
  show k0_pay26 (k0_pay17 arg0 lane x w ds dc) (k0_pay23 (k0_pay19 arg0 lane x w ds dc) (k0_pay20 arg0 lane x w ds dc)) (k0_pay24 (k0_pay19 arg0 lane x w ds dc) (k0_pay20 arg0 lane x w ds dc)) k0_pay25 (ix2 p q) = _
  pointwise [k0_pay23, k0_pay24, k0_pay25, k0_pay26]
  rfl

theorem su_at (p : Fin 128) : (quant arg0 lane x w ds dc).su (ix2 p 0)
    = scale (bound fun q => k0_pay18 arg0 lane x w ds dc (ix2 p q)) := by
  rw [← bitScale_eq, ← bound27_at, bitScale, ← ladderV_at, ← pay31_eq, ← select_zero]
  show (quantU (k0_pay18 arg0 lane x w ds dc)).1 (ix2 p 0) = _
  pointwise [quantU, k0_pay32]
  rfl

theorem cu_at (p q : Fin 128) : (quant arg0 lane x w ds dc).cu (ix2 p q)
    = codeS (k0_pay18 arg0 lane x w ds dc (ix2 p q)) (scale (bound fun q => k0_pay18 arg0 lane x w ds dc (ix2 p q))) := by
  unfold codeS
  rw [← bitInv_eq, ← bound27_at, bitInv, ← ladderV_at, ← pay31_eq, ← select_zero]
  show (quantU (k0_pay18 arg0 lane x w ds dc)).2 (ix2 p q) = _
  pointwise [quantU, k0_pay33]
  rfl

end QuantBlock

end Cert.KernelIdeal.Hand
-- ==== Proof.IRow.lean ====
/-
  One trip of the kernel's loop at the extended reals, by rows of the whole arrays: what the trip leaves at a row of its
  row block that belongs to the expert, and that it leaves every other row alone.
-/
module

public import proofs.«01_k».proof.Proof.IBlock
public import proofs.«01_k».proof.Proof.IWords

@[expose] public section

set_option maxRecDepth 16384

noncomputable section

namespace Cert.KernelIdeal.Hand

open Cert.KernelIdeal Cert.KernelIdeal.Gen
open Idealize.ShloMosaic Idealize.ShloMosaic.TcCoe
open Cert.Quantise

/-- The bit that says a row of the block belongs to the expert. -/
theorem mine_at (v1 v4 row : BitVec 32) (R : ℕ) (hrow : (Scalar.muli row 128#32).toNat = R) (hR : R + 128 ≤ 1536)
    (h1 : v1.toNat ≤ 1536) (h4 : v4.toNat ≤ 1536) (p : Fin 128) :
    k0_pay34 (F := Ideal) v1 v4 row (ix2 p 0) = if v1.toNat ≤ R + p.val ∧ R + p.val < v4.toNat then 1#1 else 0#1 := by
  have e : k0_pay34 (F := Ideal) v1 v4 row (ix2 p 0)
      = IntOp.andi (IntOp.cmpi CmpIPredicate.sge (IntOp.addi (Scalar.muli row 128#32) (BitVec.ofNat 32 p.val)) v1)
      (IntOp.cmpi CmpIPredicate.slt (IntOp.addi (Scalar.muli row 128#32) (BitVec.ofNat 32 p.val)) v4) := by
    pointwise [k0_pay34]
  rw [e]
  have hN : (IntOp.addi (Scalar.muli row 128#32) (BitVec.ofNat 32 p.val)).toNat = R + p.val := by
    show (Scalar.muli row 128#32 + BitVec.ofNat 32 p.val).toNat = _
    rw [BitVec.toNat_add, hrow, BitVec.toNat_ofNat]
    have := p.isLt
    omega
  generalize IntOp.addi (Scalar.muli row 128#32) (BitVec.ofNat 32 p.val) = N at hN
  have i1 : v1.toInt = (v1.toNat : ℤ) := BitVec.toInt_eq_toNat_of_lt (by omega)
  have i4 : v4.toInt = (v4.toNat : ℤ) := BitVec.toInt_eq_toNat_of_lt (by omega)
  have iN : N.toInt = (N.toNat : ℤ) := BitVec.toInt_eq_toNat_of_lt (by have := p.isLt; omega)
  have c1 : IntOp.cmpi CmpIPredicate.sge N v1 = if v1.toNat ≤ R + p.val then 1#1 else 0#1 := by
    show BitVec.ofBool (v1.sle N) = _
    rw [BitVec.sle_eq_decide, i1, iN, hN]
    by_cases h : v1.toNat ≤ R + p.val
    · rw [if_pos h, decide_eq_true (by exact_mod_cast h)]; rfl
    · rw [if_neg h, decide_eq_false (by exact_mod_cast h)]; rfl
  have c2 : IntOp.cmpi CmpIPredicate.slt N v4 = if R + p.val < v4.toNat then 1#1 else 0#1 := by
    show BitVec.ofBool (N.slt v4) = _
    rw [BitVec.slt_eq_decide, i4, iN, hN]
    by_cases h : R + p.val < v4.toNat
    · rw [if_pos h, decide_eq_true (by exact_mod_cast h)]; rfl
    · rw [if_neg h, decide_eq_false (by exact_mod_cast h)]; rfl
  rw [c1, c2]
  by_cases ha : v1.toNat ≤ R + p.val <;> by_cases hb : R + p.val < v4.toNat <;> simp [ha, hb, IntOp.andi]

theorem select_ite {α : Type} (c : Prop) [Decidable c] (a b : α) : Scalar.select (if c then 1#1 else 0#1) a b = if c then a else b := by
  by_cases h : c <;> simp [h, Scalar.select]

/-- The lane test of column `m`. -/
theorem lane_eq (l : Fin 128) (m : ℕ) (hm : m < 128) :
    IntOp.cmpi CmpIPredicate.eq (BitVec.ofNat 32 l.val) (BitVec.ofNat 32 m) = if l.val = m then 1#1 else 0#1 := by
  by_cases h : l.val = m
  · subst h; simp [IntOp.cmpi]
  · have hne : BitVec.ofNat 32 l.val ≠ BitVec.ofNat 32 m := fun e => h (by
      have := congrArg BitVec.toNat e
      simp only [BitVec.toNat_ofNat] at this
      have := l.isLt
      omega)
    have hf : (BitVec.ofNat 32 l.val == BitVec.ofNat 32 m) = false := by simpa using hne
    simp [IntOp.cmpi, hf, h]

/-- The lane of the point's column. -/
abbrev jl (j : Fin 64) : Fin 128 := ⟨j.val, by omega⟩

section Spec

variable (xs : Vec Ideal S1536x5120 .bf16) (wd : Vec Ideal S5120x256 .bf16) (dhc : Vec Ideal S1536x128 .fp8e5m2) (dhs : Vec Ideal S1536x128 .f32) (j : Fin 128)

/-- The gate column's product at a row. -/
def gR (r : Fin 1536) (q : Fin 128) : EReal := ∑ k : Fin 5120, xs (ix2 r k) * wd (ix2 k ⟨q.val, by omega⟩)
/-- The up column's product at a row. -/
def uR (r : Fin 1536) (q : Fin 128) : EReal := ∑ k : Fin 5120, xs (ix2 r k) * wd (ix2 k ⟨128 + q.val, by omega⟩)
/-- The dequantised output gradient at a row. -/
def dhR (r : Fin 1536) (q : Fin 128) : EReal := dhc (ix2 r q) * dhs (ix2 r j)
/-- The gate gradient at a row. -/
def dgR (r : Fin 1536) (q : Fin 128) : EReal := dgS (gR xs wd r q) (uR xs wd r q) (dhR dhc dhs j r q)
/-- The up gradient at a row. -/
def duR (r : Fin 1536) (q : Fin 128) : EReal := duS (gR xs wd r q) (dhR dhc dhs j r q)
/-- The scale of the gate gradients of a row. -/
def sgR (r : Fin 1536) : EReal := scale (bound fun q => dgR xs wd dhc dhs j r q)
/-- The scale of the up gradients of a row. -/
def suR (r : Fin 1536) : EReal := scale (bound fun q => duR xs wd dhc dhs j r q)
/-- The code of a gate gradient. -/
def cgR (r : Fin 1536) (q : Fin 128) : EReal := codeS (dgR xs wd dhc dhs j r q) (sgR xs wd dhc dhs j r)
/-- The code of an up gradient. -/
def cuR (r : Fin 1536) (q : Fin 128) : EReal := codeS (duR xs wd dhc dhs j r q) (suR xs wd dhc dhs j r)
/-- The dequantised gradients of a row, gate columns then up columns. -/
def ddR (r : Fin 1536) (q : Fin 256) : EReal :=
  if h : q.val < 128 then cgR xs wd dhc dhs j r ⟨q.val, h⟩ * sgR xs wd dhc dhs j r
  else cuR xs wd dhc dhs j r ⟨q.val - 128, by omega⟩ * suR xs wd dhc dhs j r

end Spec

section Trip

variable (j : Fin 64) (v1 v4 : BitVec 32) (h1 : v1.toNat ≤ 1536) (h4 : v4.toNat ≤ 1536) (hw : k0_chk1 v1 v4) (h3 : k0_cond3 v1 v4 = 1#1)
  (xs : Vec Ideal S1536x5120 .bf16) (dhc : Vec Ideal S1536x128 .fp8e5m2) (dhs : Vec Ideal S1536x128 .f32)
  (wd : Vec Ideal S5120x256 .bf16) (k : Fin (k0_t1_loop v1 v4).trips)

/-- Rows of the trip's block of the left factor. -/
abbrev xB : Vec Ideal S128x5120 .bf16 := VecWindow.window xs (k0_off5 v1 v4 k) S128x5120.size (k0_off5_inb v1 v4 hw k h3)
abbrev dsB : Vec Ideal S128x128 .f32 := VecWindow.window dhs (k0_off6 v1 v4 k) S128x128.size (k0_off6_inb v1 v4 hw k h3)
abbrev dcB : Vec Ideal S128x128 .fp8e5m2 := VecWindow.window dhc (k0_off6 v1 v4 k) S128x128.size (k0_off6_inb v1 v4 hw k h3)
abbrev wB : Vec Ideal S5120x256 .bf16 := VecWindow.window wd ![0, 0] S5120x256.size inb_S5120x256_S5120x256_0_0

include h1 h4 in
theorem rows_in : (v1.toNat / 128 + k.val) * 128 + 128 ≤ 1536 := row_bound v1 v4 h1 h4 k.val k.isLt

/-- A row of a window of whole rows. -/
theorem window_row {α : Type} {n m : ℕ} (x : (⟨2, ![n, m]⟩ : Shape).Idx → α) (off : Fin 2 → ℕ) (R : ℕ) (hoff : off = ![R, 0])
    (inb : ∀ a, off a + (![128, m] : Fin 2 → ℕ) a ≤ (⟨2, ![n, m]⟩ : Shape).size a) (r : Fin n) (p : Fin 128) (q : Fin m) (h : r.val = R + p.val) :
    VecWindow.window (s := ⟨2, ![n, m]⟩) x off ![128, m] inb (ix2 p q) = x (ix2 r q) := by
  refine (window2 x off R 0 hoff inb p q (by omega) (by omega)).trans (congrArg x ?_)
  rw [ix2_inj]
  exact ⟨Fin.ext h.symm, Fin.ext (by show 0 + q.val = q.val; omega)⟩

variable (r : Fin 1536) (p : Fin 128) (hr : r.val = (v1.toNat / 128 + k.val) * 128 + p.val)

include h1 h4 hr in
theorem xB_at (q : Fin 5120) : xB v1 v4 hw h3 xs k (ix2 p q) = xs (ix2 r q) :=
  window_row xs _ _ (off5_eq v1 v4 h1 h4 k) _ r p q hr
include h1 h4 hr in
theorem dsB_at (q : Fin 128) : dsB v1 v4 hw h3 dhs k (ix2 p q) = dhs (ix2 r q) :=
  window_row dhs _ _ (off6_eq v1 v4 h1 h4 k) _ r p q hr
include h1 h4 hr in
theorem dcB_at (q : Fin 128) : dcB v1 v4 hw h3 dhc k (ix2 p q) = dhc (ix2 r q) :=
  window_row dhc _ _ (off6_eq v1 v4 h1 h4 k) _ r p q hr

theorem wB_eq : wB wd = wd := readAt_all wd _

include h1 h4 hr in
theorem vG_row (q : Fin 128) : k0_pay17 (BitVec.ofNat 32 j.val) laneV (xB v1 v4 hw h3 xs k) (wB wd) (dsB v1 v4 hw h3 dhs k) (dcB v1 v4 hw h3 dhc k) (ix2 p q)
    = dgR xs wd dhc dhs (jl j) r q := by
  rw [wB_eq]
  refine (vG_at (jl j) _ _ _ _ p q).trans ?_
  unfold dgR gR uR dhR dhAt
  simp only [xB_at v1 v4 h1 h4 hw h3 xs k r p hr, dsB_at v1 v4 h1 h4 hw h3 dhs k r p hr, dcB_at v1 v4 h1 h4 hw h3 dhc k r p hr]

include h1 h4 hr in
theorem vU_row (q : Fin 128) : k0_pay18 (BitVec.ofNat 32 j.val) laneV (xB v1 v4 hw h3 xs k) (wB wd) (dsB v1 v4 hw h3 dhs k) (dcB v1 v4 hw h3 dhc k) (ix2 p q)
    = duR xs wd dhc dhs (jl j) r q := by
  rw [wB_eq]
  refine (vU_at (jl j) _ _ _ _ p q).trans ?_
  unfold duR gR dhR dhAt
  simp only [xB_at v1 v4 h1 h4 hw h3 xs k r p hr, dsB_at v1 v4 h1 h4 hw h3 dhs k r p hr, dcB_at v1 v4 h1 h4 hw h3 dhc k r p hr]

/-- The trip's quantised gradients. -/
abbrev qB : Quant Ideal := quant (BitVec.ofNat 32 j.val) laneV (xB v1 v4 hw h3 xs k) (wB wd) (dsB v1 v4 hw h3 dhs k) (dcB v1 v4 hw h3 dhc k)

include h1 h4 hr in
theorem sg_row : (qB j v1 v4 hw h3 xs dhc dhs wd k).sg (ix2 p 0) = sgR xs wd dhc dhs (jl j) r := by
  rw [sg_at]; unfold sgR
  simp only [vG_row j v1 v4 h1 h4 hw h3 xs dhc dhs wd k r p hr]
include h1 h4 hr in
theorem su_row : (qB j v1 v4 hw h3 xs dhc dhs wd k).su (ix2 p 0) = suR xs wd dhc dhs (jl j) r := by
  rw [su_at]; unfold suR
  simp only [vU_row j v1 v4 h1 h4 hw h3 xs dhc dhs wd k r p hr]
include h1 h4 hr in
theorem cg_row (q : Fin 128) : (qB j v1 v4 hw h3 xs dhc dhs wd k).cg (ix2 p q) = cgR xs wd dhc dhs (jl j) r q := by
  rw [cg_at]; unfold cgR sgR
  simp only [vG_row j v1 v4 h1 h4 hw h3 xs dhc dhs wd k r p hr]
include h1 h4 hr in
theorem cu_row (q : Fin 128) : (qB j v1 v4 hw h3 xs dhc dhs wd k).cu (ix2 p q) = cuR xs wd dhc dhs (jl j) r q := by
  rw [cu_at]; unfold cuR suR
  simp only [vU_row j v1 v4 h1 h4 hw h3 xs dhc dhs wd k r p hr]

/-- The row number of the trip's block. -/
abbrev rowB : BitVec 32 := Scf.iv (k0_t1_loop v1 v4).lb 1#32 k

include h1 h4 hr in
theorem mine_row : k0_pay34 (F := Ideal) v1 v4 (rowB v1 v4 k) (ix2 p 0) = if v1.toNat ≤ r.val ∧ r.val < v4.toNat then 1#1 else 0#1 := by
  rw [hr]
  exact mine_at v1 v4 _ _ (t1_row v1 v4 h1 h4 k.val k.isLt) (rows_in v1 v4 h1 h4 k) h1 h4 p

include h1 h4 hr in
theorem dd_row (q : Fin 256) : ddBlk (qB j v1 v4 hw h3 xs dhc dhs wd k) v1 v4 (rowB v1 v4 k) (ix2 p q)
    = if v1.toNat ≤ r.val ∧ r.val < v4.toNat then ddR xs wd dhc dhs (jl j) r q else 0 := by
  have hm := mine_row v1 v4 h1 h4 k r p hr
  have e : ∀ (sg su : FVec Ideal S128x1 .f32) (cg cu : FVec Ideal S128x128 .fp8e5m2) (m : IVec S128x1 1),
      k0_pay43 sg cg su cu m (ix2 p q) = Scalar.select (m (ix2 p 0)) (if h : q.val < 128 then cg (ix2 p ⟨q.val, h⟩) * sg (ix2 p 0)
        else cu (ix2 p ⟨q.val - 128, by omega⟩) * su (ix2 p 0)) 0 := fun sg su cg cu m => by
    have : k0_pay43 sg cg su cu m (ix2 p q) = if h : q.val < 128 then Scalar.select (m (ix2 p 0)) (cg (ix2 p ⟨q.val, h⟩) * sg (ix2 p 0)) 0
        else Scalar.select (m (ix2 p 0)) (cu (ix2 p ⟨q.val - 128, by omega⟩) * su (ix2 p 0)) 0 := by
      pointwise [k0_pay43, k0_pay39, k0_pay40]
    rw [this]; split <;> rfl
  unfold ddBlk ddR
  rw [e, hm, select_ite]
  simp only [sg_row j v1 v4 h1 h4 hw h3 xs dhc dhs wd k r p hr, su_row j v1 v4 h1 h4 hw h3 xs dhc dhs wd k r p hr,
    cg_row j v1 v4 h1 h4 hw h3 xs dhc dhs wd k r p hr, cu_row j v1 v4 h1 h4 hw h3 xs dhc dhs wd k r p hr]

include h1 h4 hr in
/-- The new scales of a row. -/
theorem sc_row (old : Vec Ideal S128x128 .f32) (l : Fin 128) :
    scBlk (BitVec.ofNat 32 j.val) v1 v4 laneV (rowB v1 v4 k) old (xB v1 v4 hw h3 xs k) (wB wd) (dsB v1 v4 hw h3 dhs k) (dcB v1 v4 hw h3 dhc k) (ix2 p l)
    = if v1.toNat ≤ r.val ∧ r.val < v4.toNat then
        (if l.val = j.val then sgR xs wd dhc dhs (jl j) r else if l.val = j.val + 64 then suR xs wd dhc dhs (jl j) r else old (ix2 p l))
      else old (ix2 p l) := by
  have hm := mine_row v1 v4 h1 h4 k r p hr
  have e : scBlk (BitVec.ofNat 32 j.val) v1 v4 laneV (rowB v1 v4 k) old (xB v1 v4 hw h3 xs k) (wB wd) (dsB v1 v4 hw h3 dhs k) (dcB v1 v4 hw h3 dhc k) (ix2 p l)
      = Scalar.select (k0_pay34 (F := Ideal) v1 v4 (rowB v1 v4 k) (ix2 p 0))
        (Scalar.select (IntOp.cmpi CmpIPredicate.eq (BitVec.ofNat 32 l.val) (BitVec.ofNat 32 j.val)) ((qB j v1 v4 hw h3 xs dhc dhs wd k).sg (ix2 p 0))
          (Scalar.select (IntOp.cmpi CmpIPredicate.eq (BitVec.ofNat 32 l.val) (Scalar.addi (BitVec.ofNat 32 j.val) 64#32)) ((qB j v1 v4 hw h3 xs dhc dhs wd k).su (ix2 p 0)) (old (ix2 p l))))
        (old (ix2 p l)) := by
    show k0_pay38 (qB j v1 v4 hw h3 xs dhc dhs wd k).sg (k0_pay34 (F := Ideal) v1 v4 (rowB v1 v4 k)) (k0_pay35 old) (k0_pay36 (BitVec.ofNat 32 j.val) laneV)
      (k0_pay37 (BitVec.ofNat 32 j.val) laneV _ _ _ _ old) (ix2 p l) = _
    have hsu : (qB j v1 v4 hw h3 xs dhc dhs wd k).su = k0_pay32 (k0_pay27 (k0_pay18 (BitVec.ofNat 32 j.val) laneV (xB v1 v4 hw h3 xs k) (wB wd) (dsB v1 v4 hw h3 dhs k) (dcB v1 v4 hw h3 dhc k)))
      (k0_pay28 (k0_pay18 (BitVec.ofNat 32 j.val) laneV (xB v1 v4 hw h3 xs k) (wB wd) (dsB v1 v4 hw h3 dhs k) (dcB v1 v4 hw h3 dhc k)))
      (k0_pay29 (k0_pay18 (BitVec.ofNat 32 j.val) laneV (xB v1 v4 hw h3 xs k) (wB wd) (dsB v1 v4 hw h3 dhs k) (dcB v1 v4 hw h3 dhc k)))
      (k0_pay30 (k0_pay18 (BitVec.ofNat 32 j.val) laneV (xB v1 v4 hw h3 xs k) (wB wd) (dsB v1 v4 hw h3 dhs k) (dcB v1 v4 hw h3 dhc k))) := rfl
    rw [hsu]
    generalize (qB j v1 v4 hw h3 xs dhc dhs wd k).sg = sg
    generalize k0_pay34 (F := Ideal) v1 v4 (rowB v1 v4 k) = mine
    generalize k0_pay27 (k0_pay18 (BitVec.ofNat 32 j.val) laneV (xB v1 v4 hw h3 xs k) (wB wd) (dsB v1 v4 hw h3 dhs k) (dcB v1 v4 hw h3 dhc k)) = a27
    generalize k0_pay28 (k0_pay18 (BitVec.ofNat 32 j.val) laneV (xB v1 v4 hw h3 xs k) (wB wd) (dsB v1 v4 hw h3 dhs k) (dcB v1 v4 hw h3 dhc k)) = a28
    generalize k0_pay29 (k0_pay18 (BitVec.ofNat 32 j.val) laneV (xB v1 v4 hw h3 xs k) (wB wd) (dsB v1 v4 hw h3 dhs k) (dcB v1 v4 hw h3 dhc k)) = a29
    generalize k0_pay30 (k0_pay18 (BitVec.ofNat 32 j.val) laneV (xB v1 v4 hw h3 xs k) (wB wd) (dsB v1 v4 hw h3 dhs k) (dcB v1 v4 hw h3 dhc k)) = a30
    pointwise [k0_pay35, k0_pay36, k0_pay37, k0_pay38, laneV]
  have h64 : Scalar.addi (BitVec.ofNat 32 j.val) 64#32 = BitVec.ofNat 32 (j.val + 64) := by
    show BitVec.ofNat 32 j.val + BitVec.ofNat 32 64 = _
    rw [← BitVec.ofNat_add]
  rw [e, hm, h64, lane_eq l j.val (by omega), lane_eq l (j.val + 64) (by omega), select_ite, select_ite, select_ite,
    sg_row j v1 v4 h1 h4 hw h3 xs dhc dhs wd k r p hr, su_row j v1 v4 h1 h4 hw h3 xs dhc dhs wd k r p hr]

include h1 h4 hr in
/-- The new gate codes of a row. -/
theorem cgBlk_row (old : Vec Ideal S128x128 .fp8e5m2) (q : Fin 128) :
    k0_pay41 (qB j v1 v4 hw h3 xs dhc dhs wd k).cg (k0_pay34 (F := Ideal) v1 v4 (rowB v1 v4 k)) old (ix2 p q)
    = if v1.toNat ≤ r.val ∧ r.val < v4.toNat then cgR xs wd dhc dhs (jl j) r q else old (ix2 p q) := by
  have e : ∀ (cg : FVec Ideal S128x128 .fp8e5m2) (m : IVec S128x1 1), k0_pay41 cg m old (ix2 p q) = Scalar.select (m (ix2 p 0)) (cg (ix2 p q)) (old (ix2 p q)) := by
    intro cg m
    pointwise [k0_pay41, k0_pay39]
  rw [e, mine_row v1 v4 h1 h4 k r p hr, select_ite, cg_row j v1 v4 h1 h4 hw h3 xs dhc dhs wd k r p hr]

include h1 h4 hr in
/-- The new up codes of a row. -/
theorem cuBlk_row (old : Vec Ideal S128x128 .fp8e5m2) (q : Fin 128) :
    k0_pay42 (qB j v1 v4 hw h3 xs dhc dhs wd k).cu (k0_pay34 (F := Ideal) v1 v4 (rowB v1 v4 k)) old (ix2 p q)
    = if v1.toNat ≤ r.val ∧ r.val < v4.toNat then cuR xs wd dhc dhs (jl j) r q else old (ix2 p q) := by
  have e : ∀ (cg : FVec Ideal S128x128 .fp8e5m2) (m : IVec S128x1 1), k0_pay42 cg m old (ix2 p q) = Scalar.select (m (ix2 p 0)) (cg (ix2 p q)) (old (ix2 p q)) := by
    intro cg m
    pointwise [k0_pay42, k0_pay40]
  rw [e, mine_row v1 v4 h1 h4 k r p hr, select_ite, cu_row j v1 v4 h1 h4 hw h3 xs dhc dhs wd k r p hr]

end Trip

end Cert.KernelIdeal.Hand
-- ==== Proof.ITripVal.lean ====
/-
  The loop over row blocks at the extended reals, by entries of the four accumulating arrays: after it, the expert's rows
  hold the point's scales and codes and have gained the point's part of the input gradient; every other row is as before.
-/
module

public import proofs.«01_k».proof.Proof.IRow

@[expose] public section

set_option maxRecDepth 16384

noncomputable section

namespace Cert.KernelIdeal.Hand

open Cert.KernelIdeal Cert.KernelIdeal.Gen
open Idealize.ShloMosaic Idealize.ShloMosaic.TcCoe
open Cert.Quantise

/-- One block of columns of the input gradient after its update: the rows' products are added there, nothing else changes. -/
theorem chunk (D : Vec Ideal S1536x5120 .f32) (off : Fin 2 → ℕ) (R o : ℕ) (hoff : off = ![R, o]) (hR : R + 128 ≤ 1536) (ho : o + 1280 ≤ 5120)
    (inb : ∀ a, off a + S128x1280.size a ≤ S1536x5120.size a)
    (P : Vec Ideal S128x1280 .f32 → FVec Ideal S128x1280 .f32) (f : Fin 128 → Fin 5120 → EReal)
    (hP : ∀ old p (q : Fin 1280), P old (ix2 p q) = old (ix2 p q) + f p ⟨o + q.val, by omega⟩) (r : Fin 1536) (c : Fin 5120) :
    VecWindow.put D off S128x1280.size (P (VecWindow.window D off S128x1280.size inb)) (ix2 r c)
      = if h : R ≤ r.val ∧ r.val < R + 128 then
          (if o ≤ c.val ∧ c.val < o + 1280 then D (ix2 r c) + f ⟨r.val - R, by omega⟩ c else D (ix2 r c)) else D (ix2 r c) := by
  by_cases h : R ≤ r.val ∧ r.val < R + 128
  · by_cases hc : o ≤ c.val ∧ c.val < o + 1280
    · rw [dif_pos h, if_pos hc]
      refine (put2_in (m0 := 128) (m1 := 1280) D off R o hoff _ r c ⟨r.val - R, by omega⟩ ⟨c.val - o, by omega⟩ (by show r.val = R + (r.val - R); omega) (by show c.val = o + (c.val - o); omega)).trans ?_
      rw [hP]
      have e1 : (⟨o + (c.val - o), by omega⟩ : Fin 5120) = c := Fin.ext (by show o + (c.val - o) = c.val; omega)
      refine congrArg₂ (· + ·) ?_ (congrArg (f _) e1)
      refine (window2 D off R o hoff inb _ _ (by show R + (r.val - R) < 1536; omega) (by show o + (c.val - o) < 5120; omega)).trans (congrArg D ?_)
      rw [ix2_inj]
      exact ⟨Fin.ext (by show R + (r.val - R) = r.val; omega), e1⟩
    · rw [dif_pos h, if_neg hc]
      exact put2_out (m0 := 128) (m1 := 1280) D off R o hoff _ r c fun hh => hc hh.2
  · rw [dif_neg h]
    exact put2_out (m0 := 128) (m1 := 1280) D off R o hoff _ r c fun hh => h hh.1

/-- Four blocks of columns are all columns. -/
theorem chunks (R : ℕ) (hR : R + 128 ≤ 1536) (f : Fin 128 → Fin 5120 → EReal) (D D7 D8 D9 D10 : Vec Ideal S1536x5120 .f32)
    (h7 : ∀ r c, D7 (ix2 r c) = if h : R ≤ r.val ∧ r.val < R + 128 then
          (if 0 ≤ c.val ∧ c.val < 0 + 1280 then D (ix2 r c) + f ⟨r.val - R, by omega⟩ c else D (ix2 r c)) else D (ix2 r c))
    (h8 : ∀ r c, D8 (ix2 r c) = if h : R ≤ r.val ∧ r.val < R + 128 then
          (if 1280 ≤ c.val ∧ c.val < 1280 + 1280 then D7 (ix2 r c) + f ⟨r.val - R, by omega⟩ c else D7 (ix2 r c)) else D7 (ix2 r c))
    (h9 : ∀ r c, D9 (ix2 r c) = if h : R ≤ r.val ∧ r.val < R + 128 then
          (if 2560 ≤ c.val ∧ c.val < 2560 + 1280 then D8 (ix2 r c) + f ⟨r.val - R, by omega⟩ c else D8 (ix2 r c)) else D8 (ix2 r c))
    (h10 : ∀ r c, D10 (ix2 r c) = if h : R ≤ r.val ∧ r.val < R + 128 then
          (if 3840 ≤ c.val ∧ c.val < 3840 + 1280 then D9 (ix2 r c) + f ⟨r.val - R, by omega⟩ c else D9 (ix2 r c)) else D9 (ix2 r c))
    (r : Fin 1536) (c : Fin 5120) :
    D10 (ix2 r c) = if h : R ≤ r.val ∧ r.val < R + 128 then D (ix2 r c) + f ⟨r.val - R, by omega⟩ c else D (ix2 r c) := by
  rw [h10, h9, h8, h7]
  by_cases h : R ≤ r.val ∧ r.val < R + 128
  · simp only [dif_pos h]
    have hc := c.isLt
    rcases (by omega : c.val < 1280 ∨ (1280 ≤ c.val ∧ c.val < 2560) ∨ (2560 ≤ c.val ∧ c.val < 3840) ∨ 3840 ≤ c.val) with h' | h' | h' | h'
    · rw [if_neg (by omega), if_neg (by omega), if_neg (by omega), if_pos (by omega)]
    · rw [if_neg (by omega), if_neg (by omega), if_pos (by omega), if_neg (by omega)]
    · rw [if_neg (by omega), if_pos (by omega), if_neg (by omega), if_neg (by omega)]
    · rw [if_pos (by omega), if_neg (by omega), if_neg (by omega), if_neg (by omega)]
  · simp only [dif_neg h]

/-- One point's part of an entry of the input gradient. -/
def dxR (xs : Vec Ideal S1536x5120 .bf16) (wd : Vec Ideal S5120x256 .bf16) (dhc : Vec Ideal S1536x128 .fp8e5m2) (dhs : Vec Ideal S1536x128 .f32)
    (j : Fin 128) (r : Fin 1536) (c : Fin 5120) : EReal := ∑ q : Fin 256, ddR xs wd dhc dhs j r q * wd (ix2 c q)

/-- A chunk of the weights, at an entry. -/
theorem wdChunk_at (wd : Vec Ideal S5120x256 .bf16) (o : ℕ) (ho : o + 1280 ≤ 5120) (inb : ∀ a, (![o, 0] : Fin 2 → ℕ) a + S1280x256.size a ≤ S5120x256.size a) (q : Fin 1280) (t : Fin 256) :
    VecWindow.window wd ![o, 0] S1280x256.size inb (ix2 q t) = wd (ix2 ⟨o + q.val, by omega⟩ t) := by
  refine (window2 wd ![o, 0] o 0 rfl inb q t (by omega) (by omega)).trans (congrArg wd ?_)
  rw [ix2_inj]
  exact ⟨rfl, Fin.ext (by show 0 + t.val = t.val; omega)⟩

theorem pay5_at (dd : FVec Ideal S128x256 .bf16) (old : Vec Ideal S128x1280 .f32) (w : Vec Ideal S1280x256 .bf16) (p : Fin 128) (q : Fin 1280) :
    k0_pay5 dd (k0_pay44 old) w (ix2 p q) = old (ix2 p q) + ∑ t : Fin 256, dd (ix2 p t) * w (ix2 q t) := by
  pointwise [k0_pay5, k0_pay44]
theorem pay6_at (dd : FVec Ideal S128x256 .bf16) (old : Vec Ideal S128x1280 .f32) (w : Vec Ideal S1280x256 .bf16) (p : Fin 128) (q : Fin 1280) :
    k0_pay6 dd old w (ix2 p q) = old (ix2 p q) + ∑ t : Fin 256, dd (ix2 p t) * w (ix2 q t) := by
  pointwise [k0_pay6]
theorem pay7_at (dd : FVec Ideal S128x256 .bf16) (old : Vec Ideal S128x1280 .f32) (w : Vec Ideal S1280x256 .bf16) (p : Fin 128) (q : Fin 1280) :
    k0_pay7 dd old w (ix2 p q) = old (ix2 p q) + ∑ t : Fin 256, dd (ix2 p t) * w (ix2 q t) := by
  pointwise [k0_pay7]
theorem pay8_at (dd : FVec Ideal S128x256 .bf16) (old : Vec Ideal S128x1280 .f32) (w : Vec Ideal S1280x256 .bf16) (p : Fin 128) (q : Fin 1280) :
    k0_pay8 dd old w (ix2 p q) = old (ix2 p q) + ∑ t : Fin 256, dd (ix2 p t) * w (ix2 q t) := by
  pointwise [k0_pay8]

section Trip

variable (j : Fin 64) (v1 v4 : BitVec 32) (h1 : v1.toNat ≤ 1536) (h4 : v4.toNat ≤ 1536) (hw : k0_chk1 v1 v4) (h3 : k0_cond3 v1 v4 = 1#1)
  (xs : Vec Ideal S1536x5120 .bf16) (dhc : Vec Ideal S1536x128 .fp8e5m2) (dhs : Vec Ideal S1536x128 .f32)
  (wd : Vec Ideal S5120x256 .bf16) (k : Fin (k0_t1_loop v1 v4).trips) (s : St Ideal)

/-- The first row of the trip's block. -/
abbrev row0 (v1 : BitVec 32) (k : ℕ) : ℕ := (v1.toNat / 128 + k) * 128

/-- The trip at this point. -/
abbrev tripB : St Ideal := trip (BitVec.ofNat 32 j.val) v1 v4 hw h3 laneV (k0_t1_loop v1 v4).lb xs dhc dhs wd k s

/-- A row is in the trip's block and is the expert's. -/
abbrev hit (v1 v4 : BitVec 32) (k : ℕ) (r : Fin 1536) : Prop :=
  (row0 v1 k ≤ r.val ∧ r.val < row0 v1 k + 128) ∧ (v1.toNat ≤ r.val ∧ r.val < v4.toNat)

include h1 h4 in
theorem trip_sc (r : Fin 1536) (l : Fin 128) : (tripB j v1 v4 hw h3 xs dhc dhs wd k s).sc (ix2 r l)
    = if hit v1 v4 k r then (if l.val = j.val then sgR xs wd dhc dhs (jl j) r else if l.val = j.val + 64 then suR xs wd dhc dhs (jl j) r else s.sc (ix2 r l))
      else s.sc (ix2 r l) := by
  by_cases hb : row0 v1 k ≤ r.val ∧ r.val < row0 v1 k + 128
  · have hr : r.val = row0 v1 k + (⟨r.val - row0 v1 k, by omega⟩ : Fin 128).val := by show r.val = row0 v1 k + (r.val - row0 v1 k); omega
    refine (put2_in (m0 := 128) (m1 := 128) s.sc _ (row0 v1 k) 0 (off6_eq v1 v4 h1 h4 k) _ r l _ l hr (by omega)).trans ?_
    refine (sc_row j v1 v4 h1 h4 hw h3 xs dhc dhs wd k r _ hr _ l).trans ?_
    rw [window_row s.sc _ _ (off6_eq v1 v4 h1 h4 k) (k0_off6_inb v1 v4 hw k h3) r _ l hr]
    by_cases hm : v1.toNat ≤ r.val ∧ r.val < v4.toNat
    · rw [if_pos hm, if_pos (show hit v1 v4 k r from ⟨hb, hm⟩)]
    · rw [if_neg hm, if_neg fun hh => hm hh.2]
  · rw [if_neg fun hh => hb hh.1]
    exact put2_out (m0 := 128) (m1 := 128) s.sc _ (row0 v1 k) 0 (off6_eq v1 v4 h1 h4 k) _ r l fun hh => hb hh.1

include h1 h4 in
theorem trip_cg (r : Fin 1536) (q : Fin 128) : (tripB j v1 v4 hw h3 xs dhc dhs wd k s).cg (ix2 r q)
    = if hit v1 v4 k r then cgR xs wd dhc dhs (jl j) r q else s.cg (ix2 r q) := by
  by_cases hb : row0 v1 k ≤ r.val ∧ r.val < row0 v1 k + 128
  · have hr : r.val = row0 v1 k + (⟨r.val - row0 v1 k, by omega⟩ : Fin 128).val := by show r.val = row0 v1 k + (r.val - row0 v1 k); omega
    refine (put2_in (m0 := 128) (m1 := 128) s.cg _ (row0 v1 k) 0 (off6_eq v1 v4 h1 h4 k) _ r q _ q hr (by omega)).trans ?_
    refine (cgBlk_row j v1 v4 h1 h4 hw h3 xs dhc dhs wd k r _ hr _ q).trans ?_
    rw [window_row s.cg _ _ (off6_eq v1 v4 h1 h4 k) (k0_off6_inb v1 v4 hw k h3) r _ q hr]
    by_cases hm : v1.toNat ≤ r.val ∧ r.val < v4.toNat
    · rw [if_pos hm, if_pos (show hit v1 v4 k r from ⟨hb, hm⟩)]
    · rw [if_neg hm, if_neg fun hh => hm hh.2]
  · rw [if_neg fun hh => hb hh.1]
    exact put2_out (m0 := 128) (m1 := 128) s.cg _ (row0 v1 k) 0 (off6_eq v1 v4 h1 h4 k) _ r q fun hh => hb hh.1

include h1 h4 in
theorem trip_cu (r : Fin 1536) (q : Fin 128) : (tripB j v1 v4 hw h3 xs dhc dhs wd k s).cu (ix2 r q)
    = if hit v1 v4 k r then cuR xs wd dhc dhs (jl j) r q else s.cu (ix2 r q) := by
  by_cases hb : row0 v1 k ≤ r.val ∧ r.val < row0 v1 k + 128
  · have hr : r.val = row0 v1 k + (⟨r.val - row0 v1 k, by omega⟩ : Fin 128).val := by show r.val = row0 v1 k + (r.val - row0 v1 k); omega
    refine (put2_in (m0 := 128) (m1 := 128) s.cu _ (row0 v1 k) 0 (off6_eq v1 v4 h1 h4 k) _ r q _ q hr (by omega)).trans ?_
    refine (cuBlk_row j v1 v4 h1 h4 hw h3 xs dhc dhs wd k r _ hr _ q).trans ?_
    rw [window_row s.cu _ _ (off6_eq v1 v4 h1 h4 k) (k0_off6_inb v1 v4 hw k h3) r _ q hr]
    by_cases hm : v1.toNat ≤ r.val ∧ r.val < v4.toNat
    · rw [if_pos hm, if_pos (show hit v1 v4 k r from ⟨hb, hm⟩)]
    · rw [if_neg hm, if_neg fun hh => hm hh.2]
  · rw [if_neg fun hh => hb hh.1]
    exact put2_out (m0 := 128) (m1 := 128) s.cu _ (row0 v1 k) 0 (off6_eq v1 v4 h1 h4 k) _ r q fun hh => hb hh.1

include h1 h4 in
theorem trip_dx (r : Fin 1536) (c : Fin 5120) : (tripB j v1 v4 hw h3 xs dhc dhs wd k s).dx (ix2 r c)
    = s.dx (ix2 r c) + if hit v1 v4 k r then dxR xs wd dhc dhs (jl j) r c else 0 := by
  have hR := rows_in v1 v4 h1 h4 k
  let f : Fin 128 → Fin 5120 → EReal := fun p c => ∑ t : Fin 256, ddBlk (qB j v1 v4 hw h3 xs dhc dhs wd k) v1 v4 (rowB v1 v4 k) (ix2 p t) * wd (ix2 c t)
  have key := chunks (row0 v1 k) hR f s.dx _ _ _ (tripB j v1 v4 hw h3 xs dhc dhs wd k s).dx
    (fun r c => chunk s.dx _ (row0 v1 k) 0 (off7_eq v1 v4 h1 h4 k) hR (by omega) (k0_off7_inb v1 v4 hw k h3)
      (fun old => k0_pay5 (ddBlk (qB j v1 v4 hw h3 xs dhc dhs wd k) v1 v4 (rowB v1 v4 k)) (k0_pay44 old) (VecWindow.window wd ![0, 0] S1280x256.size inb_S5120x256_S1280x256_0_0)) f
      (fun old p q => by rw [pay5_at]; exact congrArg (old (ix2 p q) + ·) (Finset.sum_congr rfl fun t _ => congrArg (_ * ·) (wdChunk_at wd 0 (by omega) _ q t))) r c)
    (fun r c => chunk _ _ (row0 v1 k) 1280 (off8_eq v1 v4 h1 h4 k) hR (by omega) (k0_off8_inb v1 v4 hw k h3)
      (fun old => k0_pay6 (ddBlk (qB j v1 v4 hw h3 xs dhc dhs wd k) v1 v4 (rowB v1 v4 k)) old (VecWindow.window wd ![1280, 0] S1280x256.size inb_S5120x256_S1280x256_1280_0)) f
      (fun old p q => by rw [pay6_at]; exact congrArg (old (ix2 p q) + ·) (Finset.sum_congr rfl fun t _ => congrArg (_ * ·) (wdChunk_at wd 1280 (by omega) _ q t))) r c)
    (fun r c => chunk _ _ (row0 v1 k) 2560 (off9_eq v1 v4 h1 h4 k) hR (by omega) (k0_off9_inb v1 v4 hw k h3)
      (fun old => k0_pay7 (ddBlk (qB j v1 v4 hw h3 xs dhc dhs wd k) v1 v4 (rowB v1 v4 k)) old (VecWindow.window wd ![2560, 0] S1280x256.size inb_S5120x256_S1280x256_2560_0)) f
      (fun old p q => by rw [pay7_at]; exact congrArg (old (ix2 p q) + ·) (Finset.sum_congr rfl fun t _ => congrArg (_ * ·) (wdChunk_at wd 2560 (by omega) _ q t))) r c)
    (fun r c => chunk _ _ (row0 v1 k) 3840 (off10_eq v1 v4 h1 h4 k) hR (by omega) (k0_off10_inb v1 v4 hw k h3)
      (fun old => k0_pay8 (ddBlk (qB j v1 v4 hw h3 xs dhc dhs wd k) v1 v4 (rowB v1 v4 k)) old (VecWindow.window wd ![3840, 0] S1280x256.size inb_S5120x256_S1280x256_3840_0)) f
      (fun old p q => by rw [pay8_at]; exact congrArg (old (ix2 p q) + ·) (Finset.sum_congr rfl fun t _ => congrArg (_ * ·) (wdChunk_at wd 3840 (by omega) _ q t))) r c) r c
  rw [key]
  by_cases hb : row0 v1 k ≤ r.val ∧ r.val < row0 v1 k + 128
  · rw [dif_pos hb]
    have hr : r.val = row0 v1 k + (⟨r.val - row0 v1 k, by omega⟩ : Fin 128).val := by show r.val = row0 v1 k + (r.val - row0 v1 k); omega
    refine congrArg (s.dx (ix2 r c) + ·) ?_
    show ∑ t : Fin 256, _ * _ = _
    simp only [dd_row j v1 v4 h1 h4 hw h3 xs dhc dhs wd k r _ hr]
    by_cases hm : v1.toNat ≤ r.val ∧ r.val < v4.toNat
    · simp only [if_pos hm]; rw [if_pos ⟨hb, hm⟩]; rfl
    · simp only [if_neg hm, zero_mul, Finset.sum_const_zero]; rw [if_neg fun hh => hm hh.2]
  · rw [dif_neg hb, if_neg fun hh => hb hh.1, add_zero]

end Trip

end Cert.KernelIdeal.Hand
-- ==== Proof.ILoopVal.lean ====
/-
  The body at one grid point at the extended reals, by entries of the four accumulating arrays: the loop over row blocks
  reaches every row of the expert exactly once, so those rows hold the point's scales and codes and gain the point's part
  of the input gradient.
-/
module

public import proofs.«01_k».proof.Proof.ITripVal
public import proofs.«01_k».proof.Proof.IRun

@[expose] public section

set_option maxRecDepth 16384

noncomputable section

namespace Cert.KernelIdeal.Hand

open Cert.KernelIdeal Cert.KernelIdeal.Gen
open Idealize.ShloMosaic Idealize.ShloMosaic.TcCoe
open Cert.Quantise

/-- The rows an expert owns: from its first to its last. -/
abbrev mineN (a b : ℕ) (r : Fin 1536) : Prop := a ≤ r.val ∧ r.val < b

/-- The expert's rows that the first `n` trips have reached. -/
abbrev reached (v1 v4 : BitVec 32) (n : ℕ) (r : Fin 1536) : Prop := r.val < row0 v1 n ∧ mineN v1.toNat v4.toNat r

section Loop

variable (j : Fin 64) (v1 v4 : BitVec 32) (h1 : v1.toNat ≤ 1536) (h4 : v4.toNat ≤ 1536) (hw : k0_chk1 v1 v4) (h3 : k0_cond3 v1 v4 = 1#1)
  (xs : Vec Ideal S1536x5120 .bf16) (dhc : Vec Ideal S1536x128 .fp8e5m2) (dhs : Vec Ideal S1536x128 .f32)
  (wd : Vec Ideal S5120x256 .bf16) (s : St Ideal)

/-- The state after `n` trips. -/
abbrev loopB (n : ℕ) : St Ideal := loopSt (BitVec.ofNat 32 j.val) v1 v4 hw h3 xs dhc dhs wd s n

theorem loopB_succ (n : ℕ) (hn : n < (k0_t1_loop v1 v4).trips) :
    loopB j v1 v4 hw h3 xs dhc dhs wd s (n + 1) = tripB j v1 v4 hw h3 xs dhc dhs wd ⟨n, hn⟩ (loopB j v1 v4 hw h3 xs dhc dhs wd s n) := by
  show loopSt _ v1 v4 hw h3 xs dhc dhs wd s (n + 1) = _
  rw [loopSt, dif_pos hn]

theorem reached_zero (r : Fin 1536) : ¬ reached v1 v4 0 r := fun h => by
  simp only [reached, mineN, row0] at h; omega

theorem reached_hit (n : ℕ) (r : Fin 1536) (h : hit v1 v4 n r) : reached v1 v4 (n + 1) r ∧ ¬ reached v1 v4 n r := by
  simp only [reached, hit, mineN, row0] at *; omega

theorem reached_miss (n : ℕ) (r : Fin 1536) (h : ¬ hit v1 v4 n r) : reached v1 v4 (n + 1) r ↔ reached v1 v4 n r := by
  simp only [reached, hit, mineN, row0] at *; omega

include h1 h4 in
theorem reached_all (r : Fin 1536) : reached v1 v4 (k0_t1_loop v1 v4).trips r ↔ mineN v1.toNat v4.toNat r := by
  refine ⟨fun h => h.2, fun h => ⟨?_, h⟩⟩
  rw [t1_trips v1 v4 h1 h4]
  have := h.1; have := h.2
  show r.val < (v1.toNat / 128 + _) * 128
  omega

/-- An update that happens only where the block is hit leaves, after `n + 1` trips, the new value where reached. -/
theorem reached_step {α : Type*} (n : ℕ) (r : Fin 1536) (new old : α) :
    (if hit v1 v4 n r then new else (if reached v1 v4 n r then new else old)) = if reached v1 v4 (n + 1) r then new else old := by
  by_cases hh : hit v1 v4 n r
  · rw [if_pos hh, if_pos (reached_hit v1 v4 n r hh).1]
  · rw [if_neg hh]
    by_cases hr : reached v1 v4 n r
    · rw [if_pos hr, if_pos ((reached_miss v1 v4 n r hh).2 hr)]
    · rw [if_neg hr, if_neg fun h => hr ((reached_miss v1 v4 n r hh).1 h)]

include h1 h4 in
theorem loop_sc (r : Fin 1536) (l : Fin 128) (n : ℕ) (hn : n ≤ (k0_t1_loop v1 v4).trips) :
    (loopB j v1 v4 hw h3 xs dhc dhs wd s n).sc (ix2 r l)
      = if reached v1 v4 n r then (if l.val = j.val then sgR xs wd dhc dhs (jl j) r else if l.val = j.val + 64 then suR xs wd dhc dhs (jl j) r else s.sc (ix2 r l))
        else s.sc (ix2 r l) := by
  induction n with
  | zero => rw [if_neg (reached_zero v1 v4 r)]; rfl
  | succ n ih =>
    rw [loopB_succ j v1 v4 hw h3 xs dhc dhs wd s n hn, trip_sc j v1 v4 h1 h4 hw h3 xs dhc dhs wd ⟨n, hn⟩ _ r l, ih (Nat.le_of_succ_le hn)]
    rw [← reached_step v1 v4 n r]
    by_cases hh : hit v1 v4 n r
    · rw [if_pos (show hit v1 v4 (⟨n, hn⟩ : Fin (k0_t1_loop v1 v4).trips).val r from hh), if_pos hh, if_neg (reached_hit v1 v4 n r hh).2]
    · rw [if_neg (show ¬ hit v1 v4 (⟨n, hn⟩ : Fin (k0_t1_loop v1 v4).trips).val r from hh), if_neg hh]

include h1 h4 in
theorem loop_cg (r : Fin 1536) (q : Fin 128) (n : ℕ) (hn : n ≤ (k0_t1_loop v1 v4).trips) :
    (loopB j v1 v4 hw h3 xs dhc dhs wd s n).cg (ix2 r q)
      = if reached v1 v4 n r then cgR xs wd dhc dhs (jl j) r q else s.cg (ix2 r q) := by
  induction n with
  | zero => rw [if_neg (reached_zero v1 v4 r)]; rfl
  | succ n ih =>
    rw [loopB_succ j v1 v4 hw h3 xs dhc dhs wd s n hn, trip_cg j v1 v4 h1 h4 hw h3 xs dhc dhs wd ⟨n, hn⟩ _ r q, ih (Nat.le_of_succ_le hn)]
    exact reached_step v1 v4 n r _ _

include h1 h4 in
theorem loop_cu (r : Fin 1536) (q : Fin 128) (n : ℕ) (hn : n ≤ (k0_t1_loop v1 v4).trips) :
    (loopB j v1 v4 hw h3 xs dhc dhs wd s n).cu (ix2 r q)
      = if reached v1 v4 n r then cuR xs wd dhc dhs (jl j) r q else s.cu (ix2 r q) := by
  induction n with
  | zero => rw [if_neg (reached_zero v1 v4 r)]; rfl
  | succ n ih =>
    rw [loopB_succ j v1 v4 hw h3 xs dhc dhs wd s n hn, trip_cu j v1 v4 h1 h4 hw h3 xs dhc dhs wd ⟨n, hn⟩ _ r q, ih (Nat.le_of_succ_le hn)]
    exact reached_step v1 v4 n r _ _

include h1 h4 in
theorem loop_dx (r : Fin 1536) (c : Fin 5120) (n : ℕ) (hn : n ≤ (k0_t1_loop v1 v4).trips) :
    (loopB j v1 v4 hw h3 xs dhc dhs wd s n).dx (ix2 r c)
      = s.dx (ix2 r c) + if reached v1 v4 n r then dxR xs wd dhc dhs (jl j) r c else 0 := by
  induction n with
  | zero => rw [if_neg (reached_zero v1 v4 r), add_zero]; rfl
  | succ n ih =>
    rw [loopB_succ j v1 v4 hw h3 xs dhc dhs wd s n hn, trip_dx j v1 v4 h1 h4 hw h3 xs dhc dhs wd ⟨n, hn⟩ _ r c, ih (Nat.le_of_succ_le hn)]
    rw [← reached_step v1 v4 n r]
    by_cases hh : hit v1 v4 n r
    · rw [if_pos (show hit v1 v4 (⟨n, hn⟩ : Fin (k0_t1_loop v1 v4).trips).val r from hh), if_pos hh, if_neg (reached_hit v1 v4 n r hh).2, add_zero]
    · rw [if_neg (show ¬ hit v1 v4 (⟨n, hn⟩ : Fin (k0_t1_loop v1 v4).trips).val r from hh), if_neg hh, add_zero]

end Loop

/-- Without a live row the expert owns none. -/
theorem not_mine (v1 v4 : BitVec 32) (h1 : v1.toNat ≤ 1536) (h4 : v4.toNat ≤ 1536) (h3 : ¬ k0_cond3 v1 v4 = 1#1) (r : Fin 1536) :
    ¬ mineN v1.toNat v4.toNat r := fun h => by
  apply h3
  have hlt : v1.toInt < v4.toInt := by
    have i1 := toInt_small v1.toNat (by omega)
    have i4 := toInt_small v4.toNat (by omega)
    rw [BitVec.ofNat_toNat, BitVec.setWidth_eq] at i1 i4
    rw [i1, i4]
    have := h.1; have := h.2; omega
  have e : BitVec.slt v1 v4 = true := by
    rw [BitVec.slt_iff_toInt_lt]; exact hlt
  have c : Scalar.cmpi CmpIPredicate.sgt v4 v1 = 1#1 := by
    show BitVec.ofBool (v1.slt v4) = 1#1
    rw [e]; rfl
  show Scalar.cmpi CmpIPredicate.ne (Scalar.extui (Scalar.cmpi CmpIPredicate.sgt v4 v1)) 0#32 = 1#1
  rw [c]; rfl

section Body

variable (i : grid0.Coords)

/-- The point's column tile. -/
def tile (i : grid0.Coords) : Fin 64 := ⟨(i 0).val, (i 0).isLt⟩

theorem cond1_iff : k0_cond1 i = 1#1 ↔ (i 0).val = 0 ∧ (i 1).val = 0 := by
  have h0 : (i 0).val < 64 := (i 0).isLt
  have h1 : (i 1).val < 4 := (i 1).isLt
  unfold k0_cond1
  generalize (i 0).val = a at *
  generalize (i 1).val = b at *
  have key : ∀ a : Fin 64, ∀ b : Fin 4, (Scalar.cmpi CmpIPredicate.ne (Scalar.extui (Scalar.andi (Scalar.cmpi CmpIPredicate.eq (BitVec.ofNat 32 a.val) 0#32) (Scalar.cmpi CmpIPredicate.eq (BitVec.ofNat 32 b.val) 0#32)) : BitVec 32) 0#32 = 1#1) ↔ a.val = 0 ∧ b.val = 0 := by decide +kernel
  exact key ⟨a, h0⟩ ⟨b, h1⟩

theorem clear_iff : clearCond i = 1#1 ↔ (i 1).val = 0 := by
  have h1 : (i 1).val < 4 := (i 1).isLt
  unfold clearCond
  generalize (i 1).val = b at *
  have key : ∀ b : Fin 4, (Scalar.cmpi CmpIPredicate.ne (Scalar.extui (Scalar.cmpi CmpIPredicate.eq (BitVec.ofNat 32 b.val) 0#32) : BitVec 32) 0#32 = 1#1) ↔ b.val = 0 := by decide +kernel
  exact key ⟨b, h1⟩

theorem cond4_iff : k0_cond4 i = 1#1 ↔ (i 1).val = 3 := by
  have h1 : (i 1).val < 4 := (i 1).isLt
  unfold k0_cond4
  generalize (i 1).val = b at *
  have key : ∀ b : Fin 4, (Scalar.cmpi CmpIPredicate.ne (Scalar.extui (Scalar.cmpi CmpIPredicate.eq (BitVec.ofNat 32 b.val) 3#32) : BitVec 32) 0#32 = 1#1) ↔ b.val = 3 := by decide +kernel
  exact key ⟨b, h1⟩

theorem zero2 (x : S1536x128.Idx) : (k0_pay2 (F := Ideal)) x = (0 : EReal) := by pointwise [k0_pay2]
theorem zero1 (x : S1536x5120.Idx) : (k0_pay1 (F := Ideal)) x = (0 : EReal) := by pointwise [k0_pay1]
theorem zero3 (x : S1536x128.Idx) : (k0_pay3 (F := Ideal)) x = (0 : EReal) := by pointwise [k0_pay3]; exact Ideal.ofBits_zero _
theorem zero4 (x : S1536x128.Idx) : (k0_pay4 (F := Ideal)) x = (0 : EReal) := by pointwise [k0_pay4]; exact Ideal.ofBits_zero _

/-- The state the loop starts from, by entries. -/
theorem start_sc (s : St Ideal) (x : S1536x128.Idx) : (clearSt i (zeroSt i s)).sc x = if (i 0).val = 0 ∧ (i 1).val = 0 then (0 : EReal) else s.sc x := by
  have e : (clearSt i (zeroSt i s)).sc = (zeroSt i s).sc := by unfold clearSt; split <;> rfl
  rw [e]; unfold zeroSt
  by_cases h : k0_cond1 i = 1#1
  · rw [if_pos h, if_pos ((cond1_iff i).1 h)]; exact zero2 x
  · rw [if_neg h, if_neg fun hh => h ((cond1_iff i).2 hh)]
theorem start_dx (s : St Ideal) (x : S1536x5120.Idx) : (clearSt i (zeroSt i s)).dx x = if (i 0).val = 0 ∧ (i 1).val = 0 then (0 : EReal) else s.dx x := by
  have e : (clearSt i (zeroSt i s)).dx = (zeroSt i s).dx := by unfold clearSt; split <;> rfl
  rw [e]; unfold zeroSt
  by_cases h : k0_cond1 i = 1#1
  · rw [if_pos h, if_pos ((cond1_iff i).1 h)]; exact zero1 x
  · rw [if_neg h, if_neg fun hh => h ((cond1_iff i).2 hh)]
theorem start_cg (s : St Ideal) (x : S1536x128.Idx) : (clearSt i (zeroSt i s)).cg x = if (i 1).val = 0 then (0 : EReal) else s.cg x := by
  have e : (zeroSt i s).cg = s.cg := by unfold zeroSt; split <;> rfl
  unfold clearSt
  by_cases h : clearCond i = 1#1
  · rw [if_pos h, if_pos ((clear_iff i).1 h)]; exact zero3 x
  · rw [if_neg h, if_neg fun hh => h ((clear_iff i).2 hh), e]
theorem start_cu (s : St Ideal) (x : S1536x128.Idx) : (clearSt i (zeroSt i s)).cu x = if (i 1).val = 0 then (0 : EReal) else s.cu x := by
  have e : (zeroSt i s).cu = s.cu := by unfold zeroSt; split <;> rfl
  unfold clearSt
  by_cases h : clearCond i = 1#1
  · rw [if_pos h, if_pos ((clear_iff i).1 h)]; exact zero4 x
  · rw [if_neg h, if_neg fun hh => h ((clear_iff i).2 hh), e]

variable (tb : Vec Ideal S5 .i32) (hw : k0_chk1 (tabLo i tb) (tabHi i tb)) (h1 : (tabLo i tb).toNat ≤ 1536) (h4 : (tabHi i tb).toNat ≤ 1536)
  (ws : Vec Ideal S20480 .f32) (xs : Vec Ideal S1536x5120 .bf16) (wg wu : Vec Ideal S1x5120x128 .fp8e4m3) (dhc : Vec Ideal S1536x128 .fp8e5m2) (dhs : Vec Ideal S1536x128 .f32)
  (s : St Ideal)

/-- The body's state at these values. -/
abbrev bodyB : St Ideal := bodySt i tb hw ws xs wg wu dhc dhs s
/-- The weights of the point. -/
abbrev wdB : Vec Ideal S5120x256 .bf16 := wdSpec i ws wg wu

include h1 h4 in
theorem body_sc (r : Fin 1536) (l : Fin 128) : (bodyB i tb hw ws xs wg wu dhc dhs s).sc (ix2 r l)
    = if mineN (tabLo i tb).toNat (tabHi i tb).toNat r then
        (if l.val = (i 0).val then sgR xs (wdB i ws wg wu) dhc dhs (jl (tile i)) r else if l.val = (i 0).val + 64 then suR xs (wdB i ws wg wu) dhc dhs (jl (tile i)) r
          else (if (i 0).val = 0 ∧ (i 1).val = 0 then (0 : EReal) else s.sc (ix2 r l)))
      else (if (i 0).val = 0 ∧ (i 1).val = 0 then (0 : EReal) else s.sc (ix2 r l)) := by
  rw [← start_sc i s (ix2 r l)]
  show (liveSt i _ _ hw ws xs wg wu dhc dhs (clearSt i (zeroSt i s))).sc (ix2 r l) = _
  unfold liveSt
  by_cases h3 : k0_cond3 (tabLo i tb) (tabHi i tb) = 1#1
  · rw [dif_pos h3]
    refine (loop_sc (tile i) _ _ h1 h4 hw h3 xs dhc dhs (wdSpec i ws wg wu) _ r l _ le_rfl).trans ?_
    simp only [reached_all _ _ h1 h4]
    rfl
  · rw [dif_neg h3, if_neg (not_mine _ _ h1 h4 h3 r)]

include h1 h4 in
theorem body_cg (r : Fin 1536) (q : Fin 128) : (bodyB i tb hw ws xs wg wu dhc dhs s).cg (ix2 r q)
    = if mineN (tabLo i tb).toNat (tabHi i tb).toNat r then cgR xs (wdB i ws wg wu) dhc dhs (jl (tile i)) r q
      else (if (i 1).val = 0 then (0 : EReal) else s.cg (ix2 r q)) := by
  rw [← start_cg i s (ix2 r q)]
  show (liveSt i _ _ hw ws xs wg wu dhc dhs (clearSt i (zeroSt i s))).cg (ix2 r q) = _
  unfold liveSt
  by_cases h3 : k0_cond3 (tabLo i tb) (tabHi i tb) = 1#1
  · rw [dif_pos h3]
    refine (loop_cg (tile i) _ _ h1 h4 hw h3 xs dhc dhs (wdSpec i ws wg wu) _ r q _ le_rfl).trans ?_
    simp only [reached_all _ _ h1 h4]
  · rw [dif_neg h3, if_neg (not_mine _ _ h1 h4 h3 r)]

include h1 h4 in
theorem body_cu (r : Fin 1536) (q : Fin 128) : (bodyB i tb hw ws xs wg wu dhc dhs s).cu (ix2 r q)
    = if mineN (tabLo i tb).toNat (tabHi i tb).toNat r then cuR xs (wdB i ws wg wu) dhc dhs (jl (tile i)) r q
      else (if (i 1).val = 0 then (0 : EReal) else s.cu (ix2 r q)) := by
  rw [← start_cu i s (ix2 r q)]
  show (liveSt i _ _ hw ws xs wg wu dhc dhs (clearSt i (zeroSt i s))).cu (ix2 r q) = _
  unfold liveSt
  by_cases h3 : k0_cond3 (tabLo i tb) (tabHi i tb) = 1#1
  · rw [dif_pos h3]
    refine (loop_cu (tile i) _ _ h1 h4 hw h3 xs dhc dhs (wdSpec i ws wg wu) _ r q _ le_rfl).trans ?_
    simp only [reached_all _ _ h1 h4]
  · rw [dif_neg h3, if_neg (not_mine _ _ h1 h4 h3 r)]

include h1 h4 in
theorem body_dx (r : Fin 1536) (c : Fin 5120) : (bodyB i tb hw ws xs wg wu dhc dhs s).dx (ix2 r c)
    = (if (i 0).val = 0 ∧ (i 1).val = 0 then (0 : EReal) else s.dx (ix2 r c))
      + if mineN (tabLo i tb).toNat (tabHi i tb).toNat r then dxR xs (wdB i ws wg wu) dhc dhs (jl (tile i)) r c else 0 := by
  rw [← start_dx i s (ix2 r c)]
  show (liveSt i _ _ hw ws xs wg wu dhc dhs (clearSt i (zeroSt i s))).dx (ix2 r c) = _
  unfold liveSt
  by_cases h3 : k0_cond3 (tabLo i tb) (tabHi i tb) = 1#1
  · rw [dif_pos h3]
    refine (loop_dx (tile i) _ _ h1 h4 hw h3 xs dhc dhs (wdSpec i ws wg wu) _ r c _ le_rfl).trans ?_
    simp only [reached_all _ _ h1 h4]
  · rw [dif_neg h3, if_neg (not_mine _ _ h1 h4 h3 r), add_zero]

end Body

end Cert.KernelIdeal.Hand
-- ==== Proof.IBlocksVal.lean ====
/-
  The blocks of the six inputs at a grid point, entry by entry, in terms of the argument arrays: the point of column
  tile `j` and expert `e` sees the weights of expert `e` in columns `128 j ..` and `8192 + 128 j ..`.
-/
module

public import proofs.«01_k».proof.Proof.ILoopVal
public import proofs.«01_k».proof.Proof.ITable
public import proofs.«01_k».proof.Proof.MainSpec
public import Idealize.ShloMosaic.Lib.Pipeline.ValueKit
public import Idealize.ShloMosaic.Lib.KernelVsHost

@[expose] public section

set_option maxRecDepth 16384

noncomputable section

namespace Cert.KernelIdeal.Hand

open Cert.KernelIdeal Cert.KernelIdeal.Gen
open Idealize.ShloMosaic Idealize.ShloMosaic.TcCoe
open Cert.Quantise

/-- The inputs of a run by entries. -/
def ins (a0 : Vec Ideal S1536x5120 .bf16) (a1 : Vec Ideal S4x5120x16384 .fp8e4m3) (a2 : Vec Ideal S4x40x128 .f32)
    (a3 : Vec Ideal S1536x8192 .fp8e5m2) (a4 : Vec Ideal S1536x64 .f32) : Cert.MainSpec.Ins where
  x r k := a0 (ix2 r k)
  w e k f := a1 (ix3 e k f)
  ws e b g := a2 (ix3 e b g)
  dc r f := a3 (ix2 r f)
  ds r g := a4 (ix2 r g)

variable (m : (ℓ : Loc nD τ sig) → Buf (Elt Ideal) ℓ) (c : Dev nD) (t : Fin grid0.N)

/-- The point's expert. -/
def ex (i : grid0.Coords) : Fin 4 := ⟨(i 1).val, (i 1).isLt⟩

/-- The host pads the output gradient's scales with zero columns; the first 64 are the scales. -/
theorem v3_at (r : Fin 1536) (j : Fin 64) : (Vr m c main_v3 : Vec Ideal S1536x128 .f32) (ix2 r (jl j)) = (m ((c : Thread nD τ).loc main_arg4) : Vec Ideal S1536x64 .f32) (ix2 r j) := by
  show (V₀ m c (Proc.devRef .tc main_v3) : Vec Ideal S1536x128 .f32) _ = _
  unfold V₀
  after_reads_simp
  refine pad_apply_of_inside (s := S1536x64) (t := S1536x128) ![0, 0] ![0, 64] ![0, 0] (m ((c : Thread nD τ).loc main_arg4) : Vec Ideal S1536x64 .f32)
    (sitofp (F := Ideal) FTy.f32 (constantI S_ 32 0#32)) pads_S1536x64_S1536x128_000_0640 h_S_ (ix2 r (jl j)) (ix2 r j) fun a => ?_
  match a with
  | ⟨0, _⟩ => show r.val = 0 + r.val * (0 + 1); omega
  | ⟨1, _⟩ => show j.val = 0 + j.val * (0 + 1); omega

theorem tile_word (i : grid0.Coords) : (BitVec.ofNat 32 (i 0).val).toNat = (i 0).val := by
  have h : (i 0).val < 64 := (i 0).isLt
  rw [BitVec.toNat_ofNat]; omega
theorem ex_word (i : grid0.Coords) : (BitVec.ofNat 32 (i 1).val).toNat = (i 1).val := by
  have h : (i 1).val < 4 := (i 1).isLt
  rw [BitVec.toNat_ofNat]; omega
theorem up_word (i : grid0.Coords) : (BitVec.ofNat 32 (i 0).val + 64#32).toNat = (i 0).val + 64 := by
  have h : (i 0).val < 64 := (i 0).isLt
  rw [BitVec.toNat_add, BitVec.toNat_ofNat, BitVec.toNat_ofNat]; omega

/-- Which block each window shows at a point. -/
theorem ind0 : ((pcfg0 (F := Ideal)).win (adm0 m) 0).index t = ![0] := rfl
theorem ind1 : ((pcfg0 (F := Ideal)).win (adm0 m) 1).index t = ![0, 0] := rfl
theorem ind5 : ((pcfg0 (F := Ideal)).win (adm0 m) 5).index t = ![0, 0] := rfl
theorem ind4 : ((pcfg0 (F := Ideal)).win (adm0 m) 4).index t = ![0, (grid0.coords t 0).val] := by
  show ![0, (BitVec.ofNat 32 (grid0.coords t 0).val).toNat] = _
  rw [tile_word]
theorem ind2 : ((pcfg0 (F := Ideal)).win (adm0 m) 2).index t = ![(grid0.coords t 1).val, 0, (grid0.coords t 0).val] := by
  show ![(BitVec.ofNat 32 (grid0.coords t 1).val).toNat, 0, (BitVec.ofNat 32 (grid0.coords t 0).val).toNat] = _
  rw [tile_word, ex_word]
theorem ind3 : ((pcfg0 (F := Ideal)).win (adm0 m) 3).index t = ![(grid0.coords t 1).val, 0, (grid0.coords t 0).val + 64] := by
  show ![(BitVec.ofNat 32 (grid0.coords t 1).val).toNat, 0, (BitVec.ofNat 32 (grid0.coords t 0).val + 64#32).toNat] = _
  rw [up_word, ex_word]

theorem blk_xs (r : Fin 1536) (k : Fin 5120) : (iblk m c 1 t : Vec Ideal S1536x5120 .bf16) (ix2 r k) = (m ((c : Thread nD τ).loc main_arg0) : Vec Ideal S1536x5120 .bf16) (ix2 r k) := by
  rw [← arg0_eq m c]
  blk_ext [iblk, ind1 m t]

theorem blk_dhs (r : Fin 1536) (j : Fin 64) : (iblk m c 5 t : Vec Ideal S1536x128 .f32) (ix2 r (jl j)) = (m ((c : Thread nD τ).loc main_arg4) : Vec Ideal S1536x64 .f32) (ix2 r j) := by
  rw [← v3_at m c]
  blk_ext [iblk, ind5 m t]

theorem blk_ws (y : Fin 20480) : (iblk m c 0 t : Vec Ideal S20480 .f32) (ValueIdx.ix1 y) = (Vr m c main_v4 : Vec Ideal S20480 .f32) (ValueIdx.ix1 y) := by
  blk_ext [iblk, ind0 m t]

/-- The tile's column. -/
def gcol (i : grid0.Coords) (q : Fin 128) : Fin 8192 := ⟨128 * (i 0).val + q.val, by have h : (i 0).val < 64 := (i 0).isLt; omega⟩
def gcolG (i : grid0.Coords) (q : Fin 128) : Fin 16384 := ⟨128 * (i 0).val + q.val, by have h : (i 0).val < 64 := (i 0).isLt; omega⟩
def gcolU (i : grid0.Coords) (q : Fin 128) : Fin 16384 := ⟨8192 + (128 * (i 0).val + q.val), by have h : (i 0).val < 64 := (i 0).isLt; omega⟩

theorem blk_dhc (r : Fin 1536) (q : Fin 128) : (iblk m c 4 t : Vec Ideal S1536x128 .fp8e5m2) (ix2 r q) = (m ((c : Thread nD τ).loc main_arg3) : Vec Ideal S1536x8192 .fp8e5m2) (ix2 r (gcol (grid0.coords t) q)) := by
  rw [← arg3_eq m c]
  blk_ext [iblk, ind4 m t, gcol]

theorem blk_wg (k : Fin 5120) (q : Fin 128) : (iblk m c 2 t : Vec Ideal S1x5120x128 .fp8e4m3) (ValueIdx.ix3 (n0 := 1) (n1 := 5120) (n2 := 128) 0 k q) = (m ((c : Thread nD τ).loc main_arg1) : Vec Ideal S4x5120x16384 .fp8e4m3) (ix3 (ex (grid0.coords t)) k (gcolG (grid0.coords t) q)) := by
  rw [← arg1_eq m c]
  blk_ext [iblk, ind2 m t, gcolG, ex]
  show _ + q.val = _
  omega

theorem blk_wu (k : Fin 5120) (q : Fin 128) : (iblk m c 3 t : Vec Ideal S1x5120x128 .fp8e4m3) (ValueIdx.ix3 (n0 := 1) (n1 := 5120) (n2 := 128) 0 k q) = (m ((c : Thread nD τ).loc main_arg1) : Vec Ideal S4x5120x16384 .fp8e4m3) (ix3 (ex (grid0.coords t)) k (gcolU (grid0.coords t) q)) := by
  rw [← arg1_eq m c]
  blk_ext [iblk, ind3 m t, gcolU, ex]
  show _ + q.val = _
  omega

theorem off3_eq (i : grid0.Coords) (kb : Fin 40) : k0_off3 i (BitVec.ofNat 32 kb.val) = ![((i 1).val * 40 + kb.val) * 128 + (i 0).val] := by
  have h0 : (i 0).val < 64 := (i 0).isLt
  have h1 : (i 1).val < 4 := (i 1).isLt
  show ![(((BitVec.ofNat 32 (i 1).val * 40#32 + BitVec.ofNat 32 kb.val) * 128#32 + BitVec.ofNat 32 (i 0).val)).toNat] = _
  congr 1
  simp only [BitVec.toNat_add, BitVec.toNat_mul, BitVec.toNat_ofNat]
  omega
theorem off4_eq (i : grid0.Coords) (kb : Fin 40) : k0_off4 i (BitVec.ofNat 32 kb.val) = ![((i 1).val * 40 + kb.val) * 128 + (64 + (i 0).val)] := by
  have h0 : (i 0).val < 64 := (i 0).isLt
  have h1 : (i 1).val < 4 := (i 1).isLt
  show ![(((BitVec.ofNat 32 (i 1).val * 40#32 + BitVec.ofNat 32 kb.val) * 128#32 + BitVec.ofNat 32 (i 0).val + 64#32)).toNat] = _
  congr 1
  simp only [BitVec.toNat_add, BitVec.toNat_mul, BitVec.toNat_ofNat]
  omega

/-- The flattened scales at a place. -/
theorem ws_at (e : Fin 4) (b : Fin 40) (g : Fin 128) (y : Fin 20480) (hy : y.val = (e.val * 40 + b.val) * 128 + g.val) :
    (iblk m c 0 t : Vec Ideal S20480 .f32) (ValueIdx.ix1 y) = (m ((c : Thread nD τ).loc main_arg2) : Vec Ideal S4x40x128 .f32) (ix3 e b g) := by
  rw [blk_ws, v4_eq]
  refine shapeCast_apply _ _ _ _ ?_
  refine (Shape.rowMajor_val_three (d := ![4, 40, 128]) (ix3 e b g)).trans (Eq.trans ?_ (Shape.rowMajor_val_one (d := ![20480]) (ValueIdx.ix1 y)).symm)
  show (e.val * 40 + b.val) * 128 + g.val = y.val
  omega

theorem wsGate_at (kb : Fin 40) : wsGate (grid0.coords t) kb (iblk m c 0 t) = (m ((c : Thread nD τ).loc main_arg2) : Vec Ideal S4x40x128 .f32) (ix3 (ex (grid0.coords t)) kb (jl (tile (grid0.coords t)))) := by
  have h0 : (grid0.coords t 0).val < 64 := (grid0.coords t 0).isLt
  have h1 : (grid0.coords t 1).val < 4 := (grid0.coords t 1).isLt
  refine Eq.trans ?_ (ws_at m c t _ _ _ ⟨((grid0.coords t 1).val * 40 + kb.val) * 128 + (grid0.coords t 0).val, by omega⟩ rfl)
  unfold wsGate
  refine congrArg (iblk m c 0 t : Vec Ideal S20480 .f32) (funext fun a => ?_)
  match a with
  | ⟨0, _⟩ =>
    refine Fin.ext ?_
    show k0_off3 _ _ 0 + 1 * 0 = _
    rw [off3_eq]; rfl

theorem wsUp_at (kb : Fin 40) : wsUp (grid0.coords t) kb (iblk m c 0 t) = (m ((c : Thread nD τ).loc main_arg2) : Vec Ideal S4x40x128 .f32) (ix3 (ex (grid0.coords t)) kb ⟨64 + (tile (grid0.coords t)).val, by omega⟩) := by
  have h0 : (grid0.coords t 0).val < 64 := (grid0.coords t 0).isLt
  have h1 : (grid0.coords t 1).val < 4 := (grid0.coords t 1).isLt
  refine Eq.trans ?_ (ws_at m c t _ _ _ ⟨((grid0.coords t 1).val * 40 + kb.val) * 128 + (64 + (grid0.coords t 0).val), by omega⟩ rfl)
  unfold wsUp
  refine congrArg (iblk m c 0 t : Vec Ideal S20480 .f32) (funext fun a => ?_)
  match a with
  | ⟨0, _⟩ =>
    refine Fin.ext ?_
    show k0_off4 _ _ 0 + 1 * 0 = _
    rw [off4_eq]; rfl

/-- A block's dequantised cell is code times scale. -/
theorem wdAt_eq (s w : EReal) : wdAt (F := Ideal) s w = w * s := by
  unfold wdAt
  pointwise [k0_pay99]

/-- The point's inputs and the entries of the run's arguments. -/
abbrev insM : Cert.MainSpec.Ins :=
  ins (m ((c : Thread nD τ).loc main_arg0)) (m ((c : Thread nD τ).loc main_arg1)) (m ((c : Thread nD τ).loc main_arg2)) (m ((c : Thread nD τ).loc main_arg3)) (m ((c : Thread nD τ).loc main_arg4))

/-- The point's dequantised weights. -/
abbrev wdM : Vec Ideal S5120x256 .bf16 := wdSpec (grid0.coords t) (iblk m c 0 t) (iblk m c 2 t) (iblk m c 3 t)

/-- The tile's gate group and up group. -/
abbrev gG (i : grid0.Coords) : Fin 128 := jl (tile i)
abbrev gU (i : grid0.Coords) : Fin 128 := ⟨64 + (tile i).val, by omega⟩

theorem wd_gate (k : Fin 5120) (q : Fin 128) : wdM m c t (ix2 k ⟨q.val, by omega⟩) = Cert.MainSpec.wt (insM m c) (ex (grid0.coords t)) k (gcolG (grid0.coords t) q) := by
  have h0 : (grid0.coords t 0).val < 64 := (grid0.coords t 0).isLt
  show (dite _ _ _ : EReal) = _
  refine (dif_pos (show q.val < 128 from q.isLt)).trans ?_
  refine (wdAt_eq _ _).trans ?_
  refine congrArg₂ (fun x y : EReal => x * y) ((blk_wg m c t k q)) ((wsGate_at m c t _).trans ?_)
  refine congrArg (m ((c : Thread nD τ).loc main_arg2) : Vec Ideal S4x40x128 .f32) ?_
  refine congrArg (ix3 _ _) (Fin.ext ?_)
  show (grid0.coords t 0).val = (128 * (grid0.coords t 0).val + q.val) / 128
  omega

theorem wd_up (k : Fin 5120) (q : Fin 128) : wdM m c t (ix2 k ⟨128 + q.val, by omega⟩) = Cert.MainSpec.wt (insM m c) (ex (grid0.coords t)) k (gcolU (grid0.coords t) q) := by
  have h0 : (grid0.coords t 0).val < 64 := (grid0.coords t 0).isLt
  show (dite _ _ _ : EReal) = _
  refine (dif_neg (show ¬ 128 + q.val < 128 by omega)).trans ?_
  refine (wdAt_eq _ _).trans ?_
  have hq : (⟨128 + q.val - 128, by omega⟩ : Fin 128) = q := Fin.ext (by show 128 + q.val - 128 = q.val; omega)
  refine congrArg₂ (fun x y : EReal => x * y) ((congrArg (fun z => (iblk m c 3 t : Vec Ideal S1x5120x128 .fp8e4m3) (ValueIdx.ix3 (n0 := 1) (n1 := 5120) (n2 := 128) 0 k z)) hq).trans (blk_wu m c t k q)) ((wsUp_at m c t _).trans ?_)
  refine congrArg (m ((c : Thread nD τ).loc main_arg2) : Vec Ideal S4x40x128 .f32) ?_
  refine congrArg (ix3 _ _) (Fin.ext ?_)
  show 64 + (grid0.coords t 0).val = (8192 + (128 * (grid0.coords t 0).val + q.val)) / 128
  omega

theorem gR_eq (r : Fin 1536) (q : Fin 128) : gR (iblk m c 1 t) (wdM m c t) r q = Cert.MainSpec.gu (insM m c) (ex (grid0.coords t)) r (gcolG (grid0.coords t) q) :=
  Finset.sum_congr rfl fun k _ => congrArg₂ (fun x y : EReal => x * y) (blk_xs m c t r k) (wd_gate m c t k q)
theorem uR_eq (r : Fin 1536) (q : Fin 128) : uR (iblk m c 1 t) (wdM m c t) r q = Cert.MainSpec.gu (insM m c) (ex (grid0.coords t)) r (gcolU (grid0.coords t) q) :=
  Finset.sum_congr rfl fun k _ => congrArg₂ (fun x y : EReal => x * y) (blk_xs m c t r k) (wd_up m c t k q)
theorem dhR_eq (r : Fin 1536) (q : Fin 128) : dhR (iblk m c 4 t) (iblk m c 5 t) (jl (tile (grid0.coords t))) r q = Cert.MainSpec.dh (insM m c) r (gcol (grid0.coords t) q) := by
  have h0 : (grid0.coords t 0).val < 64 := (grid0.coords t 0).isLt
  refine congrArg₂ (fun x y : EReal => x * y) (blk_dhc m c t r q) ((blk_dhs m c t r (tile (grid0.coords t))).trans ?_)
  refine congrArg (m ((c : Thread nD τ).loc main_arg4) : Vec Ideal S1536x64 .f32) (congrArg (ix2 r) (Fin.ext ?_))
  show (grid0.coords t 0).val = (128 * (grid0.coords t 0).val + q.val) / 128
  omega

theorem dgR_eq (r : Fin 1536) (q : Fin 128) : dgR (iblk m c 1 t) (wdM m c t) (iblk m c 4 t) (iblk m c 5 t) (jl (tile (grid0.coords t))) r q
    = Cert.MainSpec.val (insM m c) (ex (grid0.coords t)) r (gG (grid0.coords t)) q := by
  have h0 : (grid0.coords t 0).val < 64 := (grid0.coords t 0).isLt
  unfold dgR Cert.MainSpec.val
  rw [gR_eq, uR_eq, dhR_eq, dif_pos (show (gG (grid0.coords t)).val < 64 from h0)]
  rfl
theorem duR_eq (r : Fin 1536) (q : Fin 128) : duR (iblk m c 1 t) (wdM m c t) (iblk m c 4 t) (iblk m c 5 t) (jl (tile (grid0.coords t))) r q
    = Cert.MainSpec.val (insM m c) (ex (grid0.coords t)) r (gU (grid0.coords t)) q := by
  have h0 : (grid0.coords t 0).val < 64 := (grid0.coords t 0).isLt
  unfold duR Cert.MainSpec.val
  rw [gR_eq, dhR_eq, dif_neg (show ¬ (gU (grid0.coords t)).val < 64 from fun h => by
    have h' : 64 + (grid0.coords t 0).val < 64 := h
    omega)]
  have e : 64 + (grid0.coords t 0).val - 64 = (grid0.coords t 0).val := by omega
  have eg : gcolG (grid0.coords t) q = ⟨128 * ((gU (grid0.coords t)).val - 64) + q.val, by have := (gU (grid0.coords t)).isLt; omega⟩ := Fin.ext (by
    show 128 * (grid0.coords t 0).val + q.val = 128 * (64 + (grid0.coords t 0).val - 64) + q.val; rw [e])
  have ed : gcol (grid0.coords t) q = ⟨128 * ((gU (grid0.coords t)).val - 64) + q.val, by have := (gU (grid0.coords t)).isLt; omega⟩ := Fin.ext (by
    show 128 * (grid0.coords t 0).val + q.val = 128 * (64 + (grid0.coords t 0).val - 64) + q.val; rw [e])
  rw [eg, ed]

theorem sgR_eq (r : Fin 1536) : sgR (iblk m c 1 t) (wdM m c t) (iblk m c 4 t) (iblk m c 5 t) (jl (tile (grid0.coords t))) r
    = Cert.MainSpec.sc (insM m c) (ex (grid0.coords t)) r (gG (grid0.coords t)) :=
  congrArg (fun f => scale (bound f)) (funext fun q => dgR_eq m c t r q)
theorem suR_eq (r : Fin 1536) : suR (iblk m c 1 t) (wdM m c t) (iblk m c 4 t) (iblk m c 5 t) (jl (tile (grid0.coords t))) r
    = Cert.MainSpec.sc (insM m c) (ex (grid0.coords t)) r (gU (grid0.coords t)) :=
  congrArg (fun f => scale (bound f)) (funext fun q => duR_eq m c t r q)
theorem cgR_eq (r : Fin 1536) (q : Fin 128) : cgR (iblk m c 1 t) (wdM m c t) (iblk m c 4 t) (iblk m c 5 t) (jl (tile (grid0.coords t))) r q
    = Cert.MainSpec.codeG (insM m c) (ex (grid0.coords t)) r (gG (grid0.coords t)) q :=
  congrArg₂ codeS (dgR_eq m c t r q) (sgR_eq m c t r)
theorem cuR_eq (r : Fin 1536) (q : Fin 128) : cuR (iblk m c 1 t) (wdM m c t) (iblk m c 4 t) (iblk m c 5 t) (jl (tile (grid0.coords t))) r q
    = Cert.MainSpec.codeG (insM m c) (ex (grid0.coords t)) r (gU (grid0.coords t)) q :=
  congrArg₂ codeS (duR_eq m c t r q) (suR_eq m c t r)

theorem dxR_eq (r : Fin 1536) (k : Fin 5120) : dxR (iblk m c 1 t) (wdM m c t) (iblk m c 4 t) (iblk m c 5 t) (jl (tile (grid0.coords t))) r k
    = Cert.MainSpec.tilePart (insM m c) (ex (grid0.coords t)) r k (tile (grid0.coords t)) := by
  unfold dxR
  refine (Fin.sum_univ_add (a := 128) (b := 128) (fun q : Fin (128 + 128) => ddR (iblk m c 1 t) (wdM m c t) (iblk m c 4 t) (iblk m c 5 t) (jl (tile (grid0.coords t))) r q * wdM m c t (ix2 k q))).trans ?_
  unfold Cert.MainSpec.tilePart Cert.MainSpec.part
  refine congrArg₂ (fun x y : EReal => x + y) (Finset.sum_congr rfl fun q _ => ?_) (Finset.sum_congr rfl fun q _ => ?_)
  · refine congrArg₂ (fun x y : EReal => x * y) ?_ (wd_gate m c t k q)
    unfold ddR
    refine (dif_pos (show q.val < 128 from q.isLt)).trans ?_
    exact congrArg₂ (fun x y : EReal => x * y) (cgR_eq m c t r q) (sgR_eq m c t r)
  · refine congrArg₂ (fun x y : EReal => x * y) ?_ ((wd_up m c t k q).trans (congrArg (Cert.MainSpec.wt _ _ k) (Fin.ext ?_)))
    · unfold ddR
      refine (dif_neg (show ¬ 128 + q.val < 128 by omega)).trans ?_
      have hq : (⟨128 + q.val - 128, by omega⟩ : Fin 128) = q := Fin.ext (by show 128 + q.val - 128 = q.val; omega)
      exact congrArg₂ (fun x y : EReal => x * y) ((congrArg (cuR _ _ _ _ _ r) hq).trans (cuR_eq m c t r q)) (suR_eq m c t r)
    · show 8192 + (128 * (grid0.coords t 0).val + q.val) = 128 * (64 + (grid0.coords t 0).val) + q.val
      omega

end Cert.KernelIdeal.Hand
-- ==== Proof.IGridVal.lean ====
/-
  The whole grid at the extended reals. A row has one owner; after `n` points the four accumulating arrays hold, at the
  row, what the points of its owner done so far have put there; the codes are written tile by tile. After all 256 points
  the three results are the scales, codes and input gradient of the row's owner.
-/
module

public import proofs.«01_k».proof.Proof.IBlocksVal

@[expose] public section

set_option maxRecDepth 16384

noncomputable section

namespace Cert.KernelIdeal.Hand

open Cert.KernelIdeal Cert.KernelIdeal.Gen
open Idealize.ShloMosaic Idealize.ShloMosaic.TcCoe
open Cert.Quantise

theorem coords_all : ∀ t : Fin grid0.N, (grid0.coords t 0).val = t.val / 4 ∧ (grid0.coords t 1).val = t.val % 4 := by
  decide +kernel

/-- The blocks at a point, as arrays. -/
abbrev bWs (m : (ℓ : Loc nD τ sig) → Buf (Elt Ideal) ℓ) (c : Dev nD) (t : Fin grid0.N) : Vec Ideal S20480 .f32 := iblk m c 0 t
abbrev bXs (m : (ℓ : Loc nD τ sig) → Buf (Elt Ideal) ℓ) (c : Dev nD) (t : Fin grid0.N) : Vec Ideal S1536x5120 .bf16 := iblk m c 1 t
abbrev bWg (m : (ℓ : Loc nD τ sig) → Buf (Elt Ideal) ℓ) (c : Dev nD) (t : Fin grid0.N) : Vec Ideal S1x5120x128 .fp8e4m3 := iblk m c 2 t
abbrev bWu (m : (ℓ : Loc nD τ sig) → Buf (Elt Ideal) ℓ) (c : Dev nD) (t : Fin grid0.N) : Vec Ideal S1x5120x128 .fp8e4m3 := iblk m c 3 t
abbrev bDc (m : (ℓ : Loc nD τ sig) → Buf (Elt Ideal) ℓ) (c : Dev nD) (t : Fin grid0.N) : Vec Ideal S1536x128 .fp8e5m2 := iblk m c 4 t
abbrev bDs (m : (ℓ : Loc nD τ sig) → Buf (Elt Ideal) ℓ) (c : Dev nD) (t : Fin grid0.N) : Vec Ideal S1536x128 .f32 := iblk m c 5 t

/-- Every row has an owner. -/
theorem exists_owner (gs : IVec S4 32) (hp : Parts gs) (r : Fin 1536) : ∃ e : Fin 4, mineN (startN gs e.val) (startN gs (e.val + 1)) r := by
  have z := startN_zero gs
  have f : startN gs 4 = 1536 := hp
  by_cases h1 : r.val < startN gs 1
  · exact ⟨0, by show startN gs 0 ≤ r.val; omega, h1⟩
  by_cases h2 : r.val < startN gs 2
  · exact ⟨1, by show startN gs 1 ≤ r.val; omega, h2⟩
  by_cases h3 : r.val < startN gs 3
  · exact ⟨2, by show startN gs 2 ≤ r.val; omega, h3⟩
  · exact ⟨3, by show startN gs 3 ≤ r.val; omega, by show r.val < startN gs 4; omega⟩

/-- A row has no other owner. -/
theorem owner_unique (gs : IVec S4 32) (r : Fin 1536) (e e' : ℕ) (h : mineN (startN gs e) (startN gs (e + 1)) r) :
    mineN (startN gs e') (startN gs (e' + 1)) r ↔ e' = e := by
  constructor
  · intro h'
    rcases Nat.lt_trichotomy e' e with hl | hl | hl
    · have := startN_mono gs (show e' + 1 ≤ e from hl); have := h.1; have := h'.2; omega
    · exact hl
    · have := startN_mono gs (show e + 1 ≤ e' from hl); have := h'.1; have := h.2; omega
  · rintro rfl; exact h

/-- One more summand once its turn has come. -/
theorem sum_turn (P : Fin 64 → EReal) (e : Fin 4) (n : ℕ) (hn : n < 256) :
    (∑ j : Fin 64, if 4 * j.val + e.val < n + 1 then P j else 0)
      = (∑ j : Fin 64, if 4 * j.val + e.val < n then P j else 0) + if n % 4 = e.val then P ⟨n / 4, by omega⟩ else 0 := by
  have h : ∀ j : Fin 64, (if 4 * j.val + e.val < n + 1 then P j else (0 : EReal))
      = (if 4 * j.val + e.val < n then P j else 0) + if 4 * j.val + e.val = n then P j else 0 := fun j => by
    by_cases h1 : 4 * j.val + e.val < n
    · rw [if_pos h1, if_pos (by omega), if_neg (by omega), add_zero]
    · by_cases h2 : 4 * j.val + e.val = n
      · rw [if_neg h1, if_pos h2, if_pos (by omega), zero_add]
      · rw [if_neg h1, if_neg h2, if_neg (by omega), add_zero]
  rw [Finset.sum_congr rfl fun j _ => h j, Finset.sum_add_distrib]
  refine congrArg (_ + ·) ?_
  by_cases he : n % 4 = e.val
  · rw [if_pos he, Finset.sum_eq_single (⟨n / 4, by omega⟩ : Fin 64)]
    · rw [if_pos (by show 4 * (n / 4) + e.val = n; omega)]
    · intro j _ hj
      refine if_neg fun hh => hj (Fin.ext ?_)
      show j.val = n / 4
      have := e.isLt
      omega
    · intro hh; exact absurd (Finset.mem_univ _) hh
  · rw [if_neg he]
    refine Finset.sum_eq_zero fun j _ => if_neg fun hh => he ?_
    have := e.isLt
    omega

/-- The column tile of a column. -/
def tileOf (f : Fin 16384) : Fin 64 := ⟨f.val / 128 % 64, by omega⟩

section Grid

variable (m : (ℓ : Loc nD τ sig) → Buf (Elt Ideal) ℓ) (hok : TableOk m) (c : Dev nD)
  (hp : Parts (m ((c : Thread nD τ).loc main_arg5))) (r : Fin 1536) (e : Fin 4)
  (he : mineN (startN (m ((c : Thread nD τ).loc main_arg5)) e.val) (startN (m ((c : Thread nD τ).loc main_arg5)) (e.val + 1)) r)

include hp he in
theorem mine_point (t : Fin grid0.N) : mineN (tabLo (grid0.coords t) (tb m c)).toNat (tabHi (grid0.coords t) (tb m c)).toNat r ↔ t.val % 4 = e.val := by
  rw [tabLo_eq m c hp, tabHi_eq m c hp, (coords_all t).2]
  exact owner_unique _ r e.val (t.val % 4) he

include hp in
theorem lo_le (t : Fin grid0.N) : (tabLo (grid0.coords t) (tb m c)).toNat ≤ 1536 := by
  rw [tabLo_eq m c hp, (coords_all t).2]
  exact (startN_mono _ (show t.val % 4 ≤ 4 by omega)).trans (le_of_eq hp)
include hp in
theorem hi_le (t : Fin grid0.N) : (tabHi (grid0.coords t) (tb m c)).toNat ≤ 1536 := by
  rw [tabHi_eq m c hp, (coords_all t).2]
  exact (startN_mono _ (show t.val % 4 + 1 ≤ 4 by omega)).trans (le_of_eq hp)

theorem ex_point (t : Fin grid0.N) (h : t.val % 4 = e.val) : ex (grid0.coords t) = e := Fin.ext ((coords_all t).2.trans h)

theorem zero_point (t : Fin grid0.N) : ((grid0.coords t 0).val = 0 ∧ (grid0.coords t 1).val = 0) ↔ t.val = 0 := by
  rw [(coords_all t).1, (coords_all t).2]; omega

/-- One point's step, with its blocks named. -/
theorem step_eq (t : Fin grid0.N) : stAfter m hok c (t.val + 1)
    = bodyB (grid0.coords t) (tb m c) (hok c (grid0.coords t)) (bWs m c t) (bXs m c t) (bWg m c t) (bWu m c t) (bDc m c t) (bDs m c t) (stAfter m hok c t.val) :=
  stAfter_succ m hok c t

include hp in
theorem point_dx (t : Fin grid0.N) (k : Fin 5120) : (stAfter m hok c (t.val + 1)).dx (ix2 r k)
    = (if (grid0.coords t 0).val = 0 ∧ (grid0.coords t 1).val = 0 then (0 : EReal) else (stAfter m hok c t.val).dx (ix2 r k)) + if mineN (tabLo (grid0.coords t) (tb m c)).toNat (tabHi (grid0.coords t) (tb m c)).toNat r then dxR (bXs m c t) (wdM m c t) (bDc m c t) (bDs m c t) (jl (tile (grid0.coords t))) r k else 0 := by
  rw [step_eq]
  exact body_dx (grid0.coords t) (tb m c) (hok c (grid0.coords t)) (lo_le m c hp t) (hi_le m c hp t) (bWs m c t) (bXs m c t) (bWg m c t) (bWu m c t) (bDc m c t) (bDs m c t) _ r k
include hp in
theorem point_sc (t : Fin grid0.N) (l : Fin 128) : (stAfter m hok c (t.val + 1)).sc (ix2 r l)
    = if mineN (tabLo (grid0.coords t) (tb m c)).toNat (tabHi (grid0.coords t) (tb m c)).toNat r then (if l.val = (grid0.coords t 0).val then sgR (bXs m c t) (wdM m c t) (bDc m c t) (bDs m c t) (jl (tile (grid0.coords t))) r else if l.val = (grid0.coords t 0).val + 64 then suR (bXs m c t) (wdM m c t) (bDc m c t) (bDs m c t) (jl (tile (grid0.coords t))) r else (if (grid0.coords t 0).val = 0 ∧ (grid0.coords t 1).val = 0 then (0 : EReal) else (stAfter m hok c t.val).sc (ix2 r l))) else (if (grid0.coords t 0).val = 0 ∧ (grid0.coords t 1).val = 0 then (0 : EReal) else (stAfter m hok c t.val).sc (ix2 r l)) := by
  rw [step_eq]
  exact body_sc (grid0.coords t) (tb m c) (hok c (grid0.coords t)) (lo_le m c hp t) (hi_le m c hp t) (bWs m c t) (bXs m c t) (bWg m c t) (bWu m c t) (bDc m c t) (bDs m c t) _ r l
include hp in
theorem point_cg (t : Fin grid0.N) (q : Fin 128) : (stAfter m hok c (t.val + 1)).cg (ix2 r q)
    = if mineN (tabLo (grid0.coords t) (tb m c)).toNat (tabHi (grid0.coords t) (tb m c)).toNat r then cgR (bXs m c t) (wdM m c t) (bDc m c t) (bDs m c t) (jl (tile (grid0.coords t))) r q else (if (grid0.coords t 1).val = 0 then (0 : EReal) else (stAfter m hok c t.val).cg (ix2 r q)) := by
  rw [step_eq]
  exact body_cg (grid0.coords t) (tb m c) (hok c (grid0.coords t)) (lo_le m c hp t) (hi_le m c hp t) (bWs m c t) (bXs m c t) (bWg m c t) (bWu m c t) (bDc m c t) (bDs m c t) _ r q
include hp in
theorem point_cu (t : Fin grid0.N) (q : Fin 128) : (stAfter m hok c (t.val + 1)).cu (ix2 r q)
    = if mineN (tabLo (grid0.coords t) (tb m c)).toNat (tabHi (grid0.coords t) (tb m c)).toNat r then cuR (bXs m c t) (wdM m c t) (bDc m c t) (bDs m c t) (jl (tile (grid0.coords t))) r q else (if (grid0.coords t 1).val = 0 then (0 : EReal) else (stAfter m hok c t.val).cu (ix2 r q)) := by
  rw [step_eq]
  exact body_cu (grid0.coords t) (tb m c) (hok c (grid0.coords t)) (lo_le m c hp t) (hi_le m c hp t) (bWs m c t) (bXs m c t) (bWg m c t) (bWu m c t) (bDc m c t) (bDs m c t) _ r q

/-- The input gradient after `n` points. -/
def dxAt (n : ℕ) (k : Fin 5120) : EReal := ∑ j : Fin 64, if 4 * j.val + e.val < n then Cert.MainSpec.tilePart (insM m c) e r k j else 0

include hp he in
theorem dx_step (t : Fin grid0.N) (k : Fin 5120) : (stAfter m hok c (t.val + 1)).dx (ix2 r k)
    = (if t.val = 0 then (0 : EReal) else (stAfter m hok c t.val).dx (ix2 r k)) + if t.val % 4 = e.val then Cert.MainSpec.tilePart (insM m c) e r k ⟨t.val / 4, by have h : t.val < 256 := t.isLt; omega⟩ else 0 := by
  refine (point_dx m hok c hp r t k).trans ?_
  refine congrArg₂ (fun x y : EReal => x + y) (if_congr (zero_point t) rfl rfl) ?_
  by_cases h : t.val % 4 = e.val
  · rw [if_pos h, if_pos ((mine_point m c hp r e he t).2 h)]
    refine (dxR_eq m c t r k).trans ?_
    rw [ex_point e t h]
    exact congrArg (Cert.MainSpec.tilePart _ _ r k) (Fin.ext (coords_all t).1)
  · rw [if_neg h, if_neg fun hh => h ((mine_point m c hp r e he t).1 hh)]

include hp he in
theorem dx_all (n : ℕ) (hn : n ≤ 256) (k : Fin 5120) : (if n = 0 then (0 : EReal) else (stAfter m hok c n).dx (ix2 r k)) = dxAt m c r e n k := by
  induction n with
  | zero =>
    rw [if_pos rfl]; unfold dxAt
    exact (Finset.sum_eq_zero fun j _ => if_neg (by omega)).symm
  | succ n ih =>
    have hlt : n < 256 := hn
    rw [if_neg (Nat.succ_ne_zero n)]
    refine (dx_step m hok c hp r e he ⟨n, hlt⟩ k).trans ?_
    unfold dxAt
    rw [sum_turn _ e n hlt]
    exact congrArg (· + _) (ih (Nat.le_of_lt hlt))

/-- The scales after `n` points. -/
def scAt (n : ℕ) (l : Fin 128) : EReal := if 4 * (l.val % 64) + e.val < n then Cert.MainSpec.sc (insM m c) e r l else 0

include hp he in
theorem sc_all (n : ℕ) (hn : n ≤ 256) (l : Fin 128) : (if n = 0 then (0 : EReal) else (stAfter m hok c n).sc (ix2 r l)) = scAt m c r e n l := by
  induction n with
  | zero => rw [if_pos rfl]; exact (if_neg (by omega)).symm
  | succ n ih =>
    have hlt : n < 256 := hn
    have ih' := ih (Nat.le_of_lt hlt)
    rw [if_neg (Nat.succ_ne_zero n)]
    have hc := coords_all ⟨n, hlt⟩
    refine (point_sc m hok c hp r ⟨n, hlt⟩ l).trans ?_
    have hold : (if (grid0.coords ⟨n, hlt⟩ 0).val = 0 ∧ (grid0.coords ⟨n, hlt⟩ 1).val = 0 then (0 : EReal) else (stAfter m hok c n).sc (ix2 r l)) = scAt m c r e n l :=
      (if_congr (zero_point ⟨n, hlt⟩) rfl rfl).trans ih'
    rw [hold]
    unfold scAt
    by_cases h : n % 4 = e.val
    · rw [if_pos ((mine_point m c hp r e he ⟨n, hlt⟩).2 h)]
      have e0 : (grid0.coords ⟨n, hlt⟩ 0).val = n / 4 := hc.1
      by_cases h1 : l.val = n / 4
      · rw [if_pos (h1.trans e0.symm), if_pos (by omega)]
        refine (sgR_eq m c _ r).trans ?_
        rw [ex_point e ⟨n, hlt⟩ h]
        exact congrArg (Cert.MainSpec.sc _ _ r) (Fin.ext (e0.trans h1.symm))
      · rw [if_neg (show ¬ l.val = (grid0.coords ⟨n, hlt⟩ 0).val from fun hh => h1 (hh.trans e0))]
        by_cases h2 : l.val = n / 4 + 64
        · rw [if_pos (show l.val = (grid0.coords ⟨n, hlt⟩ 0).val + 64 by rw [e0]; exact h2), if_pos (by omega)]
          refine (suR_eq m c _ r).trans ?_
          rw [ex_point e ⟨n, hlt⟩ h]
          exact congrArg (Cert.MainSpec.sc _ _ r) (Fin.ext (show 64 + (grid0.coords ⟨n, hlt⟩ 0).val = l.val by rw [e0]; omega))
        · rw [if_neg (show ¬ l.val = (grid0.coords ⟨n, hlt⟩ 0).val + 64 by rw [e0]; exact h2)]
          refine if_congr ?_ rfl rfl
          have := e.isLt
          omega
    · rw [if_neg fun hh => h ((mine_point m c hp r e he ⟨n, hlt⟩).1 hh)]
      refine if_congr ?_ rfl rfl
      have := e.isLt
      omega

include hp he in
theorem cg_step (t : Fin grid0.N) (q : Fin 128) : (stAfter m hok c (t.val + 1)).cg (ix2 r q)
    = if t.val % 4 = e.val then Cert.MainSpec.codeG (insM m c) e r (gG (grid0.coords t)) q else (if t.val % 4 = 0 then (0 : EReal) else (stAfter m hok c t.val).cg (ix2 r q)) := by
  refine (point_cg m hok c hp r t q).trans ?_
  by_cases h : t.val % 4 = e.val
  · rw [if_pos h, if_pos ((mine_point m c hp r e he t).2 h)]
    refine (cgR_eq m c t r q).trans ?_
    rw [ex_point e t h]
  · rw [if_neg h, if_neg fun hh => h ((mine_point m c hp r e he t).1 hh), (coords_all t).2]

include hp he in
/-- After the last expert's point the panel holds the tile's codes. -/
theorem cg_all (j : Fin 64) (q : Fin 128) (d : ℕ) (hd : d < 4) : (stAfter m hok c (4 * j.val + d + 1)).cg (ix2 r q)
    = if e.val ≤ d then Cert.MainSpec.codeG (insM m c) e r (jl j) q else 0 := by
  have hlt : 4 * j.val + d < 256 := by omega
  have step := cg_step m hok c hp r e he ⟨4 * j.val + d, hlt⟩ q
  have hg : gG (grid0.coords ⟨4 * j.val + d, hlt⟩) = (jl j) := Fin.ext (by
    have hc : (grid0.coords ⟨4 * j.val + d, hlt⟩ 0).val = (4 * j.val + d) / 4 := (coords_all ⟨4 * j.val + d, hlt⟩).1
    show (grid0.coords ⟨4 * j.val + d, hlt⟩ 0).val = j.val
    omega)
  have hm : (4 * j.val + d) % 4 = d := by omega
  rw [hg] at step
  refine step.trans ?_
  rw [show ((⟨4 * j.val + d, hlt⟩ : Fin grid0.N).val % 4) = d from hm]
  induction d with
  | zero =>
    by_cases h : (0 : ℕ) = e.val
    · rw [if_pos h, if_pos (le_of_eq h.symm)]
    · rw [if_neg h, if_pos rfl, if_neg (by omega)]
  | succ d ih =>
    have hlt' : 4 * j.val + d < 256 := by omega
    have step' := cg_step m hok c hp r e he ⟨4 * j.val + d, hlt'⟩ q
    have hg' : gG (grid0.coords ⟨4 * j.val + d, hlt'⟩) = (jl j) := Fin.ext (by
      have hc : (grid0.coords ⟨4 * j.val + d, hlt'⟩ 0).val = (4 * j.val + d) / 4 := (coords_all ⟨4 * j.val + d, hlt'⟩).1
      show (grid0.coords ⟨4 * j.val + d, hlt'⟩ 0).val = j.val
      omega)
    rw [hg'] at step'
    have ih' := ih (by omega) hlt' step' hg' (by omega)
    rw [show ((⟨4 * j.val + d, hlt'⟩ : Fin grid0.N).val % 4) = d from by show (4 * j.val + d) % 4 = d; omega] at step'
    have prev : (stAfter m hok c (4 * j.val + (d + 1))).cg (ix2 r q) = _ := step'.trans ih'
    by_cases h : d + 1 = e.val
    · rw [if_pos h, if_pos (by omega)]
    · rw [if_neg h, if_neg (Nat.succ_ne_zero d)]
      refine prev.trans (if_congr ?_ rfl rfl)
      omega

include hp he in
theorem cu_step (t : Fin grid0.N) (q : Fin 128) : (stAfter m hok c (t.val + 1)).cu (ix2 r q)
    = if t.val % 4 = e.val then Cert.MainSpec.codeG (insM m c) e r (gU (grid0.coords t)) q else (if t.val % 4 = 0 then (0 : EReal) else (stAfter m hok c t.val).cu (ix2 r q)) := by
  refine (point_cu m hok c hp r t q).trans ?_
  by_cases h : t.val % 4 = e.val
  · rw [if_pos h, if_pos ((mine_point m c hp r e he t).2 h)]
    refine (cuR_eq m c t r q).trans ?_
    rw [ex_point e t h]
  · rw [if_neg h, if_neg fun hh => h ((mine_point m c hp r e he t).1 hh), (coords_all t).2]

include hp he in
/-- After the last expert's point the panel holds the tile's codes. -/
theorem cu_all (j : Fin 64) (q : Fin 128) (d : ℕ) (hd : d < 4) : (stAfter m hok c (4 * j.val + d + 1)).cu (ix2 r q)
    = if e.val ≤ d then Cert.MainSpec.codeG (insM m c) e r (⟨64 + j.val, by omega⟩ : Fin 128) q else 0 := by
  have hlt : 4 * j.val + d < 256 := by omega
  have step := cu_step m hok c hp r e he ⟨4 * j.val + d, hlt⟩ q
  have hg : gU (grid0.coords ⟨4 * j.val + d, hlt⟩) = (⟨64 + j.val, by omega⟩ : Fin 128) := Fin.ext (by
    have hc : (grid0.coords ⟨4 * j.val + d, hlt⟩ 0).val = (4 * j.val + d) / 4 := (coords_all ⟨4 * j.val + d, hlt⟩).1
    show 64 + (grid0.coords ⟨4 * j.val + d, hlt⟩ 0).val = 64 + j.val
    omega)
  have hm : (4 * j.val + d) % 4 = d := by omega
  rw [hg] at step
  refine step.trans ?_
  rw [show ((⟨4 * j.val + d, hlt⟩ : Fin grid0.N).val % 4) = d from hm]
  induction d with
  | zero =>
    by_cases h : (0 : ℕ) = e.val
    · rw [if_pos h, if_pos (le_of_eq h.symm)]
    · rw [if_neg h, if_pos rfl, if_neg (by omega)]
  | succ d ih =>
    have hlt' : 4 * j.val + d < 256 := by omega
    have step' := cu_step m hok c hp r e he ⟨4 * j.val + d, hlt'⟩ q
    have hg' : gU (grid0.coords ⟨4 * j.val + d, hlt'⟩) = (⟨64 + j.val, by omega⟩ : Fin 128) := Fin.ext (by
      have hc : (grid0.coords ⟨4 * j.val + d, hlt'⟩ 0).val = (4 * j.val + d) / 4 := (coords_all ⟨4 * j.val + d, hlt'⟩).1
      show 64 + (grid0.coords ⟨4 * j.val + d, hlt'⟩ 0).val = 64 + j.val
      omega)
    rw [hg'] at step'
    have ih' := ih (by omega) hlt' step' hg' (by omega)
    rw [show ((⟨4 * j.val + d, hlt'⟩ : Fin grid0.N).val % 4) = d from by show (4 * j.val + d) % 4 = d; omega] at step'
    have prev : (stAfter m hok c (4 * j.val + (d + 1))).cu (ix2 r q) = _ := step'.trans ih'
    by_cases h : d + 1 = e.val
    · rw [if_pos h, if_pos (by omega)]
    · rw [if_neg h, if_neg (Nat.succ_ne_zero d)]
      refine prev.trans (if_congr ?_ rfl rfl)
      omega

include hp he in
theorem codes_step (t : Fin grid0.N) (f : Fin 16384) : (codesAfter m hok c (t.val + 1)) (ix2 r f)
    = if t.val % 4 = 3 ∧ (tileOf f).val = t.val / 4 then Cert.MainSpec.code (insM m c) e r f else (codesAfter m hok c t.val) (ix2 r f) := by
  have hN : t.val < 256 := t.isLt
  have hc := coords_all t
  rw [codesAfter_succ]
  unfold outSt
  by_cases h : t.val % 4 = 3
  · rw [dif_pos ((cond4_iff (grid0.coords t)).2 (hc.2.trans h))]
    have ht : t.val + 1 = 4 * (⟨t.val / 4, by omega⟩ : Fin 64).val + 3 + 1 := by show t.val + 1 = 4 * (t.val / 4) + 3 + 1; omega
    have w17 : k0_off17 (grid0.coords t) = ![0, 128 * (t.val / 4)] := by
      show ![0, (BitVec.ofNat 32 (grid0.coords t 0).val * 128#32).toNat] = _
      rw [hc.1, BitVec.toNat_mul, BitVec.toNat_ofNat, BitVec.toNat_ofNat]
      refine congrArg (fun n : ℕ => (![0, n] : Fin 2 → ℕ)) ?_
      omega
    have w18 : k0_off18 (grid0.coords t) = ![0, 8192 + 128 * (t.val / 4)] := by
      show ![0, (8192#32 + BitVec.ofNat 32 (grid0.coords t 0).val * 128#32).toNat] = _
      rw [hc.1, BitVec.toNat_add, BitVec.toNat_mul, BitVec.toNat_ofNat, BitVec.toNat_ofNat, BitVec.toNat_ofNat]
      refine congrArg (fun n : ℕ => (![0, n] : Fin 2 → ℕ)) ?_
      omega
    by_cases hu : 8192 + 128 * (t.val / 4) ≤ f.val ∧ f.val < 8192 + 128 * (t.val / 4) + 128
    · rw [if_pos (show t.val % 4 = 3 ∧ (tileOf f).val = t.val / 4 from ⟨h, by show f.val / 128 % 64 = t.val / 4; omega⟩)]
      let q : Fin 128 := ⟨f.val - (8192 + 128 * (t.val / 4)), by omega⟩
      refine (put2_in (m0 := 1536) (m1 := 128) _ _ 0 (8192 + 128 * (t.val / 4)) w18 _ r f r q (by omega) (by show f.val = _ + (f.val - _); omega)).trans ?_
      rw [ht, cu_all m hok c hp r e he _ q 3 (by omega), if_pos (by omega), ← Cert.MainSpec.code_col]
      refine congrArg (Cert.MainSpec.code _ _ r) (Fin.ext ?_)
      show 128 * (64 + t.val / 4) + (f.val - (8192 + 128 * (t.val / 4))) = f.val
      omega
    · refine (put2_out (m0 := 1536) (m1 := 128) _ _ 0 (8192 + 128 * (t.val / 4)) w18 _ r f fun hh => hu hh.2).trans ?_
      by_cases hg : 128 * (t.val / 4) ≤ f.val ∧ f.val < 128 * (t.val / 4) + 128
      · rw [if_pos (show t.val % 4 = 3 ∧ (tileOf f).val = t.val / 4 from ⟨h, by show f.val / 128 % 64 = t.val / 4; omega⟩)]
        let q : Fin 128 := ⟨f.val - 128 * (t.val / 4), by omega⟩
        refine (put2_in (m0 := 1536) (m1 := 128) _ _ 0 (128 * (t.val / 4)) w17 _ r f r q (by omega) (by show f.val = _ + (f.val - _); omega)).trans ?_
        rw [ht, cg_all m hok c hp r e he _ q 3 (by omega), if_pos (by omega), ← Cert.MainSpec.code_col]
        refine congrArg (Cert.MainSpec.code _ _ r) (Fin.ext ?_)
        show 128 * (t.val / 4) + (f.val - 128 * (t.val / 4)) = f.val
        omega
      · rw [if_neg (show ¬ (t.val % 4 = 3 ∧ (tileOf f).val = t.val / 4) from fun hh => by have h2 : f.val / 128 % 64 = t.val / 4 := hh.2; omega)]
        exact put2_out (m0 := 1536) (m1 := 128) _ _ 0 (128 * (t.val / 4)) w17 _ r f fun hh => hg hh.2
  · rw [dif_neg fun hh => h (hc.2.symm.trans ((cond4_iff (grid0.coords t)).1 hh)), if_neg fun hh => h hh.1]

include hp he in
theorem codes_all (f : Fin 16384) (n : ℕ) (hn : n ≤ 256) (hd : 4 * (tileOf f).val + 4 ≤ n) :
    (codesAfter m hok c n) (ix2 r f) = Cert.MainSpec.code (insM m c) e r f := by
  induction n with
  | zero => omega
  | succ n ih =>
    have hlt : n < 256 := hn
    refine (codes_step m hok c hp r e he ⟨n, hlt⟩ f).trans ?_
    by_cases h : n % 4 = 3 ∧ (tileOf f).val = n / 4
    · exact if_pos h
    · refine (if_neg h).trans (ih (Nat.le_of_lt hlt) ?_)
      omega

include hp he in
/-- The scales of a row are its owner's. -/
theorem scales_final (l : Fin 128) : (stAfter m hok c 256).sc (ix2 r l) = Cert.MainSpec.sc (insM m c) e r l := by
  have h := sc_all m hok c hp r e he 256 le_rfl l
  rw [if_neg (by decide)] at h
  rw [h]; unfold scAt
  exact if_pos (by have := e.isLt; omega)

include hp he in
/-- The codes of a row are its owner's. -/
theorem codes_final (f : Fin 16384) : (codesAfter m hok c 256) (ix2 r f) = Cert.MainSpec.code (insM m c) e r f :=
  codes_all m hok c hp r e he f 256 le_rfl (by have := (tileOf f).isLt; omega)

include hp he in
/-- The input gradient of a row is its owner's. -/
theorem dx_final (k : Fin 5120) : (stAfter m hok c 256).dx (ix2 r k) = Cert.MainSpec.dx (insM m c) e r k := by
  have h := dx_all m hok c hp r e he 256 le_rfl k
  rw [if_neg (by decide)] at h
  rw [h, Cert.MainSpec.dx_eq]; unfold dxAt
  exact Finset.sum_congr rfl fun j _ => if_pos (by have := e.isLt; have := j.isLt; omega)

end Grid

end Cert.KernelIdeal.Hand
-- ==== Proof.RVal.lean ====
/-
  The reference's results at a row are the owner's: among the masks of the four experts exactly the owner's bit is set at the
  row, so the chain of choices leaves the owner's forward product, and from it follow the gradient, the scales, the codes and
  the input gradient.
-/
module

public import proofs.«01_k».proof.Proof.RRun
public import proofs.«01_k».proof.Proof.IGridVal

@[expose] public section

set_option maxRecDepth 16384

noncomputable section

namespace Cert.ReferenceIdeal.Hand

open Cert.ReferenceIdeal Cert.ReferenceIdeal.Gen
open Idealize.ShloMosaic Idealize.ShloMosaic.TcCoe
open Cert.Quantise
open Cert.KernelIdeal.Hand (startN startN_zero startN_succ startN_mono Parts mineN owner_unique exists_owner ins)

/-- The bit that says a row lies from one number to before another. -/
theorem mask_word (r : Fin 1536) (a b : BitVec 32) (A B : ℕ) (ha : a.toNat = A) (hb : b.toNat = B) (hA : A ≤ 1536) (hB : B ≤ 1536) :
    IntOp.andi (IntOp.cmpi CmpIPredicate.sge (BitVec.ofNat 32 r.val) a) (IntOp.cmpi CmpIPredicate.slt (BitVec.ofNat 32 r.val) b)
      = if mineN A B r then 1#1 else 0#1 := by
  have hN : (BitVec.ofNat 32 r.val).toNat = r.val := by
    rw [BitVec.toNat_ofNat]
    have := r.isLt
    omega
  generalize BitVec.ofNat 32 r.val = N at hN
  have i1 : a.toInt = (A : ℤ) := by rw [← ha]; exact BitVec.toInt_eq_toNat_of_lt (by omega)
  have i4 : b.toInt = (B : ℤ) := by rw [← hb]; exact BitVec.toInt_eq_toNat_of_lt (by omega)
  have iN : N.toInt = (r.val : ℤ) := by rw [← hN]; exact BitVec.toInt_eq_toNat_of_lt (by have := r.isLt; omega)
  have c1 : IntOp.cmpi CmpIPredicate.sge N a = if A ≤ r.val then 1#1 else 0#1 := by
    show BitVec.ofBool (a.sle N) = _
    rw [BitVec.sle_eq_decide, i1, iN]
    by_cases h : A ≤ r.val
    · rw [if_pos h, decide_eq_true (by exact_mod_cast h)]; rfl
    · rw [if_neg h, decide_eq_false (by exact_mod_cast h)]; rfl
  have c2 : IntOp.cmpi CmpIPredicate.slt N b = if r.val < B then 1#1 else 0#1 := by
    show BitVec.ofBool (N.slt b) = _
    rw [BitVec.slt_eq_decide, i4, iN]
    by_cases h : r.val < B
    · rw [if_pos h, decide_eq_true (by exact_mod_cast h)]; rfl
    · rw [if_neg h, decide_eq_false (by exact_mod_cast h)]; rfl
  rw [c1, c2]
  by_cases h1 : A ≤ r.val <;> by_cases h2 : r.val < B <;> simp [h1, h2, IntOp.andi]

theorem select_ite {P : Prop} [Decidable P] {α : Type} (a b : α) : Scalar.select (if P then 1#1 else 0#1) a b = if P then a else b := by
  by_cases h : P <;> simp [h, Scalar.select]

section Vals

variable (x : Vec Ideal S1536x5120 .bf16) (w : Vec Ideal S4x5120x16384 .fp8e4m3) (ws : Vec Ideal S4x40x128 .f32)
  (dc : Vec Ideal S1536x8192 .fp8e5m2) (ds : Vec Ideal S1536x64 .f32) (gs : Vec Ideal S4 .i32) (hp : Parts gs)
  (r : Fin 1536) (e : Fin 4) (he : mineN (startN gs e.val) (startN gs (e.val + 1)) r)

include hp in
/-- The ends of the experts, as the reference adds them up. -/
theorem ends : (Scalar.addi 0#32 (sz gs 0 inb_S4_S1_0)).toNat = startN gs 1 ∧ (end1 gs).toNat = startN gs 2
    ∧ (Scalar.addi (end1 gs) (sz gs 2 inb_S4_S1_2)).toNat = startN gs 3
    ∧ (Scalar.addi (Scalar.addi (end1 gs) (sz gs 2 inb_S4_S1_2)) (sz gs 3 inb_S4_S1_3)).toNat = startN gs 4 := by
  have z0 : sz gs 0 inb_S4_S1_0 = gs (ValueIdx.ix1 0) := sz_at gs 0 _
  have z1 : sz gs 1 inb_S4_S1_1 = gs (ValueIdx.ix1 1) := sz_at gs 1 _
  have z2 : sz gs 2 inb_S4_S1_2 = gs (ValueIdx.ix1 2) := sz_at gs 2 _
  have z3 : sz gs 3 inb_S4_S1_3 = gs (ValueIdx.ix1 3) := sz_at gs 3 _
  have s0 : startN gs 0 = 0 := startN_zero gs
  have s1 : startN gs 1 = startN gs 0 + (gs (ValueIdx.ix1 0) : BitVec 32).toNat := startN_succ gs 0
  have s2 : startN gs 2 = startN gs 1 + (gs (ValueIdx.ix1 1) : BitVec 32).toNat := startN_succ gs 1
  have s3 : startN gs 3 = startN gs 2 + (gs (ValueIdx.ix1 2) : BitVec 32).toNat := startN_succ gs 2
  have s4 : startN gs 4 = startN gs 3 + (gs (ValueIdx.ix1 3) : BitVec 32).toNat := startN_succ gs 3
  have h4 : startN gs 4 = 1536 := hp
  unfold end1
  rw [z0, z1, z2, z3]
  generalize (gs (ValueIdx.ix1 0) : BitVec 32) = g0 at *
  generalize (gs (ValueIdx.ix1 1) : BitVec 32) = g1 at *
  generalize (gs (ValueIdx.ix1 2) : BitVec 32) = g2 at *
  generalize (gs (ValueIdx.ix1 3) : BitVec 32) = g3 at *
  show (0#32 + g0).toNat = _ ∧ (0#32 + g0 + g1).toNat = _ ∧ (0#32 + g0 + g1 + g2).toNat = _ ∧ (0#32 + g0 + g1 + g2 + g3).toNat = _
  simp only [BitVec.toNat_add, BitVec.toNat_ofNat]
  refine ⟨?_, ?_, ?_, ?_⟩ <;> omega

include hp he in
/-- At a row only its owner's mask is set. -/
theorem masks : mask0 gs (ix2 r 0) = (if e = 0 then 1#1 else 0#1) ∧ mask1 gs (ix2 r 0) = (if e = 1 then 1#1 else 0#1)
    ∧ mask2 gs (ix2 r 0) = (if e = 2 then 1#1 else 0#1) ∧ mask3 gs (ix2 r 0) = (if e = 3 then 1#1 else 0#1) := by
  obtain ⟨e1, e2, e3, e4⟩ := ends gs hp
  have s0 : startN gs 0 = 0 := startN_zero gs
  have h4 : startN gs 4 = 1536 := hp
  have l1 := startN_mono gs (show 1 ≤ 4 by decide)
  have l2 := startN_mono gs (show 2 ≤ 4 by decide)
  have l3 := startN_mono gs (show 3 ≤ 4 by decide)
  have own : ∀ e' : Fin 4, mineN (startN gs e'.val) (startN gs (e'.val + 1)) r ↔ e = e' := fun e' =>
    (owner_unique gs r e.val e'.val he).trans ⟨fun h => (Fin.ext h).symm, fun h => by rw [h]⟩
  have m0 := mask_word r 0#32 _ (startN gs 0) (startN gs 1) s0.symm e1 (by omega) (by omega)
  have m1 := mask_word r _ _ (startN gs 1) (startN gs 2) e1 e2 (by omega) (by omega)
  have m2 := mask_word r _ _ (startN gs 2) (startN gs 3) e2 e3 (by omega) (by omega)
  have m3 := mask_word r _ _ (startN gs 3) (startN gs 4) e3 e4 (by omega) (by omega)
  refine ⟨(mask0_at _ r).trans (m0.trans (if_congr (own 0) rfl rfl)), (mask1_at _ _ r).trans (m1.trans (if_congr (own 1) rfl rfl)),
    (mask2_at _ _ r).trans (m2.trans (if_congr (own 2) rfl rfl)), (mask3_at _ _ _ r).trans (m3.trans (if_congr (own 3) rfl rfl))⟩

/-- A chain of choices by the masks is the owner's alternative. -/
theorem chain {α : Type} (v : Fin 4 → α) (z : α) (e : Fin 4) :
    Scalar.select (if e = 3 then 1#1 else 0#1) (v 3) (Scalar.select (if e = 2 then 1#1 else 0#1) (v 2)
      (Scalar.select (if e = 1 then 1#1 else 0#1) (v 1) (Scalar.select (if e = 0 then 1#1 else 0#1) (v 0) z))) = v e := by
  simp only [select_ite]
  match e with
  | 0 => rfl
  | 1 => rfl
  | 2 => rfl
  | 3 => rfl

/-- The dequantised weights. -/
theorem wt0 (k : Fin 5120) (f : Fin 16384) : wd0 w ws (ix2 k f) = Cert.MainSpec.wt (ins x w ws dc ds) 0 k f := by
  refine (wd0_at _ _ k f).trans ?_
  rw [show wE w 0 inb_S4x5120x16384_S1x5120x16384_0_0_0 (ix3 0 k f) = w (ix3 0 k f) from wE_at w 0 _ k f]
  exact congrArg (w (ix3 0 k f) * ·) (sE_at ws 0 _ _ _)
theorem wt1 (k : Fin 5120) (f : Fin 16384) : wd1 w ws (ix2 k f) = Cert.MainSpec.wt (ins x w ws dc ds) 1 k f := by
  refine (wd1_at _ _ k f).trans ?_
  rw [show wE w 1 inb_S4x5120x16384_S1x5120x16384_1_0_0 (ix3 0 k f) = w (ix3 1 k f) from wE_at w 1 _ k f]
  exact congrArg (w (ix3 1 k f) * ·) (sE_at ws 1 _ _ _)
theorem wt2 (k : Fin 5120) (f : Fin 16384) : wd2 w ws (ix2 k f) = Cert.MainSpec.wt (ins x w ws dc ds) 2 k f := by
  refine (wd2_at _ _ k f).trans ?_
  rw [show wE w 2 inb_S4x5120x16384_S1x5120x16384_2_0_0 (ix3 0 k f) = w (ix3 2 k f) from wE_at w 2 _ k f]
  exact congrArg (w (ix3 2 k f) * ·) (sE_at ws 2 _ _ _)
theorem wt3 (k : Fin 5120) (f : Fin 16384) : wd3 w ws (ix2 k f) = Cert.MainSpec.wt (ins x w ws dc ds) 3 k f := by
  refine (wd3_at _ _ k f).trans ?_
  rw [show wE w 3 inb_S4x5120x16384_S1x5120x16384_3_0_0 (ix3 0 k f) = w (ix3 3 k f) from wE_at w 3 _ k f]
  exact congrArg (w (ix3 3 k f) * ·) (sE_at ws 3 _ _ _)

include hp he in
/-- The forward product at a row. -/
theorem fwd_row (f : Fin 16384) :
    fwd (fwd2 x w ws gs) (mask3 gs) (k0_pay13 (wE w 3 inb_S4x5120x16384_S1x5120x16384_3_0_0)) (sE ws 3 inb_S4x40x128_S1x40x128_3_0_0) x r f
      = Cert.MainSpec.gu (ins x w ws dc ds) e r f := by
  obtain ⟨m0, m1, m2, m3⟩ := masks gs hp r e he
  have t3 : Scalar.select (mask3 gs (ix2 r 0)) (∑ k : Fin 5120, x (ix2 r k) * wd3 w ws (ix2 k f)) (fwd2 x w ws gs (ix2 r f))
      = Cert.MainSpec.gu (ins x w ws dc ds) e r f := by
    have t2 : fwd2 x w ws gs (ix2 r f) = Scalar.select (mask2 gs (ix2 r 0)) (∑ k : Fin 5120, x (ix2 r k) * wd2 w ws (ix2 k f))
        (Scalar.select (mask1 gs (ix2 r 0)) (∑ k : Fin 5120, x (ix2 r k) * wd1 w ws (ix2 k f))
          (k0_pay4 (sz gs 0 inb_S4_S1_0) (wE w 0 inb_S4x5120x16384_S1x5120x16384_0_0_0) (sE ws 0 inb_S4x40x128_S1x40x128_0_0_0) x (ix2 r f))) :=
      fwd2_at _ _ _ _ _ _ _ _ _ _ _ r f
    have t0 : k0_pay4 (sz gs 0 inb_S4_S1_0) (wE w 0 inb_S4x5120x16384_S1x5120x16384_0_0_0) (sE ws 0 inb_S4x40x128_S1x40x128_0_0_0) x (ix2 r f)
        = Scalar.select (mask0 gs (ix2 r 0)) (∑ k : Fin 5120, x (ix2 r k) * wd0 w ws (ix2 k f)) 0 := fwd0_at _ _ _ _ r f
    rw [t2, t0, m0, m1, m2, m3]
    simp only [wt0 x w ws dc ds, wt1 x w ws dc ds, wt2 x w ws dc ds, wt3 x w ws dc ds]
    exact chain (fun e => Cert.MainSpec.gu (ins x w ws dc ds) e r f) 0 e
  exact t3

include hp he in
/-- The gradients at a row. -/
theorem grad_row (g q : Fin 128) : gradV x w ws dc ds gs (ix3 r g q) = Cert.MainSpec.val (ins x w ws dc ds) e r g q := by
  refine (grad_at _ _ _ _ _ _ _ r g q).trans ?_
  simp only [fwd_row x w ws dc ds gs hp r e he]
  rfl

include hp he in
/-- The bound of a group. -/
theorem bnd_row (g : Fin 128) (i : Fin 252) : bndV x w ws dc ds gs (ix3 r g i) = bound fun q => Cert.MainSpec.val (ins x w ws dc ds) e r g q := by
  have h : bndV x w ws dc ds gs = spreadV (boundV (gradV x w ws dc ds gs)) := pay17_eq _ _ _ _ _ _ _
  rw [h, spreadV_at, boundV_at]
  simp only [grad_row x w ws dc ds gs hp r e he]

include hp he in
/-- The scales at a row. -/
theorem scales_row (g : Fin 128) : scalesR x w ws dc ds gs (ix2 r g) = Cert.MainSpec.sc (ins x w ws dc ds) e r g := by
  unfold scalesR
  rw [pay18_eq, scaleV_at, belowV_at]
  simp only [powers_at, bnd_row x w ws dc ds gs hp r e he]
  rfl

include hp he in
theorem codeG_row (g q : Fin 128) : k0_pay19 (gradV x w ws dc ds gs) k0_pay16 (bndV x w ws dc ds gs) (ix3 r g q) = Cert.MainSpec.codeG (ins x w ws dc ds) e r g q := by
  have h : k0_pay18 k0_pay16 (bndV x w ws dc ds gs) (ix2 r g) = Cert.MainSpec.sc (ins x w ws dc ds) e r g := scales_row x w ws dc ds gs hp r e he g
  rw [codesG_at, h, grad_row x w ws dc ds gs hp r e he]
  rfl

include hp he in
/-- The codes at a row. -/
theorem codes_row (f : Fin 16384) : codesR x w ws dc ds gs (ix2 r f) = Cert.MainSpec.code (ins x w ws dc ds) e r f := by
  unfold codesR
  rw [codes_at, codeG_row x w ws dc ds gs hp r e he]
  rfl

include hp he in
/-- The input gradient at a row. -/
theorem dx_row (k : Fin 5120) : dxR x w ws dc ds gs (ix2 r k) = Cert.MainSpec.dx (ins x w ws dc ds) e r k := by
  obtain ⟨m0, m1, m2, m3⟩ := masks gs hp r e he
  unfold dxR
  rw [bwd_at, bwd2_at, m0, m1, m2, m3]
  have d : ∀ f : Fin 16384, k0_pay21 (gradV x w ws dc ds gs) k0_pay16 (bndV x w ws dc ds gs) (ix2 r f)
      = Cert.MainSpec.code (ins x w ws dc ds) e r f * Cert.MainSpec.sc (ins x w ws dc ds) e r ⟨f.val / 128, by omega⟩ := fun f => by
    have h := scales_row x w ws dc ds gs hp r e he ⟨f.val / 128, by omega⟩
    unfold scalesR at h
    rw [deq_at, codeG_row x w ws dc ds gs hp r e he, h]
    rfl
  simp only [d, wt0 x w ws dc ds, wt1 x w ws dc ds, wt2 x w ws dc ds, wt3 x w ws dc ds]
  exact chain (fun e' => ∑ f : Fin 16384, Cert.MainSpec.code (ins x w ws dc ds) e r f * Cert.MainSpec.sc (ins x w ws dc ds) e r ⟨f.val / 128, by omega⟩
    * Cert.MainSpec.wt (ins x w ws dc ds) e' k f) 0 e

end Vals

end Cert.ReferenceIdeal.Hand
-- ==== Proof.Agree.lean ====
/-
  The kernel's three results and the reference's, entry by entry, for the same arguments.
-/
module

public import proofs.«01_k».proof.Proof.RVal
public import proofs.«01_k».proof.Proof.IResults

@[expose] public section

set_option maxRecDepth 16384

noncomputable section

namespace Cert.Agree

open Idealize.ShloMosaic Idealize.ShloMosaic.TcCoe
open Cert.KernelIdeal.Hand (startN Parts mineN exists_owner insM ins stAfter codesAfter)
open Cert.ReferenceIdeal.Hand (codesR scalesR dxR)

/-- The sizes of a kernel run. -/
abbrev gsM (m : (ℓ : Loc Cert.KernelIdeal.nD Cert.KernelIdeal.τ Cert.KernelIdeal.sig) → Buf (Elt Ideal) ℓ) (c : Dev Cert.KernelIdeal.nD) : IVec Cert.KernelIdeal.S4 32 :=
  m ((c : Thread Cert.KernelIdeal.nD Cert.KernelIdeal.τ).loc Cert.KernelIdeal.main_arg5)

variable (m : (ℓ : Loc Cert.KernelIdeal.nD Cert.KernelIdeal.τ Cert.KernelIdeal.sig) → Buf (Elt Ideal) ℓ)
  (hok : Cert.KernelIdeal.Hand.TableOk m) (c : Dev Cert.KernelIdeal.nD)
  (x : Vec Ideal Cert.ReferenceIdeal.S1536x5120 .bf16) (w : Vec Ideal Cert.ReferenceIdeal.S4x5120x16384 .fp8e4m3)
  (ws : Vec Ideal Cert.ReferenceIdeal.S4x40x128 .f32) (dc : Vec Ideal Cert.ReferenceIdeal.S1536x8192 .fp8e5m2)
  (ds : Vec Ideal Cert.ReferenceIdeal.S1536x64 .f32) (gs : Vec Ideal Cert.ReferenceIdeal.S4 .i32)
  (h0 : x = m ((c : Thread Cert.KernelIdeal.nD Cert.KernelIdeal.τ).loc Cert.KernelIdeal.main_arg0))
  (h1 : w = m ((c : Thread Cert.KernelIdeal.nD Cert.KernelIdeal.τ).loc Cert.KernelIdeal.main_arg1))
  (h2 : ws = m ((c : Thread Cert.KernelIdeal.nD Cert.KernelIdeal.τ).loc Cert.KernelIdeal.main_arg2))
  (h3 : dc = m ((c : Thread Cert.KernelIdeal.nD Cert.KernelIdeal.τ).loc Cert.KernelIdeal.main_arg3))
  (h4 : ds = m ((c : Thread Cert.KernelIdeal.nD Cert.KernelIdeal.τ).loc Cert.KernelIdeal.main_arg4))
  (h5 : gs = m ((c : Thread Cert.KernelIdeal.nD Cert.KernelIdeal.τ).loc Cert.KernelIdeal.main_arg5))
  (hp : Parts (m ((c : Thread Cert.KernelIdeal.nD Cert.KernelIdeal.τ).loc Cert.KernelIdeal.main_arg5)))

include h0 h1 h2 h3 h4 h5 hp

/-- The codes agree with any array that holds each row's owner's. -/
theorem codes_of (S : Vec Ideal Cert.ReferenceIdeal.S1536x16384 .fp8e5m2)
    (hS : ∀ (r : Fin 1536) (e : Fin 4), mineN (startN (gsM m c) e.val) (startN (gsM m c) (e.val + 1)) r →
      ∀ f : Fin 16384, S (ix2 r f) = Cert.MainSpec.code (insM m c) e r f) : codesR x w ws dc ds gs = S := by
  subst h0 h1 h2 h3 h4 h5
  funext i
  obtain ⟨r, f, rfl⟩ : ∃ (r : Fin 1536) (f : Fin 16384), i = ix2 r f := ⟨i 0, i 1, by
    funext a
    match a with
    | ⟨0, _⟩ => rfl
    | ⟨1, _⟩ => rfl⟩
  obtain ⟨e, he⟩ := exists_owner _ hp r
  rw [hS r e he f]
  exact Cert.ReferenceIdeal.Hand.codes_row _ _ _ _ _ _ hp r e he f

/-- The codes agree. -/
theorem codes : codesR x w ws dc ds gs = codesAfter m hok c 256 :=
  codes_of m c x w ws dc ds gs h0 h1 h2 h3 h4 h5 hp _ fun r e he f => Cert.KernelIdeal.Hand.codes_final m hok c hp r e he f

/-- The scales agree with any array that holds each row's owner's. -/
theorem scales_of (S : Vec Ideal Cert.ReferenceIdeal.S1536x128 .f32)
    (hS : ∀ (r : Fin 1536) (e : Fin 4), mineN (startN (gsM m c) e.val) (startN (gsM m c) (e.val + 1)) r →
      ∀ f : Fin 128, S (ix2 r f) = Cert.MainSpec.sc (insM m c) e r f) : scalesR x w ws dc ds gs = S := by
  subst h0 h1 h2 h3 h4 h5
  funext i
  obtain ⟨r, f, rfl⟩ : ∃ (r : Fin 1536) (f : Fin 128), i = ix2 r f := ⟨i 0, i 1, by
    funext a
    match a with
    | ⟨0, _⟩ => rfl
    | ⟨1, _⟩ => rfl⟩
  obtain ⟨e, he⟩ := exists_owner _ hp r
  rw [hS r e he f]
  exact Cert.ReferenceIdeal.Hand.scales_row _ _ _ _ _ _ hp r e he f

/-- The scales agree. -/
theorem scales : scalesR x w ws dc ds gs = (stAfter m hok c 256).sc :=
  scales_of m c x w ws dc ds gs h0 h1 h2 h3 h4 h5 hp _ fun r e he f => Cert.KernelIdeal.Hand.scales_final m hok c hp r e he f

/-- The input gradients agree with any array that holds each row's owner's. -/
theorem dx_of (S : Vec Ideal Cert.ReferenceIdeal.S1536x5120 .f32)
    (hS : ∀ (r : Fin 1536) (e : Fin 4), mineN (startN (gsM m c) e.val) (startN (gsM m c) (e.val + 1)) r →
      ∀ f : Fin 5120, S (ix2 r f) = Cert.MainSpec.dx (insM m c) e r f) : dxR x w ws dc ds gs = S := by
  subst h0 h1 h2 h3 h4 h5
  funext i
  obtain ⟨r, f, rfl⟩ : ∃ (r : Fin 1536) (f : Fin 5120), i = ix2 r f := ⟨i 0, i 1, by
    funext a
    match a with
    | ⟨0, _⟩ => rfl
    | ⟨1, _⟩ => rfl⟩
  obtain ⟨e, he⟩ := exists_owner _ hp r
  rw [hS r e he f]
  exact Cert.ReferenceIdeal.Hand.dx_row _ _ _ _ _ _ hp r e he f

/-- The input gradients agree. -/
theorem dx : dxR x w ws dc ds gs = (stAfter m hok c 256).dx :=
  dx_of m c x w ws dc ds gs h0 h1 h2 h3 h4 h5 hp _ fun r e he f => Cert.KernelIdeal.Hand.dx_final m hok c hp r e he f

end Cert.Agree
-- ==== Proof.lean ====
/-
  The claims of the certificate, put together.
-/
module

public import proofs.«01_k».proof.Defs
public import proofs.«01_k».proof.Proof.Gen.ReferenceIdeal.Value
public import proofs.«01_k».proof.Proof.KResults
public import proofs.«01_k».proof.Proof.IResults
public import proofs.«01_k».proof.Proof.Agree

@[expose] public section

namespace Cert.Proof

open Idealize.ShloMosaic Idealize.SL.Sem

/-- The shape facts the printed precondition states. -/
theorem preFacts : Cert.Pre_sizes_partition_rows.Facts := ⟨by decide, by decide, by decide⟩

/-- The kernel runs on every input that meets the precondition, leaves its arguments as they were and every semaphore at zero. -/
theorem frameK : Cert.quiescent_Kernel (hKernel := Cert.Kernel.Gen.facts) (hPre_sizes_partition_rows := preFacts) := fun m ρ h =>
  (θ_run _ _ _).mono (fun r hr => ⟨fun c => ⟨(hr.1 c).2.2.2.1, (hr.1 c).2.2.2.2.1, (hr.1 c).2.2.2.2.2.1, (hr.1 c).2.2.2.2.2.2.1, (hr.1 c).2.2.2.2.2.2.2.1,
      (hr.1 c).2.2.2.2.2.2.2.2⟩, hr.2⟩)
    (Cert.Kernel.Hand.run_results m (Cert.Kernel.Hand.tableOk_of_parts m fun c =>
      @Cert.Kernel.Hand.parts_of_pre preFacts _ _ _ _ _ _ _ _ (h c)) ρ)

/-- The same of its reading over the reals. -/
theorem frameKI : Cert.quiescent_KernelIdeal (hKernelIdeal := Cert.KernelIdeal.Gen.facts) (hPre_sizes_partition_rows := preFacts) := fun m ρ h =>
  (θ_run _ _ _).mono (fun r hr => ⟨fun c => ⟨(hr.1 c).2.2.2.1, (hr.1 c).2.2.2.2.1, (hr.1 c).2.2.2.2.2.1, (hr.1 c).2.2.2.2.2.2.1, (hr.1 c).2.2.2.2.2.2.2.1,
      (hr.1 c).2.2.2.2.2.2.2.2⟩, hr.2⟩)
    (Cert.KernelIdeal.Hand.run_results m (Cert.KernelIdeal.Hand.tableOk_of_parts m fun c =>
      @Cert.KernelIdeal.Hand.parts_of_pre preFacts _ _ _ _ _ _ _ _ (h c)) ρ)

/-- The reference runs on every input, leaves its arguments as they were and every semaphore at zero. -/
theorem frameRI : Cert.quiescent_ReferenceIdeal (hReferenceIdeal := Cert.ReferenceIdeal.Gen.facts) := fun m ρ _ =>
  Cert.ReferenceIdeal.Gen.frame m ρ

/-- The kernel over the reals and the reference end with the same codes, scales and input gradients. -/
theorem algebraic : Cert.algebraic_KernelIdeal_ReferenceIdeal (hKernelIdeal := Cert.KernelIdeal.Gen.facts)
    (hReferenceIdeal := Cert.ReferenceIdeal.Gen.facts) (hPre_sizes_partition_rows := preFacts) := fun m g m' g' h hargs =>
  have hp := fun c => @Cert.KernelIdeal.Hand.parts_of_pre preFacts _ _ _ _ _ _ _ _ (h c)
  have hok := Cert.KernelIdeal.Hand.tableOk_of_parts m hp
  ⟨fun c => Cert.KernelIdeal.Hand.codesAfter m hok c 256, fun c => (Cert.KernelIdeal.Hand.stAfter m hok c 256).sc,
    fun c => (Cert.KernelIdeal.Hand.stAfter m hok c 256).dx,
    (θ_run _ _ _).mono (fun r hr => hr.1) (Cert.KernelIdeal.Hand.run_results m hok g),
    (θ_run _ _ _).mono (fun r hr c =>
      have a := hargs c
      ⟨(hr c).1.trans ((Cert.ReferenceIdeal.Hand.final6 m' c).trans
          (Cert.Agree.codes m hok c _ _ _ _ _ _ a.1 a.2.1 a.2.2.1 a.2.2.2.1 a.2.2.2.2.1 a.2.2.2.2.2 (hp c))),
        (hr c).2.1.trans ((Cert.ReferenceIdeal.Hand.final7 m' c).trans
          (Cert.Agree.scales m hok c _ _ _ _ _ _ a.1 a.2.1 a.2.2.1 a.2.2.2.1 a.2.2.2.2.1 a.2.2.2.2.2 (hp c))),
        (hr c).2.2.1.trans ((Cert.ReferenceIdeal.Hand.final8 m' c).trans
          (Cert.Agree.dx m hok c _ _ _ _ _ _ a.1 a.2.1 a.2.2.1 a.2.2.2.1 a.2.2.2.2.1 a.2.2.2.2.2 (hp c))),
        (hr c).2.2.2⟩)
      (Cert.ReferenceIdeal.Value.run_blocks m' g')⟩

/-- Everything the certificate claims. -/
theorem claim : Cert.Claim :=
  ⟨Cert.Kernel.Gen.facts, Cert.KernelIdeal.Gen.facts, Cert.ReferenceIdeal.Gen.facts, preFacts, frameK, frameKI, frameRI,
    fun m ρ _ => frameRI m ρ trivial, trivial, algebraic⟩

end Cert.Proof
